-- ==== Defs.lean ====
def Pre_Kernel (m : (ℓ : Loc Cert.Kernel.nD Cert.Kernel.τ Cert.Kernel.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)) →
    ∃ (v0 : (c : Dev Cert.Kernel2Ideal.nD) → Buf (Elt Ideal) ((c.tc : Thread Cert.Kernel2Ideal.nD Cert.Kernel2Ideal.τ).loc Cert.Kernel2Ideal.main_v10_0)) (v1 : (c : Dev Cert.Kernel2Ideal.nD) → Buf (Elt Ideal) ((c.tc : Thread Cert.Kernel2Ideal.nD Cert.Kernel2Ideal.τ).loc Cert.Kernel2Ideal.main_v10_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10_0) = v0 c
          ∧ r.2.mem ((c.tc : Thread Cert.Kernel2Ideal.nD Cert.Kernel2Ideal.τ).loc Cert.Kernel2Ideal.main_v10_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v103) = v0 c
          ∧ r.2.mem ((c.tc : Thread Cert.Reference2Ideal.nD Cert.Reference2Ideal.τ).loc Cert.Reference2Ideal.main_v72) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v42_0)) (v1 : (c : Dev Cert.Kernel3Ideal.nD) → Buf (Elt Ideal) ((c.tc : Thread Cert.Kernel3Ideal.nD Cert.Kernel3Ideal.τ).loc Cert.Kernel3Ideal.main_v42_1)) (v2 : (c : Dev Cert.Kernel3Ideal.nD) → Buf (Elt Ideal) ((c.tc : Thread Cert.Kernel3Ideal.nD Cert.Kernel3Ideal.τ).loc Cert.Kernel3Ideal.main_v42_2)) (v3 : (c : Dev Cert.Kernel3Ideal.nD) → Buf (Elt Ideal) ((c.tc : Thread Cert.Kernel3Ideal.nD Cert.Kernel3Ideal.τ).loc Cert.Kernel3Ideal.main_v42_3)) (v4 : (c : Dev Cert.Kernel3Ideal.nD) → Buf (Elt Ideal) ((c.tc : Thread Cert.Kernel3Ideal.nD Cert.Kernel3Ideal.τ).loc Cert.Kernel3Ideal.main_v42_6)) (v5 : (c : Dev Cert.Kernel3Ideal.nD) → Buf (Elt Ideal) ((c.tc : Thread Cert.Kernel3Ideal.nD Cert.Kernel3Ideal.τ).loc Cert.Kernel3Ideal.main_v42_8)) (v6 : (c : Dev Cert.Kernel3Ideal.nD) → Buf (Elt Ideal) ((c.tc : Thread Cert.Kernel3Ideal.nD Cert.Kernel3Ideal.τ).loc Cert.Kernel3Ideal.main_v42_9)) (v7 : (c : Dev Cert.Kernel3Ideal.nD) → Buf (Elt Ideal) ((c.tc : Thread Cert.Kernel3Ideal.nD Cert.Kernel3Ideal.τ).loc Cert.Kernel3Ideal.main_v42_10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v42_0) = v0 c
          ∧ r.2.mem ((c.tc : Thread Cert.Kernel3Ideal.nD Cert.Kernel3Ideal.τ).loc Cert.Kernel3Ideal.main_v42_1) = v1 c
          ∧ r.2.mem ((c.tc : Thread Cert.Kernel3Ideal.nD Cert.Kernel3Ideal.τ).loc Cert.Kernel3Ideal.main_v42_2) = v2 c
          ∧ r.2.mem ((c.tc : Thread Cert.Kernel3Ideal.nD Cert.Kernel3Ideal.τ).loc Cert.Kernel3Ideal.main_v42_3) = v3 c
          ∧ r.2.mem ((c.tc : Thread Cert.Kernel3Ideal.nD Cert.Kernel3Ideal.τ).loc Cert.Kernel3Ideal.main_v42_6) = v4 c
          ∧ r.2.mem ((c.tc : Thread Cert.Kernel3Ideal.nD Cert.Kernel3Ideal.τ).loc Cert.Kernel3Ideal.main_v42_8) = v5 c
          ∧ r.2.mem ((c.tc : Thread Cert.Kernel3Ideal.nD Cert.Kernel3Ideal.τ).loc Cert.Kernel3Ideal.main_v42_9) = v6 c
          ∧ r.2.mem ((c.tc : Thread Cert.Kernel3Ideal.nD Cert.Kernel3Ideal.τ).loc Cert.Kernel3Ideal.main_v42_10) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v245) = v0 c
          ∧ r.2.mem ((c.tc : Thread Cert.Reference3Ideal.nD Cert.Reference3Ideal.τ).loc Cert.Reference3Ideal.main_v71) = v1 c
          ∧ r.2.mem ((c.tc : Thread Cert.Reference3Ideal.nD Cert.Reference3Ideal.τ).loc Cert.Reference3Ideal.main_v140) = v2 c
          ∧ r.2.mem ((c.tc : Thread Cert.Reference3Ideal.nD Cert.Reference3Ideal.τ).loc Cert.Reference3Ideal.main_v249) = v3 c
          ∧ r.2.mem ((c.tc : Thread Cert.Reference3Ideal.nD Cert.Reference3Ideal.τ).loc Cert.Reference3Ideal.main_v252) = v4 c
          ∧ r.2.mem ((c.tc : Thread Cert.Reference3Ideal.nD Cert.Reference3Ideal.τ).loc Cert.Reference3Ideal.main_v253) = v5 c
          ∧ r.2.mem ((c.tc : Thread Cert.Reference3Ideal.nD Cert.Reference3Ideal.τ).loc Cert.Reference3Ideal.main_v254) = v6 c
          ∧ r.2.mem ((c.tc : Thread Cert.Reference3Ideal.nD Cert.Reference3Ideal.τ).loc Cert.Reference3Ideal.main_v255) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v12_0)) (v1 : (c : Dev Cert.Kernel4Ideal.nD) → Buf (Elt Ideal) ((c.tc : Thread Cert.Kernel4Ideal.nD Cert.Kernel4Ideal.τ).loc Cert.Kernel4Ideal.main_v12_1)) (v2 : (c : Dev Cert.Kernel4Ideal.nD) → Buf (Elt Ideal) ((c.tc : Thread Cert.Kernel4Ideal.nD Cert.Kernel4Ideal.τ).loc Cert.Kernel4Ideal.main_v12_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v12_0) = v0 c
          ∧ r.2.mem ((c.tc : Thread Cert.Kernel4Ideal.nD Cert.Kernel4Ideal.τ).loc Cert.Kernel4Ideal.main_v12_1) = v1 c
          ∧ r.2.mem ((c.tc : Thread Cert.Kernel4Ideal.nD Cert.Kernel4Ideal.τ).loc Cert.Kernel4Ideal.main_v12_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v101) = v0 c
          ∧ r.2.mem ((c.tc : Thread Cert.Reference4Ideal.nD Cert.Reference4Ideal.τ).loc Cert.Reference4Ideal.main_v102) = v1 c
          ∧ r.2.mem ((c.tc : Thread Cert.Reference4Ideal.nD Cert.Reference4Ideal.τ).loc Cert.Reference4Ideal.main_v103) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v22_0)) (v1 : (c : Dev Cert.Kernel5Ideal.nD) → Buf (Elt Ideal) ((c.tc : Thread Cert.Kernel5Ideal.nD Cert.Kernel5Ideal.τ).loc Cert.Kernel5Ideal.main_v22_1)) (v2 : (c : Dev Cert.Kernel5Ideal.nD) → Buf (Elt Ideal) ((c.tc : Thread Cert.Kernel5Ideal.nD Cert.Kernel5Ideal.τ).loc Cert.Kernel5Ideal.main_v22_2)) (v3 : (c : Dev Cert.Kernel5Ideal.nD) → Buf (Elt Ideal) ((c.tc : Thread Cert.Kernel5Ideal.nD Cert.Kernel5Ideal.τ).loc Cert.Kernel5Ideal.main_v22_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v22_0) = v0 c
          ∧ r.2.mem ((c.tc : Thread Cert.Kernel5Ideal.nD Cert.Kernel5Ideal.τ).loc Cert.Kernel5Ideal.main_v22_1) = v1 c
          ∧ r.2.mem ((c.tc : Thread Cert.Kernel5Ideal.nD Cert.Kernel5Ideal.τ).loc Cert.Kernel5Ideal.main_v22_2) = v2 c
          ∧ r.2.mem ((c.tc : Thread Cert.Kernel5Ideal.nD Cert.Kernel5Ideal.τ).loc Cert.Kernel5Ideal.main_v22_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v108) = v0 c
          ∧ r.2.mem ((c.tc : Thread Cert.Reference5Ideal.nD Cert.Reference5Ideal.τ).loc Cert.Reference5Ideal.main_v111) = v1 c
          ∧ r.2.mem ((c.tc : Thread Cert.Reference5Ideal.nD Cert.Reference5Ideal.τ).loc Cert.Reference5Ideal.main_v113) = v2 c
          ∧ r.2.mem ((c.tc : Thread Cert.Reference5Ideal.nD Cert.Reference5Ideal.τ).loc Cert.Reference5Ideal.main_v116) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def Claim : Prop :=
  ∃ (hKernel : Cert.Kernel.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S4x4096x512 : Shape := ⟨3, ![4, 4096, 512]⟩
abbrev S4x512x4096 : Shape := ⟨3, ![4, 512, 4096]⟩
abbrev S4x8x4096 : Shape := ⟨3, ![4, 8, 4096]⟩
abbrev S4x4096x1024 : Shape := ⟨3, ![4, 4096, 1024]⟩
abbrev S4x4096x64 : Shape := ⟨3, ![4, 4096, 64]⟩
abbrev S1x128x512 : Shape := ⟨3, ![1, 128, 512]⟩
abbrev S1x512x128 : Shape := ⟨3, ![1, 512, 128]⟩
abbrev S1x8x128 : Shape := ⟨3, ![1, 8, 128]⟩
abbrev S1x4096x512 : Shape := ⟨3, ![1, 4096, 512]⟩
abbrev S1x4096x1024 : Shape := ⟨3, ![1, 4096, 1024]⟩
abbrev S1x4096x64 : Shape := ⟨3, ![1, 4096, 64]⟩
abbrev S4096x128 : Shape := ⟨2, ![4096, 128]⟩
abbrev S4x256x1 : Shape := ⟨3, ![4, 256, 1]⟩
abbrev S4x256x128 : Shape := ⟨3, ![4, 256, 128]⟩
abbrev S4x256x512 : Shape := ⟨3, ![4, 256, 512]⟩
abbrev S512x1024 : Shape := ⟨2, ![512, 1024]⟩
abbrev S1x128 : Shape := ⟨2, ![1, 128]⟩
abbrev S512x1 : Shape := ⟨2, ![512, 1]⟩
abbrev S512x128 : Shape := ⟨2, ![512, 128]⟩
abbrev S64x128 : Shape := ⟨2, ![64, 128]⟩
abbrev S64x1024 : Shape := ⟨2, ![64, 1024]⟩
abbrev S8x128 : Shape := ⟨2, ![8, 128]⟩
abbrev S1x512x64 : Shape := ⟨3, ![1, 512, 64]⟩
abbrev S512x64 : Shape := ⟨2, ![512, 64]⟩
abbrev S256x128 : Shape := ⟨2, ![256, 128]⟩
abbrev S32x8x128 : Shape := ⟨3, ![32, 8, 128]⟩
abbrev S128 : Shape := ⟨1, ![128]⟩
abbrev S1x1x128 : Shape := ⟨3, ![1, 1, 128]⟩
abbrev S1 : Shape := ⟨1, ![1]⟩
abbrev S1x1x1 : Shape := ⟨3, ![1, 1, 1]⟩
abbrev S128x512 : Shape := ⟨2, ![128, 512]⟩
abbrev S128x128 : Shape := ⟨2, ![128, 128]⟩
abbrev S256x256 : Shape := ⟨2, ![256, 256]⟩
abbrev S512x256 : Shape := ⟨2, ![512, 256]⟩
abbrev S256x512 : Shape := ⟨2, ![256, 512]⟩
abbrev S1x256x512 : Shape := ⟨3, ![1, 256, 512]⟩
abbrev S1x256x1 : Shape := ⟨3, ![1, 256, 1]⟩
abbrev S256x1 : Shape := ⟨2, ![256, 1]⟩
abbrev S256 : Shape := ⟨1, ![256]⟩
abbrev S1x512x256 : Shape := ⟨3, ![1, 512, 256]⟩
abbrev S1x256x128 : Shape := ⟨3, ![1, 256, 128]⟩
abbrev S1x128x128 : Shape := ⟨3, ![1, 128, 128]⟩

abbrev nBuf : Space → Nat
  | .hbm => 7
  | .vmem => 22
  | .smem => 0
  | _ => 0

abbrev bufTy : (tb : Table) → Fin (tcTables nBuf tb) → BufTy
  | .hbm, ⟨0, _⟩ => ⟨S4x4096x512, .bf16⟩
  | .hbm, ⟨1, _⟩ => ⟨S4x512x4096, .bf16⟩
  | .hbm, ⟨2, _⟩ => ⟨S4x8x4096, .f32⟩
  | .hbm, ⟨3, _⟩ => ⟨S4x4096x512, .bf16⟩
  | .hbm, ⟨4, _⟩ => ⟨S4x4096x1024, .bf16⟩
  | .hbm, ⟨5, _⟩ => ⟨S4x4096x64, .bf16⟩
  | .hbm, ⟨6, _⟩ => ⟨S4x4096x512, .bf16⟩
  | .local _ .vmem, ⟨0, _⟩ => ⟨S1x128x512, .bf16⟩
  | .local _ .vmem, ⟨1, _⟩ => ⟨S1x128x512, .bf16⟩
  | .local _ .vmem, ⟨2, _⟩ => ⟨S1x512x128, .bf16⟩
  | .local _ .vmem, ⟨3, _⟩ => ⟨S1x512x128, .bf16⟩
  | .local _ .vmem, ⟨4, _⟩ => ⟨S1x8x128, .f32⟩
  | .local _ .vmem, ⟨5, _⟩ => ⟨S1x8x128, .f32⟩
  | .local _ .vmem, ⟨6, _⟩ => ⟨S1x4096x512, .bf16⟩
  | .local _ .vmem, ⟨7, _⟩ => ⟨S1x4096x512, .bf16⟩
  | .local _ .vmem, ⟨8, _⟩ => ⟨S1x4096x1024, .bf16⟩
  | .local _ .vmem, ⟨9, _⟩ => ⟨S1x4096x1024, .bf16⟩
  | .local _ .vmem, ⟨10, _⟩ => ⟨S1x4096x64, .bf16⟩
  | .local _ .vmem, ⟨11, _⟩ => ⟨S1x4096x64, .bf16⟩
  | .local _ .vmem, ⟨12, _⟩ => ⟨S1x128x512, .bf16⟩
  | .local _ .vmem, ⟨13, _⟩ => ⟨S1x128x512, .bf16⟩
  | .local _ .vmem, ⟨14, _⟩ => ⟨S4096x128, .i32⟩
  | .local _ .vmem, ⟨15, _⟩ => ⟨S4096x128, .i32⟩
  | .local _ .vmem, ⟨16, _⟩ => ⟨S4x256x1, .f32⟩
  | .local _ .vmem, ⟨17, _⟩ => ⟨S4x256x128, .f32⟩
  | .local _ .vmem, ⟨18, _⟩ => ⟨S4x256x512, .f32⟩
  | .local _ .vmem, ⟨19, _⟩ => ⟨S4x256x512, .f32⟩
  | .local _ .vmem, ⟨20, _⟩ => ⟨S512x1024, .f32⟩
  | .local _ .vmem, ⟨21, _⟩ => ⟨S512x1024, .f32⟩
  | _, _ => ⟨S4x4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_scratch6 : Ref sig .tc := ⟨.vmem, 20, rfl⟩
abbrev cc0_scratch7 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [BitOps F]

abbrev grid0 : Pipeline.Grid := ⟨2, ![4, 32], ![false, false]⟩

def k0_mult1 : BitVec 32 :=
  let c0_i32_11 : BitVec 32 := 0#32
  c0_i32_11
@[reducible] def k0_t1_loop (i : grid0.Coords) : Scf.Loop 32 :=
  let c0_i32_23 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c0_i32_16 : BitVec 32 := 0#32
  let v46 : BitVec 1 := Scalar.cmpi .sgt v17 c0_i32_16
  let v47 : BitVec 32 := Scalar.extui v46
  let c0_i32_17 : BitVec 32 := 0#32
  let v48 : BitVec 1 := Scalar.cmpi .slt v17 c0_i32_17
  let v49 : BitVec 32 := Scalar.extui v48
  let v50 : BitVec 32 := Scalar.subi v47 v49
  let c2_i32 : BitVec 32 := 2#32
  let c0_i32_18 : BitVec 32 := 0#32
  let v51 : BitVec 1 := Scalar.cmpi .sgt c2_i32 c0_i32_18
  let v52 : BitVec 32 := Scalar.extui v51
  let c0_i32_19 : BitVec 32 := 0#32
  let v53 : BitVec 1 := Scalar.cmpi .slt c2_i32 c0_i32_19
  let v54 : BitVec 32 := Scalar.extui v53
  let v55 : BitVec 32 := Scalar.subi v52 v54
  let v56 : BitVec 1 := Scalar.cmpi .ne v50 v55
  let v57 : BitVec 32 := Scalar.remsi v17 c2_i32
  let c0_i32_20 : BitVec 32 := 0#32
  let v58 : BitVec 1 := Scalar.cmpi .ne v57 c0_i32_20
  let v59 : BitVec 1 := Scalar.andi v56 v58
  let v45 : BitVec 32 := Scalar.divsi v17 c2_i32
  let c1_i32_21 : BitVec 32 := 1#32
  let v60 : BitVec 32 := Scalar.subi v45 c1_i32_21
  let v61 : BitVec 32 := Scalar.select v59 v60 v45
  let v62 : BitVec 32 := Scalar.subi v61 c0_i32_23
  let c1_i32_24 : BitVec 32 := 1#32
  let v64 : BitVec 32 := Scalar.divsi v62 c1_i32_24
  let v65 : BitVec 32 := Scalar.muli v64 c1_i32_24
  let v66 : BitVec 32 := Scalar.addi c0_i32_23 v65
  let c1_i32_25 : BitVec 32 := 1#32
  ⟨c0_i32_23, v66, c1_i32_25⟩
def k0_mult2 (i : grid0.Coords) (k0_t1 : Fin (k0_t1_loop i).trips) : BitVec 32 :=
  let c2_i32_127 : BitVec 32 := 2#32
  let c0_i32_23 : BitVec 32 := 0#32
  let c1_i32_25 : BitVec 32 := 1#32
  let arg17 : BitVec 32 := Scf.iv c0_i32_23 c1_i32_25 k0_t1
  let v292 : BitVec 32 := Scalar.muli c2_i32_127 arg17
  let c1_i32_128 : BitVec 32 := 1#32
  let v293 : BitVec 32 := Scalar.addi v292 c1_i32_128
  let c512_i32 : BitVec 32 := 512#32
  let v294 : BitVec 32 := Scalar.muli v293 c512_i32
  v294
def k0_off1 (i : grid0.Coords) (k0_t1 : Fin (k0_t1_loop i).trips) : Fin 3 → Nat :=
  let c0_129 : Index := 0#32
  let c2_i32_127 : BitVec 32 := 2#32
  let c0_i32_23 : BitVec 32 := 0#32
  let c1_i32_25 : BitVec 32 := 1#32
  let arg17 : BitVec 32 := Scf.iv c0_i32_23 c1_i32_25 k0_t1
  let v292 : BitVec 32 := Scalar.muli c2_i32_127 arg17
  let c1_i32_128 : BitVec 32 := 1#32
  let v293 : BitVec 32 := Scalar.addi v292 c1_i32_128
  let c512_i32 : BitVec 32 := 512#32
  let v294 : BitVec 32 := Scalar.muli v293 c512_i32
  let v295 : BitVec 32 := v294
  let v296 : Index := Scalar.indexCast v295
  let c0_130 : Index := 0#32
  ![0, v296.toNat, 0]
def k0_mult3 (i : grid0.Coords) (k0_t1 : Fin (k0_t1_loop i).trips) : BitVec 32 :=
  let c2_i32_134 : BitVec 32 := 2#32
  let c0_i32_23 : BitVec 32 := 0#32
  let c1_i32_25 : BitVec 32 := 1#32
  let arg17 : BitVec 32 := Scf.iv c0_i32_23 c1_i32_25 k0_t1
  let v303 : BitVec 32 := Scalar.muli c2_i32_134 arg17
  let c512_i32_135 : BitVec 32 := 512#32
  let v304 : BitVec 32 := Scalar.muli v303 c512_i32_135
  v304
def k0_off2 (i : grid0.Coords) (k0_t1 : Fin (k0_t1_loop i).trips) : Fin 2 → Nat :=
  let c2_i32_134 : BitVec 32 := 2#32
  let c0_i32_23 : BitVec 32 := 0#32
  let c1_i32_25 : BitVec 32 := 1#32
  let arg17 : BitVec 32 := Scf.iv c0_i32_23 c1_i32_25 k0_t1
  let v303 : BitVec 32 := Scalar.muli c2_i32_134 arg17
  let c512_i32_135 : BitVec 32 := 512#32
  let v304 : BitVec 32 := Scalar.muli v303 c512_i32_135
  let v305 : BitVec 32 := v304
  let v380 : Index := Scalar.indexCast v305
  let c0_159 : Index := 0#32
  ![v380.toNat, 0]
def k0_mult4 (i : grid0.Coords) (k0_t1 : Fin (k0_t1_loop i).trips) : BitVec 32 :=
  let c2_i32_160 : BitVec 32 := 2#32
  let c0_i32_23 : BitVec 32 := 0#32
  let c1_i32_25 : BitVec 32 := 1#32
  let arg17 : BitVec 32 := Scf.iv c0_i32_23 c1_i32_25 k0_t1
  let v384 : BitVec 32 := Scalar.muli c2_i32_160 arg17
  let c2_i32_161 : BitVec 32 := 2#32
  let v385 : BitVec 32 := Scalar.addi v384 c2_i32_161
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_10 : BitVec 32 := 1#32
  let v36 : BitVec 32 := Scalar.subi v17 c1_i32_10
  let v386 : BitVec 32 := Scalar.minsi v385 v36
  let c512_i32_162 : BitVec 32 := 512#32
  let v387 : BitVec 32 := Scalar.muli v386 c512_i32_162
  v387
def k0_off3 (i : grid0.Coords) (k0_t1 : Fin (k0_t1_loop i).trips) : Fin 3 → Nat :=
  let c0_163 : Index := 0#32
  let c2_i32_160 : BitVec 32 := 2#32
  let c0_i32_23 : BitVec 32 := 0#32
  let c1_i32_25 : BitVec 32 := 1#32
  let arg17 : BitVec 32 := Scf.iv c0_i32_23 c1_i32_25 k0_t1
  let v384 : BitVec 32 := Scalar.muli c2_i32_160 arg17
  let c2_i32_161 : BitVec 32 := 2#32
  let v385 : BitVec 32 := Scalar.addi v384 c2_i32_161
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_10 : BitVec 32 := 1#32
  let v36 : BitVec 32 := Scalar.subi v17 c1_i32_10
  let v386 : BitVec 32 := Scalar.minsi v385 v36
  let c512_i32_162 : BitVec 32 := 512#32
  let v387 : BitVec 32 := Scalar.muli v386 c512_i32_162
  let v388 : BitVec 32 := v387
  let v389 : Index := Scalar.indexCast v388
  let c0_164 : Index := 0#32
  ![0, v389.toNat, 0]
def k0_mult5 (i : grid0.Coords) (k0_t1 : Fin (k0_t1_loop i).trips) : BitVec 32 :=
  let c2_i32_168 : BitVec 32 := 2#32
  let c0_i32_23 : BitVec 32 := 0#32
  let c1_i32_25 : BitVec 32 := 1#32
  let arg17 : BitVec 32 := Scf.iv c0_i32_23 c1_i32_25 k0_t1
  let v396 : BitVec 32 := Scalar.muli c2_i32_168 arg17
  let c1_i32_169 : BitVec 32 := 1#32
  let v397 : BitVec 32 := Scalar.addi v396 c1_i32_169
  let c512_i32_170 : BitVec 32 := 512#32
  let v398 : BitVec 32 := Scalar.muli v397 c512_i32_170
  v398
def k0_off4 (i : grid0.Coords) (k0_t1 : Fin (k0_t1_loop i).trips) : Fin 2 → Nat :=
  let c2_i32_168 : BitVec 32 := 2#32
  let c0_i32_23 : BitVec 32 := 0#32
  let c1_i32_25 : BitVec 32 := 1#32
  let arg17 : BitVec 32 := Scf.iv c0_i32_23 c1_i32_25 k0_t1
  let v396 : BitVec 32 := Scalar.muli c2_i32_168 arg17
  let c1_i32_169 : BitVec 32 := 1#32
  let v397 : BitVec 32 := Scalar.addi v396 c1_i32_169
  let c512_i32_170 : BitVec 32 := 512#32
  let v398 : BitVec 32 := Scalar.muli v397 c512_i32_170
  let v399 : BitVec 32 := v398
  let v474 : Index := Scalar.indexCast v399
  let c0_201 : Index := 0#32
  ![v474.toNat, 0]
@[reducible] def k0_t2_loop (i : grid0.Coords) : Scf.Loop 32 :=
  let c0_i32_23 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c0_i32_16 : BitVec 32 := 0#32
  let v46 : BitVec 1 := Scalar.cmpi .sgt v17 c0_i32_16
  let v47 : BitVec 32 := Scalar.extui v46
  let c0_i32_17 : BitVec 32 := 0#32
  let v48 : BitVec 1 := Scalar.cmpi .slt v17 c0_i32_17
  let v49 : BitVec 32 := Scalar.extui v48
  let v50 : BitVec 32 := Scalar.subi v47 v49
  let c2_i32 : BitVec 32 := 2#32
  let c0_i32_18 : BitVec 32 := 0#32
  let v51 : BitVec 1 := Scalar.cmpi .sgt c2_i32 c0_i32_18
  let v52 : BitVec 32 := Scalar.extui v51
  let c0_i32_19 : BitVec 32 := 0#32
  let v53 : BitVec 1 := Scalar.cmpi .slt c2_i32 c0_i32_19
  let v54 : BitVec 32 := Scalar.extui v53
  let v55 : BitVec 32 := Scalar.subi v52 v54
  let v56 : BitVec 1 := Scalar.cmpi .ne v50 v55
  let v57 : BitVec 32 := Scalar.remsi v17 c2_i32
  let c0_i32_20 : BitVec 32 := 0#32
  let v58 : BitVec 1 := Scalar.cmpi .ne v57 c0_i32_20
  let v59 : BitVec 1 := Scalar.andi v56 v58
  let v45 : BitVec 32 := Scalar.divsi v17 c2_i32
  let c1_i32_21 : BitVec 32 := 1#32
  let v60 : BitVec 32 := Scalar.subi v45 c1_i32_21
  let v61 : BitVec 32 := Scalar.select v59 v60 v45
  let v62 : BitVec 32 := Scalar.subi v61 c0_i32_23
  let c1_i32_24 : BitVec 32 := 1#32
  let v64 : BitVec 32 := Scalar.divsi v62 c1_i32_24
  let v65 : BitVec 32 := Scalar.muli v64 c1_i32_24
  let v66 : BitVec 32 := Scalar.addi c0_i32_23 v65
  let v63 : BitVec 32 := Scalar.addi c0_i32_23 v62
  let c1_i32_26 : BitVec 32 := 1#32
  ⟨v66, v63, c1_i32_26⟩
def k0_mult6 (i : grid0.Coords) (k0_t2 : Fin (k0_t2_loop i).trips) : BitVec 32 :=
  let c2_i32_127 : BitVec 32 := 2#32
  let c0_i32_23 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c0_i32_16 : BitVec 32 := 0#32
  let v46 : BitVec 1 := Scalar.cmpi .sgt v17 c0_i32_16
  let v47 : BitVec 32 := Scalar.extui v46
  let c0_i32_17 : BitVec 32 := 0#32
  let v48 : BitVec 1 := Scalar.cmpi .slt v17 c0_i32_17
  let v49 : BitVec 32 := Scalar.extui v48
  let v50 : BitVec 32 := Scalar.subi v47 v49
  let c2_i32 : BitVec 32 := 2#32
  let c0_i32_18 : BitVec 32 := 0#32
  let v51 : BitVec 1 := Scalar.cmpi .sgt c2_i32 c0_i32_18
  let v52 : BitVec 32 := Scalar.extui v51
  let c0_i32_19 : BitVec 32 := 0#32
  let v53 : BitVec 1 := Scalar.cmpi .slt c2_i32 c0_i32_19
  let v54 : BitVec 32 := Scalar.extui v53
  let v55 : BitVec 32 := Scalar.subi v52 v54
  let v56 : BitVec 1 := Scalar.cmpi .ne v50 v55
  let v57 : BitVec 32 := Scalar.remsi v17 c2_i32
  let c0_i32_20 : BitVec 32 := 0#32
  let v58 : BitVec 1 := Scalar.cmpi .ne v57 c0_i32_20
  let v59 : BitVec 1 := Scalar.andi v56 v58
  let v45 : BitVec 32 := Scalar.divsi v17 c2_i32
  let c1_i32_21 : BitVec 32 := 1#32
  let v60 : BitVec 32 := Scalar.subi v45 c1_i32_21
  let v61 : BitVec 32 := Scalar.select v59 v60 v45
  let v62 : BitVec 32 := Scalar.subi v61 c0_i32_23
  let c1_i32_24 : BitVec 32 := 1#32
  let v64 : BitVec 32 := Scalar.divsi v62 c1_i32_24
  let v65 : BitVec 32 := Scalar.muli v64 c1_i32_24
  let v66 : BitVec 32 := Scalar.addi c0_i32_23 v65
  let c1_i32_26 : BitVec 32 := 1#32
  let arg17 : BitVec 32 := Scf.iv v66 c1_i32_26 k0_t2
  let v292 : BitVec 32 := Scalar.muli c2_i32_127 arg17
  let c1_i32_128 : BitVec 32 := 1#32
  let v293 : BitVec 32 := Scalar.addi v292 c1_i32_128
  let c512_i32 : BitVec 32 := 512#32
  let v294 : BitVec 32 := Scalar.muli v293 c512_i32
  v294
def k0_off5 (i : grid0.Coords) (k0_t2 : Fin (k0_t2_loop i).trips) : Fin 3 → Nat :=
  let c0_129 : Index := 0#32
  let c2_i32_127 : BitVec 32 := 2#32
  let c0_i32_23 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c0_i32_16 : BitVec 32 := 0#32
  let v46 : BitVec 1 := Scalar.cmpi .sgt v17 c0_i32_16
  let v47 : BitVec 32 := Scalar.extui v46
  let c0_i32_17 : BitVec 32 := 0#32
  let v48 : BitVec 1 := Scalar.cmpi .slt v17 c0_i32_17
  let v49 : BitVec 32 := Scalar.extui v48
  let v50 : BitVec 32 := Scalar.subi v47 v49
  let c2_i32 : BitVec 32 := 2#32
  let c0_i32_18 : BitVec 32 := 0#32
  let v51 : BitVec 1 := Scalar.cmpi .sgt c2_i32 c0_i32_18
  let v52 : BitVec 32 := Scalar.extui v51
  let c0_i32_19 : BitVec 32 := 0#32
  let v53 : BitVec 1 := Scalar.cmpi .slt c2_i32 c0_i32_19
  let v54 : BitVec 32 := Scalar.extui v53
  let v55 : BitVec 32 := Scalar.subi v52 v54
  let v56 : BitVec 1 := Scalar.cmpi .ne v50 v55
  let v57 : BitVec 32 := Scalar.remsi v17 c2_i32
  let c0_i32_20 : BitVec 32 := 0#32
  let v58 : BitVec 1 := Scalar.cmpi .ne v57 c0_i32_20
  let v59 : BitVec 1 := Scalar.andi v56 v58
  let v45 : BitVec 32 := Scalar.divsi v17 c2_i32
  let c1_i32_21 : BitVec 32 := 1#32
  let v60 : BitVec 32 := Scalar.subi v45 c1_i32_21
  let v61 : BitVec 32 := Scalar.select v59 v60 v45
  let v62 : BitVec 32 := Scalar.subi v61 c0_i32_23
  let c1_i32_24 : BitVec 32 := 1#32
  let v64 : BitVec 32 := Scalar.divsi v62 c1_i32_24
  let v65 : BitVec 32 := Scalar.muli v64 c1_i32_24
  let v66 : BitVec 32 := Scalar.addi c0_i32_23 v65
  let c1_i32_26 : BitVec 32 := 1#32
  let arg17 : BitVec 32 := Scf.iv v66 c1_i32_26 k0_t2
  let v292 : BitVec 32 := Scalar.muli c2_i32_127 arg17
  let c1_i32_128 : BitVec 32 := 1#32
  let v293 : BitVec 32 := Scalar.addi v292 c1_i32_128
  let c512_i32 : BitVec 32 := 512#32
  let v294 : BitVec 32 := Scalar.muli v293 c512_i32
  let v295 : BitVec 32 := v294
  let v296 : Index := Scalar.indexCast v295
  let c0_130 : Index := 0#32
  ![0, v296.toNat, 0]
def k0_mult7 (i : grid0.Coords) (k0_t2 : Fin (k0_t2_loop i).trips) : BitVec 32 :=
  let c2_i32_134 : BitVec 32 := 2#32
  let c0_i32_23 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c0_i32_16 : BitVec 32 := 0#32
  let v46 : BitVec 1 := Scalar.cmpi .sgt v17 c0_i32_16
  let v47 : BitVec 32 := Scalar.extui v46
  let c0_i32_17 : BitVec 32 := 0#32
  let v48 : BitVec 1 := Scalar.cmpi .slt v17 c0_i32_17
  let v49 : BitVec 32 := Scalar.extui v48
  let v50 : BitVec 32 := Scalar.subi v47 v49
  let c2_i32 : BitVec 32 := 2#32
  let c0_i32_18 : BitVec 32 := 0#32
  let v51 : BitVec 1 := Scalar.cmpi .sgt c2_i32 c0_i32_18
  let v52 : BitVec 32 := Scalar.extui v51
  let c0_i32_19 : BitVec 32 := 0#32
  let v53 : BitVec 1 := Scalar.cmpi .slt c2_i32 c0_i32_19
  let v54 : BitVec 32 := Scalar.extui v53
  let v55 : BitVec 32 := Scalar.subi v52 v54
  let v56 : BitVec 1 := Scalar.cmpi .ne v50 v55
  let v57 : BitVec 32 := Scalar.remsi v17 c2_i32
  let c0_i32_20 : BitVec 32 := 0#32
  let v58 : BitVec 1 := Scalar.cmpi .ne v57 c0_i32_20
  let v59 : BitVec 1 := Scalar.andi v56 v58
  let v45 : BitVec 32 := Scalar.divsi v17 c2_i32
  let c1_i32_21 : BitVec 32 := 1#32
  let v60 : BitVec 32 := Scalar.subi v45 c1_i32_21
  let v61 : BitVec 32 := Scalar.select v59 v60 v45
  let v62 : BitVec 32 := Scalar.subi v61 c0_i32_23
  let c1_i32_24 : BitVec 32 := 1#32
  let v64 : BitVec 32 := Scalar.divsi v62 c1_i32_24
  let v65 : BitVec 32 := Scalar.muli v64 c1_i32_24
  let v66 : BitVec 32 := Scalar.addi c0_i32_23 v65
  let c1_i32_26 : BitVec 32 := 1#32
  let arg17 : BitVec 32 := Scf.iv v66 c1_i32_26 k0_t2
  let v303 : BitVec 32 := Scalar.muli c2_i32_134 arg17
  let c512_i32_135 : BitVec 32 := 512#32
  let v304 : BitVec 32 := Scalar.muli v303 c512_i32_135
  v304
def k0_off6 (i : grid0.Coords) (k0_t2 : Fin (k0_t2_loop i).trips) : Fin 2 → Nat :=
  let c2_i32_134 : BitVec 32 := 2#32
  let c0_i32_23 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c0_i32_16 : BitVec 32 := 0#32
  let v46 : BitVec 1 := Scalar.cmpi .sgt v17 c0_i32_16
  let v47 : BitVec 32 := Scalar.extui v46
  let c0_i32_17 : BitVec 32 := 0#32
  let v48 : BitVec 1 := Scalar.cmpi .slt v17 c0_i32_17
  let v49 : BitVec 32 := Scalar.extui v48
  let v50 : BitVec 32 := Scalar.subi v47 v49
  let c2_i32 : BitVec 32 := 2#32
  let c0_i32_18 : BitVec 32 := 0#32
  let v51 : BitVec 1 := Scalar.cmpi .sgt c2_i32 c0_i32_18
  let v52 : BitVec 32 := Scalar.extui v51
  let c0_i32_19 : BitVec 32 := 0#32
  let v53 : BitVec 1 := Scalar.cmpi .slt c2_i32 c0_i32_19
  let v54 : BitVec 32 := Scalar.extui v53
  let v55 : BitVec 32 := Scalar.subi v52 v54
  let v56 : BitVec 1 := Scalar.cmpi .ne v50 v55
  let v57 : BitVec 32 := Scalar.remsi v17 c2_i32
  let c0_i32_20 : BitVec 32 := 0#32
  let v58 : BitVec 1 := Scalar.cmpi .ne v57 c0_i32_20
  let v59 : BitVec 1 := Scalar.andi v56 v58
  let v45 : BitVec 32 := Scalar.divsi v17 c2_i32
  let c1_i32_21 : BitVec 32 := 1#32
  let v60 : BitVec 32 := Scalar.subi v45 c1_i32_21
  let v61 : BitVec 32 := Scalar.select v59 v60 v45
  let v62 : BitVec 32 := Scalar.subi v61 c0_i32_23
  let c1_i32_24 : BitVec 32 := 1#32
  let v64 : BitVec 32 := Scalar.divsi v62 c1_i32_24
  let v65 : BitVec 32 := Scalar.muli v64 c1_i32_24
  let v66 : BitVec 32 := Scalar.addi c0_i32_23 v65
  let c1_i32_26 : BitVec 32 := 1#32
  let arg17 : BitVec 32 := Scf.iv v66 c1_i32_26 k0_t2
  let v303 : BitVec 32 := Scalar.muli c2_i32_134 arg17
  let c512_i32_135 : BitVec 32 := 512#32
  let v304 : BitVec 32 := Scalar.muli v303 c512_i32_135
  let v305 : BitVec 32 := v304
  let v380 : Index := Scalar.indexCast v305
  let c0_159 : Index := 0#32
  ![v380.toNat, 0]
def k0_mult8 (i : grid0.Coords) (k0_t2 : Fin (k0_t2_loop i).trips) : BitVec 32 :=
  let c2_i32_160 : BitVec 32 := 2#32
  let c0_i32_23 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c0_i32_16 : BitVec 32 := 0#32
  let v46 : BitVec 1 := Scalar.cmpi .sgt v17 c0_i32_16
  let v47 : BitVec 32 := Scalar.extui v46
  let c0_i32_17 : BitVec 32 := 0#32
  let v48 : BitVec 1 := Scalar.cmpi .slt v17 c0_i32_17
  let v49 : BitVec 32 := Scalar.extui v48
  let v50 : BitVec 32 := Scalar.subi v47 v49
  let c2_i32 : BitVec 32 := 2#32
  let c0_i32_18 : BitVec 32 := 0#32
  let v51 : BitVec 1 := Scalar.cmpi .sgt c2_i32 c0_i32_18
  let v52 : BitVec 32 := Scalar.extui v51
  let c0_i32_19 : BitVec 32 := 0#32
  let v53 : BitVec 1 := Scalar.cmpi .slt c2_i32 c0_i32_19
  let v54 : BitVec 32 := Scalar.extui v53
  let v55 : BitVec 32 := Scalar.subi v52 v54
  let v56 : BitVec 1 := Scalar.cmpi .ne v50 v55
  let v57 : BitVec 32 := Scalar.remsi v17 c2_i32
  let c0_i32_20 : BitVec 32 := 0#32
  let v58 : BitVec 1 := Scalar.cmpi .ne v57 c0_i32_20
  let v59 : BitVec 1 := Scalar.andi v56 v58
  let v45 : BitVec 32 := Scalar.divsi v17 c2_i32
  let c1_i32_21 : BitVec 32 := 1#32
  let v60 : BitVec 32 := Scalar.subi v45 c1_i32_21
  let v61 : BitVec 32 := Scalar.select v59 v60 v45
  let v62 : BitVec 32 := Scalar.subi v61 c0_i32_23
  let c1_i32_24 : BitVec 32 := 1#32
  let v64 : BitVec 32 := Scalar.divsi v62 c1_i32_24
  let v65 : BitVec 32 := Scalar.muli v64 c1_i32_24
  let v66 : BitVec 32 := Scalar.addi c0_i32_23 v65
  let c1_i32_26 : BitVec 32 := 1#32
  let arg17 : BitVec 32 := Scf.iv v66 c1_i32_26 k0_t2
  let v384 : BitVec 32 := Scalar.muli c2_i32_160 arg17
  let c2_i32_161 : BitVec 32 := 2#32
  let v385 : BitVec 32 := Scalar.addi v384 c2_i32_161
  let c1_i32_10 : BitVec 32 := 1#32
  let v36 : BitVec 32 := Scalar.subi v17 c1_i32_10
  let v386 : BitVec 32 := Scalar.minsi v385 v36
  let c512_i32_162 : BitVec 32 := 512#32
  let v387 : BitVec 32 := Scalar.muli v386 c512_i32_162
  v387
def k0_off7 (i : grid0.Coords) (k0_t2 : Fin (k0_t2_loop i).trips) : Fin 3 → Nat :=
  let c0_163 : Index := 0#32
  let c2_i32_160 : BitVec 32 := 2#32
  let c0_i32_23 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c0_i32_16 : BitVec 32 := 0#32
  let v46 : BitVec 1 := Scalar.cmpi .sgt v17 c0_i32_16
  let v47 : BitVec 32 := Scalar.extui v46
  let c0_i32_17 : BitVec 32 := 0#32
  let v48 : BitVec 1 := Scalar.cmpi .slt v17 c0_i32_17
  let v49 : BitVec 32 := Scalar.extui v48
  let v50 : BitVec 32 := Scalar.subi v47 v49
  let c2_i32 : BitVec 32 := 2#32
  let c0_i32_18 : BitVec 32 := 0#32
  let v51 : BitVec 1 := Scalar.cmpi .sgt c2_i32 c0_i32_18
  let v52 : BitVec 32 := Scalar.extui v51
  let c0_i32_19 : BitVec 32 := 0#32
  let v53 : BitVec 1 := Scalar.cmpi .slt c2_i32 c0_i32_19
  let v54 : BitVec 32 := Scalar.extui v53
  let v55 : BitVec 32 := Scalar.subi v52 v54
  let v56 : BitVec 1 := Scalar.cmpi .ne v50 v55
  let v57 : BitVec 32 := Scalar.remsi v17 c2_i32
  let c0_i32_20 : BitVec 32 := 0#32
  let v58 : BitVec 1 := Scalar.cmpi .ne v57 c0_i32_20
  let v59 : BitVec 1 := Scalar.andi v56 v58
  let v45 : BitVec 32 := Scalar.divsi v17 c2_i32
  let c1_i32_21 : BitVec 32 := 1#32
  let v60 : BitVec 32 := Scalar.subi v45 c1_i32_21
  let v61 : BitVec 32 := Scalar.select v59 v60 v45
  let v62 : BitVec 32 := Scalar.subi v61 c0_i32_23
  let c1_i32_24 : BitVec 32 := 1#32
  let v64 : BitVec 32 := Scalar.divsi v62 c1_i32_24
  let v65 : BitVec 32 := Scalar.muli v64 c1_i32_24
  let v66 : BitVec 32 := Scalar.addi c0_i32_23 v65
  let c1_i32_26 : BitVec 32 := 1#32
  let arg17 : BitVec 32 := Scf.iv v66 c1_i32_26 k0_t2
  let v384 : BitVec 32 := Scalar.muli c2_i32_160 arg17
  let c2_i32_161 : BitVec 32 := 2#32
  let v385 : BitVec 32 := Scalar.addi v384 c2_i32_161
  let c1_i32_10 : BitVec 32 := 1#32
  let v36 : BitVec 32 := Scalar.subi v17 c1_i32_10
  let v386 : BitVec 32 := Scalar.minsi v385 v36
  let c512_i32_162 : BitVec 32 := 512#32
  let v387 : BitVec 32 := Scalar.muli v386 c512_i32_162
  let v388 : BitVec 32 := v387
  let v389 : Index := Scalar.indexCast v388
  let c0_164 : Index := 0#32
  ![0, v389.toNat, 0]
def k0_mult9 (i : grid0.Coords) (k0_t2 : Fin (k0_t2_loop i).trips) : BitVec 32 :=
  let c2_i32_168 : BitVec 32 := 2#32
  let c0_i32_23 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c0_i32_16 : BitVec 32 := 0#32
  let v46 : BitVec 1 := Scalar.cmpi .sgt v17 c0_i32_16
  let v47 : BitVec 32 := Scalar.extui v46
  let c0_i32_17 : BitVec 32 := 0#32
  let v48 : BitVec 1 := Scalar.cmpi .slt v17 c0_i32_17
  let v49 : BitVec 32 := Scalar.extui v48
  let v50 : BitVec 32 := Scalar.subi v47 v49
  let c2_i32 : BitVec 32 := 2#32
  let c0_i32_18 : BitVec 32 := 0#32
  let v51 : BitVec 1 := Scalar.cmpi .sgt c2_i32 c0_i32_18
  let v52 : BitVec 32 := Scalar.extui v51
  let c0_i32_19 : BitVec 32 := 0#32
  let v53 : BitVec 1 := Scalar.cmpi .slt c2_i32 c0_i32_19
  let v54 : BitVec 32 := Scalar.extui v53
  let v55 : BitVec 32 := Scalar.subi v52 v54
  let v56 : BitVec 1 := Scalar.cmpi .ne v50 v55
  let v57 : BitVec 32 := Scalar.remsi v17 c2_i32
  let c0_i32_20 : BitVec 32 := 0#32
  let v58 : BitVec 1 := Scalar.cmpi .ne v57 c0_i32_20
  let v59 : BitVec 1 := Scalar.andi v56 v58
  let v45 : BitVec 32 := Scalar.divsi v17 c2_i32
  let c1_i32_21 : BitVec 32 := 1#32
  let v60 : BitVec 32 := Scalar.subi v45 c1_i32_21
  let v61 : BitVec 32 := Scalar.select v59 v60 v45
  let v62 : BitVec 32 := Scalar.subi v61 c0_i32_23
  let c1_i32_24 : BitVec 32 := 1#32
  let v64 : BitVec 32 := Scalar.divsi v62 c1_i32_24
  let v65 : BitVec 32 := Scalar.muli v64 c1_i32_24
  let v66 : BitVec 32 := Scalar.addi c0_i32_23 v65
  let c1_i32_26 : BitVec 32 := 1#32
  let arg17 : BitVec 32 := Scf.iv v66 c1_i32_26 k0_t2
  let v396 : BitVec 32 := Scalar.muli c2_i32_168 arg17
  let c1_i32_169 : BitVec 32 := 1#32
  let v397 : BitVec 32 := Scalar.addi v396 c1_i32_169
  let c512_i32_170 : BitVec 32 := 512#32
  let v398 : BitVec 32 := Scalar.muli v397 c512_i32_170
  v398
def k0_off8 (i : grid0.Coords) (k0_t2 : Fin (k0_t2_loop i).trips) : Fin 2 → Nat :=
  let c2_i32_168 : BitVec 32 := 2#32
  let c0_i32_23 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c0_i32_16 : BitVec 32 := 0#32
  let v46 : BitVec 1 := Scalar.cmpi .sgt v17 c0_i32_16
  let v47 : BitVec 32 := Scalar.extui v46
  let c0_i32_17 : BitVec 32 := 0#32
  let v48 : BitVec 1 := Scalar.cmpi .slt v17 c0_i32_17
  let v49 : BitVec 32 := Scalar.extui v48
  let v50 : BitVec 32 := Scalar.subi v47 v49
  let c2_i32 : BitVec 32 := 2#32
  let c0_i32_18 : BitVec 32 := 0#32
  let v51 : BitVec 1 := Scalar.cmpi .sgt c2_i32 c0_i32_18
  let v52 : BitVec 32 := Scalar.extui v51
  let c0_i32_19 : BitVec 32 := 0#32
  let v53 : BitVec 1 := Scalar.cmpi .slt c2_i32 c0_i32_19
  let v54 : BitVec 32 := Scalar.extui v53
  let v55 : BitVec 32 := Scalar.subi v52 v54
  let v56 : BitVec 1 := Scalar.cmpi .ne v50 v55
  let v57 : BitVec 32 := Scalar.remsi v17 c2_i32
  let c0_i32_20 : BitVec 32 := 0#32
  let v58 : BitVec 1 := Scalar.cmpi .ne v57 c0_i32_20
  let v59 : BitVec 1 := Scalar.andi v56 v58
  let v45 : BitVec 32 := Scalar.divsi v17 c2_i32
  let c1_i32_21 : BitVec 32 := 1#32
  let v60 : BitVec 32 := Scalar.subi v45 c1_i32_21
  let v61 : BitVec 32 := Scalar.select v59 v60 v45
  let v62 : BitVec 32 := Scalar.subi v61 c0_i32_23
  let c1_i32_24 : BitVec 32 := 1#32
  let v64 : BitVec 32 := Scalar.divsi v62 c1_i32_24
  let v65 : BitVec 32 := Scalar.muli v64 c1_i32_24
  let v66 : BitVec 32 := Scalar.addi c0_i32_23 v65
  let c1_i32_26 : BitVec 32 := 1#32
  let arg17 : BitVec 32 := Scf.iv v66 c1_i32_26 k0_t2
  let v396 : BitVec 32 := Scalar.muli c2_i32_168 arg17
  let c1_i32_169 : BitVec 32 := 1#32
  let v397 : BitVec 32 := Scalar.addi v396 c1_i32_169
  let c512_i32_170 : BitVec 32 := 512#32
  let v398 : BitVec 32 := Scalar.muli v397 c512_i32_170
  let v399 : BitVec 32 := v398
  let v474 : Index := Scalar.indexCast v399
  let c0_201 : Index := 0#32
  ![v474.toNat, 0]
def k0_cond1 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_27 : BitVec 32 := 2#32
  let v67 : BitVec 32 := Scalar.remsi v17 c2_i32_27
  let c1_i32_28 : BitVec 32 := 1#32
  let v68 : BitVec 1 := Scalar.cmpi .eq v67 c1_i32_28
  let v69 : BitVec 32 := Scalar.extui v68
  let c0_i32_29 : BitVec 32 := 0#32
  let v70 : BitVec 1 := Scalar.cmpi .ne v69 c0_i32_29
  v70

def k0_mult10 (i : grid0.Coords) : BitVec 32 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_10 : BitVec 32 := 1#32
  let v36 : BitVec 32 := Scalar.subi v17 c1_i32_10
  let c512_i32 : BitVec 32 := 512#32
  let v292 : BitVec 32 := Scalar.muli v36 c512_i32
  v292
def k0_off9 (i : grid0.Coords) : Fin 2 → Nat :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_10 : BitVec 32 := 1#32
  let v36 : BitVec 32 := Scalar.subi v17 c1_i32_10
  let c512_i32 : BitVec 32 := 512#32
  let v292 : BitVec 32 := Scalar.muli v36 c512_i32
  let v293 : BitVec 32 := v292
  let v368 : Index := Scalar.indexCast v293
  let c0_150 : Index := 0#32
  ![v368.toNat, 0]
def k0_cond2 (i : grid0.Coords) : BitVec 1 :=
  let arg1 : BitVec 32 := BitVec.ofNat 32 (i 1).val
  let c128_i32_30 : BitVec 32 := 128#32
  let v71 : BitVec 32 := Scalar.muli arg1 c128_i32_30
  let c128_i32_31 : BitVec 32 := 128#32
  let v72 : BitVec 32 := Scalar.addi v71 c128_i32_31
  let c256_i32 : BitVec 32 := 256#32
  let v73 : BitVec 32 := Scalar.addi v72 c256_i32
  let c1_i32_32 : BitVec 32 := 1#32
  let v74 : BitVec 32 := Scalar.subi v73 c1_i32_32
  let c0_i32_34 : BitVec 32 := 0#32
  let v76 : BitVec 1 := Scalar.cmpi .sgt v74 c0_i32_34
  let v77 : BitVec 32 := Scalar.extui v76
  let c0_i32_35 : BitVec 32 := 0#32
  let v78 : BitVec 1 := Scalar.cmpi .slt v74 c0_i32_35
  let v79 : BitVec 32 := Scalar.extui v78
  let v80 : BitVec 32 := Scalar.subi v77 v79
  let c256_i32_33 : BitVec 32 := 256#32
  let c0_i32_36 : BitVec 32 := 0#32
  let v81 : BitVec 1 := Scalar.cmpi .sgt c256_i32_33 c0_i32_36
  let v82 : BitVec 32 := Scalar.extui v81
  let c0_i32_37 : BitVec 32 := 0#32
  let v83 : BitVec 1 := Scalar.cmpi .slt c256_i32_33 c0_i32_37
  let v84 : BitVec 32 := Scalar.extui v83
  let v85 : BitVec 32 := Scalar.subi v82 v84
  let v86 : BitVec 1 := Scalar.cmpi .ne v80 v85
  let v87 : BitVec 32 := Scalar.remsi v74 c256_i32_33
  let c0_i32_38 : BitVec 32 := 0#32
  let v88 : BitVec 1 := Scalar.cmpi .ne v87 c0_i32_38
  let v89 : BitVec 1 := Scalar.andi v86 v88
  let v75 : BitVec 32 := Scalar.divsi v74 c256_i32_33
  let c1_i32_39 : BitVec 32 := 1#32
  let v90 : BitVec 32 := Scalar.subi v75 c1_i32_39
  let v91 : BitVec 32 := Scalar.select v89 v90 v75
  let c1_i32_40 : BitVec 32 := 1#32
  let v92 : BitVec 32 := Scalar.subi v91 c1_i32_40
  let c4_i32_41 : BitVec 32 := 4#32
  let v93 : BitVec 32 := Scalar.divsi v92 c4_i32_41
  let c0_i32_42 : BitVec 32 := 0#32
  let v94 : BitVec 32 := Scalar.maxsi v93 c0_i32_42
  let c3_i32 : BitVec 32 := 3#32
  let v95 : BitVec 32 := Scalar.minsi v94 c3_i32
  let c0_i32_43 : BitVec 32 := 0#32
  let v96 : BitVec 1 := Scalar.cmpi .ne v95 c0_i32_43
  v96

def k0_cond3 (i : grid0.Coords) : BitVec 1 :=
  let arg1 : BitVec 32 := BitVec.ofNat 32 (i 1).val
  let c128_i32_30 : BitVec 32 := 128#32
  let v71 : BitVec 32 := Scalar.muli arg1 c128_i32_30
  let c128_i32_31 : BitVec 32 := 128#32
  let v72 : BitVec 32 := Scalar.addi v71 c128_i32_31
  let c256_i32 : BitVec 32 := 256#32
  let v73 : BitVec 32 := Scalar.addi v72 c256_i32
  let c1_i32_32 : BitVec 32 := 1#32
  let v74 : BitVec 32 := Scalar.subi v73 c1_i32_32
  let c0_i32_34 : BitVec 32 := 0#32
  let v76 : BitVec 1 := Scalar.cmpi .sgt v74 c0_i32_34
  let v77 : BitVec 32 := Scalar.extui v76
  let c0_i32_35 : BitVec 32 := 0#32
  let v78 : BitVec 1 := Scalar.cmpi .slt v74 c0_i32_35
  let v79 : BitVec 32 := Scalar.extui v78
  let v80 : BitVec 32 := Scalar.subi v77 v79
  let c256_i32_33 : BitVec 32 := 256#32
  let c0_i32_36 : BitVec 32 := 0#32
  let v81 : BitVec 1 := Scalar.cmpi .sgt c256_i32_33 c0_i32_36
  let v82 : BitVec 32 := Scalar.extui v81
  let c0_i32_37 : BitVec 32 := 0#32
  let v83 : BitVec 1 := Scalar.cmpi .slt c256_i32_33 c0_i32_37
  let v84 : BitVec 32 := Scalar.extui v83
  let v85 : BitVec 32 := Scalar.subi v82 v84
  let v86 : BitVec 1 := Scalar.cmpi .ne v80 v85
  let v87 : BitVec 32 := Scalar.remsi v74 c256_i32_33
  let c0_i32_38 : BitVec 32 := 0#32
  let v88 : BitVec 1 := Scalar.cmpi .ne v87 c0_i32_38
  let v89 : BitVec 1 := Scalar.andi v86 v88
  let v75 : BitVec 32 := Scalar.divsi v74 c256_i32_33
  let c1_i32_39 : BitVec 32 := 1#32
  let v90 : BitVec 32 := Scalar.subi v75 c1_i32_39
  let v91 : BitVec 32 := Scalar.select v89 v90 v75
  let c1_i32_40 : BitVec 32 := 1#32
  let v92 : BitVec 32 := Scalar.subi v91 c1_i32_40
  let c4_i32_41 : BitVec 32 := 4#32
  let v93 : BitVec 32 := Scalar.divsi v92 c4_i32_41
  let c0_i32_42 : BitVec 32 := 0#32
  let v94 : BitVec 32 := Scalar.maxsi v93 c0_i32_42
  let c3_i32 : BitVec 32 := 3#32
  let v95 : BitVec 32 := Scalar.minsi v94 c3_i32
  let c1_i32_127 : BitVec 32 := 1#32
  let v292 : BitVec 32 := Scalar.subi v95 c1_i32_127
  let c0_i32_128 : BitVec 32 := 0#32
  let v293 : BitVec 1 := Scalar.cmpi .ne v292 c0_i32_128
  v293

def k0_cond4 (i : grid0.Coords) : BitVec 1 :=
  let arg1 : BitVec 32 := BitVec.ofNat 32 (i 1).val
  let c128_i32_30 : BitVec 32 := 128#32
  let v71 : BitVec 32 := Scalar.muli arg1 c128_i32_30
  let c128_i32_31 : BitVec 32 := 128#32
  let v72 : BitVec 32 := Scalar.addi v71 c128_i32_31
  let c256_i32 : BitVec 32 := 256#32
  let v73 : BitVec 32 := Scalar.addi v72 c256_i32
  let c1_i32_32 : BitVec 32 := 1#32
  let v74 : BitVec 32 := Scalar.subi v73 c1_i32_32
  let c0_i32_34 : BitVec 32 := 0#32
  let v76 : BitVec 1 := Scalar.cmpi .sgt v74 c0_i32_34
  let v77 : BitVec 32 := Scalar.extui v76
  let c0_i32_35 : BitVec 32 := 0#32
  let v78 : BitVec 1 := Scalar.cmpi .slt v74 c0_i32_35
  let v79 : BitVec 32 := Scalar.extui v78
  let v80 : BitVec 32 := Scalar.subi v77 v79
  let c256_i32_33 : BitVec 32 := 256#32
  let c0_i32_36 : BitVec 32 := 0#32
  let v81 : BitVec 1 := Scalar.cmpi .sgt c256_i32_33 c0_i32_36
  let v82 : BitVec 32 := Scalar.extui v81
  let c0_i32_37 : BitVec 32 := 0#32
  let v83 : BitVec 1 := Scalar.cmpi .slt c256_i32_33 c0_i32_37
  let v84 : BitVec 32 := Scalar.extui v83
  let v85 : BitVec 32 := Scalar.subi v82 v84
  let v86 : BitVec 1 := Scalar.cmpi .ne v80 v85
  let v87 : BitVec 32 := Scalar.remsi v74 c256_i32_33
  let c0_i32_38 : BitVec 32 := 0#32
  let v88 : BitVec 1 := Scalar.cmpi .ne v87 c0_i32_38
  let v89 : BitVec 1 := Scalar.andi v86 v88
  let v75 : BitVec 32 := Scalar.divsi v74 c256_i32_33
  let c1_i32_39 : BitVec 32 := 1#32
  let v90 : BitVec 32 := Scalar.subi v75 c1_i32_39
  let v91 : BitVec 32 := Scalar.select v89 v90 v75
  let c1_i32_40 : BitVec 32 := 1#32
  let v92 : BitVec 32 := Scalar.subi v91 c1_i32_40
  let c4_i32_41 : BitVec 32 := 4#32
  let v93 : BitVec 32 := Scalar.divsi v92 c4_i32_41
  let c0_i32_42 : BitVec 32 := 0#32
  let v94 : BitVec 32 := Scalar.maxsi v93 c0_i32_42
  let c3_i32 : BitVec 32 := 3#32
  let v95 : BitVec 32 := Scalar.minsi v94 c3_i32
  let c1_i32_127 : BitVec 32 := 1#32
  let v292 : BitVec 32 := Scalar.subi v95 c1_i32_127
  let c1_i32_129 : BitVec 32 := 1#32
  let v295 : BitVec 32 := Scalar.subi v292 c1_i32_129
  let c0_i32_130 : BitVec 32 := 0#32
  let v296 : BitVec 1 := Scalar.cmpi .ne v295 c0_i32_130
  v296

def k0_cond5 (i : grid0.Coords) : BitVec 1 :=
  let arg1 : BitVec 32 := BitVec.ofNat 32 (i 1).val
  let c128_i32_30 : BitVec 32 := 128#32
  let v71 : BitVec 32 := Scalar.muli arg1 c128_i32_30
  let c128_i32_31 : BitVec 32 := 128#32
  let v72 : BitVec 32 := Scalar.addi v71 c128_i32_31
  let c256_i32 : BitVec 32 := 256#32
  let v73 : BitVec 32 := Scalar.addi v72 c256_i32
  let c1_i32_32 : BitVec 32 := 1#32
  let v74 : BitVec 32 := Scalar.subi v73 c1_i32_32
  let c0_i32_34 : BitVec 32 := 0#32
  let v76 : BitVec 1 := Scalar.cmpi .sgt v74 c0_i32_34
  let v77 : BitVec 32 := Scalar.extui v76
  let c0_i32_35 : BitVec 32 := 0#32
  let v78 : BitVec 1 := Scalar.cmpi .slt v74 c0_i32_35
  let v79 : BitVec 32 := Scalar.extui v78
  let v80 : BitVec 32 := Scalar.subi v77 v79
  let c256_i32_33 : BitVec 32 := 256#32
  let c0_i32_36 : BitVec 32 := 0#32
  let v81 : BitVec 1 := Scalar.cmpi .sgt c256_i32_33 c0_i32_36
  let v82 : BitVec 32 := Scalar.extui v81
  let c0_i32_37 : BitVec 32 := 0#32
  let v83 : BitVec 1 := Scalar.cmpi .slt c256_i32_33 c0_i32_37
  let v84 : BitVec 32 := Scalar.extui v83
  let v85 : BitVec 32 := Scalar.subi v82 v84
  let v86 : BitVec 1 := Scalar.cmpi .ne v80 v85
  let v87 : BitVec 32 := Scalar.remsi v74 c256_i32_33
  let c0_i32_38 : BitVec 32 := 0#32
  let v88 : BitVec 1 := Scalar.cmpi .ne v87 c0_i32_38
  let v89 : BitVec 1 := Scalar.andi v86 v88
  let v75 : BitVec 32 := Scalar.divsi v74 c256_i32_33
  let c1_i32_39 : BitVec 32 := 1#32
  let v90 : BitVec 32 := Scalar.subi v75 c1_i32_39
  let v91 : BitVec 32 := Scalar.select v89 v90 v75
  let c1_i32_131 : BitVec 32 := 1#32
  let v298 : BitVec 32 := Scalar.subi v91 c1_i32_131
  let c4_i32_132 : BitVec 32 := 4#32
  let v299 : BitVec 32 := Scalar.remsi v298 c4_i32_132
  let c0_i32_133 : BitVec 32 := 0#32
  let v300 : BitVec 32 := Scalar.maxsi v299 c0_i32_133
  let c3_i32_134 : BitVec 32 := 3#32
  let v301 : BitVec 32 := Scalar.minsi v300 c3_i32_134
  let c0_i32_135 : BitVec 32 := 0#32
  let v302 : BitVec 1 := Scalar.cmpi .ne v301 c0_i32_135
  v302

def k0_cond6 (i : grid0.Coords) : BitVec 1 :=
  let arg1 : BitVec 32 := BitVec.ofNat 32 (i 1).val
  let c128_i32_30 : BitVec 32 := 128#32
  let v71 : BitVec 32 := Scalar.muli arg1 c128_i32_30
  let c128_i32_31 : BitVec 32 := 128#32
  let v72 : BitVec 32 := Scalar.addi v71 c128_i32_31
  let c256_i32 : BitVec 32 := 256#32
  let v73 : BitVec 32 := Scalar.addi v72 c256_i32
  let c1_i32_32 : BitVec 32 := 1#32
  let v74 : BitVec 32 := Scalar.subi v73 c1_i32_32
  let c0_i32_34 : BitVec 32 := 0#32
  let v76 : BitVec 1 := Scalar.cmpi .sgt v74 c0_i32_34
  let v77 : BitVec 32 := Scalar.extui v76
  let c0_i32_35 : BitVec 32 := 0#32
  let v78 : BitVec 1 := Scalar.cmpi .slt v74 c0_i32_35
  let v79 : BitVec 32 := Scalar.extui v78
  let v80 : BitVec 32 := Scalar.subi v77 v79
  let c256_i32_33 : BitVec 32 := 256#32
  let c0_i32_36 : BitVec 32 := 0#32
  let v81 : BitVec 1 := Scalar.cmpi .sgt c256_i32_33 c0_i32_36
  let v82 : BitVec 32 := Scalar.extui v81
  let c0_i32_37 : BitVec 32 := 0#32
  let v83 : BitVec 1 := Scalar.cmpi .slt c256_i32_33 c0_i32_37
  let v84 : BitVec 32 := Scalar.extui v83
  let v85 : BitVec 32 := Scalar.subi v82 v84
  let v86 : BitVec 1 := Scalar.cmpi .ne v80 v85
  let v87 : BitVec 32 := Scalar.remsi v74 c256_i32_33
  let c0_i32_38 : BitVec 32 := 0#32
  let v88 : BitVec 1 := Scalar.cmpi .ne v87 c0_i32_38
  let v89 : BitVec 1 := Scalar.andi v86 v88
  let v75 : BitVec 32 := Scalar.divsi v74 c256_i32_33
  let c1_i32_39 : BitVec 32 := 1#32
  let v90 : BitVec 32 := Scalar.subi v75 c1_i32_39
  let v91 : BitVec 32 := Scalar.select v89 v90 v75
  let c1_i32_131 : BitVec 32 := 1#32
  let v298 : BitVec 32 := Scalar.subi v91 c1_i32_131
  let c4_i32_132 : BitVec 32 := 4#32
  let v299 : BitVec 32 := Scalar.remsi v298 c4_i32_132
  let c0_i32_133 : BitVec 32 := 0#32
  let v300 : BitVec 32 := Scalar.maxsi v299 c0_i32_133
  let c3_i32_134 : BitVec 32 := 3#32
  let v301 : BitVec 32 := Scalar.minsi v300 c3_i32_134
  let c1_i32_136 : BitVec 32 := 1#32
  let v304 : BitVec 32 := Scalar.subi v301 c1_i32_136
  let c0_i32_137 : BitVec 32 := 0#32
  let v305 : BitVec 1 := Scalar.cmpi .ne v304 c0_i32_137
  v305

def k0_cond7 (i : grid0.Coords) : BitVec 1 :=
  let arg1 : BitVec 32 := BitVec.ofNat 32 (i 1).val
  let c128_i32_30 : BitVec 32 := 128#32
  let v71 : BitVec 32 := Scalar.muli arg1 c128_i32_30
  let c128_i32_31 : BitVec 32 := 128#32
  let v72 : BitVec 32 := Scalar.addi v71 c128_i32_31
  let c256_i32 : BitVec 32 := 256#32
  let v73 : BitVec 32 := Scalar.addi v72 c256_i32
  let c1_i32_32 : BitVec 32 := 1#32
  let v74 : BitVec 32 := Scalar.subi v73 c1_i32_32
  let c0_i32_34 : BitVec 32 := 0#32
  let v76 : BitVec 1 := Scalar.cmpi .sgt v74 c0_i32_34
  let v77 : BitVec 32 := Scalar.extui v76
  let c0_i32_35 : BitVec 32 := 0#32
  let v78 : BitVec 1 := Scalar.cmpi .slt v74 c0_i32_35
  let v79 : BitVec 32 := Scalar.extui v78
  let v80 : BitVec 32 := Scalar.subi v77 v79
  let c256_i32_33 : BitVec 32 := 256#32
  let c0_i32_36 : BitVec 32 := 0#32
  let v81 : BitVec 1 := Scalar.cmpi .sgt c256_i32_33 c0_i32_36
  let v82 : BitVec 32 := Scalar.extui v81
  let c0_i32_37 : BitVec 32 := 0#32
  let v83 : BitVec 1 := Scalar.cmpi .slt c256_i32_33 c0_i32_37
  let v84 : BitVec 32 := Scalar.extui v83
  let v85 : BitVec 32 := Scalar.subi v82 v84
  let v86 : BitVec 1 := Scalar.cmpi .ne v80 v85
  let v87 : BitVec 32 := Scalar.remsi v74 c256_i32_33
  let c0_i32_38 : BitVec 32 := 0#32
  let v88 : BitVec 1 := Scalar.cmpi .ne v87 c0_i32_38
  let v89 : BitVec 1 := Scalar.andi v86 v88
  let v75 : BitVec 32 := Scalar.divsi v74 c256_i32_33
  let c1_i32_39 : BitVec 32 := 1#32
  let v90 : BitVec 32 := Scalar.subi v75 c1_i32_39
  let v91 : BitVec 32 := Scalar.select v89 v90 v75
  let c1_i32_131 : BitVec 32 := 1#32
  let v298 : BitVec 32 := Scalar.subi v91 c1_i32_131
  let c4_i32_132 : BitVec 32 := 4#32
  let v299 : BitVec 32 := Scalar.remsi v298 c4_i32_132
  let c0_i32_133 : BitVec 32 := 0#32
  let v300 : BitVec 32 := Scalar.maxsi v299 c0_i32_133
  let c3_i32_134 : BitVec 32 := 3#32
  let v301 : BitVec 32 := Scalar.minsi v300 c3_i32_134
  let c1_i32_136 : BitVec 32 := 1#32
  let v304 : BitVec 32 := Scalar.subi v301 c1_i32_136
  let c1_i32_138 : BitVec 32 := 1#32
  let v307 : BitVec 32 := Scalar.subi v304 c1_i32_138
  let c0_i32_139 : BitVec 32 := 0#32
  let v308 : BitVec 1 := Scalar.cmpi .ne v307 c0_i32_139
  v308

@[reducible] def k0_t3_loop : Scf.Loop 32 :=
  let c0_i32_195 : BitVec 32 := 0#32
  let c31_i32 : BitVec 32 := 31#32
  let v1971 : BitVec 32 := Scalar.addi c0_i32_195 c31_i32
  let c1_i32_196 : BitVec 32 := 1#32
  ⟨c0_i32_195, v1971, c1_i32_196⟩
@[reducible] def k0_t4_loop : Scf.Loop 32 :=
  let c0_i32_353 : BitVec 32 := 0#32
  let c13_i32 : BitVec 32 := 13#32
  let v3823 : BitVec 32 := Scalar.addi c0_i32_353 c13_i32
  let c1_i32_354 : BitVec 32 := 1#32
  ⟨c0_i32_353, v3823, c1_i32_354⟩
@[reducible] def k0_t5_loop : Scf.Loop 32 :=
  let c0_i32_192 : BitVec 32 := 0#32
  let c31_i32 : BitVec 32 := 31#32
  let v1868 : BitVec 32 := Scalar.addi c0_i32_192 c31_i32
  let c1_i32_193 : BitVec 32 := 1#32
  ⟨c0_i32_192, v1868, c1_i32_193⟩
@[reducible] def k0_t6_loop : Scf.Loop 32 :=
  let c0_i32_341 : BitVec 32 := 0#32
  let c13_i32 : BitVec 32 := 13#32
  let v3606 : BitVec 32 := Scalar.addi c0_i32_341 c13_i32
  let c1_i32_342 : BitVec 32 := 1#32
  ⟨c0_i32_341, v3606, c1_i32_342⟩
@[reducible] def k0_t7_loop : Scf.Loop 32 :=
  let c0_i32_187 : BitVec 32 := 0#32
  let c31_i32 : BitVec 32 := 31#32
  let v1762 : BitVec 32 := Scalar.addi c0_i32_187 c31_i32
  let c1_i32_188 : BitVec 32 := 1#32
  ⟨c0_i32_187, v1762, c1_i32_188⟩
@[reducible] def k0_t8_loop : Scf.Loop 32 :=
  let c0_i32_327 : BitVec 32 := 0#32
  let c13_i32 : BitVec 32 := 13#32
  let v3386 : BitVec 32 := Scalar.addi c0_i32_327 c13_i32
  let c1_i32_328 : BitVec 32 := 1#32
  ⟨c0_i32_327, v3386, c1_i32_328⟩
@[reducible] def k0_t9_loop : Scf.Loop 32 :=
  let c0_i32_182 : BitVec 32 := 0#32
  let c31_i32 : BitVec 32 := 31#32
  let v1656 : BitVec 32 := Scalar.addi c0_i32_182 c31_i32
  let c1_i32_183 : BitVec 32 := 1#32
  ⟨c0_i32_182, v1656, c1_i32_183⟩
@[reducible] def k0_t10_loop : Scf.Loop 32 :=
  let c0_i32_313 : BitVec 32 := 0#32
  let c13_i32 : BitVec 32 := 13#32
  let v3166 : BitVec 32 := Scalar.addi c0_i32_313 c13_i32
  let c1_i32_314 : BitVec 32 := 1#32
  ⟨c0_i32_313, v3166, c1_i32_314⟩
def k0_cond12 (i : grid0.Coords) : BitVec 1 :=
  let arg1 : BitVec 32 := BitVec.ofNat 32 (i 1).val
  let c128_i32_30 : BitVec 32 := 128#32
  let v71 : BitVec 32 := Scalar.muli arg1 c128_i32_30
  let c128_i32_31 : BitVec 32 := 128#32
  let v72 : BitVec 32 := Scalar.addi v71 c128_i32_31
  let c256_i32 : BitVec 32 := 256#32
  let v73 : BitVec 32 := Scalar.addi v72 c256_i32
  let c1_i32_32 : BitVec 32 := 1#32
  let v74 : BitVec 32 := Scalar.subi v73 c1_i32_32
  let c0_i32_34 : BitVec 32 := 0#32
  let v76 : BitVec 1 := Scalar.cmpi .sgt v74 c0_i32_34
  let v77 : BitVec 32 := Scalar.extui v76
  let c0_i32_35 : BitVec 32 := 0#32
  let v78 : BitVec 1 := Scalar.cmpi .slt v74 c0_i32_35
  let v79 : BitVec 32 := Scalar.extui v78
  let v80 : BitVec 32 := Scalar.subi v77 v79
  let c256_i32_33 : BitVec 32 := 256#32
  let c0_i32_36 : BitVec 32 := 0#32
  let v81 : BitVec 1 := Scalar.cmpi .sgt c256_i32_33 c0_i32_36
  let v82 : BitVec 32 := Scalar.extui v81
  let c0_i32_37 : BitVec 32 := 0#32
  let v83 : BitVec 1 := Scalar.cmpi .slt c256_i32_33 c0_i32_37
  let v84 : BitVec 32 := Scalar.extui v83
  let v85 : BitVec 32 := Scalar.subi v82 v84
  let v86 : BitVec 1 := Scalar.cmpi .ne v80 v85
  let v87 : BitVec 32 := Scalar.remsi v74 c256_i32_33
  let c0_i32_38 : BitVec 32 := 0#32
  let v88 : BitVec 1 := Scalar.cmpi .ne v87 c0_i32_38
  let v89 : BitVec 1 := Scalar.andi v86 v88
  let v75 : BitVec 32 := Scalar.divsi v74 c256_i32_33
  let c1_i32_39 : BitVec 32 := 1#32
  let v90 : BitVec 32 := Scalar.subi v75 c1_i32_39
  let v91 : BitVec 32 := Scalar.select v89 v90 v75
  let c1_i32_131 : BitVec 32 := 1#32
  let v298 : BitVec 32 := Scalar.subi v91 c1_i32_131
  let c4_i32_132 : BitVec 32 := 4#32
  let v299 : BitVec 32 := Scalar.remsi v298 c4_i32_132
  let c0_i32_133 : BitVec 32 := 0#32
  let v300 : BitVec 32 := Scalar.maxsi v299 c0_i32_133
  let c3_i32_134 : BitVec 32 := 3#32
  let v301 : BitVec 32 := Scalar.minsi v300 c3_i32_134
  let c0_i32_135 : BitVec 32 := 0#32
  let v302 : BitVec 1 := Scalar.cmpi .ne v301 c0_i32_135
  v302

def k0_cond13 (i : grid0.Coords) : BitVec 1 :=
  let arg1 : BitVec 32 := BitVec.ofNat 32 (i 1).val
  let c128_i32_30 : BitVec 32 := 128#32
  let v71 : BitVec 32 := Scalar.muli arg1 c128_i32_30
  let c128_i32_31 : BitVec 32 := 128#32
  let v72 : BitVec 32 := Scalar.addi v71 c128_i32_31
  let c256_i32 : BitVec 32 := 256#32
  let v73 : BitVec 32 := Scalar.addi v72 c256_i32
  let c1_i32_32 : BitVec 32 := 1#32
  let v74 : BitVec 32 := Scalar.subi v73 c1_i32_32
  let c0_i32_34 : BitVec 32 := 0#32
  let v76 : BitVec 1 := Scalar.cmpi .sgt v74 c0_i32_34
  let v77 : BitVec 32 := Scalar.extui v76
  let c0_i32_35 : BitVec 32 := 0#32
  let v78 : BitVec 1 := Scalar.cmpi .slt v74 c0_i32_35
  let v79 : BitVec 32 := Scalar.extui v78
  let v80 : BitVec 32 := Scalar.subi v77 v79
  let c256_i32_33 : BitVec 32 := 256#32
  let c0_i32_36 : BitVec 32 := 0#32
  let v81 : BitVec 1 := Scalar.cmpi .sgt c256_i32_33 c0_i32_36
  let v82 : BitVec 32 := Scalar.extui v81
  let c0_i32_37 : BitVec 32 := 0#32
  let v83 : BitVec 1 := Scalar.cmpi .slt c256_i32_33 c0_i32_37
  let v84 : BitVec 32 := Scalar.extui v83
  let v85 : BitVec 32 := Scalar.subi v82 v84
  let v86 : BitVec 1 := Scalar.cmpi .ne v80 v85
  let v87 : BitVec 32 := Scalar.remsi v74 c256_i32_33
  let c0_i32_38 : BitVec 32 := 0#32
  let v88 : BitVec 1 := Scalar.cmpi .ne v87 c0_i32_38
  let v89 : BitVec 1 := Scalar.andi v86 v88
  let v75 : BitVec 32 := Scalar.divsi v74 c256_i32_33
  let c1_i32_39 : BitVec 32 := 1#32
  let v90 : BitVec 32 := Scalar.subi v75 c1_i32_39
  let v91 : BitVec 32 := Scalar.select v89 v90 v75
  let c1_i32_131 : BitVec 32 := 1#32
  let v298 : BitVec 32 := Scalar.subi v91 c1_i32_131
  let c4_i32_132 : BitVec 32 := 4#32
  let v299 : BitVec 32 := Scalar.remsi v298 c4_i32_132
  let c0_i32_133 : BitVec 32 := 0#32
  let v300 : BitVec 32 := Scalar.maxsi v299 c0_i32_133
  let c3_i32_134 : BitVec 32 := 3#32
  let v301 : BitVec 32 := Scalar.minsi v300 c3_i32_134
  let c1_i32_136 : BitVec 32 := 1#32
  let v304 : BitVec 32 := Scalar.subi v301 c1_i32_136
  let c0_i32_137 : BitVec 32 := 0#32
  let v305 : BitVec 1 := Scalar.cmpi .ne v304 c0_i32_137
  v305

def k0_cond14 (i : grid0.Coords) : BitVec 1 :=
  let arg1 : BitVec 32 := BitVec.ofNat 32 (i 1).val
  let c128_i32_30 : BitVec 32 := 128#32
  let v71 : BitVec 32 := Scalar.muli arg1 c128_i32_30
  let c128_i32_31 : BitVec 32 := 128#32
  let v72 : BitVec 32 := Scalar.addi v71 c128_i32_31
  let c256_i32 : BitVec 32 := 256#32
  let v73 : BitVec 32 := Scalar.addi v72 c256_i32
  let c1_i32_32 : BitVec 32 := 1#32
  let v74 : BitVec 32 := Scalar.subi v73 c1_i32_32
  let c0_i32_34 : BitVec 32 := 0#32
  let v76 : BitVec 1 := Scalar.cmpi .sgt v74 c0_i32_34
  let v77 : BitVec 32 := Scalar.extui v76
  let c0_i32_35 : BitVec 32 := 0#32
  let v78 : BitVec 1 := Scalar.cmpi .slt v74 c0_i32_35
  let v79 : BitVec 32 := Scalar.extui v78
  let v80 : BitVec 32 := Scalar.subi v77 v79
  let c256_i32_33 : BitVec 32 := 256#32
  let c0_i32_36 : BitVec 32 := 0#32
  let v81 : BitVec 1 := Scalar.cmpi .sgt c256_i32_33 c0_i32_36
  let v82 : BitVec 32 := Scalar.extui v81
  let c0_i32_37 : BitVec 32 := 0#32
  let v83 : BitVec 1 := Scalar.cmpi .slt c256_i32_33 c0_i32_37
  let v84 : BitVec 32 := Scalar.extui v83
  let v85 : BitVec 32 := Scalar.subi v82 v84
  let v86 : BitVec 1 := Scalar.cmpi .ne v80 v85
  let v87 : BitVec 32 := Scalar.remsi v74 c256_i32_33
  let c0_i32_38 : BitVec 32 := 0#32
  let v88 : BitVec 1 := Scalar.cmpi .ne v87 c0_i32_38
  let v89 : BitVec 1 := Scalar.andi v86 v88
  let v75 : BitVec 32 := Scalar.divsi v74 c256_i32_33
  let c1_i32_39 : BitVec 32 := 1#32
  let v90 : BitVec 32 := Scalar.subi v75 c1_i32_39
  let v91 : BitVec 32 := Scalar.select v89 v90 v75
  let c1_i32_131 : BitVec 32 := 1#32
  let v298 : BitVec 32 := Scalar.subi v91 c1_i32_131
  let c4_i32_132 : BitVec 32 := 4#32
  let v299 : BitVec 32 := Scalar.remsi v298 c4_i32_132
  let c0_i32_133 : BitVec 32 := 0#32
  let v300 : BitVec 32 := Scalar.maxsi v299 c0_i32_133
  let c3_i32_134 : BitVec 32 := 3#32
  let v301 : BitVec 32 := Scalar.minsi v300 c3_i32_134
  let c1_i32_136 : BitVec 32 := 1#32
  let v304 : BitVec 32 := Scalar.subi v301 c1_i32_136
  let c1_i32_138 : BitVec 32 := 1#32
  let v307 : BitVec 32 := Scalar.subi v304 c1_i32_138
  let c0_i32_139 : BitVec 32 := 0#32
  let v308 : BitVec 1 := Scalar.cmpi .ne v307 c0_i32_139
  v308

@[reducible] def k0_t11_loop : Scf.Loop 32 :=
  let c0_i32_183 : BitVec 32 := 0#32
  let c31_i32 : BitVec 32 := 31#32
  let v1559 : BitVec 32 := Scalar.addi c0_i32_183 c31_i32
  let c1_i32_184 : BitVec 32 := 1#32
  ⟨c0_i32_183, v1559, c1_i32_184⟩
@[reducible] def k0_t12_loop : Scf.Loop 32 :=
  let c0_i32_305 : BitVec 32 := 0#32
  let c13_i32 : BitVec 32 := 13#32
  let v2955 : BitVec 32 := Scalar.addi c0_i32_305 c13_i32
  let c1_i32_306 : BitVec 32 := 1#32
  ⟨c0_i32_305, v2955, c1_i32_306⟩
@[reducible] def k0_t13_loop : Scf.Loop 32 :=
  let c0_i32_180 : BitVec 32 := 0#32
  let c31_i32 : BitVec 32 := 31#32
  let v1456 : BitVec 32 := Scalar.addi c0_i32_180 c31_i32
  let c1_i32_181 : BitVec 32 := 1#32
  ⟨c0_i32_180, v1456, c1_i32_181⟩
@[reducible] def k0_t14_loop : Scf.Loop 32 :=
  let c0_i32_293 : BitVec 32 := 0#32
  let c13_i32 : BitVec 32 := 13#32
  let v2738 : BitVec 32 := Scalar.addi c0_i32_293 c13_i32
  let c1_i32_294 : BitVec 32 := 1#32
  ⟨c0_i32_293, v2738, c1_i32_294⟩
@[reducible] def k0_t15_loop : Scf.Loop 32 :=
  let c0_i32_175 : BitVec 32 := 0#32
  let c31_i32 : BitVec 32 := 31#32
  let v1350 : BitVec 32 := Scalar.addi c0_i32_175 c31_i32
  let c1_i32_176 : BitVec 32 := 1#32
  ⟨c0_i32_175, v1350, c1_i32_176⟩
@[reducible] def k0_t16_loop : Scf.Loop 32 :=
  let c0_i32_279 : BitVec 32 := 0#32
  let c13_i32 : BitVec 32 := 13#32
  let v2518 : BitVec 32 := Scalar.addi c0_i32_279 c13_i32
  let c1_i32_280 : BitVec 32 := 1#32
  ⟨c0_i32_279, v2518, c1_i32_280⟩
@[reducible] def k0_t17_loop : Scf.Loop 32 :=
  let c0_i32_170 : BitVec 32 := 0#32
  let c31_i32 : BitVec 32 := 31#32
  let v1244 : BitVec 32 := Scalar.addi c0_i32_170 c31_i32
  let c1_i32_171 : BitVec 32 := 1#32
  ⟨c0_i32_170, v1244, c1_i32_171⟩
@[reducible] def k0_t18_loop : Scf.Loop 32 :=
  let c0_i32_265 : BitVec 32 := 0#32
  let c13_i32 : BitVec 32 := 13#32
  let v2298 : BitVec 32 := Scalar.addi c0_i32_265 c13_i32
  let c1_i32_266 : BitVec 32 := 1#32
  ⟨c0_i32_265, v2298, c1_i32_266⟩
def k0_cond19 (i : grid0.Coords) : BitVec 1 :=
  let arg1 : BitVec 32 := BitVec.ofNat 32 (i 1).val
  let c128_i32_30 : BitVec 32 := 128#32
  let v71 : BitVec 32 := Scalar.muli arg1 c128_i32_30
  let c128_i32_31 : BitVec 32 := 128#32
  let v72 : BitVec 32 := Scalar.addi v71 c128_i32_31
  let c256_i32 : BitVec 32 := 256#32
  let v73 : BitVec 32 := Scalar.addi v72 c256_i32
  let c1_i32_32 : BitVec 32 := 1#32
  let v74 : BitVec 32 := Scalar.subi v73 c1_i32_32
  let c0_i32_34 : BitVec 32 := 0#32
  let v76 : BitVec 1 := Scalar.cmpi .sgt v74 c0_i32_34
  let v77 : BitVec 32 := Scalar.extui v76
  let c0_i32_35 : BitVec 32 := 0#32
  let v78 : BitVec 1 := Scalar.cmpi .slt v74 c0_i32_35
  let v79 : BitVec 32 := Scalar.extui v78
  let v80 : BitVec 32 := Scalar.subi v77 v79
  let c256_i32_33 : BitVec 32 := 256#32
  let c0_i32_36 : BitVec 32 := 0#32
  let v81 : BitVec 1 := Scalar.cmpi .sgt c256_i32_33 c0_i32_36
  let v82 : BitVec 32 := Scalar.extui v81
  let c0_i32_37 : BitVec 32 := 0#32
  let v83 : BitVec 1 := Scalar.cmpi .slt c256_i32_33 c0_i32_37
  let v84 : BitVec 32 := Scalar.extui v83
  let v85 : BitVec 32 := Scalar.subi v82 v84
  let v86 : BitVec 1 := Scalar.cmpi .ne v80 v85
  let v87 : BitVec 32 := Scalar.remsi v74 c256_i32_33
  let c0_i32_38 : BitVec 32 := 0#32
  let v88 : BitVec 1 := Scalar.cmpi .ne v87 c0_i32_38
  let v89 : BitVec 1 := Scalar.andi v86 v88
  let v75 : BitVec 32 := Scalar.divsi v74 c256_i32_33
  let c1_i32_39 : BitVec 32 := 1#32
  let v90 : BitVec 32 := Scalar.subi v75 c1_i32_39
  let v91 : BitVec 32 := Scalar.select v89 v90 v75
  let c1_i32_129 : BitVec 32 := 1#32
  let v295 : BitVec 32 := Scalar.subi v91 c1_i32_129
  let c4_i32_130 : BitVec 32 := 4#32
  let v296 : BitVec 32 := Scalar.remsi v295 c4_i32_130
  let c0_i32_131 : BitVec 32 := 0#32
  let v297 : BitVec 32 := Scalar.maxsi v296 c0_i32_131
  let c3_i32_132 : BitVec 32 := 3#32
  let v298 : BitVec 32 := Scalar.minsi v297 c3_i32_132
  let c0_i32_133 : BitVec 32 := 0#32
  let v299 : BitVec 1 := Scalar.cmpi .ne v298 c0_i32_133
  v299

def k0_cond20 (i : grid0.Coords) : BitVec 1 :=
  let arg1 : BitVec 32 := BitVec.ofNat 32 (i 1).val
  let c128_i32_30 : BitVec 32 := 128#32
  let v71 : BitVec 32 := Scalar.muli arg1 c128_i32_30
  let c128_i32_31 : BitVec 32 := 128#32
  let v72 : BitVec 32 := Scalar.addi v71 c128_i32_31
  let c256_i32 : BitVec 32 := 256#32
  let v73 : BitVec 32 := Scalar.addi v72 c256_i32
  let c1_i32_32 : BitVec 32 := 1#32
  let v74 : BitVec 32 := Scalar.subi v73 c1_i32_32
  let c0_i32_34 : BitVec 32 := 0#32
  let v76 : BitVec 1 := Scalar.cmpi .sgt v74 c0_i32_34
  let v77 : BitVec 32 := Scalar.extui v76
  let c0_i32_35 : BitVec 32 := 0#32
  let v78 : BitVec 1 := Scalar.cmpi .slt v74 c0_i32_35
  let v79 : BitVec 32 := Scalar.extui v78
  let v80 : BitVec 32 := Scalar.subi v77 v79
  let c256_i32_33 : BitVec 32 := 256#32
  let c0_i32_36 : BitVec 32 := 0#32
  let v81 : BitVec 1 := Scalar.cmpi .sgt c256_i32_33 c0_i32_36
  let v82 : BitVec 32 := Scalar.extui v81
  let c0_i32_37 : BitVec 32 := 0#32
  let v83 : BitVec 1 := Scalar.cmpi .slt c256_i32_33 c0_i32_37
  let v84 : BitVec 32 := Scalar.extui v83
  let v85 : BitVec 32 := Scalar.subi v82 v84
  let v86 : BitVec 1 := Scalar.cmpi .ne v80 v85
  let v87 : BitVec 32 := Scalar.remsi v74 c256_i32_33
  let c0_i32_38 : BitVec 32 := 0#32
  let v88 : BitVec 1 := Scalar.cmpi .ne v87 c0_i32_38
  let v89 : BitVec 1 := Scalar.andi v86 v88
  let v75 : BitVec 32 := Scalar.divsi v74 c256_i32_33
  let c1_i32_39 : BitVec 32 := 1#32
  let v90 : BitVec 32 := Scalar.subi v75 c1_i32_39
  let v91 : BitVec 32 := Scalar.select v89 v90 v75
  let c1_i32_129 : BitVec 32 := 1#32
  let v295 : BitVec 32 := Scalar.subi v91 c1_i32_129
  let c4_i32_130 : BitVec 32 := 4#32
  let v296 : BitVec 32 := Scalar.remsi v295 c4_i32_130
  let c0_i32_131 : BitVec 32 := 0#32
  let v297 : BitVec 32 := Scalar.maxsi v296 c0_i32_131
  let c3_i32_132 : BitVec 32 := 3#32
  let v298 : BitVec 32 := Scalar.minsi v297 c3_i32_132
  let c1_i32_134 : BitVec 32 := 1#32
  let v301 : BitVec 32 := Scalar.subi v298 c1_i32_134
  let c0_i32_135 : BitVec 32 := 0#32
  let v302 : BitVec 1 := Scalar.cmpi .ne v301 c0_i32_135
  v302

def k0_cond21 (i : grid0.Coords) : BitVec 1 :=
  let arg1 : BitVec 32 := BitVec.ofNat 32 (i 1).val
  let c128_i32_30 : BitVec 32 := 128#32
  let v71 : BitVec 32 := Scalar.muli arg1 c128_i32_30
  let c128_i32_31 : BitVec 32 := 128#32
  let v72 : BitVec 32 := Scalar.addi v71 c128_i32_31
  let c256_i32 : BitVec 32 := 256#32
  let v73 : BitVec 32 := Scalar.addi v72 c256_i32
  let c1_i32_32 : BitVec 32 := 1#32
  let v74 : BitVec 32 := Scalar.subi v73 c1_i32_32
  let c0_i32_34 : BitVec 32 := 0#32
  let v76 : BitVec 1 := Scalar.cmpi .sgt v74 c0_i32_34
  let v77 : BitVec 32 := Scalar.extui v76
  let c0_i32_35 : BitVec 32 := 0#32
  let v78 : BitVec 1 := Scalar.cmpi .slt v74 c0_i32_35
  let v79 : BitVec 32 := Scalar.extui v78
  let v80 : BitVec 32 := Scalar.subi v77 v79
  let c256_i32_33 : BitVec 32 := 256#32
  let c0_i32_36 : BitVec 32 := 0#32
  let v81 : BitVec 1 := Scalar.cmpi .sgt c256_i32_33 c0_i32_36
  let v82 : BitVec 32 := Scalar.extui v81
  let c0_i32_37 : BitVec 32 := 0#32
  let v83 : BitVec 1 := Scalar.cmpi .slt c256_i32_33 c0_i32_37
  let v84 : BitVec 32 := Scalar.extui v83
  let v85 : BitVec 32 := Scalar.subi v82 v84
  let v86 : BitVec 1 := Scalar.cmpi .ne v80 v85
  let v87 : BitVec 32 := Scalar.remsi v74 c256_i32_33
  let c0_i32_38 : BitVec 32 := 0#32
  let v88 : BitVec 1 := Scalar.cmpi .ne v87 c0_i32_38
  let v89 : BitVec 1 := Scalar.andi v86 v88
  let v75 : BitVec 32 := Scalar.divsi v74 c256_i32_33
  let c1_i32_39 : BitVec 32 := 1#32
  let v90 : BitVec 32 := Scalar.subi v75 c1_i32_39
  let v91 : BitVec 32 := Scalar.select v89 v90 v75
  let c1_i32_129 : BitVec 32 := 1#32
  let v295 : BitVec 32 := Scalar.subi v91 c1_i32_129
  let c4_i32_130 : BitVec 32 := 4#32
  let v296 : BitVec 32 := Scalar.remsi v295 c4_i32_130
  let c0_i32_131 : BitVec 32 := 0#32
  let v297 : BitVec 32 := Scalar.maxsi v296 c0_i32_131
  let c3_i32_132 : BitVec 32 := 3#32
  let v298 : BitVec 32 := Scalar.minsi v297 c3_i32_132
  let c1_i32_134 : BitVec 32 := 1#32
  let v301 : BitVec 32 := Scalar.subi v298 c1_i32_134
  let c1_i32_136 : BitVec 32 := 1#32
  let v304 : BitVec 32 := Scalar.subi v301 c1_i32_136
  let c0_i32_137 : BitVec 32 := 0#32
  let v305 : BitVec 1 := Scalar.cmpi .ne v304 c0_i32_137
  v305

@[reducible] def k0_t19_loop : Scf.Loop 32 :=
  let c0_i32_169 : BitVec 32 := 0#32
  let c31_i32 : BitVec 32 := 31#32
  let v1144 : BitVec 32 := Scalar.addi c0_i32_169 c31_i32
  let c1_i32_170 : BitVec 32 := 1#32
  ⟨c0_i32_169, v1144, c1_i32_170⟩
@[reducible] def k0_t20_loop : Scf.Loop 32 :=
  let c0_i32_255 : BitVec 32 := 0#32
  let c12_i32 : BitVec 32 := 12#32
  let v2084 : BitVec 32 := Scalar.addi c0_i32_255 c12_i32
  let c1_i32_256 : BitVec 32 := 1#32
  ⟨c0_i32_255, v2084, c1_i32_256⟩
@[reducible] def k0_t21_loop : Scf.Loop 32 :=
  let c0_i32_166 : BitVec 32 := 0#32
  let c31_i32 : BitVec 32 := 31#32
  let v1041 : BitVec 32 := Scalar.addi c0_i32_166 c31_i32
  let c1_i32_167 : BitVec 32 := 1#32
  ⟨c0_i32_166, v1041, c1_i32_167⟩
@[reducible] def k0_t22_loop : Scf.Loop 32 :=
  let c0_i32_243 : BitVec 32 := 0#32
  let c12_i32 : BitVec 32 := 12#32
  let v1867 : BitVec 32 := Scalar.addi c0_i32_243 c12_i32
  let c1_i32_244 : BitVec 32 := 1#32
  ⟨c0_i32_243, v1867, c1_i32_244⟩
@[reducible] def k0_t23_loop : Scf.Loop 32 :=
  let c0_i32_161 : BitVec 32 := 0#32
  let c31_i32 : BitVec 32 := 31#32
  let v935 : BitVec 32 := Scalar.addi c0_i32_161 c31_i32
  let c1_i32_162 : BitVec 32 := 1#32
  ⟨c0_i32_161, v935, c1_i32_162⟩
@[reducible] def k0_t24_loop : Scf.Loop 32 :=
  let c0_i32_229 : BitVec 32 := 0#32
  let c12_i32 : BitVec 32 := 12#32
  let v1647 : BitVec 32 := Scalar.addi c0_i32_229 c12_i32
  let c1_i32_230 : BitVec 32 := 1#32
  ⟨c0_i32_229, v1647, c1_i32_230⟩
@[reducible] def k0_t25_loop : Scf.Loop 32 :=
  let c0_i32_156 : BitVec 32 := 0#32
  let c31_i32 : BitVec 32 := 31#32
  let v829 : BitVec 32 := Scalar.addi c0_i32_156 c31_i32
  let c1_i32_157 : BitVec 32 := 1#32
  ⟨c0_i32_156, v829, c1_i32_157⟩
@[reducible] def k0_t26_loop : Scf.Loop 32 :=
  let c0_i32_215 : BitVec 32 := 0#32
  let c12_i32 : BitVec 32 := 12#32
  let v1427 : BitVec 32 := Scalar.addi c0_i32_215 c12_i32
  let c1_i32_216 : BitVec 32 := 1#32
  ⟨c0_i32_215, v1427, c1_i32_216⟩
def k0_cond26 (i : grid0.Coords) : BitVec 1 :=
  let arg1 : BitVec 32 := BitVec.ofNat 32 (i 1).val
  let c128_i32_30 : BitVec 32 := 128#32
  let v71 : BitVec 32 := Scalar.muli arg1 c128_i32_30
  let c128_i32_31 : BitVec 32 := 128#32
  let v72 : BitVec 32 := Scalar.addi v71 c128_i32_31
  let c256_i32 : BitVec 32 := 256#32
  let v73 : BitVec 32 := Scalar.addi v72 c256_i32
  let c1_i32_32 : BitVec 32 := 1#32
  let v74 : BitVec 32 := Scalar.subi v73 c1_i32_32
  let c0_i32_34 : BitVec 32 := 0#32
  let v76 : BitVec 1 := Scalar.cmpi .sgt v74 c0_i32_34
  let v77 : BitVec 32 := Scalar.extui v76
  let c0_i32_35 : BitVec 32 := 0#32
  let v78 : BitVec 1 := Scalar.cmpi .slt v74 c0_i32_35
  let v79 : BitVec 32 := Scalar.extui v78
  let v80 : BitVec 32 := Scalar.subi v77 v79
  let c256_i32_33 : BitVec 32 := 256#32
  let c0_i32_36 : BitVec 32 := 0#32
  let v81 : BitVec 1 := Scalar.cmpi .sgt c256_i32_33 c0_i32_36
  let v82 : BitVec 32 := Scalar.extui v81
  let c0_i32_37 : BitVec 32 := 0#32
  let v83 : BitVec 1 := Scalar.cmpi .slt c256_i32_33 c0_i32_37
  let v84 : BitVec 32 := Scalar.extui v83
  let v85 : BitVec 32 := Scalar.subi v82 v84
  let v86 : BitVec 1 := Scalar.cmpi .ne v80 v85
  let v87 : BitVec 32 := Scalar.remsi v74 c256_i32_33
  let c0_i32_38 : BitVec 32 := 0#32
  let v88 : BitVec 1 := Scalar.cmpi .ne v87 c0_i32_38
  let v89 : BitVec 1 := Scalar.andi v86 v88
  let v75 : BitVec 32 := Scalar.divsi v74 c256_i32_33
  let c1_i32_39 : BitVec 32 := 1#32
  let v90 : BitVec 32 := Scalar.subi v75 c1_i32_39
  let v91 : BitVec 32 := Scalar.select v89 v90 v75
  let c1_i32_127 : BitVec 32 := 1#32
  let v292 : BitVec 32 := Scalar.subi v91 c1_i32_127
  let c4_i32_128 : BitVec 32 := 4#32
  let v293 : BitVec 32 := Scalar.remsi v292 c4_i32_128
  let c0_i32_129 : BitVec 32 := 0#32
  let v294 : BitVec 32 := Scalar.maxsi v293 c0_i32_129
  let c3_i32_130 : BitVec 32 := 3#32
  let v295 : BitVec 32 := Scalar.minsi v294 c3_i32_130
  let c0_i32_131 : BitVec 32 := 0#32
  let v296 : BitVec 1 := Scalar.cmpi .ne v295 c0_i32_131
  v296

def k0_cond27 (i : grid0.Coords) : BitVec 1 :=
  let arg1 : BitVec 32 := BitVec.ofNat 32 (i 1).val
  let c128_i32_30 : BitVec 32 := 128#32
  let v71 : BitVec 32 := Scalar.muli arg1 c128_i32_30
  let c128_i32_31 : BitVec 32 := 128#32
  let v72 : BitVec 32 := Scalar.addi v71 c128_i32_31
  let c256_i32 : BitVec 32 := 256#32
  let v73 : BitVec 32 := Scalar.addi v72 c256_i32
  let c1_i32_32 : BitVec 32 := 1#32
  let v74 : BitVec 32 := Scalar.subi v73 c1_i32_32
  let c0_i32_34 : BitVec 32 := 0#32
  let v76 : BitVec 1 := Scalar.cmpi .sgt v74 c0_i32_34
  let v77 : BitVec 32 := Scalar.extui v76
  let c0_i32_35 : BitVec 32 := 0#32
  let v78 : BitVec 1 := Scalar.cmpi .slt v74 c0_i32_35
  let v79 : BitVec 32 := Scalar.extui v78
  let v80 : BitVec 32 := Scalar.subi v77 v79
  let c256_i32_33 : BitVec 32 := 256#32
  let c0_i32_36 : BitVec 32 := 0#32
  let v81 : BitVec 1 := Scalar.cmpi .sgt c256_i32_33 c0_i32_36
  let v82 : BitVec 32 := Scalar.extui v81
  let c0_i32_37 : BitVec 32 := 0#32
  let v83 : BitVec 1 := Scalar.cmpi .slt c256_i32_33 c0_i32_37
  let v84 : BitVec 32 := Scalar.extui v83
  let v85 : BitVec 32 := Scalar.subi v82 v84
  let v86 : BitVec 1 := Scalar.cmpi .ne v80 v85
  let v87 : BitVec 32 := Scalar.remsi v74 c256_i32_33
  let c0_i32_38 : BitVec 32 := 0#32
  let v88 : BitVec 1 := Scalar.cmpi .ne v87 c0_i32_38
  let v89 : BitVec 1 := Scalar.andi v86 v88
  let v75 : BitVec 32 := Scalar.divsi v74 c256_i32_33
  let c1_i32_39 : BitVec 32 := 1#32
  let v90 : BitVec 32 := Scalar.subi v75 c1_i32_39
  let v91 : BitVec 32 := Scalar.select v89 v90 v75
  let c1_i32_127 : BitVec 32 := 1#32
  let v292 : BitVec 32 := Scalar.subi v91 c1_i32_127
  let c4_i32_128 : BitVec 32 := 4#32
  let v293 : BitVec 32 := Scalar.remsi v292 c4_i32_128
  let c0_i32_129 : BitVec 32 := 0#32
  let v294 : BitVec 32 := Scalar.maxsi v293 c0_i32_129
  let c3_i32_130 : BitVec 32 := 3#32
  let v295 : BitVec 32 := Scalar.minsi v294 c3_i32_130
  let c1_i32_132 : BitVec 32 := 1#32
  let v298 : BitVec 32 := Scalar.subi v295 c1_i32_132
  let c0_i32_133 : BitVec 32 := 0#32
  let v299 : BitVec 1 := Scalar.cmpi .ne v298 c0_i32_133
  v299

def k0_cond28 (i : grid0.Coords) : BitVec 1 :=
  let arg1 : BitVec 32 := BitVec.ofNat 32 (i 1).val
  let c128_i32_30 : BitVec 32 := 128#32
  let v71 : BitVec 32 := Scalar.muli arg1 c128_i32_30
  let c128_i32_31 : BitVec 32 := 128#32
  let v72 : BitVec 32 := Scalar.addi v71 c128_i32_31
  let c256_i32 : BitVec 32 := 256#32
  let v73 : BitVec 32 := Scalar.addi v72 c256_i32
  let c1_i32_32 : BitVec 32 := 1#32
  let v74 : BitVec 32 := Scalar.subi v73 c1_i32_32
  let c0_i32_34 : BitVec 32 := 0#32
  let v76 : BitVec 1 := Scalar.cmpi .sgt v74 c0_i32_34
  let v77 : BitVec 32 := Scalar.extui v76
  let c0_i32_35 : BitVec 32 := 0#32
  let v78 : BitVec 1 := Scalar.cmpi .slt v74 c0_i32_35
  let v79 : BitVec 32 := Scalar.extui v78
  let v80 : BitVec 32 := Scalar.subi v77 v79
  let c256_i32_33 : BitVec 32 := 256#32
  let c0_i32_36 : BitVec 32 := 0#32
  let v81 : BitVec 1 := Scalar.cmpi .sgt c256_i32_33 c0_i32_36
  let v82 : BitVec 32 := Scalar.extui v81
  let c0_i32_37 : BitVec 32 := 0#32
  let v83 : BitVec 1 := Scalar.cmpi .slt c256_i32_33 c0_i32_37
  let v84 : BitVec 32 := Scalar.extui v83
  let v85 : BitVec 32 := Scalar.subi v82 v84
  let v86 : BitVec 1 := Scalar.cmpi .ne v80 v85
  let v87 : BitVec 32 := Scalar.remsi v74 c256_i32_33
  let c0_i32_38 : BitVec 32 := 0#32
  let v88 : BitVec 1 := Scalar.cmpi .ne v87 c0_i32_38
  let v89 : BitVec 1 := Scalar.andi v86 v88
  let v75 : BitVec 32 := Scalar.divsi v74 c256_i32_33
  let c1_i32_39 : BitVec 32 := 1#32
  let v90 : BitVec 32 := Scalar.subi v75 c1_i32_39
  let v91 : BitVec 32 := Scalar.select v89 v90 v75
  let c1_i32_127 : BitVec 32 := 1#32
  let v292 : BitVec 32 := Scalar.subi v91 c1_i32_127
  let c4_i32_128 : BitVec 32 := 4#32
  let v293 : BitVec 32 := Scalar.remsi v292 c4_i32_128
  let c0_i32_129 : BitVec 32 := 0#32
  let v294 : BitVec 32 := Scalar.maxsi v293 c0_i32_129
  let c3_i32_130 : BitVec 32 := 3#32
  let v295 : BitVec 32 := Scalar.minsi v294 c3_i32_130
  let c1_i32_132 : BitVec 32 := 1#32
  let v298 : BitVec 32 := Scalar.subi v295 c1_i32_132
  let c1_i32_134 : BitVec 32 := 1#32
  let v301 : BitVec 32 := Scalar.subi v298 c1_i32_134
  let c0_i32_135 : BitVec 32 := 0#32
  let v302 : BitVec 1 := Scalar.cmpi .ne v301 c0_i32_135
  v302

@[reducible] def k0_t27_loop : Scf.Loop 32 :=
  let c0_i32_155 : BitVec 32 := 0#32
  let c31_i32 : BitVec 32 := 31#32
  let v729 : BitVec 32 := Scalar.addi c0_i32_155 c31_i32
  let c1_i32_156 : BitVec 32 := 1#32
  ⟨c0_i32_155, v729, c1_i32_156⟩
@[reducible] def k0_t28_loop : Scf.Loop 32 :=
  let c0_i32_205 : BitVec 32 := 0#32
  let c11_i32 : BitVec 32 := 11#32
  let v1213 : BitVec 32 := Scalar.addi c0_i32_205 c11_i32
  let c1_i32_206 : BitVec 32 := 1#32
  ⟨c0_i32_205, v1213, c1_i32_206⟩
@[reducible] def k0_t29_loop : Scf.Loop 32 :=
  let c0_i32_152 : BitVec 32 := 0#32
  let c31_i32 : BitVec 32 := 31#32
  let v626 : BitVec 32 := Scalar.addi c0_i32_152 c31_i32
  let c1_i32_153 : BitVec 32 := 1#32
  ⟨c0_i32_152, v626, c1_i32_153⟩
@[reducible] def k0_t30_loop : Scf.Loop 32 :=
  let c0_i32_193 : BitVec 32 := 0#32
  let c11_i32 : BitVec 32 := 11#32
  let v996 : BitVec 32 := Scalar.addi c0_i32_193 c11_i32
  let c1_i32_194 : BitVec 32 := 1#32
  ⟨c0_i32_193, v996, c1_i32_194⟩
@[reducible] def k0_t31_loop : Scf.Loop 32 :=
  let c0_i32_147 : BitVec 32 := 0#32
  let c31_i32 : BitVec 32 := 31#32
  let v520 : BitVec 32 := Scalar.addi c0_i32_147 c31_i32
  let c1_i32_148 : BitVec 32 := 1#32
  ⟨c0_i32_147, v520, c1_i32_148⟩
@[reducible] def k0_t32_loop : Scf.Loop 32 :=
  let c0_i32_179 : BitVec 32 := 0#32
  let c10_i32 : BitVec 32 := 10#32
  let v776 : BitVec 32 := Scalar.addi c0_i32_179 c10_i32
  let c1_i32_180 : BitVec 32 := 1#32
  ⟨c0_i32_179, v776, c1_i32_180⟩
@[reducible] def k0_t33_loop : Scf.Loop 32 :=
  let c0_i32_141 : BitVec 32 := 0#32
  let c31_i32 : BitVec 32 := 31#32
  let v414 : BitVec 32 := Scalar.addi c0_i32_141 c31_i32
  let c1_i32_142 : BitVec 32 := 1#32
  ⟨c0_i32_141, v414, c1_i32_142⟩
@[reducible] def k0_t34_loop : Scf.Loop 32 :=
  let c0_i32_163 : BitVec 32 := 0#32
  let c9_i32 : BitVec 32 := 9#32
  let v556 : BitVec 32 := Scalar.addi c0_i32_163 c9_i32
  let c1_i32_164 : BitVec 32 := 1#32
  ⟨c0_i32_163, v556, c1_i32_164⟩
def k0_mult11 : BitVec 32 :=
  let c0_i32_60 : BitVec 32 := 0#32
  c0_i32_60
@[reducible] def k0_t35_loop (i : grid0.Coords) : Scf.Loop 32 :=
  let c0_i32_92 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c0_i32_85 : BitVec 32 := 0#32
  let v215 : BitVec 1 := Scalar.cmpi .sgt v17 c0_i32_85
  let v216 : BitVec 32 := Scalar.extui v215
  let c0_i32_86 : BitVec 32 := 0#32
  let v217 : BitVec 1 := Scalar.cmpi .slt v17 c0_i32_86
  let v218 : BitVec 32 := Scalar.extui v217
  let v219 : BitVec 32 := Scalar.subi v216 v218
  let c2_i32_84 : BitVec 32 := 2#32
  let c0_i32_87 : BitVec 32 := 0#32
  let v220 : BitVec 1 := Scalar.cmpi .sgt c2_i32_84 c0_i32_87
  let v221 : BitVec 32 := Scalar.extui v220
  let c0_i32_88 : BitVec 32 := 0#32
  let v222 : BitVec 1 := Scalar.cmpi .slt c2_i32_84 c0_i32_88
  let v223 : BitVec 32 := Scalar.extui v222
  let v224 : BitVec 32 := Scalar.subi v221 v223
  let v225 : BitVec 1 := Scalar.cmpi .ne v219 v224
  let v226 : BitVec 32 := Scalar.remsi v17 c2_i32_84
  let c0_i32_89 : BitVec 32 := 0#32
  let v227 : BitVec 1 := Scalar.cmpi .ne v226 c0_i32_89
  let v228 : BitVec 1 := Scalar.andi v225 v227
  let v214 : BitVec 32 := Scalar.divsi v17 c2_i32_84
  let c1_i32_90 : BitVec 32 := 1#32
  let v229 : BitVec 32 := Scalar.subi v214 c1_i32_90
  let v230 : BitVec 32 := Scalar.select v228 v229 v214
  let v231 : BitVec 32 := Scalar.subi v230 c0_i32_92
  let c1_i32_93 : BitVec 32 := 1#32
  let v233 : BitVec 32 := Scalar.divsi v231 c1_i32_93
  let v234 : BitVec 32 := Scalar.muli v233 c1_i32_93
  let v235 : BitVec 32 := Scalar.addi c0_i32_92 v234
  let c1_i32_94 : BitVec 32 := 1#32
  ⟨c0_i32_92, v235, c1_i32_94⟩
def k0_mult12 (i : grid0.Coords) (k0_t35 : Fin (k0_t35_loop i).trips) : BitVec 32 :=
  let c2_i32_127 : BitVec 32 := 2#32
  let c0_i32_92 : BitVec 32 := 0#32
  let c1_i32_94 : BitVec 32 := 1#32
  let arg17 : BitVec 32 := Scf.iv c0_i32_92 c1_i32_94 k0_t35
  let v292 : BitVec 32 := Scalar.muli c2_i32_127 arg17
  let c1_i32_128 : BitVec 32 := 1#32
  let v293 : BitVec 32 := Scalar.addi v292 c1_i32_128
  let c512_i32 : BitVec 32 := 512#32
  let v294 : BitVec 32 := Scalar.muli v293 c512_i32
  v294
def k0_off10 (i : grid0.Coords) (k0_t35 : Fin (k0_t35_loop i).trips) : Fin 2 → Nat :=
  let c2_i32_127 : BitVec 32 := 2#32
  let c0_i32_92 : BitVec 32 := 0#32
  let c1_i32_94 : BitVec 32 := 1#32
  let arg17 : BitVec 32 := Scf.iv c0_i32_92 c1_i32_94 k0_t35
  let v292 : BitVec 32 := Scalar.muli c2_i32_127 arg17
  let c1_i32_128 : BitVec 32 := 1#32
  let v293 : BitVec 32 := Scalar.addi v292 c1_i32_128
  let c512_i32 : BitVec 32 := 512#32
  let v294 : BitVec 32 := Scalar.muli v293 c512_i32
  let v295 : BitVec 32 := v294
  let v296 : Index := Scalar.indexCast v295
  let c0_129 : Index := 0#32
  ![v296.toNat, 0]
def k0_off11 (i : grid0.Coords) (k0_t35 : Fin (k0_t35_loop i).trips) : Fin 3 → Nat :=
  let c0_134 : Index := 0#32
  let c2_i32_127 : BitVec 32 := 2#32
  let c0_i32_92 : BitVec 32 := 0#32
  let c1_i32_94 : BitVec 32 := 1#32
  let arg17 : BitVec 32 := Scf.iv c0_i32_92 c1_i32_94 k0_t35
  let v292 : BitVec 32 := Scalar.muli c2_i32_127 arg17
  let c1_i32_128 : BitVec 32 := 1#32
  let v293 : BitVec 32 := Scalar.addi v292 c1_i32_128
  let c512_i32 : BitVec 32 := 512#32
  let v294 : BitVec 32 := Scalar.muli v293 c512_i32
  let v295 : BitVec 32 := v294
  let v315 : Index := Scalar.indexCast v295
  let c0_135 : Index := 0#32
  ![0, v315.toNat, 0]
def k0_off12 (i : grid0.Coords) (k0_t35 : Fin (k0_t35_loop i).trips) : Fin 3 → Nat :=
  let c0_140 : Index := 0#32
  let c2_i32_127 : BitVec 32 := 2#32
  let c0_i32_92 : BitVec 32 := 0#32
  let c1_i32_94 : BitVec 32 := 1#32
  let arg17 : BitVec 32 := Scf.iv c0_i32_92 c1_i32_94 k0_t35
  let v292 : BitVec 32 := Scalar.muli c2_i32_127 arg17
  let c1_i32_128 : BitVec 32 := 1#32
  let v293 : BitVec 32 := Scalar.addi v292 c1_i32_128
  let c512_i32 : BitVec 32 := 512#32
  let v294 : BitVec 32 := Scalar.muli v293 c512_i32
  let v295 : BitVec 32 := v294
  let v323 : Index := Scalar.indexCast v295
  let c128_141 : Index := 128#32
  ![0, v323.toNat, 128]
def k0_off13 (i : grid0.Coords) (k0_t35 : Fin (k0_t35_loop i).trips) : Fin 3 → Nat :=
  let c0_146 : Index := 0#32
  let c2_i32_127 : BitVec 32 := 2#32
  let c0_i32_92 : BitVec 32 := 0#32
  let c1_i32_94 : BitVec 32 := 1#32
  let arg17 : BitVec 32 := Scf.iv c0_i32_92 c1_i32_94 k0_t35
  let v292 : BitVec 32 := Scalar.muli c2_i32_127 arg17
  let c1_i32_128 : BitVec 32 := 1#32
  let v293 : BitVec 32 := Scalar.addi v292 c1_i32_128
  let c512_i32 : BitVec 32 := 512#32
  let v294 : BitVec 32 := Scalar.muli v293 c512_i32
  let v295 : BitVec 32 := v294
  let v331 : Index := Scalar.indexCast v295
  let c256_147 : Index := 256#32
  ![0, v331.toNat, 256]
def k0_off14 (i : grid0.Coords) (k0_t35 : Fin (k0_t35_loop i).trips) : Fin 3 → Nat :=
  let c0_152 : Index := 0#32
  let c2_i32_127 : BitVec 32 := 2#32
  let c0_i32_92 : BitVec 32 := 0#32
  let c1_i32_94 : BitVec 32 := 1#32
  let arg17 : BitVec 32 := Scf.iv c0_i32_92 c1_i32_94 k0_t35
  let v292 : BitVec 32 := Scalar.muli c2_i32_127 arg17
  let c1_i32_128 : BitVec 32 := 1#32
  let v293 : BitVec 32 := Scalar.addi v292 c1_i32_128
  let c512_i32 : BitVec 32 := 512#32
  let v294 : BitVec 32 := Scalar.muli v293 c512_i32
  let v295 : BitVec 32 := v294
  let v339 : Index := Scalar.indexCast v295
  let c384_153 : Index := 384#32
  ![0, v339.toNat, 384]
def k0_mult13 (i : grid0.Coords) (k0_t35 : Fin (k0_t35_loop i).trips) : BitVec 32 :=
  let c2_i32_158 : BitVec 32 := 2#32
  let c0_i32_92 : BitVec 32 := 0#32
  let c1_i32_94 : BitVec 32 := 1#32
  let arg17 : BitVec 32 := Scf.iv c0_i32_92 c1_i32_94 k0_t35
  let v347 : BitVec 32 := Scalar.muli c2_i32_158 arg17
  let c512_i32_159 : BitVec 32 := 512#32
  let v348 : BitVec 32 := Scalar.muli v347 c512_i32_159
  v348
def k0_off15 (i : grid0.Coords) (k0_t35 : Fin (k0_t35_loop i).trips) : Fin 3 → Nat :=
  let c0_167 : Index := 0#32
  let c2_i32_158 : BitVec 32 := 2#32
  let c0_i32_92 : BitVec 32 := 0#32
  let c1_i32_94 : BitVec 32 := 1#32
  let arg17 : BitVec 32 := Scf.iv c0_i32_92 c1_i32_94 k0_t35
  let v347 : BitVec 32 := Scalar.muli c2_i32_158 arg17
  let c512_i32_159 : BitVec 32 := 512#32
  let v348 : BitVec 32 := Scalar.muli v347 c512_i32_159
  let v349 : BitVec 32 := v348
  let v363 : Index := Scalar.indexCast v349
  let c0_168 : Index := 0#32
  ![0, v363.toNat, 0]
def k0_off16 (i : grid0.Coords) (k0_t35 : Fin (k0_t35_loop i).trips) : Fin 3 → Nat :=
  let c0_186 : Index := 0#32
  let c2_i32_158 : BitVec 32 := 2#32
  let c0_i32_92 : BitVec 32 := 0#32
  let c1_i32_94 : BitVec 32 := 1#32
  let arg17 : BitVec 32 := Scf.iv c0_i32_92 c1_i32_94 k0_t35
  let v347 : BitVec 32 := Scalar.muli c2_i32_158 arg17
  let c512_i32_159 : BitVec 32 := 512#32
  let v348 : BitVec 32 := Scalar.muli v347 c512_i32_159
  let v349 : BitVec 32 := v348
  let v394 : Index := Scalar.indexCast v349
  let c256_187 : Index := 256#32
  ![0, v394.toNat, 256]
def k0_off17 (i : grid0.Coords) (k0_t35 : Fin (k0_t35_loop i).trips) : Fin 3 → Nat :=
  let c0_205 : Index := 0#32
  let c2_i32_158 : BitVec 32 := 2#32
  let c0_i32_92 : BitVec 32 := 0#32
  let c1_i32_94 : BitVec 32 := 1#32
  let arg17 : BitVec 32 := Scf.iv c0_i32_92 c1_i32_94 k0_t35
  let v347 : BitVec 32 := Scalar.muli c2_i32_158 arg17
  let c512_i32_159 : BitVec 32 := 512#32
  let v348 : BitVec 32 := Scalar.muli v347 c512_i32_159
  let v349 : BitVec 32 := v348
  let v425 : Index := Scalar.indexCast v349
  let c512 : Index := 512#32
  ![0, v425.toNat, 512]
def k0_off18 (i : grid0.Coords) (k0_t35 : Fin (k0_t35_loop i).trips) : Fin 3 → Nat :=
  let c0_223 : Index := 0#32
  let c2_i32_158 : BitVec 32 := 2#32
  let c0_i32_92 : BitVec 32 := 0#32
  let c1_i32_94 : BitVec 32 := 1#32
  let arg17 : BitVec 32 := Scf.iv c0_i32_92 c1_i32_94 k0_t35
  let v347 : BitVec 32 := Scalar.muli c2_i32_158 arg17
  let c512_i32_159 : BitVec 32 := 512#32
  let v348 : BitVec 32 := Scalar.muli v347 c512_i32_159
  let v349 : BitVec 32 := v348
  let v456 : Index := Scalar.indexCast v349
  let c768 : Index := 768#32
  ![0, v456.toNat, 768]
def k0_mult14 (i : grid0.Coords) (k0_t35 : Fin (k0_t35_loop i).trips) : BitVec 32 :=
  let c2_i32_234 : BitVec 32 := 2#32
  let c0_i32_92 : BitVec 32 := 0#32
  let c1_i32_94 : BitVec 32 := 1#32
  let arg17 : BitVec 32 := Scf.iv c0_i32_92 c1_i32_94 k0_t35
  let v474 : BitVec 32 := Scalar.muli c2_i32_234 arg17
  let c2_i32_235 : BitVec 32 := 2#32
  let v475 : BitVec 32 := Scalar.addi v474 c2_i32_235
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_59 : BitVec 32 := 1#32
  let v161 : BitVec 32 := Scalar.subi v17 c1_i32_59
  let v476 : BitVec 32 := Scalar.minsi v475 v161
  let c512_i32_236 : BitVec 32 := 512#32
  let v477 : BitVec 32 := Scalar.muli v476 c512_i32_236
  v477
def k0_off19 (i : grid0.Coords) (k0_t35 : Fin (k0_t35_loop i).trips) : Fin 2 → Nat :=
  let c2_i32_234 : BitVec 32 := 2#32
  let c0_i32_92 : BitVec 32 := 0#32
  let c1_i32_94 : BitVec 32 := 1#32
  let arg17 : BitVec 32 := Scf.iv c0_i32_92 c1_i32_94 k0_t35
  let v474 : BitVec 32 := Scalar.muli c2_i32_234 arg17
  let c2_i32_235 : BitVec 32 := 2#32
  let v475 : BitVec 32 := Scalar.addi v474 c2_i32_235
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_59 : BitVec 32 := 1#32
  let v161 : BitVec 32 := Scalar.subi v17 c1_i32_59
  let v476 : BitVec 32 := Scalar.minsi v475 v161
  let c512_i32_236 : BitVec 32 := 512#32
  let v477 : BitVec 32 := Scalar.muli v476 c512_i32_236
  let v478 : BitVec 32 := v477
  let v479 : Index := Scalar.indexCast v478
  let c0_237 : Index := 0#32
  ![v479.toNat, 0]
def k0_off20 (i : grid0.Coords) (k0_t35 : Fin (k0_t35_loop i).trips) : Fin 3 → Nat :=
  let c0_242 : Index := 0#32
  let c2_i32_234 : BitVec 32 := 2#32
  let c0_i32_92 : BitVec 32 := 0#32
  let c1_i32_94 : BitVec 32 := 1#32
  let arg17 : BitVec 32 := Scf.iv c0_i32_92 c1_i32_94 k0_t35
  let v474 : BitVec 32 := Scalar.muli c2_i32_234 arg17
  let c2_i32_235 : BitVec 32 := 2#32
  let v475 : BitVec 32 := Scalar.addi v474 c2_i32_235
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_59 : BitVec 32 := 1#32
  let v161 : BitVec 32 := Scalar.subi v17 c1_i32_59
  let v476 : BitVec 32 := Scalar.minsi v475 v161
  let c512_i32_236 : BitVec 32 := 512#32
  let v477 : BitVec 32 := Scalar.muli v476 c512_i32_236
  let v478 : BitVec 32 := v477
  let v498 : Index := Scalar.indexCast v478
  let c0_243 : Index := 0#32
  ![0, v498.toNat, 0]
def k0_off21 (i : grid0.Coords) (k0_t35 : Fin (k0_t35_loop i).trips) : Fin 3 → Nat :=
  let c0_248 : Index := 0#32
  let c2_i32_234 : BitVec 32 := 2#32
  let c0_i32_92 : BitVec 32 := 0#32
  let c1_i32_94 : BitVec 32 := 1#32
  let arg17 : BitVec 32 := Scf.iv c0_i32_92 c1_i32_94 k0_t35
  let v474 : BitVec 32 := Scalar.muli c2_i32_234 arg17
  let c2_i32_235 : BitVec 32 := 2#32
  let v475 : BitVec 32 := Scalar.addi v474 c2_i32_235
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_59 : BitVec 32 := 1#32
  let v161 : BitVec 32 := Scalar.subi v17 c1_i32_59
  let v476 : BitVec 32 := Scalar.minsi v475 v161
  let c512_i32_236 : BitVec 32 := 512#32
  let v477 : BitVec 32 := Scalar.muli v476 c512_i32_236
  let v478 : BitVec 32 := v477
  let v506 : Index := Scalar.indexCast v478
  let c128_249 : Index := 128#32
  ![0, v506.toNat, 128]
def k0_off22 (i : grid0.Coords) (k0_t35 : Fin (k0_t35_loop i).trips) : Fin 3 → Nat :=
  let c0_254 : Index := 0#32
  let c2_i32_234 : BitVec 32 := 2#32
  let c0_i32_92 : BitVec 32 := 0#32
  let c1_i32_94 : BitVec 32 := 1#32
  let arg17 : BitVec 32 := Scf.iv c0_i32_92 c1_i32_94 k0_t35
  let v474 : BitVec 32 := Scalar.muli c2_i32_234 arg17
  let c2_i32_235 : BitVec 32 := 2#32
  let v475 : BitVec 32 := Scalar.addi v474 c2_i32_235
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_59 : BitVec 32 := 1#32
  let v161 : BitVec 32 := Scalar.subi v17 c1_i32_59
  let v476 : BitVec 32 := Scalar.minsi v475 v161
  let c512_i32_236 : BitVec 32 := 512#32
  let v477 : BitVec 32 := Scalar.muli v476 c512_i32_236
  let v478 : BitVec 32 := v477
  let v514 : Index := Scalar.indexCast v478
  let c256_255 : Index := 256#32
  ![0, v514.toNat, 256]
def k0_off23 (i : grid0.Coords) (k0_t35 : Fin (k0_t35_loop i).trips) : Fin 3 → Nat :=
  let c0_260 : Index := 0#32
  let c2_i32_234 : BitVec 32 := 2#32
  let c0_i32_92 : BitVec 32 := 0#32
  let c1_i32_94 : BitVec 32 := 1#32
  let arg17 : BitVec 32 := Scf.iv c0_i32_92 c1_i32_94 k0_t35
  let v474 : BitVec 32 := Scalar.muli c2_i32_234 arg17
  let c2_i32_235 : BitVec 32 := 2#32
  let v475 : BitVec 32 := Scalar.addi v474 c2_i32_235
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_59 : BitVec 32 := 1#32
  let v161 : BitVec 32 := Scalar.subi v17 c1_i32_59
  let v476 : BitVec 32 := Scalar.minsi v475 v161
  let c512_i32_236 : BitVec 32 := 512#32
  let v477 : BitVec 32 := Scalar.muli v476 c512_i32_236
  let v478 : BitVec 32 := v477
  let v522 : Index := Scalar.indexCast v478
  let c384_261 : Index := 384#32
  ![0, v522.toNat, 384]
def k0_mult15 (i : grid0.Coords) (k0_t35 : Fin (k0_t35_loop i).trips) : BitVec 32 :=
  let c2_i32_266 : BitVec 32 := 2#32
  let c0_i32_92 : BitVec 32 := 0#32
  let c1_i32_94 : BitVec 32 := 1#32
  let arg17 : BitVec 32 := Scf.iv c0_i32_92 c1_i32_94 k0_t35
  let v530 : BitVec 32 := Scalar.muli c2_i32_266 arg17
  let c1_i32_267 : BitVec 32 := 1#32
  let v531 : BitVec 32 := Scalar.addi v530 c1_i32_267
  let c512_i32_268 : BitVec 32 := 512#32
  let v532 : BitVec 32 := Scalar.muli v531 c512_i32_268
  v532
def k0_off24 (i : grid0.Coords) (k0_t35 : Fin (k0_t35_loop i).trips) : Fin 3 → Nat :=
  let c0_276 : Index := 0#32
  let c2_i32_266 : BitVec 32 := 2#32
  let c0_i32_92 : BitVec 32 := 0#32
  let c1_i32_94 : BitVec 32 := 1#32
  let arg17 : BitVec 32 := Scf.iv c0_i32_92 c1_i32_94 k0_t35
  let v530 : BitVec 32 := Scalar.muli c2_i32_266 arg17
  let c1_i32_267 : BitVec 32 := 1#32
  let v531 : BitVec 32 := Scalar.addi v530 c1_i32_267
  let c512_i32_268 : BitVec 32 := 512#32
  let v532 : BitVec 32 := Scalar.muli v531 c512_i32_268
  let v533 : BitVec 32 := v532
  let v547 : Index := Scalar.indexCast v533
  let c0_277 : Index := 0#32
  ![0, v547.toNat, 0]
def k0_off25 (i : grid0.Coords) (k0_t35 : Fin (k0_t35_loop i).trips) : Fin 3 → Nat :=
  let c0_295 : Index := 0#32
  let c2_i32_266 : BitVec 32 := 2#32
  let c0_i32_92 : BitVec 32 := 0#32
  let c1_i32_94 : BitVec 32 := 1#32
  let arg17 : BitVec 32 := Scf.iv c0_i32_92 c1_i32_94 k0_t35
  let v530 : BitVec 32 := Scalar.muli c2_i32_266 arg17
  let c1_i32_267 : BitVec 32 := 1#32
  let v531 : BitVec 32 := Scalar.addi v530 c1_i32_267
  let c512_i32_268 : BitVec 32 := 512#32
  let v532 : BitVec 32 := Scalar.muli v531 c512_i32_268
  let v533 : BitVec 32 := v532
  let v578 : Index := Scalar.indexCast v533
  let c256_296 : Index := 256#32
  ![0, v578.toNat, 256]
def k0_off26 (i : grid0.Coords) (k0_t35 : Fin (k0_t35_loop i).trips) : Fin 3 → Nat :=
  let c0_314 : Index := 0#32
  let c2_i32_266 : BitVec 32 := 2#32
  let c0_i32_92 : BitVec 32 := 0#32
  let c1_i32_94 : BitVec 32 := 1#32
  let arg17 : BitVec 32 := Scf.iv c0_i32_92 c1_i32_94 k0_t35
  let v530 : BitVec 32 := Scalar.muli c2_i32_266 arg17
  let c1_i32_267 : BitVec 32 := 1#32
  let v531 : BitVec 32 := Scalar.addi v530 c1_i32_267
  let c512_i32_268 : BitVec 32 := 512#32
  let v532 : BitVec 32 := Scalar.muli v531 c512_i32_268
  let v533 : BitVec 32 := v532
  let v609 : Index := Scalar.indexCast v533
  let c512_315 : Index := 512#32
  ![0, v609.toNat, 512]
def k0_off27 (i : grid0.Coords) (k0_t35 : Fin (k0_t35_loop i).trips) : Fin 3 → Nat :=
  let c0_333 : Index := 0#32
  let c2_i32_266 : BitVec 32 := 2#32
  let c0_i32_92 : BitVec 32 := 0#32
  let c1_i32_94 : BitVec 32 := 1#32
  let arg17 : BitVec 32 := Scf.iv c0_i32_92 c1_i32_94 k0_t35
  let v530 : BitVec 32 := Scalar.muli c2_i32_266 arg17
  let c1_i32_267 : BitVec 32 := 1#32
  let v531 : BitVec 32 := Scalar.addi v530 c1_i32_267
  let c512_i32_268 : BitVec 32 := 512#32
  let v532 : BitVec 32 := Scalar.muli v531 c512_i32_268
  let v533 : BitVec 32 := v532
  let v640 : Index := Scalar.indexCast v533
  let c768_334 : Index := 768#32
  ![0, v640.toNat, 768]
@[reducible] def k0_t36_loop (i : grid0.Coords) : Scf.Loop 32 :=
  let c0_i32_92 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c0_i32_85 : BitVec 32 := 0#32
  let v215 : BitVec 1 := Scalar.cmpi .sgt v17 c0_i32_85
  let v216 : BitVec 32 := Scalar.extui v215
  let c0_i32_86 : BitVec 32 := 0#32
  let v217 : BitVec 1 := Scalar.cmpi .slt v17 c0_i32_86
  let v218 : BitVec 32 := Scalar.extui v217
  let v219 : BitVec 32 := Scalar.subi v216 v218
  let c2_i32_84 : BitVec 32 := 2#32
  let c0_i32_87 : BitVec 32 := 0#32
  let v220 : BitVec 1 := Scalar.cmpi .sgt c2_i32_84 c0_i32_87
  let v221 : BitVec 32 := Scalar.extui v220
  let c0_i32_88 : BitVec 32 := 0#32
  let v222 : BitVec 1 := Scalar.cmpi .slt c2_i32_84 c0_i32_88
  let v223 : BitVec 32 := Scalar.extui v222
  let v224 : BitVec 32 := Scalar.subi v221 v223
  let v225 : BitVec 1 := Scalar.cmpi .ne v219 v224
  let v226 : BitVec 32 := Scalar.remsi v17 c2_i32_84
  let c0_i32_89 : BitVec 32 := 0#32
  let v227 : BitVec 1 := Scalar.cmpi .ne v226 c0_i32_89
  let v228 : BitVec 1 := Scalar.andi v225 v227
  let v214 : BitVec 32 := Scalar.divsi v17 c2_i32_84
  let c1_i32_90 : BitVec 32 := 1#32
  let v229 : BitVec 32 := Scalar.subi v214 c1_i32_90
  let v230 : BitVec 32 := Scalar.select v228 v229 v214
  let v231 : BitVec 32 := Scalar.subi v230 c0_i32_92
  let c1_i32_93 : BitVec 32 := 1#32
  let v233 : BitVec 32 := Scalar.divsi v231 c1_i32_93
  let v234 : BitVec 32 := Scalar.muli v233 c1_i32_93
  let v235 : BitVec 32 := Scalar.addi c0_i32_92 v234
  let v232 : BitVec 32 := Scalar.addi c0_i32_92 v231
  let c1_i32_95 : BitVec 32 := 1#32
  ⟨v235, v232, c1_i32_95⟩
def k0_mult16 (i : grid0.Coords) (k0_t36 : Fin (k0_t36_loop i).trips) : BitVec 32 :=
  let c2_i32_127 : BitVec 32 := 2#32
  let c0_i32_92 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c0_i32_85 : BitVec 32 := 0#32
  let v215 : BitVec 1 := Scalar.cmpi .sgt v17 c0_i32_85
  let v216 : BitVec 32 := Scalar.extui v215
  let c0_i32_86 : BitVec 32 := 0#32
  let v217 : BitVec 1 := Scalar.cmpi .slt v17 c0_i32_86
  let v218 : BitVec 32 := Scalar.extui v217
  let v219 : BitVec 32 := Scalar.subi v216 v218
  let c2_i32_84 : BitVec 32 := 2#32
  let c0_i32_87 : BitVec 32 := 0#32
  let v220 : BitVec 1 := Scalar.cmpi .sgt c2_i32_84 c0_i32_87
  let v221 : BitVec 32 := Scalar.extui v220
  let c0_i32_88 : BitVec 32 := 0#32
  let v222 : BitVec 1 := Scalar.cmpi .slt c2_i32_84 c0_i32_88
  let v223 : BitVec 32 := Scalar.extui v222
  let v224 : BitVec 32 := Scalar.subi v221 v223
  let v225 : BitVec 1 := Scalar.cmpi .ne v219 v224
  let v226 : BitVec 32 := Scalar.remsi v17 c2_i32_84
  let c0_i32_89 : BitVec 32 := 0#32
  let v227 : BitVec 1 := Scalar.cmpi .ne v226 c0_i32_89
  let v228 : BitVec 1 := Scalar.andi v225 v227
  let v214 : BitVec 32 := Scalar.divsi v17 c2_i32_84
  let c1_i32_90 : BitVec 32 := 1#32
  let v229 : BitVec 32 := Scalar.subi v214 c1_i32_90
  let v230 : BitVec 32 := Scalar.select v228 v229 v214
  let v231 : BitVec 32 := Scalar.subi v230 c0_i32_92
  let c1_i32_93 : BitVec 32 := 1#32
  let v233 : BitVec 32 := Scalar.divsi v231 c1_i32_93
  let v234 : BitVec 32 := Scalar.muli v233 c1_i32_93
  let v235 : BitVec 32 := Scalar.addi c0_i32_92 v234
  let c1_i32_95 : BitVec 32 := 1#32
  let arg17 : BitVec 32 := Scf.iv v235 c1_i32_95 k0_t36
  let v292 : BitVec 32 := Scalar.muli c2_i32_127 arg17
  let c1_i32_128 : BitVec 32 := 1#32
  let v293 : BitVec 32 := Scalar.addi v292 c1_i32_128
  let c512_i32 : BitVec 32 := 512#32
  let v294 : BitVec 32 := Scalar.muli v293 c512_i32
  v294
def k0_off28 (i : grid0.Coords) (k0_t36 : Fin (k0_t36_loop i).trips) : Fin 2 → Nat :=
  let c2_i32_127 : BitVec 32 := 2#32
  let c0_i32_92 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c0_i32_85 : BitVec 32 := 0#32
  let v215 : BitVec 1 := Scalar.cmpi .sgt v17 c0_i32_85
  let v216 : BitVec 32 := Scalar.extui v215
  let c0_i32_86 : BitVec 32 := 0#32
  let v217 : BitVec 1 := Scalar.cmpi .slt v17 c0_i32_86
  let v218 : BitVec 32 := Scalar.extui v217
  let v219 : BitVec 32 := Scalar.subi v216 v218
  let c2_i32_84 : BitVec 32 := 2#32
  let c0_i32_87 : BitVec 32 := 0#32
  let v220 : BitVec 1 := Scalar.cmpi .sgt c2_i32_84 c0_i32_87
  let v221 : BitVec 32 := Scalar.extui v220
  let c0_i32_88 : BitVec 32 := 0#32
  let v222 : BitVec 1 := Scalar.cmpi .slt c2_i32_84 c0_i32_88
  let v223 : BitVec 32 := Scalar.extui v222
  let v224 : BitVec 32 := Scalar.subi v221 v223
  let v225 : BitVec 1 := Scalar.cmpi .ne v219 v224
  let v226 : BitVec 32 := Scalar.remsi v17 c2_i32_84
  let c0_i32_89 : BitVec 32 := 0#32
  let v227 : BitVec 1 := Scalar.cmpi .ne v226 c0_i32_89
  let v228 : BitVec 1 := Scalar.andi v225 v227
  let v214 : BitVec 32 := Scalar.divsi v17 c2_i32_84
  let c1_i32_90 : BitVec 32 := 1#32
  let v229 : BitVec 32 := Scalar.subi v214 c1_i32_90
  let v230 : BitVec 32 := Scalar.select v228 v229 v214
  let v231 : BitVec 32 := Scalar.subi v230 c0_i32_92
  let c1_i32_93 : BitVec 32 := 1#32
  let v233 : BitVec 32 := Scalar.divsi v231 c1_i32_93
  let v234 : BitVec 32 := Scalar.muli v233 c1_i32_93
  let v235 : BitVec 32 := Scalar.addi c0_i32_92 v234
  let c1_i32_95 : BitVec 32 := 1#32
  let arg17 : BitVec 32 := Scf.iv v235 c1_i32_95 k0_t36
  let v292 : BitVec 32 := Scalar.muli c2_i32_127 arg17
  let c1_i32_128 : BitVec 32 := 1#32
  let v293 : BitVec 32 := Scalar.addi v292 c1_i32_128
  let c512_i32 : BitVec 32 := 512#32
  let v294 : BitVec 32 := Scalar.muli v293 c512_i32
  let v295 : BitVec 32 := v294
  let v296 : Index := Scalar.indexCast v295
  let c0_129 : Index := 0#32
  ![v296.toNat, 0]
def k0_off29 (i : grid0.Coords) (k0_t36 : Fin (k0_t36_loop i).trips) : Fin 3 → Nat :=
  let c0_134 : Index := 0#32
  let c2_i32_127 : BitVec 32 := 2#32
  let c0_i32_92 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c0_i32_85 : BitVec 32 := 0#32
  let v215 : BitVec 1 := Scalar.cmpi .sgt v17 c0_i32_85
  let v216 : BitVec 32 := Scalar.extui v215
  let c0_i32_86 : BitVec 32 := 0#32
  let v217 : BitVec 1 := Scalar.cmpi .slt v17 c0_i32_86
  let v218 : BitVec 32 := Scalar.extui v217
  let v219 : BitVec 32 := Scalar.subi v216 v218
  let c2_i32_84 : BitVec 32 := 2#32
  let c0_i32_87 : BitVec 32 := 0#32
  let v220 : BitVec 1 := Scalar.cmpi .sgt c2_i32_84 c0_i32_87
  let v221 : BitVec 32 := Scalar.extui v220
  let c0_i32_88 : BitVec 32 := 0#32
  let v222 : BitVec 1 := Scalar.cmpi .slt c2_i32_84 c0_i32_88
  let v223 : BitVec 32 := Scalar.extui v222
  let v224 : BitVec 32 := Scalar.subi v221 v223
  let v225 : BitVec 1 := Scalar.cmpi .ne v219 v224
  let v226 : BitVec 32 := Scalar.remsi v17 c2_i32_84
  let c0_i32_89 : BitVec 32 := 0#32
  let v227 : BitVec 1 := Scalar.cmpi .ne v226 c0_i32_89
  let v228 : BitVec 1 := Scalar.andi v225 v227
  let v214 : BitVec 32 := Scalar.divsi v17 c2_i32_84
  let c1_i32_90 : BitVec 32 := 1#32
  let v229 : BitVec 32 := Scalar.subi v214 c1_i32_90
  let v230 : BitVec 32 := Scalar.select v228 v229 v214
  let v231 : BitVec 32 := Scalar.subi v230 c0_i32_92
  let c1_i32_93 : BitVec 32 := 1#32
  let v233 : BitVec 32 := Scalar.divsi v231 c1_i32_93
  let v234 : BitVec 32 := Scalar.muli v233 c1_i32_93
  let v235 : BitVec 32 := Scalar.addi c0_i32_92 v234
  let c1_i32_95 : BitVec 32 := 1#32
  let arg17 : BitVec 32 := Scf.iv v235 c1_i32_95 k0_t36
  let v292 : BitVec 32 := Scalar.muli c2_i32_127 arg17
  let c1_i32_128 : BitVec 32 := 1#32
  let v293 : BitVec 32 := Scalar.addi v292 c1_i32_128
  let c512_i32 : BitVec 32 := 512#32
  let v294 : BitVec 32 := Scalar.muli v293 c512_i32
  let v295 : BitVec 32 := v294
  let v315 : Index := Scalar.indexCast v295
  let c0_135 : Index := 0#32
  ![0, v315.toNat, 0]
def k0_off30 (i : grid0.Coords) (k0_t36 : Fin (k0_t36_loop i).trips) : Fin 3 → Nat :=
  let c0_140 : Index := 0#32
  let c2_i32_127 : BitVec 32 := 2#32
  let c0_i32_92 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c0_i32_85 : BitVec 32 := 0#32
  let v215 : BitVec 1 := Scalar.cmpi .sgt v17 c0_i32_85
  let v216 : BitVec 32 := Scalar.extui v215
  let c0_i32_86 : BitVec 32 := 0#32
  let v217 : BitVec 1 := Scalar.cmpi .slt v17 c0_i32_86
  let v218 : BitVec 32 := Scalar.extui v217
  let v219 : BitVec 32 := Scalar.subi v216 v218
  let c2_i32_84 : BitVec 32 := 2#32
  let c0_i32_87 : BitVec 32 := 0#32
  let v220 : BitVec 1 := Scalar.cmpi .sgt c2_i32_84 c0_i32_87
  let v221 : BitVec 32 := Scalar.extui v220
  let c0_i32_88 : BitVec 32 := 0#32
  let v222 : BitVec 1 := Scalar.cmpi .slt c2_i32_84 c0_i32_88
  let v223 : BitVec 32 := Scalar.extui v222
  let v224 : BitVec 32 := Scalar.subi v221 v223
  let v225 : BitVec 1 := Scalar.cmpi .ne v219 v224
  let v226 : BitVec 32 := Scalar.remsi v17 c2_i32_84
  let c0_i32_89 : BitVec 32 := 0#32
  let v227 : BitVec 1 := Scalar.cmpi .ne v226 c0_i32_89
  let v228 : BitVec 1 := Scalar.andi v225 v227
  let v214 : BitVec 32 := Scalar.divsi v17 c2_i32_84
  let c1_i32_90 : BitVec 32 := 1#32
  let v229 : BitVec 32 := Scalar.subi v214 c1_i32_90
  let v230 : BitVec 32 := Scalar.select v228 v229 v214
  let v231 : BitVec 32 := Scalar.subi v230 c0_i32_92
  let c1_i32_93 : BitVec 32 := 1#32
  let v233 : BitVec 32 := Scalar.divsi v231 c1_i32_93
  let v234 : BitVec 32 := Scalar.muli v233 c1_i32_93
  let v235 : BitVec 32 := Scalar.addi c0_i32_92 v234
  let c1_i32_95 : BitVec 32 := 1#32
  let arg17 : BitVec 32 := Scf.iv v235 c1_i32_95 k0_t36
  let v292 : BitVec 32 := Scalar.muli c2_i32_127 arg17
  let c1_i32_128 : BitVec 32 := 1#32
  let v293 : BitVec 32 := Scalar.addi v292 c1_i32_128
  let c512_i32 : BitVec 32 := 512#32
  let v294 : BitVec 32 := Scalar.muli v293 c512_i32
  let v295 : BitVec 32 := v294
  let v323 : Index := Scalar.indexCast v295
  let c128_141 : Index := 128#32
  ![0, v323.toNat, 128]
def k0_off31 (i : grid0.Coords) (k0_t36 : Fin (k0_t36_loop i).trips) : Fin 3 → Nat :=
  let c0_146 : Index := 0#32
  let c2_i32_127 : BitVec 32 := 2#32
  let c0_i32_92 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c0_i32_85 : BitVec 32 := 0#32
  let v215 : BitVec 1 := Scalar.cmpi .sgt v17 c0_i32_85
  let v216 : BitVec 32 := Scalar.extui v215
  let c0_i32_86 : BitVec 32 := 0#32
  let v217 : BitVec 1 := Scalar.cmpi .slt v17 c0_i32_86
  let v218 : BitVec 32 := Scalar.extui v217
  let v219 : BitVec 32 := Scalar.subi v216 v218
  let c2_i32_84 : BitVec 32 := 2#32
  let c0_i32_87 : BitVec 32 := 0#32
  let v220 : BitVec 1 := Scalar.cmpi .sgt c2_i32_84 c0_i32_87
  let v221 : BitVec 32 := Scalar.extui v220
  let c0_i32_88 : BitVec 32 := 0#32
  let v222 : BitVec 1 := Scalar.cmpi .slt c2_i32_84 c0_i32_88
  let v223 : BitVec 32 := Scalar.extui v222
  let v224 : BitVec 32 := Scalar.subi v221 v223
  let v225 : BitVec 1 := Scalar.cmpi .ne v219 v224
  let v226 : BitVec 32 := Scalar.remsi v17 c2_i32_84
  let c0_i32_89 : BitVec 32 := 0#32
  let v227 : BitVec 1 := Scalar.cmpi .ne v226 c0_i32_89
  let v228 : BitVec 1 := Scalar.andi v225 v227
  let v214 : BitVec 32 := Scalar.divsi v17 c2_i32_84
  let c1_i32_90 : BitVec 32 := 1#32
  let v229 : BitVec 32 := Scalar.subi v214 c1_i32_90
  let v230 : BitVec 32 := Scalar.select v228 v229 v214
  let v231 : BitVec 32 := Scalar.subi v230 c0_i32_92
  let c1_i32_93 : BitVec 32 := 1#32
  let v233 : BitVec 32 := Scalar.divsi v231 c1_i32_93
  let v234 : BitVec 32 := Scalar.muli v233 c1_i32_93
  let v235 : BitVec 32 := Scalar.addi c0_i32_92 v234
  let c1_i32_95 : BitVec 32 := 1#32
  let arg17 : BitVec 32 := Scf.iv v235 c1_i32_95 k0_t36
  let v292 : BitVec 32 := Scalar.muli c2_i32_127 arg17
  let c1_i32_128 : BitVec 32 := 1#32
  let v293 : BitVec 32 := Scalar.addi v292 c1_i32_128
  let c512_i32 : BitVec 32 := 512#32
  let v294 : BitVec 32 := Scalar.muli v293 c512_i32
  let v295 : BitVec 32 := v294
  let v331 : Index := Scalar.indexCast v295
  let c256_147 : Index := 256#32
  ![0, v331.toNat, 256]
def k0_off32 (i : grid0.Coords) (k0_t36 : Fin (k0_t36_loop i).trips) : Fin 3 → Nat :=
  let c0_152 : Index := 0#32
  let c2_i32_127 : BitVec 32 := 2#32
  let c0_i32_92 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c0_i32_85 : BitVec 32 := 0#32
  let v215 : BitVec 1 := Scalar.cmpi .sgt v17 c0_i32_85
  let v216 : BitVec 32 := Scalar.extui v215
  let c0_i32_86 : BitVec 32 := 0#32
  let v217 : BitVec 1 := Scalar.cmpi .slt v17 c0_i32_86
  let v218 : BitVec 32 := Scalar.extui v217
  let v219 : BitVec 32 := Scalar.subi v216 v218
  let c2_i32_84 : BitVec 32 := 2#32
  let c0_i32_87 : BitVec 32 := 0#32
  let v220 : BitVec 1 := Scalar.cmpi .sgt c2_i32_84 c0_i32_87
  let v221 : BitVec 32 := Scalar.extui v220
  let c0_i32_88 : BitVec 32 := 0#32
  let v222 : BitVec 1 := Scalar.cmpi .slt c2_i32_84 c0_i32_88
  let v223 : BitVec 32 := Scalar.extui v222
  let v224 : BitVec 32 := Scalar.subi v221 v223
  let v225 : BitVec 1 := Scalar.cmpi .ne v219 v224
  let v226 : BitVec 32 := Scalar.remsi v17 c2_i32_84
  let c0_i32_89 : BitVec 32 := 0#32
  let v227 : BitVec 1 := Scalar.cmpi .ne v226 c0_i32_89
  let v228 : BitVec 1 := Scalar.andi v225 v227
  let v214 : BitVec 32 := Scalar.divsi v17 c2_i32_84
  let c1_i32_90 : BitVec 32 := 1#32
  let v229 : BitVec 32 := Scalar.subi v214 c1_i32_90
  let v230 : BitVec 32 := Scalar.select v228 v229 v214
  let v231 : BitVec 32 := Scalar.subi v230 c0_i32_92
  let c1_i32_93 : BitVec 32 := 1#32
  let v233 : BitVec 32 := Scalar.divsi v231 c1_i32_93
  let v234 : BitVec 32 := Scalar.muli v233 c1_i32_93
  let v235 : BitVec 32 := Scalar.addi c0_i32_92 v234
  let c1_i32_95 : BitVec 32 := 1#32
  let arg17 : BitVec 32 := Scf.iv v235 c1_i32_95 k0_t36
  let v292 : BitVec 32 := Scalar.muli c2_i32_127 arg17
  let c1_i32_128 : BitVec 32 := 1#32
  let v293 : BitVec 32 := Scalar.addi v292 c1_i32_128
  let c512_i32 : BitVec 32 := 512#32
  let v294 : BitVec 32 := Scalar.muli v293 c512_i32
  let v295 : BitVec 32 := v294
  let v339 : Index := Scalar.indexCast v295
  let c384_153 : Index := 384#32
  ![0, v339.toNat, 384]
def k0_mult17 (i : grid0.Coords) (k0_t36 : Fin (k0_t36_loop i).trips) : BitVec 32 :=
  let c2_i32_158 : BitVec 32 := 2#32
  let c0_i32_92 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c0_i32_85 : BitVec 32 := 0#32
  let v215 : BitVec 1 := Scalar.cmpi .sgt v17 c0_i32_85
  let v216 : BitVec 32 := Scalar.extui v215
  let c0_i32_86 : BitVec 32 := 0#32
  let v217 : BitVec 1 := Scalar.cmpi .slt v17 c0_i32_86
  let v218 : BitVec 32 := Scalar.extui v217
  let v219 : BitVec 32 := Scalar.subi v216 v218
  let c2_i32_84 : BitVec 32 := 2#32
  let c0_i32_87 : BitVec 32 := 0#32
  let v220 : BitVec 1 := Scalar.cmpi .sgt c2_i32_84 c0_i32_87
  let v221 : BitVec 32 := Scalar.extui v220
  let c0_i32_88 : BitVec 32 := 0#32
  let v222 : BitVec 1 := Scalar.cmpi .slt c2_i32_84 c0_i32_88
  let v223 : BitVec 32 := Scalar.extui v222
  let v224 : BitVec 32 := Scalar.subi v221 v223
  let v225 : BitVec 1 := Scalar.cmpi .ne v219 v224
  let v226 : BitVec 32 := Scalar.remsi v17 c2_i32_84
  let c0_i32_89 : BitVec 32 := 0#32
  let v227 : BitVec 1 := Scalar.cmpi .ne v226 c0_i32_89
  let v228 : BitVec 1 := Scalar.andi v225 v227
  let v214 : BitVec 32 := Scalar.divsi v17 c2_i32_84
  let c1_i32_90 : BitVec 32 := 1#32
  let v229 : BitVec 32 := Scalar.subi v214 c1_i32_90
  let v230 : BitVec 32 := Scalar.select v228 v229 v214
  let v231 : BitVec 32 := Scalar.subi v230 c0_i32_92
  let c1_i32_93 : BitVec 32 := 1#32
  let v233 : BitVec 32 := Scalar.divsi v231 c1_i32_93
  let v234 : BitVec 32 := Scalar.muli v233 c1_i32_93
  let v235 : BitVec 32 := Scalar.addi c0_i32_92 v234
  let c1_i32_95 : BitVec 32 := 1#32
  let arg17 : BitVec 32 := Scf.iv v235 c1_i32_95 k0_t36
  let v347 : BitVec 32 := Scalar.muli c2_i32_158 arg17
  let c512_i32_159 : BitVec 32 := 512#32
  let v348 : BitVec 32 := Scalar.muli v347 c512_i32_159
  v348
def k0_off33 (i : grid0.Coords) (k0_t36 : Fin (k0_t36_loop i).trips) : Fin 3 → Nat :=
  let c0_167 : Index := 0#32
  let c2_i32_158 : BitVec 32 := 2#32
  let c0_i32_92 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c0_i32_85 : BitVec 32 := 0#32
  let v215 : BitVec 1 := Scalar.cmpi .sgt v17 c0_i32_85
  let v216 : BitVec 32 := Scalar.extui v215
  let c0_i32_86 : BitVec 32 := 0#32
  let v217 : BitVec 1 := Scalar.cmpi .slt v17 c0_i32_86
  let v218 : BitVec 32 := Scalar.extui v217
  let v219 : BitVec 32 := Scalar.subi v216 v218
  let c2_i32_84 : BitVec 32 := 2#32
  let c0_i32_87 : BitVec 32 := 0#32
  let v220 : BitVec 1 := Scalar.cmpi .sgt c2_i32_84 c0_i32_87
  let v221 : BitVec 32 := Scalar.extui v220
  let c0_i32_88 : BitVec 32 := 0#32
  let v222 : BitVec 1 := Scalar.cmpi .slt c2_i32_84 c0_i32_88
  let v223 : BitVec 32 := Scalar.extui v222
  let v224 : BitVec 32 := Scalar.subi v221 v223
  let v225 : BitVec 1 := Scalar.cmpi .ne v219 v224
  let v226 : BitVec 32 := Scalar.remsi v17 c2_i32_84
  let c0_i32_89 : BitVec 32 := 0#32
  let v227 : BitVec 1 := Scalar.cmpi .ne v226 c0_i32_89
  let v228 : BitVec 1 := Scalar.andi v225 v227
  let v214 : BitVec 32 := Scalar.divsi v17 c2_i32_84
  let c1_i32_90 : BitVec 32 := 1#32
  let v229 : BitVec 32 := Scalar.subi v214 c1_i32_90
  let v230 : BitVec 32 := Scalar.select v228 v229 v214
  let v231 : BitVec 32 := Scalar.subi v230 c0_i32_92
  let c1_i32_93 : BitVec 32 := 1#32
  let v233 : BitVec 32 := Scalar.divsi v231 c1_i32_93
  let v234 : BitVec 32 := Scalar.muli v233 c1_i32_93
  let v235 : BitVec 32 := Scalar.addi c0_i32_92 v234
  let c1_i32_95 : BitVec 32 := 1#32
  let arg17 : BitVec 32 := Scf.iv v235 c1_i32_95 k0_t36
  let v347 : BitVec 32 := Scalar.muli c2_i32_158 arg17
  let c512_i32_159 : BitVec 32 := 512#32
  let v348 : BitVec 32 := Scalar.muli v347 c512_i32_159
  let v349 : BitVec 32 := v348
  let v363 : Index := Scalar.indexCast v349
  let c0_168 : Index := 0#32
  ![0, v363.toNat, 0]
def k0_off34 (i : grid0.Coords) (k0_t36 : Fin (k0_t36_loop i).trips) : Fin 3 → Nat :=
  let c0_186 : Index := 0#32
  let c2_i32_158 : BitVec 32 := 2#32
  let c0_i32_92 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c0_i32_85 : BitVec 32 := 0#32
  let v215 : BitVec 1 := Scalar.cmpi .sgt v17 c0_i32_85
  let v216 : BitVec 32 := Scalar.extui v215
  let c0_i32_86 : BitVec 32 := 0#32
  let v217 : BitVec 1 := Scalar.cmpi .slt v17 c0_i32_86
  let v218 : BitVec 32 := Scalar.extui v217
  let v219 : BitVec 32 := Scalar.subi v216 v218
  let c2_i32_84 : BitVec 32 := 2#32
  let c0_i32_87 : BitVec 32 := 0#32
  let v220 : BitVec 1 := Scalar.cmpi .sgt c2_i32_84 c0_i32_87
  let v221 : BitVec 32 := Scalar.extui v220
  let c0_i32_88 : BitVec 32 := 0#32
  let v222 : BitVec 1 := Scalar.cmpi .slt c2_i32_84 c0_i32_88
  let v223 : BitVec 32 := Scalar.extui v222
  let v224 : BitVec 32 := Scalar.subi v221 v223
  let v225 : BitVec 1 := Scalar.cmpi .ne v219 v224
  let v226 : BitVec 32 := Scalar.remsi v17 c2_i32_84
  let c0_i32_89 : BitVec 32 := 0#32
  let v227 : BitVec 1 := Scalar.cmpi .ne v226 c0_i32_89
  let v228 : BitVec 1 := Scalar.andi v225 v227
  let v214 : BitVec 32 := Scalar.divsi v17 c2_i32_84
  let c1_i32_90 : BitVec 32 := 1#32
  let v229 : BitVec 32 := Scalar.subi v214 c1_i32_90
  let v230 : BitVec 32 := Scalar.select v228 v229 v214
  let v231 : BitVec 32 := Scalar.subi v230 c0_i32_92
  let c1_i32_93 : BitVec 32 := 1#32
  let v233 : BitVec 32 := Scalar.divsi v231 c1_i32_93
  let v234 : BitVec 32 := Scalar.muli v233 c1_i32_93
  let v235 : BitVec 32 := Scalar.addi c0_i32_92 v234
  let c1_i32_95 : BitVec 32 := 1#32
  let arg17 : BitVec 32 := Scf.iv v235 c1_i32_95 k0_t36
  let v347 : BitVec 32 := Scalar.muli c2_i32_158 arg17
  let c512_i32_159 : BitVec 32 := 512#32
  let v348 : BitVec 32 := Scalar.muli v347 c512_i32_159
  let v349 : BitVec 32 := v348
  let v394 : Index := Scalar.indexCast v349
  let c256_187 : Index := 256#32
  ![0, v394.toNat, 256]
def k0_off35 (i : grid0.Coords) (k0_t36 : Fin (k0_t36_loop i).trips) : Fin 3 → Nat :=
  let c0_205 : Index := 0#32
  let c2_i32_158 : BitVec 32 := 2#32
  let c0_i32_92 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c0_i32_85 : BitVec 32 := 0#32
  let v215 : BitVec 1 := Scalar.cmpi .sgt v17 c0_i32_85
  let v216 : BitVec 32 := Scalar.extui v215
  let c0_i32_86 : BitVec 32 := 0#32
  let v217 : BitVec 1 := Scalar.cmpi .slt v17 c0_i32_86
  let v218 : BitVec 32 := Scalar.extui v217
  let v219 : BitVec 32 := Scalar.subi v216 v218
  let c2_i32_84 : BitVec 32 := 2#32
  let c0_i32_87 : BitVec 32 := 0#32
  let v220 : BitVec 1 := Scalar.cmpi .sgt c2_i32_84 c0_i32_87
  let v221 : BitVec 32 := Scalar.extui v220
  let c0_i32_88 : BitVec 32 := 0#32
  let v222 : BitVec 1 := Scalar.cmpi .slt c2_i32_84 c0_i32_88
  let v223 : BitVec 32 := Scalar.extui v222
  let v224 : BitVec 32 := Scalar.subi v221 v223
  let v225 : BitVec 1 := Scalar.cmpi .ne v219 v224
  let v226 : BitVec 32 := Scalar.remsi v17 c2_i32_84
  let c0_i32_89 : BitVec 32 := 0#32
  let v227 : BitVec 1 := Scalar.cmpi .ne v226 c0_i32_89
  let v228 : BitVec 1 := Scalar.andi v225 v227
  let v214 : BitVec 32 := Scalar.divsi v17 c2_i32_84
  let c1_i32_90 : BitVec 32 := 1#32
  let v229 : BitVec 32 := Scalar.subi v214 c1_i32_90
  let v230 : BitVec 32 := Scalar.select v228 v229 v214
  let v231 : BitVec 32 := Scalar.subi v230 c0_i32_92
  let c1_i32_93 : BitVec 32 := 1#32
  let v233 : BitVec 32 := Scalar.divsi v231 c1_i32_93
  let v234 : BitVec 32 := Scalar.muli v233 c1_i32_93
  let v235 : BitVec 32 := Scalar.addi c0_i32_92 v234
  let c1_i32_95 : BitVec 32 := 1#32
  let arg17 : BitVec 32 := Scf.iv v235 c1_i32_95 k0_t36
  let v347 : BitVec 32 := Scalar.muli c2_i32_158 arg17
  let c512_i32_159 : BitVec 32 := 512#32
  let v348 : BitVec 32 := Scalar.muli v347 c512_i32_159
  let v349 : BitVec 32 := v348
  let v425 : Index := Scalar.indexCast v349
  let c512 : Index := 512#32
  ![0, v425.toNat, 512]
def k0_off36 (i : grid0.Coords) (k0_t36 : Fin (k0_t36_loop i).trips) : Fin 3 → Nat :=
  let c0_223 : Index := 0#32
  let c2_i32_158 : BitVec 32 := 2#32
  let c0_i32_92 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c0_i32_85 : BitVec 32 := 0#32
  let v215 : BitVec 1 := Scalar.cmpi .sgt v17 c0_i32_85
  let v216 : BitVec 32 := Scalar.extui v215
  let c0_i32_86 : BitVec 32 := 0#32
  let v217 : BitVec 1 := Scalar.cmpi .slt v17 c0_i32_86
  let v218 : BitVec 32 := Scalar.extui v217
  let v219 : BitVec 32 := Scalar.subi v216 v218
  let c2_i32_84 : BitVec 32 := 2#32
  let c0_i32_87 : BitVec 32 := 0#32
  let v220 : BitVec 1 := Scalar.cmpi .sgt c2_i32_84 c0_i32_87
  let v221 : BitVec 32 := Scalar.extui v220
  let c0_i32_88 : BitVec 32 := 0#32
  let v222 : BitVec 1 := Scalar.cmpi .slt c2_i32_84 c0_i32_88
  let v223 : BitVec 32 := Scalar.extui v222
  let v224 : BitVec 32 := Scalar.subi v221 v223
  let v225 : BitVec 1 := Scalar.cmpi .ne v219 v224
  let v226 : BitVec 32 := Scalar.remsi v17 c2_i32_84
  let c0_i32_89 : BitVec 32 := 0#32
  let v227 : BitVec 1 := Scalar.cmpi .ne v226 c0_i32_89
  let v228 : BitVec 1 := Scalar.andi v225 v227
  let v214 : BitVec 32 := Scalar.divsi v17 c2_i32_84
  let c1_i32_90 : BitVec 32 := 1#32
  let v229 : BitVec 32 := Scalar.subi v214 c1_i32_90
  let v230 : BitVec 32 := Scalar.select v228 v229 v214
  let v231 : BitVec 32 := Scalar.subi v230 c0_i32_92
  let c1_i32_93 : BitVec 32 := 1#32
  let v233 : BitVec 32 := Scalar.divsi v231 c1_i32_93
  let v234 : BitVec 32 := Scalar.muli v233 c1_i32_93
  let v235 : BitVec 32 := Scalar.addi c0_i32_92 v234
  let c1_i32_95 : BitVec 32 := 1#32
  let arg17 : BitVec 32 := Scf.iv v235 c1_i32_95 k0_t36
  let v347 : BitVec 32 := Scalar.muli c2_i32_158 arg17
  let c512_i32_159 : BitVec 32 := 512#32
  let v348 : BitVec 32 := Scalar.muli v347 c512_i32_159
  let v349 : BitVec 32 := v348
  let v456 : Index := Scalar.indexCast v349
  let c768 : Index := 768#32
  ![0, v456.toNat, 768]
def k0_mult18 (i : grid0.Coords) (k0_t36 : Fin (k0_t36_loop i).trips) : BitVec 32 :=
  let c2_i32_234 : BitVec 32 := 2#32
  let c0_i32_92 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c0_i32_85 : BitVec 32 := 0#32
  let v215 : BitVec 1 := Scalar.cmpi .sgt v17 c0_i32_85
  let v216 : BitVec 32 := Scalar.extui v215
  let c0_i32_86 : BitVec 32 := 0#32
  let v217 : BitVec 1 := Scalar.cmpi .slt v17 c0_i32_86
  let v218 : BitVec 32 := Scalar.extui v217
  let v219 : BitVec 32 := Scalar.subi v216 v218
  let c2_i32_84 : BitVec 32 := 2#32
  let c0_i32_87 : BitVec 32 := 0#32
  let v220 : BitVec 1 := Scalar.cmpi .sgt c2_i32_84 c0_i32_87
  let v221 : BitVec 32 := Scalar.extui v220
  let c0_i32_88 : BitVec 32 := 0#32
  let v222 : BitVec 1 := Scalar.cmpi .slt c2_i32_84 c0_i32_88
  let v223 : BitVec 32 := Scalar.extui v222
  let v224 : BitVec 32 := Scalar.subi v221 v223
  let v225 : BitVec 1 := Scalar.cmpi .ne v219 v224
  let v226 : BitVec 32 := Scalar.remsi v17 c2_i32_84
  let c0_i32_89 : BitVec 32 := 0#32
  let v227 : BitVec 1 := Scalar.cmpi .ne v226 c0_i32_89
  let v228 : BitVec 1 := Scalar.andi v225 v227
  let v214 : BitVec 32 := Scalar.divsi v17 c2_i32_84
  let c1_i32_90 : BitVec 32 := 1#32
  let v229 : BitVec 32 := Scalar.subi v214 c1_i32_90
  let v230 : BitVec 32 := Scalar.select v228 v229 v214
  let v231 : BitVec 32 := Scalar.subi v230 c0_i32_92
  let c1_i32_93 : BitVec 32 := 1#32
  let v233 : BitVec 32 := Scalar.divsi v231 c1_i32_93
  let v234 : BitVec 32 := Scalar.muli v233 c1_i32_93
  let v235 : BitVec 32 := Scalar.addi c0_i32_92 v234
  let c1_i32_95 : BitVec 32 := 1#32
  let arg17 : BitVec 32 := Scf.iv v235 c1_i32_95 k0_t36
  let v474 : BitVec 32 := Scalar.muli c2_i32_234 arg17
  let c2_i32_235 : BitVec 32 := 2#32
  let v475 : BitVec 32 := Scalar.addi v474 c2_i32_235
  let c1_i32_59 : BitVec 32 := 1#32
  let v161 : BitVec 32 := Scalar.subi v17 c1_i32_59
  let v476 : BitVec 32 := Scalar.minsi v475 v161
  let c512_i32_236 : BitVec 32 := 512#32
  let v477 : BitVec 32 := Scalar.muli v476 c512_i32_236
  v477
def k0_off37 (i : grid0.Coords) (k0_t36 : Fin (k0_t36_loop i).trips) : Fin 2 → Nat :=
  let c2_i32_234 : BitVec 32 := 2#32
  let c0_i32_92 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c0_i32_85 : BitVec 32 := 0#32
  let v215 : BitVec 1 := Scalar.cmpi .sgt v17 c0_i32_85
  let v216 : BitVec 32 := Scalar.extui v215
  let c0_i32_86 : BitVec 32 := 0#32
  let v217 : BitVec 1 := Scalar.cmpi .slt v17 c0_i32_86
  let v218 : BitVec 32 := Scalar.extui v217
  let v219 : BitVec 32 := Scalar.subi v216 v218
  let c2_i32_84 : BitVec 32 := 2#32
  let c0_i32_87 : BitVec 32 := 0#32
  let v220 : BitVec 1 := Scalar.cmpi .sgt c2_i32_84 c0_i32_87
  let v221 : BitVec 32 := Scalar.extui v220
  let c0_i32_88 : BitVec 32 := 0#32
  let v222 : BitVec 1 := Scalar.cmpi .slt c2_i32_84 c0_i32_88
  let v223 : BitVec 32 := Scalar.extui v222
  let v224 : BitVec 32 := Scalar.subi v221 v223
  let v225 : BitVec 1 := Scalar.cmpi .ne v219 v224
  let v226 : BitVec 32 := Scalar.remsi v17 c2_i32_84
  let c0_i32_89 : BitVec 32 := 0#32
  let v227 : BitVec 1 := Scalar.cmpi .ne v226 c0_i32_89
  let v228 : BitVec 1 := Scalar.andi v225 v227
  let v214 : BitVec 32 := Scalar.divsi v17 c2_i32_84
  let c1_i32_90 : BitVec 32 := 1#32
  let v229 : BitVec 32 := Scalar.subi v214 c1_i32_90
  let v230 : BitVec 32 := Scalar.select v228 v229 v214
  let v231 : BitVec 32 := Scalar.subi v230 c0_i32_92
  let c1_i32_93 : BitVec 32 := 1#32
  let v233 : BitVec 32 := Scalar.divsi v231 c1_i32_93
  let v234 : BitVec 32 := Scalar.muli v233 c1_i32_93
  let v235 : BitVec 32 := Scalar.addi c0_i32_92 v234
  let c1_i32_95 : BitVec 32 := 1#32
  let arg17 : BitVec 32 := Scf.iv v235 c1_i32_95 k0_t36
  let v474 : BitVec 32 := Scalar.muli c2_i32_234 arg17
  let c2_i32_235 : BitVec 32 := 2#32
  let v475 : BitVec 32 := Scalar.addi v474 c2_i32_235
  let c1_i32_59 : BitVec 32 := 1#32
  let v161 : BitVec 32 := Scalar.subi v17 c1_i32_59
  let v476 : BitVec 32 := Scalar.minsi v475 v161
  let c512_i32_236 : BitVec 32 := 512#32
  let v477 : BitVec 32 := Scalar.muli v476 c512_i32_236
  let v478 : BitVec 32 := v477
  let v479 : Index := Scalar.indexCast v478
  let c0_237 : Index := 0#32
  ![v479.toNat, 0]
def k0_off38 (i : grid0.Coords) (k0_t36 : Fin (k0_t36_loop i).trips) : Fin 3 → Nat :=
  let c0_242 : Index := 0#32
  let c2_i32_234 : BitVec 32 := 2#32
  let c0_i32_92 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c0_i32_85 : BitVec 32 := 0#32
  let v215 : BitVec 1 := Scalar.cmpi .sgt v17 c0_i32_85
  let v216 : BitVec 32 := Scalar.extui v215
  let c0_i32_86 : BitVec 32 := 0#32
  let v217 : BitVec 1 := Scalar.cmpi .slt v17 c0_i32_86
  let v218 : BitVec 32 := Scalar.extui v217
  let v219 : BitVec 32 := Scalar.subi v216 v218
  let c2_i32_84 : BitVec 32 := 2#32
  let c0_i32_87 : BitVec 32 := 0#32
  let v220 : BitVec 1 := Scalar.cmpi .sgt c2_i32_84 c0_i32_87
  let v221 : BitVec 32 := Scalar.extui v220
  let c0_i32_88 : BitVec 32 := 0#32
  let v222 : BitVec 1 := Scalar.cmpi .slt c2_i32_84 c0_i32_88
  let v223 : BitVec 32 := Scalar.extui v222
  let v224 : BitVec 32 := Scalar.subi v221 v223
  let v225 : BitVec 1 := Scalar.cmpi .ne v219 v224
  let v226 : BitVec 32 := Scalar.remsi v17 c2_i32_84
  let c0_i32_89 : BitVec 32 := 0#32
  let v227 : BitVec 1 := Scalar.cmpi .ne v226 c0_i32_89
  let v228 : BitVec 1 := Scalar.andi v225 v227
  let v214 : BitVec 32 := Scalar.divsi v17 c2_i32_84
  let c1_i32_90 : BitVec 32 := 1#32
  let v229 : BitVec 32 := Scalar.subi v214 c1_i32_90
  let v230 : BitVec 32 := Scalar.select v228 v229 v214
  let v231 : BitVec 32 := Scalar.subi v230 c0_i32_92
  let c1_i32_93 : BitVec 32 := 1#32
  let v233 : BitVec 32 := Scalar.divsi v231 c1_i32_93
  let v234 : BitVec 32 := Scalar.muli v233 c1_i32_93
  let v235 : BitVec 32 := Scalar.addi c0_i32_92 v234
  let c1_i32_95 : BitVec 32 := 1#32
  let arg17 : BitVec 32 := Scf.iv v235 c1_i32_95 k0_t36
  let v474 : BitVec 32 := Scalar.muli c2_i32_234 arg17
  let c2_i32_235 : BitVec 32 := 2#32
  let v475 : BitVec 32 := Scalar.addi v474 c2_i32_235
  let c1_i32_59 : BitVec 32 := 1#32
  let v161 : BitVec 32 := Scalar.subi v17 c1_i32_59
  let v476 : BitVec 32 := Scalar.minsi v475 v161
  let c512_i32_236 : BitVec 32 := 512#32
  let v477 : BitVec 32 := Scalar.muli v476 c512_i32_236
  let v478 : BitVec 32 := v477
  let v498 : Index := Scalar.indexCast v478
  let c0_243 : Index := 0#32
  ![0, v498.toNat, 0]
def k0_off39 (i : grid0.Coords) (k0_t36 : Fin (k0_t36_loop i).trips) : Fin 3 → Nat :=
  let c0_248 : Index := 0#32
  let c2_i32_234 : BitVec 32 := 2#32
  let c0_i32_92 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c0_i32_85 : BitVec 32 := 0#32
  let v215 : BitVec 1 := Scalar.cmpi .sgt v17 c0_i32_85
  let v216 : BitVec 32 := Scalar.extui v215
  let c0_i32_86 : BitVec 32 := 0#32
  let v217 : BitVec 1 := Scalar.cmpi .slt v17 c0_i32_86
  let v218 : BitVec 32 := Scalar.extui v217
  let v219 : BitVec 32 := Scalar.subi v216 v218
  let c2_i32_84 : BitVec 32 := 2#32
  let c0_i32_87 : BitVec 32 := 0#32
  let v220 : BitVec 1 := Scalar.cmpi .sgt c2_i32_84 c0_i32_87
  let v221 : BitVec 32 := Scalar.extui v220
  let c0_i32_88 : BitVec 32 := 0#32
  let v222 : BitVec 1 := Scalar.cmpi .slt c2_i32_84 c0_i32_88
  let v223 : BitVec 32 := Scalar.extui v222
  let v224 : BitVec 32 := Scalar.subi v221 v223
  let v225 : BitVec 1 := Scalar.cmpi .ne v219 v224
  let v226 : BitVec 32 := Scalar.remsi v17 c2_i32_84
  let c0_i32_89 : BitVec 32 := 0#32
  let v227 : BitVec 1 := Scalar.cmpi .ne v226 c0_i32_89
  let v228 : BitVec 1 := Scalar.andi v225 v227
  let v214 : BitVec 32 := Scalar.divsi v17 c2_i32_84
  let c1_i32_90 : BitVec 32 := 1#32
  let v229 : BitVec 32 := Scalar.subi v214 c1_i32_90
  let v230 : BitVec 32 := Scalar.select v228 v229 v214
  let v231 : BitVec 32 := Scalar.subi v230 c0_i32_92
  let c1_i32_93 : BitVec 32 := 1#32
  let v233 : BitVec 32 := Scalar.divsi v231 c1_i32_93
  let v234 : BitVec 32 := Scalar.muli v233 c1_i32_93
  let v235 : BitVec 32 := Scalar.addi c0_i32_92 v234
  let c1_i32_95 : BitVec 32 := 1#32
  let arg17 : BitVec 32 := Scf.iv v235 c1_i32_95 k0_t36
  let v474 : BitVec 32 := Scalar.muli c2_i32_234 arg17
  let c2_i32_235 : BitVec 32 := 2#32
  let v475 : BitVec 32 := Scalar.addi v474 c2_i32_235
  let c1_i32_59 : BitVec 32 := 1#32
  let v161 : BitVec 32 := Scalar.subi v17 c1_i32_59
  let v476 : BitVec 32 := Scalar.minsi v475 v161
  let c512_i32_236 : BitVec 32 := 512#32
  let v477 : BitVec 32 := Scalar.muli v476 c512_i32_236
  let v478 : BitVec 32 := v477
  let v506 : Index := Scalar.indexCast v478
  let c128_249 : Index := 128#32
  ![0, v506.toNat, 128]
def k0_off40 (i : grid0.Coords) (k0_t36 : Fin (k0_t36_loop i).trips) : Fin 3 → Nat :=
  let c0_254 : Index := 0#32
  let c2_i32_234 : BitVec 32 := 2#32
  let c0_i32_92 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c0_i32_85 : BitVec 32 := 0#32
  let v215 : BitVec 1 := Scalar.cmpi .sgt v17 c0_i32_85
  let v216 : BitVec 32 := Scalar.extui v215
  let c0_i32_86 : BitVec 32 := 0#32
  let v217 : BitVec 1 := Scalar.cmpi .slt v17 c0_i32_86
  let v218 : BitVec 32 := Scalar.extui v217
  let v219 : BitVec 32 := Scalar.subi v216 v218
  let c2_i32_84 : BitVec 32 := 2#32
  let c0_i32_87 : BitVec 32 := 0#32
  let v220 : BitVec 1 := Scalar.cmpi .sgt c2_i32_84 c0_i32_87
  let v221 : BitVec 32 := Scalar.extui v220
  let c0_i32_88 : BitVec 32 := 0#32
  let v222 : BitVec 1 := Scalar.cmpi .slt c2_i32_84 c0_i32_88
  let v223 : BitVec 32 := Scalar.extui v222
  let v224 : BitVec 32 := Scalar.subi v221 v223
  let v225 : BitVec 1 := Scalar.cmpi .ne v219 v224
  let v226 : BitVec 32 := Scalar.remsi v17 c2_i32_84
  let c0_i32_89 : BitVec 32 := 0#32
  let v227 : BitVec 1 := Scalar.cmpi .ne v226 c0_i32_89
  let v228 : BitVec 1 := Scalar.andi v225 v227
  let v214 : BitVec 32 := Scalar.divsi v17 c2_i32_84
  let c1_i32_90 : BitVec 32 := 1#32
  let v229 : BitVec 32 := Scalar.subi v214 c1_i32_90
  let v230 : BitVec 32 := Scalar.select v228 v229 v214
  let v231 : BitVec 32 := Scalar.subi v230 c0_i32_92
  let c1_i32_93 : BitVec 32 := 1#32
  let v233 : BitVec 32 := Scalar.divsi v231 c1_i32_93
  let v234 : BitVec 32 := Scalar.muli v233 c1_i32_93
  let v235 : BitVec 32 := Scalar.addi c0_i32_92 v234
  let c1_i32_95 : BitVec 32 := 1#32
  let arg17 : BitVec 32 := Scf.iv v235 c1_i32_95 k0_t36
  let v474 : BitVec 32 := Scalar.muli c2_i32_234 arg17
  let c2_i32_235 : BitVec 32 := 2#32
  let v475 : BitVec 32 := Scalar.addi v474 c2_i32_235
  let c1_i32_59 : BitVec 32 := 1#32
  let v161 : BitVec 32 := Scalar.subi v17 c1_i32_59
  let v476 : BitVec 32 := Scalar.minsi v475 v161
  let c512_i32_236 : BitVec 32 := 512#32
  let v477 : BitVec 32 := Scalar.muli v476 c512_i32_236
  let v478 : BitVec 32 := v477
  let v514 : Index := Scalar.indexCast v478
  let c256_255 : Index := 256#32
  ![0, v514.toNat, 256]
def k0_off41 (i : grid0.Coords) (k0_t36 : Fin (k0_t36_loop i).trips) : Fin 3 → Nat :=
  let c0_260 : Index := 0#32
  let c2_i32_234 : BitVec 32 := 2#32
  let c0_i32_92 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c0_i32_85 : BitVec 32 := 0#32
  let v215 : BitVec 1 := Scalar.cmpi .sgt v17 c0_i32_85
  let v216 : BitVec 32 := Scalar.extui v215
  let c0_i32_86 : BitVec 32 := 0#32
  let v217 : BitVec 1 := Scalar.cmpi .slt v17 c0_i32_86
  let v218 : BitVec 32 := Scalar.extui v217
  let v219 : BitVec 32 := Scalar.subi v216 v218
  let c2_i32_84 : BitVec 32 := 2#32
  let c0_i32_87 : BitVec 32 := 0#32
  let v220 : BitVec 1 := Scalar.cmpi .sgt c2_i32_84 c0_i32_87
  let v221 : BitVec 32 := Scalar.extui v220
  let c0_i32_88 : BitVec 32 := 0#32
  let v222 : BitVec 1 := Scalar.cmpi .slt c2_i32_84 c0_i32_88
  let v223 : BitVec 32 := Scalar.extui v222
  let v224 : BitVec 32 := Scalar.subi v221 v223
  let v225 : BitVec 1 := Scalar.cmpi .ne v219 v224
  let v226 : BitVec 32 := Scalar.remsi v17 c2_i32_84
  let c0_i32_89 : BitVec 32 := 0#32
  let v227 : BitVec 1 := Scalar.cmpi .ne v226 c0_i32_89
  let v228 : BitVec 1 := Scalar.andi v225 v227
  let v214 : BitVec 32 := Scalar.divsi v17 c2_i32_84
  let c1_i32_90 : BitVec 32 := 1#32
  let v229 : BitVec 32 := Scalar.subi v214 c1_i32_90
  let v230 : BitVec 32 := Scalar.select v228 v229 v214
  let v231 : BitVec 32 := Scalar.subi v230 c0_i32_92
  let c1_i32_93 : BitVec 32 := 1#32
  let v233 : BitVec 32 := Scalar.divsi v231 c1_i32_93
  let v234 : BitVec 32 := Scalar.muli v233 c1_i32_93
  let v235 : BitVec 32 := Scalar.addi c0_i32_92 v234
  let c1_i32_95 : BitVec 32 := 1#32
  let arg17 : BitVec 32 := Scf.iv v235 c1_i32_95 k0_t36
  let v474 : BitVec 32 := Scalar.muli c2_i32_234 arg17
  let c2_i32_235 : BitVec 32 := 2#32
  let v475 : BitVec 32 := Scalar.addi v474 c2_i32_235
  let c1_i32_59 : BitVec 32 := 1#32
  let v161 : BitVec 32 := Scalar.subi v17 c1_i32_59
  let v476 : BitVec 32 := Scalar.minsi v475 v161
  let c512_i32_236 : BitVec 32 := 512#32
  let v477 : BitVec 32 := Scalar.muli v476 c512_i32_236
  let v478 : BitVec 32 := v477
  let v522 : Index := Scalar.indexCast v478
  let c384_261 : Index := 384#32
  ![0, v522.toNat, 384]
def k0_mult19 (i : grid0.Coords) (k0_t36 : Fin (k0_t36_loop i).trips) : BitVec 32 :=
  let c2_i32_266 : BitVec 32 := 2#32
  let c0_i32_92 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c0_i32_85 : BitVec 32 := 0#32
  let v215 : BitVec 1 := Scalar.cmpi .sgt v17 c0_i32_85
  let v216 : BitVec 32 := Scalar.extui v215
  let c0_i32_86 : BitVec 32 := 0#32
  let v217 : BitVec 1 := Scalar.cmpi .slt v17 c0_i32_86
  let v218 : BitVec 32 := Scalar.extui v217
  let v219 : BitVec 32 := Scalar.subi v216 v218
  let c2_i32_84 : BitVec 32 := 2#32
  let c0_i32_87 : BitVec 32 := 0#32
  let v220 : BitVec 1 := Scalar.cmpi .sgt c2_i32_84 c0_i32_87
  let v221 : BitVec 32 := Scalar.extui v220
  let c0_i32_88 : BitVec 32 := 0#32
  let v222 : BitVec 1 := Scalar.cmpi .slt c2_i32_84 c0_i32_88
  let v223 : BitVec 32 := Scalar.extui v222
  let v224 : BitVec 32 := Scalar.subi v221 v223
  let v225 : BitVec 1 := Scalar.cmpi .ne v219 v224
  let v226 : BitVec 32 := Scalar.remsi v17 c2_i32_84
  let c0_i32_89 : BitVec 32 := 0#32
  let v227 : BitVec 1 := Scalar.cmpi .ne v226 c0_i32_89
  let v228 : BitVec 1 := Scalar.andi v225 v227
  let v214 : BitVec 32 := Scalar.divsi v17 c2_i32_84
  let c1_i32_90 : BitVec 32 := 1#32
  let v229 : BitVec 32 := Scalar.subi v214 c1_i32_90
  let v230 : BitVec 32 := Scalar.select v228 v229 v214
  let v231 : BitVec 32 := Scalar.subi v230 c0_i32_92
  let c1_i32_93 : BitVec 32 := 1#32
  let v233 : BitVec 32 := Scalar.divsi v231 c1_i32_93
  let v234 : BitVec 32 := Scalar.muli v233 c1_i32_93
  let v235 : BitVec 32 := Scalar.addi c0_i32_92 v234
  let c1_i32_95 : BitVec 32 := 1#32
  let arg17 : BitVec 32 := Scf.iv v235 c1_i32_95 k0_t36
  let v530 : BitVec 32 := Scalar.muli c2_i32_266 arg17
  let c1_i32_267 : BitVec 32 := 1#32
  let v531 : BitVec 32 := Scalar.addi v530 c1_i32_267
  let c512_i32_268 : BitVec 32 := 512#32
  let v532 : BitVec 32 := Scalar.muli v531 c512_i32_268
  v532
def k0_off42 (i : grid0.Coords) (k0_t36 : Fin (k0_t36_loop i).trips) : Fin 3 → Nat :=
  let c0_276 : Index := 0#32
  let c2_i32_266 : BitVec 32 := 2#32
  let c0_i32_92 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c0_i32_85 : BitVec 32 := 0#32
  let v215 : BitVec 1 := Scalar.cmpi .sgt v17 c0_i32_85
  let v216 : BitVec 32 := Scalar.extui v215
  let c0_i32_86 : BitVec 32 := 0#32
  let v217 : BitVec 1 := Scalar.cmpi .slt v17 c0_i32_86
  let v218 : BitVec 32 := Scalar.extui v217
  let v219 : BitVec 32 := Scalar.subi v216 v218
  let c2_i32_84 : BitVec 32 := 2#32
  let c0_i32_87 : BitVec 32 := 0#32
  let v220 : BitVec 1 := Scalar.cmpi .sgt c2_i32_84 c0_i32_87
  let v221 : BitVec 32 := Scalar.extui v220
  let c0_i32_88 : BitVec 32 := 0#32
  let v222 : BitVec 1 := Scalar.cmpi .slt c2_i32_84 c0_i32_88
  let v223 : BitVec 32 := Scalar.extui v222
  let v224 : BitVec 32 := Scalar.subi v221 v223
  let v225 : BitVec 1 := Scalar.cmpi .ne v219 v224
  let v226 : BitVec 32 := Scalar.remsi v17 c2_i32_84
  let c0_i32_89 : BitVec 32 := 0#32
  let v227 : BitVec 1 := Scalar.cmpi .ne v226 c0_i32_89
  let v228 : BitVec 1 := Scalar.andi v225 v227
  let v214 : BitVec 32 := Scalar.divsi v17 c2_i32_84
  let c1_i32_90 : BitVec 32 := 1#32
  let v229 : BitVec 32 := Scalar.subi v214 c1_i32_90
  let v230 : BitVec 32 := Scalar.select v228 v229 v214
  let v231 : BitVec 32 := Scalar.subi v230 c0_i32_92
  let c1_i32_93 : BitVec 32 := 1#32
  let v233 : BitVec 32 := Scalar.divsi v231 c1_i32_93
  let v234 : BitVec 32 := Scalar.muli v233 c1_i32_93
  let v235 : BitVec 32 := Scalar.addi c0_i32_92 v234
  let c1_i32_95 : BitVec 32 := 1#32
  let arg17 : BitVec 32 := Scf.iv v235 c1_i32_95 k0_t36
  let v530 : BitVec 32 := Scalar.muli c2_i32_266 arg17
  let c1_i32_267 : BitVec 32 := 1#32
  let v531 : BitVec 32 := Scalar.addi v530 c1_i32_267
  let c512_i32_268 : BitVec 32 := 512#32
  let v532 : BitVec 32 := Scalar.muli v531 c512_i32_268
  let v533 : BitVec 32 := v532
  let v547 : Index := Scalar.indexCast v533
  let c0_277 : Index := 0#32
  ![0, v547.toNat, 0]
def k0_off43 (i : grid0.Coords) (k0_t36 : Fin (k0_t36_loop i).trips) : Fin 3 → Nat :=
  let c0_295 : Index := 0#32
  let c2_i32_266 : BitVec 32 := 2#32
  let c0_i32_92 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c0_i32_85 : BitVec 32 := 0#32
  let v215 : BitVec 1 := Scalar.cmpi .sgt v17 c0_i32_85
  let v216 : BitVec 32 := Scalar.extui v215
  let c0_i32_86 : BitVec 32 := 0#32
  let v217 : BitVec 1 := Scalar.cmpi .slt v17 c0_i32_86
  let v218 : BitVec 32 := Scalar.extui v217
  let v219 : BitVec 32 := Scalar.subi v216 v218
  let c2_i32_84 : BitVec 32 := 2#32
  let c0_i32_87 : BitVec 32 := 0#32
  let v220 : BitVec 1 := Scalar.cmpi .sgt c2_i32_84 c0_i32_87
  let v221 : BitVec 32 := Scalar.extui v220
  let c0_i32_88 : BitVec 32 := 0#32
  let v222 : BitVec 1 := Scalar.cmpi .slt c2_i32_84 c0_i32_88
  let v223 : BitVec 32 := Scalar.extui v222
  let v224 : BitVec 32 := Scalar.subi v221 v223
  let v225 : BitVec 1 := Scalar.cmpi .ne v219 v224
  let v226 : BitVec 32 := Scalar.remsi v17 c2_i32_84
  let c0_i32_89 : BitVec 32 := 0#32
  let v227 : BitVec 1 := Scalar.cmpi .ne v226 c0_i32_89
  let v228 : BitVec 1 := Scalar.andi v225 v227
  let v214 : BitVec 32 := Scalar.divsi v17 c2_i32_84
  let c1_i32_90 : BitVec 32 := 1#32
  let v229 : BitVec 32 := Scalar.subi v214 c1_i32_90
  let v230 : BitVec 32 := Scalar.select v228 v229 v214
  let v231 : BitVec 32 := Scalar.subi v230 c0_i32_92
  let c1_i32_93 : BitVec 32 := 1#32
  let v233 : BitVec 32 := Scalar.divsi v231 c1_i32_93
  let v234 : BitVec 32 := Scalar.muli v233 c1_i32_93
  let v235 : BitVec 32 := Scalar.addi c0_i32_92 v234
  let c1_i32_95 : BitVec 32 := 1#32
  let arg17 : BitVec 32 := Scf.iv v235 c1_i32_95 k0_t36
  let v530 : BitVec 32 := Scalar.muli c2_i32_266 arg17
  let c1_i32_267 : BitVec 32 := 1#32
  let v531 : BitVec 32 := Scalar.addi v530 c1_i32_267
  let c512_i32_268 : BitVec 32 := 512#32
  let v532 : BitVec 32 := Scalar.muli v531 c512_i32_268
  let v533 : BitVec 32 := v532
  let v578 : Index := Scalar.indexCast v533
  let c256_296 : Index := 256#32
  ![0, v578.toNat, 256]
def k0_off44 (i : grid0.Coords) (k0_t36 : Fin (k0_t36_loop i).trips) : Fin 3 → Nat :=
  let c0_314 : Index := 0#32
  let c2_i32_266 : BitVec 32 := 2#32
  let c0_i32_92 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c0_i32_85 : BitVec 32 := 0#32
  let v215 : BitVec 1 := Scalar.cmpi .sgt v17 c0_i32_85
  let v216 : BitVec 32 := Scalar.extui v215
  let c0_i32_86 : BitVec 32 := 0#32
  let v217 : BitVec 1 := Scalar.cmpi .slt v17 c0_i32_86
  let v218 : BitVec 32 := Scalar.extui v217
  let v219 : BitVec 32 := Scalar.subi v216 v218
  let c2_i32_84 : BitVec 32 := 2#32
  let c0_i32_87 : BitVec 32 := 0#32
  let v220 : BitVec 1 := Scalar.cmpi .sgt c2_i32_84 c0_i32_87
  let v221 : BitVec 32 := Scalar.extui v220
  let c0_i32_88 : BitVec 32 := 0#32
  let v222 : BitVec 1 := Scalar.cmpi .slt c2_i32_84 c0_i32_88
  let v223 : BitVec 32 := Scalar.extui v222
  let v224 : BitVec 32 := Scalar.subi v221 v223
  let v225 : BitVec 1 := Scalar.cmpi .ne v219 v224
  let v226 : BitVec 32 := Scalar.remsi v17 c2_i32_84
  let c0_i32_89 : BitVec 32 := 0#32
  let v227 : BitVec 1 := Scalar.cmpi .ne v226 c0_i32_89
  let v228 : BitVec 1 := Scalar.andi v225 v227
  let v214 : BitVec 32 := Scalar.divsi v17 c2_i32_84
  let c1_i32_90 : BitVec 32 := 1#32
  let v229 : BitVec 32 := Scalar.subi v214 c1_i32_90
  let v230 : BitVec 32 := Scalar.select v228 v229 v214
  let v231 : BitVec 32 := Scalar.subi v230 c0_i32_92
  let c1_i32_93 : BitVec 32 := 1#32
  let v233 : BitVec 32 := Scalar.divsi v231 c1_i32_93
  let v234 : BitVec 32 := Scalar.muli v233 c1_i32_93
  let v235 : BitVec 32 := Scalar.addi c0_i32_92 v234
  let c1_i32_95 : BitVec 32 := 1#32
  let arg17 : BitVec 32 := Scf.iv v235 c1_i32_95 k0_t36
  let v530 : BitVec 32 := Scalar.muli c2_i32_266 arg17
  let c1_i32_267 : BitVec 32 := 1#32
  let v531 : BitVec 32 := Scalar.addi v530 c1_i32_267
  let c512_i32_268 : BitVec 32 := 512#32
  let v532 : BitVec 32 := Scalar.muli v531 c512_i32_268
  let v533 : BitVec 32 := v532
  let v609 : Index := Scalar.indexCast v533
  let c512_315 : Index := 512#32
  ![0, v609.toNat, 512]
def k0_off45 (i : grid0.Coords) (k0_t36 : Fin (k0_t36_loop i).trips) : Fin 3 → Nat :=
  let c0_333 : Index := 0#32
  let c2_i32_266 : BitVec 32 := 2#32
  let c0_i32_92 : BitVec 32 := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c0_i32_85 : BitVec 32 := 0#32
  let v215 : BitVec 1 := Scalar.cmpi .sgt v17 c0_i32_85
  let v216 : BitVec 32 := Scalar.extui v215
  let c0_i32_86 : BitVec 32 := 0#32
  let v217 : BitVec 1 := Scalar.cmpi .slt v17 c0_i32_86
  let v218 : BitVec 32 := Scalar.extui v217
  let v219 : BitVec 32 := Scalar.subi v216 v218
  let c2_i32_84 : BitVec 32 := 2#32
  let c0_i32_87 : BitVec 32 := 0#32
  let v220 : BitVec 1 := Scalar.cmpi .sgt c2_i32_84 c0_i32_87
  let v221 : BitVec 32 := Scalar.extui v220
  let c0_i32_88 : BitVec 32 := 0#32
  let v222 : BitVec 1 := Scalar.cmpi .slt c2_i32_84 c0_i32_88
  let v223 : BitVec 32 := Scalar.extui v222
  let v224 : BitVec 32 := Scalar.subi v221 v223
  let v225 : BitVec 1 := Scalar.cmpi .ne v219 v224
  let v226 : BitVec 32 := Scalar.remsi v17 c2_i32_84
  let c0_i32_89 : BitVec 32 := 0#32
  let v227 : BitVec 1 := Scalar.cmpi .ne v226 c0_i32_89
  let v228 : BitVec 1 := Scalar.andi v225 v227
  let v214 : BitVec 32 := Scalar.divsi v17 c2_i32_84
  let c1_i32_90 : BitVec 32 := 1#32
  let v229 : BitVec 32 := Scalar.subi v214 c1_i32_90
  let v230 : BitVec 32 := Scalar.select v228 v229 v214
  let v231 : BitVec 32 := Scalar.subi v230 c0_i32_92
  let c1_i32_93 : BitVec 32 := 1#32
  let v233 : BitVec 32 := Scalar.divsi v231 c1_i32_93
  let v234 : BitVec 32 := Scalar.muli v233 c1_i32_93
  let v235 : BitVec 32 := Scalar.addi c0_i32_92 v234
  let c1_i32_95 : BitVec 32 := 1#32
  let arg17 : BitVec 32 := Scf.iv v235 c1_i32_95 k0_t36
  let v530 : BitVec 32 := Scalar.muli c2_i32_266 arg17
  let c1_i32_267 : BitVec 32 := 1#32
  let v531 : BitVec 32 := Scalar.addi v530 c1_i32_267
  let c512_i32_268 : BitVec 32 := 512#32
  let v532 : BitVec 32 := Scalar.muli v531 c512_i32_268
  let v533 : BitVec 32 := v532
  let v640 : Index := Scalar.indexCast v533
  let c768_334 : Index := 768#32
  ![0, v640.toNat, 768]
def k0_cond33 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c2_i32_96 : BitVec 32 := 2#32
  let v236 : BitVec 32 := Scalar.remsi v17 c2_i32_96
  let c1_i32_97 : BitVec 32 := 1#32
  let v237 : BitVec 1 := Scalar.cmpi .eq v236 c1_i32_97
  let v238 : BitVec 32 := Scalar.extui v237
  let c0_i32_98 : BitVec 32 := 0#32
  let v239 : BitVec 1 := Scalar.cmpi .ne v238 c0_i32_98
  v239

def k0_mult20 (i : grid0.Coords) : BitVec 32 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_59 : BitVec 32 := 1#32
  let v161 : BitVec 32 := Scalar.subi v17 c1_i32_59
  let c512_i32 : BitVec 32 := 512#32
  let v292 : BitVec 32 := Scalar.muli v161 c512_i32
  v292
def k0_off46 (i : grid0.Coords) : Fin 3 → Nat :=
  let c0_134 : Index := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_59 : BitVec 32 := 1#32
  let v161 : BitVec 32 := Scalar.subi v17 c1_i32_59
  let c512_i32 : BitVec 32 := 512#32
  let v292 : BitVec 32 := Scalar.muli v161 c512_i32
  let v293 : BitVec 32 := v292
  let v307 : Index := Scalar.indexCast v293
  let c0_135 : Index := 0#32
  ![0, v307.toNat, 0]
def k0_off47 (i : grid0.Coords) : Fin 3 → Nat :=
  let c0_153 : Index := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_59 : BitVec 32 := 1#32
  let v161 : BitVec 32 := Scalar.subi v17 c1_i32_59
  let c512_i32 : BitVec 32 := 512#32
  let v292 : BitVec 32 := Scalar.muli v161 c512_i32
  let v293 : BitVec 32 := v292
  let v338 : Index := Scalar.indexCast v293
  let c256_154 : Index := 256#32
  ![0, v338.toNat, 256]
def k0_off48 (i : grid0.Coords) : Fin 3 → Nat :=
  let c0_172 : Index := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_59 : BitVec 32 := 1#32
  let v161 : BitVec 32 := Scalar.subi v17 c1_i32_59
  let c512_i32 : BitVec 32 := 512#32
  let v292 : BitVec 32 := Scalar.muli v161 c512_i32
  let v293 : BitVec 32 := v292
  let v369 : Index := Scalar.indexCast v293
  let c512 : Index := 512#32
  ![0, v369.toNat, 512]
def k0_off49 (i : grid0.Coords) : Fin 3 → Nat :=
  let c0_190 : Index := 0#32
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c4_i32 : BitVec 32 := 4#32
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let v0 : BitVec 32 := Scalar.divsi arg1 c4_i32
  let c1_i32 : BitVec 32 := 1#32
  let v15 : BitVec 32 := Scalar.subi v0 c1_i32
  let v16 : BitVec 32 := Scalar.select v14 v15 v0
  let c1_i32_4 : BitVec 32 := 1#32
  let v17 : BitVec 32 := Scalar.addi v16 c1_i32_4
  let c1_i32_59 : BitVec 32 := 1#32
  let v161 : BitVec 32 := Scalar.subi v17 c1_i32_59
  let c512_i32 : BitVec 32 := 512#32
  let v292 : BitVec 32 := Scalar.muli v161 c512_i32
  let v293 : BitVec 32 := v292
  let v400 : Index := Scalar.indexCast v293
  let c768 : Index := 768#32
  ![0, v400.toNat, 768]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4096x64 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel2.lean ====
abbrev S4x4096x1024 : Shape := ⟨3, ![4, 4096, 1024]⟩
abbrev S4x4096x512 : Shape := ⟨3, ![4, 4096, 512]⟩
abbrev S1024x1024 : Shape := ⟨2, ![1024, 1024]⟩
abbrev S2x1024 : Shape := ⟨2, ![2, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S2x1x1024 : Shape := ⟨3, ![2, 1, 1024]⟩
abbrev S2x1x5632 : Shape := ⟨3, ![2, 1, 5632]⟩
abbrev S4x8x5632 : Shape := ⟨3, ![4, 8, 5632]⟩
abbrev S1x256x1024 : Shape := ⟨3, ![1, 256, 1024]⟩
abbrev S1x256x512 : Shape := ⟨3, ![1, 256, 512]⟩
abbrev S1x1x1024 : Shape := ⟨3, ![1, 1, 1024]⟩
abbrev S1x1024x5632 : Shape := ⟨3, ![1, 1024, 5632]⟩
abbrev S1x3x5632 : Shape := ⟨3, ![1, 3, 5632]⟩
abbrev S1x1x5632 : Shape := ⟨3, ![1, 1, 5632]⟩
abbrev S1x2816x1024 : Shape := ⟨3, ![1, 2816, 1024]⟩
abbrev S1x8x5632 : Shape := ⟨3, ![1, 8, 5632]⟩
abbrev S256x2816 : Shape := ⟨2, ![256, 2816]⟩
abbrev S8x5632 : Shape := ⟨2, ![8, 5632]⟩
abbrev S256x512 : Shape := ⟨2, ![256, 512]⟩
abbrev S512x1024 : Shape := ⟨2, ![512, 1024]⟩
abbrev S256x1024 : Shape := ⟨2, ![256, 1024]⟩
abbrev S1x1024 : Shape := ⟨2, ![1, 1024]⟩
abbrev S256 : Shape := ⟨1, ![256]⟩
abbrev S256x1 : Shape := ⟨2, ![256, 1]⟩
abbrev S1x1024x256 : Shape := ⟨3, ![1, 1024, 256]⟩
abbrev S1024x256 : Shape := ⟨2, ![1024, 256]⟩
abbrev S256x256 : Shape := ⟨2, ![256, 256]⟩
abbrev S8x256 : Shape := ⟨2, ![8, 256]⟩
abbrev S264x256 : Shape := ⟨2, ![264, 256]⟩
abbrev S1x8x256 : Shape := ⟨3, ![1, 8, 256]⟩
abbrev S1x1x256 : Shape := ⟨3, ![1, 1, 256]⟩
abbrev S1x256 : Shape := ⟨2, ![1, 256]⟩
abbrev S2816x1024 : Shape := ⟨2, ![2816, 1024]⟩

abbrev nBuf : Space → Nat
  | .hbm => 24
  | .vmem => 21
  | .smem => 0
  | _ => 0

abbrev bufTy : (tb : Table) → Fin (tcTables nBuf tb) → BufTy
  | .hbm, ⟨0, _⟩ => ⟨S4x4096x1024, .f32⟩
  | .hbm, ⟨1, _⟩ => ⟨S4x4096x512, .f32⟩
  | .hbm, ⟨2, _⟩ => ⟨S4x4096x512, .f32⟩
  | .hbm, ⟨3, _⟩ => ⟨S1024x1024, .f32⟩
  | .hbm, ⟨4, _⟩ => ⟨S2x1024, .f32⟩
  | .hbm, ⟨5, _⟩ => ⟨S2x1024, .f32⟩
  | .hbm, ⟨6, _⟩ => ⟨S2x1024x5632, .f32⟩
  | .hbm, ⟨7, _⟩ => ⟨S2x3x5632, .f32⟩
  | .hbm, ⟨8, _⟩ => ⟨S2x5632, .f32⟩
  | .hbm, ⟨9, _⟩ => ⟨S2x2816x1024, .f32⟩
  | .hbm, ⟨10, _⟩ => ⟨S2x1024, .f32⟩
  | .hbm, ⟨11, _⟩ => ⟨S2x1024, .f32⟩
  | .hbm, ⟨12, _⟩ => ⟨S2x1x1024, .f32⟩
  | .hbm, ⟨13, _⟩ => ⟨S2x1x1024, .f32⟩
  | .hbm, ⟨14, _⟩ => ⟨S2x1024x5632, .bf16⟩
  | .hbm, ⟨15, _⟩ => ⟨S2x1x5632, .f32⟩
  | .hbm, ⟨16, _⟩ => ⟨S2x2816x1024, .bf16⟩
  | .hbm, ⟨17, _⟩ => ⟨S2x1x1024, .f32⟩
  | .hbm, ⟨18, _⟩ => ⟨S2x1x1024, .f32⟩
  | .hbm, ⟨19, _⟩ => ⟨S4x4096x512, .bf16⟩
  | .hbm, ⟨20, _⟩ => ⟨S4x4096x512, .bf16⟩
  | .hbm, ⟨21, _⟩ => ⟨S1024x1024, .bf16⟩
  | .hbm, ⟨22, _⟩ => ⟨S4x4096x1024, .f32⟩
  | .hbm, ⟨23, _⟩ => ⟨S4x8x5632, .f32⟩
  | .local _ .vmem, ⟨0, _⟩ => ⟨S1x256x1024, .f32⟩
  | .local _ .vmem, ⟨1, _⟩ => ⟨S1x256x1024, .f32⟩
  | .local _ .vmem, ⟨2, _⟩ => ⟨S1x256x512, .bf16⟩
  | .local _ .vmem, ⟨3, _⟩ => ⟨S1x256x512, .bf16⟩
  | .local _ .vmem, ⟨4, _⟩ => ⟨S1x256x512, .bf16⟩
  | .local _ .vmem, ⟨5, _⟩ => ⟨S1x256x512, .bf16⟩
  | .local _ .vmem, ⟨6, _⟩ => ⟨S1024x1024, .bf16⟩
  | .local _ .vmem, ⟨7, _⟩ => ⟨S1x1x1024, .f32⟩
  | .local _ .vmem, ⟨8, _⟩ => ⟨S1x1x1024, .f32⟩
  | .local _ .vmem, ⟨9, _⟩ => ⟨S1x1024x5632, .bf16⟩
  | .local _ .vmem, ⟨10, _⟩ => ⟨S1x3x5632, .f32⟩
  | .local _ .vmem, ⟨11, _⟩ => ⟨S1x1x5632, .f32⟩
  | .local _ .vmem, ⟨12, _⟩ => ⟨S1x2816x1024, .bf16⟩
  | .local _ .vmem, ⟨13, _⟩ => ⟨S1x1x1024, .f32⟩
  | .local _ .vmem, ⟨14, _⟩ => ⟨S1x1x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x8x5632, .f32⟩
  | .local _ .vmem, ⟨18, _⟩ => ⟨S1x8x5632, .f32⟩
  | .local _ .vmem, ⟨19, _⟩ => ⟨S256x2816, .bf16⟩
  | .local _ .vmem, ⟨20, _⟩ => ⟨S8x5632, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10_0 : Ref sig .tc := ⟨.hbm, 22, rfl⟩
abbrev main_v10_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_scratch0 : Ref sig .tc := ⟨.vmem, 19, rfl⟩
abbrev cc0_scratch1 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16
abbrev cc0_sem13_0 : DmaSem sig := 17
abbrev cc0_sem13_1 : DmaSem sig := 18

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x3x5632 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1x5632 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2816x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S1x256x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x8x5632 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, false]
-- ==== Reference2Ideal.lean ====
abbrev S4x4096x1024 : Shape := ⟨3, ![4, 4096, 1024]⟩
abbrev S4x4096x512 : Shape := ⟨3, ![4, 4096, 512]⟩
abbrev S1024x1024 : Shape := ⟨2, ![1024, 1024]⟩
abbrev S2x1024 : Shape := ⟨2, ![2, 1024]⟩
abbrev S2x1024x5632 : Shape := ⟨3, ![2, 1024, 5632]⟩
abbrev S2x3x5632 : Shape := ⟨3, ![2, 3, 5632]⟩
abbrev S2x5632 : Shape := ⟨2, ![2, 5632]⟩
abbrev S2x2816x1024 : Shape := ⟨3, ![2, 2816, 1024]⟩
abbrev S_ : Shape := ⟨0, ![]⟩
abbrev S1x1024 : Shape := ⟨2, ![1, 1024]⟩
abbrev S1024 : Shape := ⟨1, ![1024]⟩
abbrev S4x4096 : Shape := ⟨2, ![4, 4096]⟩
abbrev S4x4096x1 : Shape := ⟨3, ![4, 4096, 1]⟩
abbrev S1x1x1024 : Shape := ⟨3, ![1, 1, 1024]⟩
abbrev S4x2x5632 : Shape := ⟨3, ![4, 2, 5632]⟩
abbrev S1x1024x5632 : Shape := ⟨3, ![1, 1024, 5632]⟩
abbrev S1024x5632 : Shape := ⟨2, ![1024, 5632]⟩
abbrev S1x3x5632 : Shape := ⟨3, ![1, 3, 5632]⟩
abbrev S3x5632 : Shape := ⟨2, ![3, 5632]⟩
abbrev S1x5632 : Shape := ⟨2, ![1, 5632]⟩
abbrev S5632 : Shape := ⟨1, ![5632]⟩
abbrev S1x2816x1024 : Shape := ⟨3, ![1, 2816, 1024]⟩
abbrev S2816x1024 : Shape := ⟨2, ![2816, 1024]⟩
abbrev S4x4096x5632 : Shape := ⟨3, ![4, 4096, 5632]⟩
abbrev S4x4098x5632 : Shape := ⟨3, ![4, 4098, 5632]⟩
abbrev S1x1x5632 : Shape := ⟨3, ![1, 1, 5632]⟩
abbrev S4x4096x2816 : Shape := ⟨3, ![4, 4096, 2816]⟩
abbrev S4x8x5632 : Shape := ⟨3, ![4, 8, 5632]⟩

abbrev nBuf : Space → Nat
  | .hbm => 137
  | .vmem => 0
  | .smem => 0
  | _ => 0

abbrev hbmTy0_0 (i : Nat) : BufTy := match i % 128 with
  | 0 => ⟨S4x4096x1024, .f32⟩
  | 1 => ⟨S4x4096x512, .f32⟩
  | 2 => ⟨S4x4096x512, .f32⟩
  | 3 => ⟨S1024x1024, .f32⟩
  | 4 => ⟨S2x1024, .f32⟩
  | 5 => ⟨S2x1024, .f32⟩
  | 6 => ⟨S2x1024x5632, .f32⟩
  | 7 => ⟨S2x3x5632, .f32⟩
  | 8 => ⟨S2x5632, .f32⟩
  | 9 => ⟨S2x2816x1024, .f32⟩
  | 10 => ⟨S2x1024, .f32⟩
  | 11 => ⟨S2x1024, .f32⟩
  | 12 => ⟨S4x4096x1024, .f32⟩
  | 13 => ⟨S4x4096x1024, .f32⟩
  | 14 => ⟨S_, .f32⟩
  | 15 => ⟨S4x4096x1024, .f32⟩
  | 16 => ⟨S4x4096x1024, .f32⟩
  | 17 => ⟨S4x4096x1024, .f32⟩
  | 18 => ⟨S1x1024, .f32⟩
  | 19 => ⟨S1024, .f32⟩
  | 20 => ⟨S1x1024, .f32⟩
  | 21 => ⟨S1024, .f32⟩
  | 22 => ⟨S_, .f32⟩
  | 23 => ⟨S4x4096, .f32⟩
  | 24 => ⟨S4x4096x1, .f32⟩
  | 25 => ⟨S_, .f32⟩
  | 26 => ⟨S4x4096x1, .f32⟩
  | 27 => ⟨S4x4096x1, .f32⟩
  | 28 => ⟨S4x4096x1024, .f32⟩
  | 29 => ⟨S4x4096x1024, .f32⟩
  | 30 => ⟨S4x4096x1024, .f32⟩
  | 31 => ⟨S_, .f32⟩
  | 32 => ⟨S4x4096, .f32⟩
  | 33 => ⟨S4x4096x1, .f32⟩
  | 34 => ⟨S_, .f32⟩
  | 35 => ⟨S4x4096x1, .f32⟩
  | 36 => ⟨S4x4096x1, .f32⟩
  | 37 => ⟨S4x4096x1024, .f32⟩
  | 38 => ⟨S4x4096x1024, .f32⟩
  | 39 => ⟨S_, .f32⟩
  | 40 => ⟨S4x4096x1, .f32⟩
  | 41 => ⟨S4x4096x1, .f32⟩
  | 42 => ⟨S4x4096x1, .f32⟩
  | 43 => ⟨S4x4096x1024, .f32⟩
  | 44 => ⟨S4x4096x1024, .f32⟩
  | 45 => ⟨S1x1x1024, .f32⟩
  | 46 => ⟨S4x4096x1024, .f32⟩
  | 47 => ⟨S4x4096x1024, .f32⟩
  | 48 => ⟨S1x1x1024, .f32⟩
  | 49 => ⟨S4x4096x1024, .f32⟩
  | 50 => ⟨S4x4096x1024, .f32⟩
  | 51 => ⟨S_, .f32⟩
  | 52 => ⟨S4x2x5632, .f32⟩
  | 53 => ⟨S1x1024x5632, .f32⟩
  | 54 => ⟨S1024x5632, .f32⟩
  | 55 => ⟨S1x3x5632, .f32⟩
  | 56 => ⟨S3x5632, .f32⟩
  | 57 => ⟨S1x5632, .f32⟩
  | 58 => ⟨S5632, .f32⟩
  | 59 => ⟨S1x2816x1024, .f32⟩
  | 60 => ⟨S2816x1024, .f32⟩
  | 61 => ⟨S4x4096x5632, .f32⟩
  | 62 => ⟨S4x4098x5632, .f32⟩
  | 63 => ⟨S4x4096x5632, .f32⟩
  | 64 => ⟨S1x5632, .f32⟩
  | 65 => ⟨S5632, .f32⟩
  | 66 => ⟨S1x1x5632, .f32⟩
  | 67 => ⟨S4x4096x5632, .f32⟩
  | 68 => ⟨S4x4096x5632, .f32⟩
  | 69 => ⟨S4x4096x5632, .f32⟩
  | 70 => ⟨S1x5632, .f32⟩
  | 71 => ⟨S5632, .f32⟩
  | 72 => ⟨S1x1x5632, .f32⟩
  | 73 => ⟨S4x4096x5632, .f32⟩
  | 74 => ⟨S4x4096x5632, .f32⟩
  | 75 => ⟨S4x4096x5632, .f32⟩
  | 76 => ⟨S4x4096x5632, .f32⟩
  | 77 => ⟨S1x5632, .f32⟩
  | 78 => ⟨S5632, .f32⟩
  | 79 => ⟨S1x1x5632, .f32⟩
  | 80 => ⟨S4x4096x5632, .f32⟩
  | 81 => ⟨S4x4096x5632, .f32⟩
  | 82 => ⟨S4x4096x5632, .f32⟩
  | 83 => ⟨S1x1x5632, .f32⟩
  | 84 => ⟨S4x4096x5632, .f32⟩
  | 85 => ⟨S4x4096x5632, .f32⟩
  | 86 => ⟨S4x4096x2816, .f32⟩
  | 87 => ⟨S4x4096x2816, .f32⟩
  | 88 => ⟨S4x4096x2816, .f32⟩
  | 89 => ⟨S_, .f32⟩
  | 90 => ⟨S4x4096x2816, .f32⟩
  | 91 => ⟨S4x4096x2816, .f32⟩
  | 92 => ⟨S_, .f32⟩
  | 93 => ⟨S4x4096x2816, .f32⟩
  | 94 => ⟨S4x4096x2816, .f32⟩
  | 95 => ⟨S4x4096x2816, .f32⟩
  | 96 => ⟨S4x4096x2816, .f32⟩
  | 97 => ⟨S4x4096x2816, .f32⟩
  | 98 => ⟨S4x4096x1024, .f32⟩
  | 99 => ⟨S4x8x5632, .f32⟩
  | 100 => ⟨S_, .f32⟩
  | 101 => ⟨S4x4096x1024, .f32⟩
  | 102 => ⟨S4x4096x1024, .f32⟩
  | 103 => ⟨S4x4096x1024, .f32⟩
  | 104 => ⟨S1x1024, .f32⟩
  | 105 => ⟨S1024, .f32⟩
  | 106 => ⟨S1x1024, .f32⟩
  | 107 => ⟨S1024, .f32⟩
  | 108 => ⟨S_, .f32⟩
  | 109 => ⟨S4x4096, .f32⟩
  | 110 => ⟨S4x4096x1, .f32⟩
  | 111 => ⟨S_, .f32⟩
  | 112 => ⟨S4x4096x1, .f32⟩
  | 113 => ⟨S4x4096x1, .f32⟩
  | 114 => ⟨S4x4096x1024, .f32⟩
  | 115 => ⟨S4x4096x1024, .f32⟩
  | 116 => ⟨S4x4096x1024, .f32⟩
  | 117 => ⟨S_, .f32⟩
  | 118 => ⟨S4x4096, .f32⟩
  | 119 => ⟨S4x4096x1, .f32⟩
  | 120 => ⟨S_, .f32⟩
  | 121 => ⟨S4x4096x1, .f32⟩
  | 122 => ⟨S4x4096x1, .f32⟩
  | 123 => ⟨S4x4096x1024, .f32⟩
  | 124 => ⟨S4x4096x1024, .f32⟩
  | 125 => ⟨S_, .f32⟩
  | 126 => ⟨S4x4096x1, .f32⟩
  | 127 => ⟨S4x4096x1, .f32⟩
  | _ => ⟨S4x4096x1024, .f32⟩

abbrev hbmTy0_1 (i : Nat) : BufTy := match i % 128 with
  | 0 => ⟨S4x4096x1, .f32⟩
  | 1 => ⟨S4x4096x1024, .f32⟩
  | 2 => ⟨S4x4096x1024, .f32⟩
  | 3 => ⟨S1x1x1024, .f32⟩
  | 4 => ⟨S4x4096x1024, .f32⟩
  | 5 => ⟨S4x4096x1024, .f32⟩
  | 6 => ⟨S1x1x1024, .f32⟩
  | 7 => ⟨S4x4096x1024, .f32⟩
  | 8 => ⟨S4x4096x1024, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_cst : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_cst_0 : Ref sig .tc := ⟨.hbm, 22, rfl⟩
abbrev main_v9 : Ref sig .tc := ⟨.hbm, 23, rfl⟩
abbrev main_v10 : Ref sig .tc := ⟨.hbm, 24, rfl⟩
abbrev main_cst_1 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_2 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_cst_4 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_5 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_call0_v0 : Ref sig .tc := ⟨.hbm, 87, rfl⟩
abbrev main_call0_v1 : Ref sig .tc := ⟨.hbm, 88, rfl⟩
abbrev main_call0_cst : Ref sig .tc := ⟨.hbm, 89, rfl⟩
abbrev main_call0_v2 : Ref sig .tc := ⟨.hbm, 90, rfl⟩
abbrev main_call0_v3 : Ref sig .tc := ⟨.hbm, 91, rfl⟩
abbrev main_call0_cst_0 : Ref sig .tc := ⟨.hbm, 92, rfl⟩
abbrev main_call0_v4 : Ref sig .tc := ⟨.hbm, 93, rfl⟩
abbrev main_call0_v5 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_cst_6 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_cst_7 : Ref sig .tc := ⟨.hbm, 108, rfl⟩
abbrev main_v80 : Ref sig .tc := ⟨.hbm, 109, rfl⟩
abbrev main_v81 : Ref sig .tc := ⟨.hbm, 110, rfl⟩
abbrev main_cst_8 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_v86 : Ref sig .tc := ⟨.hbm, 116, rfl⟩
abbrev main_cst_9 : Ref sig .tc := ⟨.hbm, 117, rfl⟩
abbrev main_v87 : Ref sig .tc := ⟨.hbm, 118, rfl⟩
abbrev main_v88 : Ref sig .tc := ⟨.hbm, 119, rfl⟩
abbrev main_cst_10 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_cst_11 : Ref sig .tc := ⟨.hbm, 125, rfl⟩
abbrev main_v93 : Ref sig .tc := ⟨.hbm, 126, rfl⟩
abbrev main_v94 : Ref sig .tc := ⟨.hbm, 127, rfl⟩
abbrev main_v95 : Ref sig .tc := ⟨.hbm, 128, rfl⟩
abbrev main_v96 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩

abbrev nD : Nat := 1
abbrev τ : Topo := Topo.v7x

variable {F : FTy → Type} [FloatOps F]
-- ==== Kernel3.lean ====
abbrev S4x4096x1024 : Shape := ⟨3, ![4, 4096, 1024]⟩
abbrev S1x1024x2632 : Shape := ⟨3, ![1, 1024, 2632]⟩
abbrev S1x4x128x128 : Shape := ⟨4, ![1, 4, 128, 128]⟩
abbrev S1x512 : Shape := ⟨2, ![1, 512]⟩
abbrev S1024x2632 : Shape := ⟨2, ![1024, 2632]⟩
abbrev S1024x2560 : Shape := ⟨2, ![1024, 2560]⟩
abbrev S1024x64 : Shape := ⟨2, ![1024, 64]⟩
abbrev S1024x8 : Shape := ⟨2, ![1024, 8]⟩
abbrev S_ : Shape := ⟨0, ![]⟩
abbrev S1024x120 : Shape := ⟨2, ![1024, 120]⟩
abbrev S1024x256 : Shape := ⟨2, ![1024, 256]⟩
abbrev S4096 : Shape := ⟨1, ![4096]⟩
abbrev S8 : Shape := ⟨1, ![8]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S4096x56 : Shape := ⟨2, ![4096, 56]⟩
abbrev S4096x128 : Shape := ⟨2, ![4096, 128]⟩
abbrev S4x128x128 : Shape := ⟨3, ![4, 128, 128]⟩
abbrev S512 : Shape := ⟨1, ![512]⟩
abbrev S4x4096x512 : Shape := ⟨3, ![4, 4096, 512]⟩
abbrev S4x4096x64 : Shape := ⟨3, ![4, 4096, 64]⟩
abbrev S4x512x4096 : Shape := ⟨3, ![4, 512, 4096]⟩
abbrev S4x8x4096 : Shape := ⟨3, ![4, 8, 4096]⟩
abbrev S4x16x512 : Shape := ⟨3, ![4, 16, 512]⟩
abbrev S1x512x1024 : Shape := ⟨3, ![1, 512, 1024]⟩
abbrev S512x128 : Shape := ⟨2, ![512, 128]⟩
abbrev S1x512x512 : Shape := ⟨3, ![1, 512, 512]⟩
abbrev S1x512x64 : Shape := ⟨3, ![1, 512, 64]⟩
abbrev S1x8x512 : Shape := ⟨3, ![1, 8, 512]⟩
abbrev S1x16x512 : Shape := ⟨3, ![1, 16, 512]⟩
abbrev S16x512 : Shape := ⟨2, ![16, 512]⟩
abbrev S512x1024 : Shape := ⟨2, ![512, 1024]⟩
abbrev S1024x512 : Shape := ⟨2, ![1024, 512]⟩
abbrev S512x512 : Shape := ⟨2, ![512, 512]⟩
abbrev S512x256 : Shape := ⟨2, ![512, 256]⟩
abbrev S512x64 : Shape := ⟨2, ![512, 64]⟩
abbrev S1x128 : Shape := ⟨2, ![1, 128]⟩
abbrev S1x512x128 : Shape := ⟨3, ![1, 512, 128]⟩
abbrev S128x512 : Shape := ⟨2, ![128, 512]⟩
abbrev S8x512 : Shape := ⟨2, ![8, 512]⟩
abbrev S528x512 : Shape := ⟨2, ![528, 512]⟩
abbrev S512x1 : Shape := ⟨2, ![512, 1]⟩
abbrev S528x128 : Shape := ⟨2, ![528, 128]⟩
abbrev S1x128x128 : Shape := ⟨3, ![1, 128, 128]⟩
abbrev S128x128 : Shape := ⟨2, ![128, 128]⟩

abbrev nBuf : Space → Nat
  | .hbm => 65
  | .vmem => 35
  | .smem => 0
  | _ => 0

abbrev bufTy : (tb : Table) → Fin (tcTables nBuf tb) → BufTy
  | .hbm, ⟨0, _⟩ => ⟨S4x4096x1024, .f32⟩
  | .hbm, ⟨1, _⟩ => ⟨S1x1024x2632, .f32⟩
  | .hbm, ⟨2, _⟩ => ⟨S1x4x128x128, .f32⟩
  | .hbm, ⟨3, _⟩ => ⟨S1x512, .f32⟩
  | .hbm, ⟨4, _⟩ => ⟨S1024x2632, .f32⟩
  | .hbm, ⟨5, _⟩ => ⟨S1024x2560, .f32⟩
  | .hbm, ⟨6, _⟩ => ⟨S1024x2560, .bf16⟩
  | .hbm, ⟨7, _⟩ => ⟨S1024x2632, .f32⟩
  | .hbm, ⟨8, _⟩ => ⟨S1024x64, .f32⟩
  | .hbm, ⟨9, _⟩ => ⟨S1024x2632, .f32⟩
  | .hbm, ⟨10, _⟩ => ⟨S1024x8, .f32⟩
  | .hbm, ⟨11, _⟩ => ⟨S_, .f32⟩
  | .hbm, ⟨12, _⟩ => ⟨S1024x120, .f32⟩
  | .hbm, ⟨13, _⟩ => ⟨S1024x256, .f32⟩
  | .hbm, ⟨14, _⟩ => ⟨S1024x256, .bf16⟩
  | .hbm, ⟨15, _⟩ => ⟨S4096, .i32⟩
  | .hbm, ⟨16, _⟩ => ⟨S8, .f32⟩
  | .hbm, ⟨17, _⟩ => ⟨S8, .f32⟩
  | .hbm, ⟨18, _⟩ => ⟨S_, .f32⟩
  | .hbm, ⟨19, _⟩ => ⟨S8, .f32⟩
  | .hbm, ⟨20, _⟩ => ⟨S8, .f32⟩
  | .hbm, ⟨21, _⟩ => ⟨S_, .f32⟩
  | .hbm, ⟨22, _⟩ => ⟨S8, .f32⟩
  | .hbm, ⟨23, _⟩ => ⟨S8, .f32⟩
  | .hbm, ⟨24, _⟩ => ⟨S_, .f32⟩
  | .hbm, ⟨25, _⟩ => ⟨S8, .f32⟩
  | .hbm, ⟨26, _⟩ => ⟨S8, .f32⟩
  | .hbm, ⟨27, _⟩ => ⟨S4096, .f32⟩
  | .hbm, ⟨28, _⟩ => ⟨S4096x1, .f32⟩
  | .hbm, ⟨29, _⟩ => ⟨S1x8, .f32⟩
  | .hbm, ⟨30, _⟩ => ⟨S4096x8, .f32⟩
  | .hbm, ⟨31, _⟩ => ⟨S4096x8, .f32⟩
  | .hbm, ⟨32, _⟩ => ⟨S4096x8, .f32⟩
  | .hbm, ⟨33, _⟩ => ⟨S4096x8, .f32⟩
  | .hbm, ⟨34, _⟩ => ⟨S4096x8, .f32⟩
  | .hbm, ⟨35, _⟩ => ⟨S_, .f32⟩
  | .hbm, ⟨36, _⟩ => ⟨S4096x48, .f32⟩
  | .hbm, ⟨37, _⟩ => ⟨S4096x64, .f32⟩
  | .hbm, ⟨38, _⟩ => ⟨S_, .f32⟩
  | .hbm, ⟨39, _⟩ => ⟨S4096x8, .f32⟩
  | .hbm, ⟨40, _⟩ => ⟨S_, .f32⟩
  | .hbm, ⟨41, _⟩ => ⟨S4096x48, .f32⟩
  | .hbm, ⟨42, _⟩ => ⟨S4096x64, .f32⟩
  | .hbm, ⟨43, _⟩ => ⟨S4096x8, .f32⟩
  | .hbm, ⟨44, _⟩ => ⟨S_, .f32⟩
  | .hbm, ⟨45, _⟩ => ⟨S4096x56, .f32⟩
  | .hbm, ⟨46, _⟩ => ⟨S4096x64, .f32⟩
  | .hbm, ⟨47, _⟩ => ⟨S4096x128, .f32⟩
  | .hbm, ⟨48, _⟩ => ⟨S4096x128, .f32⟩
  | .hbm, ⟨49, _⟩ => ⟨S4096x128, .f32⟩
  | .hbm, ⟨50, _⟩ => ⟨S4x128x128, .f32⟩
  | .hbm, ⟨51, _⟩ => ⟨S4x128x128, .bf16⟩
  | .hbm, ⟨52, _⟩ => ⟨S512, .f32⟩
  | .hbm, ⟨53, _⟩ => ⟨S1x512, .f32⟩
  | .hbm, ⟨54, _⟩ => ⟨S4x4096x512, .f32⟩
  | .hbm, ⟨55, _⟩ => ⟨S4x4096x512, .f32⟩
  | .hbm, ⟨56, _⟩ => ⟨S4x4096x64, .f32⟩
  | .hbm, ⟨57, _⟩ => ⟨S4x4096x512, .bf16⟩
  | .hbm, ⟨58, _⟩ => ⟨S4x4096x512, .bf16⟩
  | .hbm, ⟨59, _⟩ => ⟨S4x4096x1024, .bf16⟩
  | .hbm, ⟨60, _⟩ => ⟨S4x512x4096, .bf16⟩
  | .hbm, ⟨61, _⟩ => ⟨S4x4096x64, .bf16⟩
  | .hbm, ⟨62, _⟩ => ⟨S4x8x4096, .f32⟩
  | .hbm, ⟨63, _⟩ => ⟨S4x4096x512, .bf16⟩
  | .hbm, ⟨64, _⟩ => ⟨S4x16x512, .f32⟩
  | .local _ .vmem, ⟨0, _⟩ => ⟨S1x512x1024, .f32⟩
  | .local _ .vmem, ⟨1, _⟩ => ⟨S1x512x1024, .f32⟩
  | .local _ .vmem, ⟨2, _⟩ => ⟨S1024x2560, .bf16⟩
  | .local _ .vmem, ⟨3, _⟩ => ⟨S1024x256, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S4x128x128, .bf16⟩
  | .local _ .vmem, ⟨11, _⟩ => ⟨S1x512, .f32⟩
  | .local _ .vmem, ⟨12, _⟩ => ⟨S1x512x512, .f32⟩
  | .local _ .vmem, ⟨13, _⟩ => ⟨S1x512x512, .f32⟩
  | .local _ .vmem, ⟨14, _⟩ => ⟨S1x512x512, .f32⟩
  | .local _ .vmem, ⟨15, _⟩ => ⟨S1x512x512, .f32⟩
  | .local _ .vmem, ⟨16, _⟩ => ⟨S1x512x64, .f32⟩
  | .local _ .vmem, ⟨17, _⟩ => ⟨S1x512x64, .f32⟩
  | .local _ .vmem, ⟨18, _⟩ => ⟨S1x512x512, .bf16⟩
  | .local _ .vmem, ⟨19, _⟩ => ⟨S1x512x512, .bf16⟩
  | .local _ .vmem, ⟨20, _⟩ => ⟨S1x512x512, .bf16⟩
  | .local _ .vmem, ⟨21, _⟩ => ⟨S1x512x512, .bf16⟩
  | .local _ .vmem, ⟨22, _⟩ => ⟨S1x512x1024, .bf16⟩
  | .local _ .vmem, ⟨23, _⟩ => ⟨S1x512x1024, .bf16⟩
  | .local _ .vmem, ⟨24, _⟩ => ⟨S1x512x512, .bf16⟩
  | .local _ .vmem, ⟨25, _⟩ => ⟨S1x512x512, .bf16⟩
  | .local _ .vmem, ⟨26, _⟩ => ⟨S1x512x64, .bf16⟩
  | .local _ .vmem, ⟨27, _⟩ => ⟨S1x512x64, .bf16⟩
  | .local _ .vmem, ⟨28, _⟩ => ⟨S1x8x512, .f32⟩
  | .local _ .vmem, ⟨29, _⟩ => ⟨S1x8x512, .f32⟩
  | .local _ .vmem, ⟨30, _⟩ => ⟨S1x512x512, .bf16⟩
  | .local _ .vmem, ⟨31, _⟩ => ⟨S1x512x512, .bf16⟩
  | .local _ .vmem, ⟨32, _⟩ => ⟨S1x16x512, .f32⟩
  | .local _ .vmem, ⟨33, _⟩ => ⟨S1x16x512, .f32⟩
  | .local _ .vmem, ⟨34, _⟩ => ⟨S16x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_0 : Ref sig .tc := ⟨.hbm, 18, rfl⟩
abbrev main_v13 : Ref sig .tc := ⟨.hbm, 19, rfl⟩
abbrev main_v14 : Ref sig .tc := ⟨.hbm, 20, rfl⟩
abbrev main_cst_1 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst_3 : Ref sig .tc := ⟨.hbm, 35, rfl⟩
abbrev main_v27 : Ref sig .tc := ⟨.hbm, 36, rfl⟩
abbrev main_v28 : Ref sig .tc := ⟨.hbm, 37, rfl⟩
abbrev main_cst_4 : Ref sig .tc := ⟨.hbm, 38, rfl⟩
abbrev main_v29 : Ref sig .tc := ⟨.hbm, 39, rfl⟩
abbrev main_cst_5 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_6 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42_0 : Ref sig .tc := ⟨.hbm, 54, rfl⟩
abbrev main_v42_1 : Ref sig .tc := ⟨.hbm, 55, rfl⟩
abbrev main_v42_2 : Ref sig .tc := ⟨.hbm, 56, rfl⟩
abbrev main_v42_3 : Ref sig .tc := ⟨.hbm, 57, rfl⟩
abbrev main_v42_4 : Ref sig .tc := ⟨.hbm, 58, rfl⟩
abbrev main_v42_5 : Ref sig .tc := ⟨.hbm, 59, rfl⟩
abbrev main_v42_6 : Ref sig .tc := ⟨.hbm, 60, rfl⟩
abbrev main_v42_7 : Ref sig .tc := ⟨.hbm, 61, rfl⟩
abbrev main_v42_8 : Ref sig .tc := ⟨.hbm, 62, rfl⟩
abbrev main_v42_9 : Ref sig .tc := ⟨.hbm, 63, rfl⟩
abbrev main_v42_10 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg13_1 : Ref sig .tc := ⟨.vmem, 23, rfl⟩
abbrev cc0_stg14_0 : Ref sig .tc := ⟨.vmem, 24, rfl⟩
abbrev cc0_stg14_1 : Ref sig .tc := ⟨.vmem, 25, rfl⟩
abbrev cc0_stg15_0 : Ref sig .tc := ⟨.vmem, 26, rfl⟩
abbrev cc0_stg15_1 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg18_1 : Ref sig .tc := ⟨.vmem, 33, rfl⟩
abbrev cc0_scratch0 : Ref sig .tc := ⟨.vmem, 34, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem13_1 : DmaSem sig := 23
abbrev cc0_sem14_0 : DmaSem sig := 24
abbrev cc0_sem14_1 : DmaSem sig := 25
abbrev cc0_sem15_0 : DmaSem sig := 26
abbrev cc0_sem15_1 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem18_1 : DmaSem sig := 33

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 1 → Memref sig .tc .vmem S4x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x512x512 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x512x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x512 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x64 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S1x8x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S1x16x512 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, false]
-- ==== Reference3Ideal.lean ====
abbrev S4x4096x1024 : Shape := ⟨3, ![4, 4096, 1024]⟩
abbrev S1x1024x2632 : Shape := ⟨3, ![1, 1024, 2632]⟩
abbrev S1x4x128x128 : Shape := ⟨4, ![1, 4, 128, 128]⟩
abbrev S1x512 : Shape := ⟨2, ![1, 512]⟩
abbrev S4096 : Shape := ⟨1, ![4096]⟩
abbrev S1024x2632 : Shape := ⟨2, ![1024, 2632]⟩
abbrev S4x4096x2632 : Shape := ⟨3, ![4, 4096, 2632]⟩
abbrev S4x4096x512 : Shape := ⟨3, ![4, 4096, 512]⟩
abbrev S4x4096x8x64 : Shape := ⟨4, ![4, 4096, 8, 64]⟩
abbrev S8 : Shape := ⟨1, ![8]⟩
abbrev S_ : Shape := ⟨0, ![]⟩
abbrev S4096x1 : Shape := ⟨2, ![4096, 1]⟩
abbrev S1x8 : Shape := ⟨2, ![1, 8]⟩
abbrev S4096x8 : Shape := ⟨2, ![4096, 8]⟩
abbrev S1x4096x1x8 : Shape := ⟨4, ![1, 4096, 1, 8]⟩
abbrev S4x4096x8x8 : Shape := ⟨4, ![4, 4096, 8, 8]⟩
abbrev S4x4096x8x48 : Shape := ⟨4, ![4, 4096, 8, 48]⟩
abbrev S4x4096x64 : Shape := ⟨3, ![4, 4096, 64]⟩
abbrev S4x4096x1x64 : Shape := ⟨4, ![4, 4096, 1, 64]⟩
abbrev S4x4096x1x8 : Shape := ⟨4, ![4, 4096, 1, 8]⟩
abbrev S4x4096x1x48 : Shape := ⟨4, ![4, 4096, 1, 48]⟩
abbrev S4x4096x8 : Shape := ⟨3, ![4, 4096, 8]⟩
abbrev S4x15x512 : Shape := ⟨3, ![4, 15, 512]⟩
abbrev S4x4111x512 : Shape := ⟨3, ![4, 4111, 512]⟩
abbrev S4x4096x128 : Shape := ⟨3, ![4, 4096, 128]⟩
abbrev S1x4096x1 : Shape := ⟨3, ![1, 4096, 1]⟩
abbrev S4x4096x4x128 : Shape := ⟨4, ![4, 4096, 4, 128]⟩
abbrev S4x128x128 : Shape := ⟨3, ![4, 128, 128]⟩
abbrev S4x128x4x4096 : Shape := ⟨4, ![4, 128, 4, 4096]⟩
abbrev S512 : Shape := ⟨1, ![512]⟩
abbrev S1x1x512 : Shape := ⟨3, ![1, 1, 512]⟩
abbrev S4x512x4096 : Shape := ⟨3, ![4, 512, 4096]⟩
abbrev S4x8x4096 : Shape := ⟨3, ![4, 8, 4096]⟩
abbrev S4x16x512 : Shape := ⟨3, ![4, 16, 512]⟩

abbrev nBuf : Space → Nat
  | .hbm => 282
  | .vmem => 0
  | .smem => 0
  | _ => 0

abbrev hbmTy0_0 (i : Nat) : BufTy := match i % 128 with
  | 0 => ⟨S4x4096x1024, .f32⟩
  | 1 => ⟨S1x1024x2632, .f32⟩
  | 2 => ⟨S1x4x128x128, .f32⟩
  | 3 => ⟨S1x512, .f32⟩
  | 4 => ⟨S4096, .i32⟩
  | 5 => ⟨S1024x2632, .f32⟩
  | 6 => ⟨S4x4096x2632, .f32⟩
  | 7 => ⟨S4x4096x512, .f32⟩
  | 8 => ⟨S4x4096x8x64, .f32⟩
  | 9 => ⟨S8, .f32⟩
  | 10 => ⟨S8, .f32⟩
  | 11 => ⟨S_, .f32⟩
  | 12 => ⟨S8, .f32⟩
  | 13 => ⟨S8, .f32⟩
  | 14 => ⟨S_, .f32⟩
  | 15 => ⟨S8, .f32⟩
  | 16 => ⟨S8, .f32⟩
  | 17 => ⟨S_, .f32⟩
  | 18 => ⟨S8, .f32⟩
  | 19 => ⟨S8, .f32⟩
  | 20 => ⟨S4096, .f32⟩
  | 21 => ⟨S4096x1, .f32⟩
  | 22 => ⟨S1x8, .f32⟩
  | 23 => ⟨S4096x8, .f32⟩
  | 24 => ⟨S4096x8, .f32⟩
  | 25 => ⟨S4096x8, .f32⟩
  | 26 => ⟨S4096x8, .f32⟩
  | 27 => ⟨S1x4096x1x8, .f32⟩
  | 28 => ⟨S4096x8, .f32⟩
  | 29 => ⟨S1x4096x1x8, .f32⟩
  | 30 => ⟨S4x4096x8x8, .f32⟩
  | 31 => ⟨S4x4096x8x8, .f32⟩
  | 32 => ⟨S4x4096x8x8, .f32⟩
  | 33 => ⟨S4x4096x8x8, .f32⟩
  | 34 => ⟨S4x4096x8x8, .f32⟩
  | 35 => ⟨S4x4096x8x8, .f32⟩
  | 36 => ⟨S4x4096x8x8, .f32⟩
  | 37 => ⟨S4x4096x8x8, .f32⟩
  | 38 => ⟨S4x4096x8x8, .f32⟩
  | 39 => ⟨S4x4096x8x8, .f32⟩
  | 40 => ⟨S4x4096x8x8, .f32⟩
  | 41 => ⟨S4x4096x8x8, .f32⟩
  | 42 => ⟨S4x4096x8x48, .f32⟩
  | 43 => ⟨S4x4096x8x64, .f32⟩
  | 44 => ⟨S4x4096x512, .f32⟩
  | 45 => ⟨S4x4096x8x64, .f32⟩
  | 46 => ⟨S8, .f32⟩
  | 47 => ⟨S8, .f32⟩
  | 48 => ⟨S_, .f32⟩
  | 49 => ⟨S8, .f32⟩
  | 50 => ⟨S8, .f32⟩
  | 51 => ⟨S_, .f32⟩
  | 52 => ⟨S8, .f32⟩
  | 53 => ⟨S8, .f32⟩
  | 54 => ⟨S_, .f32⟩
  | 55 => ⟨S8, .f32⟩
  | 56 => ⟨S8, .f32⟩
  | 57 => ⟨S4096, .f32⟩
  | 58 => ⟨S4096x1, .f32⟩
  | 59 => ⟨S1x8, .f32⟩
  | 60 => ⟨S4096x8, .f32⟩
  | 61 => ⟨S4096x8, .f32⟩
  | 62 => ⟨S4096x8, .f32⟩
  | 63 => ⟨S4096x8, .f32⟩
  | 64 => ⟨S1x4096x1x8, .f32⟩
  | 65 => ⟨S4096x8, .f32⟩
  | 66 => ⟨S1x4096x1x8, .f32⟩
  | 67 => ⟨S4x4096x8x8, .f32⟩
  | 68 => ⟨S4x4096x8x8, .f32⟩
  | 69 => ⟨S4x4096x8x8, .f32⟩
  | 70 => ⟨S4x4096x8x8, .f32⟩
  | 71 => ⟨S4x4096x8x8, .f32⟩
  | 72 => ⟨S4x4096x8x8, .f32⟩
  | 73 => ⟨S4x4096x8x8, .f32⟩
  | 74 => ⟨S4x4096x8x8, .f32⟩
  | 75 => ⟨S4x4096x8x8, .f32⟩
  | 76 => ⟨S4x4096x8x8, .f32⟩
  | 77 => ⟨S4x4096x8x8, .f32⟩
  | 78 => ⟨S4x4096x8x8, .f32⟩
  | 79 => ⟨S4x4096x8x48, .f32⟩
  | 80 => ⟨S4x4096x8x64, .f32⟩
  | 81 => ⟨S4x4096x512, .f32⟩
  | 82 => ⟨S4x4096x512, .f32⟩
  | 83 => ⟨S4x4096x8x64, .f32⟩
  | 84 => ⟨S8, .f32⟩
  | 85 => ⟨S8, .f32⟩
  | 86 => ⟨S_, .f32⟩
  | 87 => ⟨S8, .f32⟩
  | 88 => ⟨S8, .f32⟩
  | 89 => ⟨S_, .f32⟩
  | 90 => ⟨S8, .f32⟩
  | 91 => ⟨S8, .f32⟩
  | 92 => ⟨S_, .f32⟩
  | 93 => ⟨S8, .f32⟩
  | 94 => ⟨S8, .f32⟩
  | 95 => ⟨S4096, .f32⟩
  | 96 => ⟨S4096x1, .f32⟩
  | 97 => ⟨S1x8, .f32⟩
  | 98 => ⟨S4096x8, .f32⟩
  | 99 => ⟨S4096x8, .f32⟩
  | 100 => ⟨S4096x8, .f32⟩
  | 101 => ⟨S4096x8, .f32⟩
  | 102 => ⟨S1x4096x1x8, .f32⟩
  | 103 => ⟨S4096x8, .f32⟩
  | 104 => ⟨S1x4096x1x8, .f32⟩
  | 105 => ⟨S4x4096x8x8, .f32⟩
  | 106 => ⟨S4x4096x8x8, .f32⟩
  | 107 => ⟨S4x4096x8x8, .f32⟩
  | 108 => ⟨S4x4096x8x8, .f32⟩
  | 109 => ⟨S4x4096x8x8, .f32⟩
  | 110 => ⟨S4x4096x8x8, .f32⟩
  | 111 => ⟨S4x4096x8x8, .f32⟩
  | 112 => ⟨S4x4096x8x8, .f32⟩
  | 113 => ⟨S4x4096x8x8, .f32⟩
  | 114 => ⟨S4x4096x8x8, .f32⟩
  | 115 => ⟨S4x4096x8x8, .f32⟩
  | 116 => ⟨S4x4096x8x8, .f32⟩
  | 117 => ⟨S4x4096x8x48, .f32⟩
  | 118 => ⟨S4x4096x8x64, .f32⟩
  | 119 => ⟨S4x4096x64, .f32⟩
  | 120 => ⟨S4x4096x1x64, .f32⟩
  | 121 => ⟨S8, .f32⟩
  | 122 => ⟨S8, .f32⟩
  | 123 => ⟨S_, .f32⟩
  | 124 => ⟨S8, .f32⟩
  | 125 => ⟨S8, .f32⟩
  | 126 => ⟨S_, .f32⟩
  | 127 => ⟨S8, .f32⟩
  | _ => ⟨S4x4096x1024, .f32⟩

abbrev hbmTy0_1 (i : Nat) : BufTy := match i % 128 with
  | 0 => ⟨S8, .f32⟩
  | 1 => ⟨S_, .f32⟩
  | 2 => ⟨S8, .f32⟩
  | 3 => ⟨S8, .f32⟩
  | 4 => ⟨S4096, .f32⟩
  | 5 => ⟨S4096x1, .f32⟩
  | 6 => ⟨S1x8, .f32⟩
  | 7 => ⟨S4096x8, .f32⟩
  | 8 => ⟨S4096x8, .f32⟩
  | 9 => ⟨S4096x8, .f32⟩
  | 10 => ⟨S4096x8, .f32⟩
  | 11 => ⟨S1x4096x1x8, .f32⟩
  | 12 => ⟨S4096x8, .f32⟩
  | 13 => ⟨S1x4096x1x8, .f32⟩
  | 14 => ⟨S4x4096x1x8, .f32⟩
  | 15 => ⟨S4x4096x1x8, .f32⟩
  | 16 => ⟨S4x4096x1x8, .f32⟩
  | 17 => ⟨S4x4096x1x8, .f32⟩
  | 18 => ⟨S4x4096x1x8, .f32⟩
  | 19 => ⟨S4x4096x1x8, .f32⟩
  | 20 => ⟨S4x4096x1x8, .f32⟩
  | 21 => ⟨S4x4096x1x8, .f32⟩
  | 22 => ⟨S4x4096x1x8, .f32⟩
  | 23 => ⟨S4x4096x1x8, .f32⟩
  | 24 => ⟨S4x4096x1x8, .f32⟩
  | 25 => ⟨S4x4096x1x8, .f32⟩
  | 26 => ⟨S4x4096x1x48, .f32⟩
  | 27 => ⟨S4x4096x1x64, .f32⟩
  | 28 => ⟨S4x4096x64, .f32⟩
  | 29 => ⟨S4x4096x8, .f32⟩
  | 30 => ⟨S_, .f32⟩
  | 31 => ⟨S4x15x512, .f32⟩
  | 32 => ⟨S4x4096x512, .f32⟩
  | 33 => ⟨S4x4111x512, .f32⟩
  | 34 => ⟨S4x4096x128, .f32⟩
  | 35 => ⟨S4x4096x128, .f32⟩
  | 36 => ⟨S4x4096x128, .f32⟩
  | 37 => ⟨S_, .i32⟩
  | 38 => ⟨S4096, .i32⟩
  | 39 => ⟨S4096, .i32⟩
  | 40 => ⟨S_, .i32⟩
  | 41 => ⟨S4096, .i32⟩
  | 42 => ⟨S4096, .i32⟩
  | 43 => ⟨S4096, .f32⟩
  | 44 => ⟨S1x4096x1, .f32⟩
  | 45 => ⟨S4x4096x128, .f32⟩
  | 46 => ⟨S4x4096x128, .f32⟩
  | 47 => ⟨S4x4096x128, .f32⟩
  | 48 => ⟨S4x4096x128, .f32⟩
  | 49 => ⟨S4x4096x128, .f32⟩
  | 50 => ⟨S4x4096x128, .f32⟩
  | 51 => ⟨S4x4096x128, .f32⟩
  | 52 => ⟨S4x4096x128, .f32⟩
  | 53 => ⟨S4x4096x128, .f32⟩
  | 54 => ⟨S_, .i32⟩
  | 55 => ⟨S4096, .i32⟩
  | 56 => ⟨S4096, .i32⟩
  | 57 => ⟨S_, .i32⟩
  | 58 => ⟨S4096, .i32⟩
  | 59 => ⟨S4096, .i32⟩
  | 60 => ⟨S4096, .f32⟩
  | 61 => ⟨S1x4096x1, .f32⟩
  | 62 => ⟨S4x4096x128, .f32⟩
  | 63 => ⟨S4x4096x128, .f32⟩
  | 64 => ⟨S4x4096x128, .f32⟩
  | 65 => ⟨S4x4096x128, .f32⟩
  | 66 => ⟨S4x4096x128, .f32⟩
  | 67 => ⟨S4x4096x128, .f32⟩
  | 68 => ⟨S4x4096x128, .f32⟩
  | 69 => ⟨S4x4096x128, .f32⟩
  | 70 => ⟨S4x4096x128, .f32⟩
  | 71 => ⟨S4x4096x128, .f32⟩
  | 72 => ⟨S4x4096x128, .f32⟩
  | 73 => ⟨S4x4096x128, .f32⟩
  | 74 => ⟨S4x4096x128, .f32⟩
  | 75 => ⟨S4x4096x128, .f32⟩
  | 76 => ⟨S4x4096x128, .f32⟩
  | 77 => ⟨S4x4096x128, .f32⟩
  | 78 => ⟨S4x4096x128, .f32⟩
  | 79 => ⟨S_, .i32⟩
  | 80 => ⟨S4096, .i32⟩
  | 81 => ⟨S4096, .i32⟩
  | 82 => ⟨S_, .i32⟩
  | 83 => ⟨S4096, .i32⟩
  | 84 => ⟨S4096, .i32⟩
  | 85 => ⟨S4096, .f32⟩
  | 86 => ⟨S1x4096x1, .f32⟩
  | 87 => ⟨S4x4096x128, .f32⟩
  | 88 => ⟨S4x4096x128, .f32⟩
  | 89 => ⟨S4x4096x128, .f32⟩
  | 90 => ⟨S4x4096x128, .f32⟩
  | 91 => ⟨S4x4096x128, .f32⟩
  | 92 => ⟨S4x4096x128, .f32⟩
  | 93 => ⟨S4x4096x128, .f32⟩
  | 94 => ⟨S4x4096x128, .f32⟩
  | 95 => ⟨S4x4096x128, .f32⟩
  | 96 => ⟨S4x4096x128, .f32⟩
  | 97 => ⟨S4x4096x128, .f32⟩
  | 98 => ⟨S4x4096x128, .f32⟩
  | 99 => ⟨S4x4096x128, .f32⟩
  | 100 => ⟨S4x4096x128, .f32⟩
  | 101 => ⟨S4x4096x128, .f32⟩
  | 102 => ⟨S4x4096x128, .f32⟩
  | 103 => ⟨S4x4096x128, .f32⟩
  | 104 => ⟨S4x4096x128, .f32⟩
  | 105 => ⟨S4x4096x128, .f32⟩
  | 106 => ⟨S4x4096x128, .f32⟩
  | 107 => ⟨S4x4096x128, .f32⟩
  | 108 => ⟨S4x4096x128, .f32⟩
  | 109 => ⟨S4x4096x128, .f32⟩
  | 110 => ⟨S4x4096x128, .f32⟩
  | 111 => ⟨S4x4096x128, .f32⟩
  | 112 => ⟨S4x4096x128, .f32⟩
  | 113 => ⟨S4x4096x128, .f32⟩
  | 114 => ⟨S4x4096x128, .f32⟩
  | 115 => ⟨S4x4096x128, .f32⟩
  | 116 => ⟨S4x4096x128, .f32⟩
  | 117 => ⟨S4x4096x128, .f32⟩
  | 118 => ⟨S4x4096x128, .f32⟩
  | 119 => ⟨S4x4096x128, .f32⟩
  | 120 => ⟨S_, .i32⟩
  | 121 => ⟨S4096, .i32⟩
  | 122 => ⟨S4096, .i32⟩
  | 123 => ⟨S_, .i32⟩
  | 124 => ⟨S4096, .i32⟩
  | 125 => ⟨S4096, .i32⟩
  | 126 => ⟨S4096, .f32⟩
  | 127 => ⟨S1x4096x1, .f32⟩
  | _ => ⟨S4x4096x1024, .f32⟩

abbrev hbmTy0_2 (i : Nat) : BufTy := match i % 128 with
  | 0 => ⟨S4x4096x128, .f32⟩
  | 1 => ⟨S4x4096x128, .f32⟩
  | 2 => ⟨S4x4096x512, .f32⟩
  | 3 => ⟨S4x4096x512, .f32⟩
  | 4 => ⟨S4x4096x512, .f32⟩
  | 5 => ⟨S4x4096x4x128, .f32⟩
  | 6 => ⟨S4x128x128, .f32⟩
  | 7 => ⟨S4x128x4x4096, .f32⟩
  | 8 => ⟨S4x4096x4x128, .f32⟩
  | 9 => ⟨S4x4096x512, .f32⟩
  | 10 => ⟨S512, .f32⟩
  | 11 => ⟨S1x1x512, .f32⟩
  | 12 => ⟨S4x4096x512, .f32⟩
  | 13 => ⟨S4x4096x512, .f32⟩
  | 14 => ⟨S4x4096x512, .f32⟩
  | 15 => ⟨S4x4096x512, .f32⟩
  | 16 => ⟨S_, .f32⟩
  | 17 => ⟨S4x4096x512, .f32⟩
  | 18 => ⟨S4x4096x512, .f32⟩
  | 19 => ⟨S4x4096x512, .bf16⟩
  | 20 => ⟨S4x4096x512, .f32⟩
  | 21 => ⟨S4x512x4096, .f32⟩
  | 22 => ⟨S4x512x4096, .bf16⟩
  | 23 => ⟨S4x8x4096, .f32⟩
  | 24 => ⟨S4x4096x512, .bf16⟩
  | 25 => ⟨S4x16x512, .f32⟩
  | _ => ⟨S4x4096x1024, .f32⟩

abbrev hbmTy (i : Nat) : BufTy := match i / 128 with
  | 0 => hbmTy0_0 i
  | 1 => hbmTy0_1 i
  | 2 => hbmTy0_2 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_cst_0 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_cst_2 : Ref sig .tc := ⟨.hbm, 48, rfl⟩
abbrev main_v41 : Ref sig .tc := ⟨.hbm, 49, rfl⟩
abbrev main_v42 : Ref sig .tc := ⟨.hbm, 50, rfl⟩
abbrev main_cst_3 : Ref sig .tc := ⟨.hbm, 51, rfl⟩
abbrev main_v43 : Ref sig .tc := ⟨.hbm, 52, rfl⟩
abbrev main_v44 : Ref sig .tc := ⟨.hbm, 53, rfl⟩
abbrev main_cst_4 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_v73 : Ref sig .tc := ⟨.hbm, 83, rfl⟩
abbrev main_v74 : Ref sig .tc := ⟨.hbm, 84, rfl⟩
abbrev main_v75 : Ref sig .tc := ⟨.hbm, 85, rfl⟩
abbrev main_cst_5 : Ref sig .tc := ⟨.hbm, 86, rfl⟩
abbrev main_v76 : Ref sig .tc := ⟨.hbm, 87, rfl⟩
abbrev main_v77 : Ref sig .tc := ⟨.hbm, 88, rfl⟩
abbrev main_cst_6 : Ref sig .tc := ⟨.hbm, 89, rfl⟩
abbrev main_v78 : Ref sig .tc := ⟨.hbm, 90, rfl⟩
abbrev main_v79 : Ref sig .tc := ⟨.hbm, 91, rfl⟩
abbrev main_cst_7 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩
abbrev main_v88 : Ref sig .tc := ⟨.hbm, 101, rfl⟩
abbrev main_v89 : Ref sig .tc := ⟨.hbm, 102, rfl⟩
abbrev main_v90 : Ref sig .tc := ⟨.hbm, 103, rfl⟩
abbrev main_v91 : Ref sig .tc := ⟨.hbm, 104, rfl⟩
abbrev main_v92 : Ref sig .tc := ⟨.hbm, 105, rfl⟩
abbrev main_v93 : Ref sig .tc := ⟨.hbm, 106, rfl⟩
abbrev main_v94 : Ref sig .tc := ⟨.hbm, 107, rfl⟩
abbrev main_v95 : Ref sig .tc := ⟨.hbm, 108, rfl⟩
abbrev main_v96 : Ref sig .tc := ⟨.hbm, 109, rfl⟩
abbrev main_v97 : Ref sig .tc := ⟨.hbm, 110, rfl⟩
abbrev main_v98 : Ref sig .tc := ⟨.hbm, 111, rfl⟩
abbrev main_v99 : Ref sig .tc := ⟨.hbm, 112, rfl⟩
abbrev main_v100 : Ref sig .tc := ⟨.hbm, 113, rfl⟩
abbrev main_v101 : Ref sig .tc := ⟨.hbm, 114, rfl⟩
abbrev main_v102 : Ref sig .tc := ⟨.hbm, 115, rfl⟩
abbrev main_v103 : Ref sig .tc := ⟨.hbm, 116, rfl⟩
abbrev main_v104 : Ref sig .tc := ⟨.hbm, 117, rfl⟩
abbrev main_v105 : Ref sig .tc := ⟨.hbm, 118, rfl⟩
abbrev main_v106 : Ref sig .tc := ⟨.hbm, 119, rfl⟩
abbrev main_v107 : Ref sig .tc := ⟨.hbm, 120, rfl⟩
abbrev main_v108 : Ref sig .tc := ⟨.hbm, 121, rfl⟩
abbrev main_v109 : Ref sig .tc := ⟨.hbm, 122, rfl⟩
abbrev main_cst_8 : Ref sig .tc := ⟨.hbm, 123, rfl⟩
abbrev main_v110 : Ref sig .tc := ⟨.hbm, 124, rfl⟩
abbrev main_v111 : Ref sig .tc := ⟨.hbm, 125, rfl⟩
abbrev main_cst_9 : Ref sig .tc := ⟨.hbm, 126, rfl⟩
abbrev main_v112 : Ref sig .tc := ⟨.hbm, 127, rfl⟩
abbrev main_v113 : Ref sig .tc := ⟨.hbm, 128, rfl⟩
abbrev main_cst_10 : Ref sig .tc := ⟨.hbm, 129, rfl⟩
abbrev main_v114 : Ref sig .tc := ⟨.hbm, 130, rfl⟩
abbrev main_v115 : Ref sig .tc := ⟨.hbm, 131, rfl⟩
abbrev main_v116 : Ref sig .tc := ⟨.hbm, 132, rfl⟩
abbrev main_v117 : Ref sig .tc := ⟨.hbm, 133, rfl⟩
abbrev main_v118 : Ref sig .tc := ⟨.hbm, 134, rfl⟩
abbrev main_v119 : Ref sig .tc := ⟨.hbm, 135, rfl⟩
abbrev main_v120 : Ref sig .tc := ⟨.hbm, 136, rfl⟩
abbrev main_v121 : Ref sig .tc := ⟨.hbm, 137, rfl⟩
abbrev main_v122 : Ref sig .tc := ⟨.hbm, 138, rfl⟩
abbrev main_v123 : Ref sig .tc := ⟨.hbm, 139, rfl⟩
abbrev main_v124 : Ref sig .tc := ⟨.hbm, 140, rfl⟩
abbrev main_v125 : Ref sig .tc := ⟨.hbm, 141, rfl⟩
abbrev main_v126 : Ref sig .tc := ⟨.hbm, 142, rfl⟩
abbrev main_v127 : Ref sig .tc := ⟨.hbm, 143, rfl⟩
abbrev main_v128 : Ref sig .tc := ⟨.hbm, 144, rfl⟩
abbrev main_v129 : Ref sig .tc := ⟨.hbm, 145, rfl⟩
abbrev main_v130 : Ref sig .tc := ⟨.hbm, 146, rfl⟩
abbrev main_v131 : Ref sig .tc := ⟨.hbm, 147, rfl⟩
abbrev main_v132 : Ref sig .tc := ⟨.hbm, 148, rfl⟩
abbrev main_v133 : Ref sig .tc := ⟨.hbm, 149, rfl⟩
abbrev main_v134 : Ref sig .tc := ⟨.hbm, 150, rfl⟩
abbrev main_v135 : Ref sig .tc := ⟨.hbm, 151, rfl⟩
abbrev main_v136 : Ref sig .tc := ⟨.hbm, 152, rfl⟩
abbrev main_v137 : Ref sig .tc := ⟨.hbm, 153, rfl⟩
abbrev main_v138 : Ref sig .tc := ⟨.hbm, 154, rfl⟩
abbrev main_v139 : Ref sig .tc := ⟨.hbm, 155, rfl⟩
abbrev main_v140 : Ref sig .tc := ⟨.hbm, 156, rfl⟩
abbrev main_v141 : Ref sig .tc := ⟨.hbm, 157, rfl⟩
abbrev main_cst_11 : Ref sig .tc := ⟨.hbm, 158, rfl⟩
abbrev main_v142 : Ref sig .tc := ⟨.hbm, 159, rfl⟩
abbrev main_v143 : Ref sig .tc := ⟨.hbm, 160, rfl⟩
abbrev main_v144 : Ref sig .tc := ⟨.hbm, 161, rfl⟩
abbrev main_v145 : Ref sig .tc := ⟨.hbm, 162, rfl⟩
abbrev main_v146 : Ref sig .tc := ⟨.hbm, 163, rfl⟩
abbrev main_v147 : Ref sig .tc := ⟨.hbm, 164, rfl⟩
abbrev main_c : Ref sig .tc := ⟨.hbm, 165, rfl⟩
abbrev main_v148 : Ref sig .tc := ⟨.hbm, 166, rfl⟩
abbrev main_v149 : Ref sig .tc := ⟨.hbm, 167, rfl⟩
abbrev main_c_12 : Ref sig .tc := ⟨.hbm, 168, rfl⟩
abbrev main_v150 : Ref sig .tc := ⟨.hbm, 169, rfl⟩
abbrev main_v151 : Ref sig .tc := ⟨.hbm, 170, rfl⟩
abbrev main_v152 : Ref sig .tc := ⟨.hbm, 171, rfl⟩
abbrev main_v153 : Ref sig .tc := ⟨.hbm, 172, rfl⟩
abbrev main_v154 : Ref sig .tc := ⟨.hbm, 173, rfl⟩
abbrev main_v155 : Ref sig .tc := ⟨.hbm, 174, rfl⟩
abbrev main_v156 : Ref sig .tc := ⟨.hbm, 175, rfl⟩
abbrev main_v157 : Ref sig .tc := ⟨.hbm, 176, rfl⟩
abbrev main_v158 : Ref sig .tc := ⟨.hbm, 177, rfl⟩
abbrev main_v159 : Ref sig .tc := ⟨.hbm, 178, rfl⟩
abbrev main_v160 : Ref sig .tc := ⟨.hbm, 179, rfl⟩
abbrev main_v161 : Ref sig .tc := ⟨.hbm, 180, rfl⟩
abbrev main_v162 : Ref sig .tc := ⟨.hbm, 181, rfl⟩
abbrev main_c_13 : Ref sig .tc := ⟨.hbm, 182, rfl⟩
abbrev main_v163 : Ref sig .tc := ⟨.hbm, 183, rfl⟩
abbrev main_v164 : Ref sig .tc := ⟨.hbm, 184, rfl⟩
abbrev main_c_14 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_v174 : Ref sig .tc := ⟨.hbm, 195, rfl⟩
abbrev main_v175 : Ref sig .tc := ⟨.hbm, 196, rfl⟩
abbrev main_v176 : Ref sig .tc := ⟨.hbm, 197, rfl⟩
abbrev main_v177 : Ref sig .tc := ⟨.hbm, 198, rfl⟩
abbrev main_v178 : Ref sig .tc := ⟨.hbm, 199, rfl⟩
abbrev main_v179 : Ref sig .tc := ⟨.hbm, 200, rfl⟩
abbrev main_v180 : Ref sig .tc := ⟨.hbm, 201, rfl⟩
abbrev main_v181 : Ref sig .tc := ⟨.hbm, 202, rfl⟩
abbrev main_v182 : Ref sig .tc := ⟨.hbm, 203, rfl⟩
abbrev main_v183 : Ref sig .tc := ⟨.hbm, 204, rfl⟩
abbrev main_v184 : Ref sig .tc := ⟨.hbm, 205, rfl⟩
abbrev main_v185 : Ref sig .tc := ⟨.hbm, 206, rfl⟩
abbrev main_c_15 : Ref sig .tc := ⟨.hbm, 207, rfl⟩
abbrev main_v186 : Ref sig .tc := ⟨.hbm, 208, rfl⟩
abbrev main_v187 : Ref sig .tc := ⟨.hbm, 209, rfl⟩
abbrev main_c_16 : Ref sig .tc := ⟨.hbm, 210, rfl⟩
abbrev main_v188 : Ref sig .tc := ⟨.hbm, 211, rfl⟩
abbrev main_v189 : Ref sig .tc := ⟨.hbm, 212, rfl⟩
abbrev main_v190 : Ref sig .tc := ⟨.hbm, 213, rfl⟩
abbrev main_v191 : Ref sig .tc := ⟨.hbm, 214, rfl⟩
abbrev main_v192 : Ref sig .tc := ⟨.hbm, 215, rfl⟩
abbrev main_v193 : Ref sig .tc := ⟨.hbm, 216, rfl⟩
abbrev main_v194 : Ref sig .tc := ⟨.hbm, 217, rfl⟩
abbrev main_v195 : Ref sig .tc := ⟨.hbm, 218, rfl⟩
abbrev main_v196 : Ref sig .tc := ⟨.hbm, 219, rfl⟩
abbrev main_v197 : Ref sig .tc := ⟨.hbm, 220, rfl⟩
abbrev main_v198 : Ref sig .tc := ⟨.hbm, 221, rfl⟩
abbrev main_v199 : Ref sig .tc := ⟨.hbm, 222, rfl⟩
abbrev main_v200 : Ref sig .tc := ⟨.hbm, 223, rfl⟩
abbrev main_v201 : Ref sig .tc := ⟨.hbm, 224, rfl⟩
abbrev main_v202 : Ref sig .tc := ⟨.hbm, 225, rfl⟩
abbrev main_v203 : Ref sig .tc := ⟨.hbm, 226, rfl⟩
abbrev main_v204 : Ref sig .tc := ⟨.hbm, 227, rfl⟩
abbrev main_v205 : Ref sig .tc := ⟨.hbm, 228, rfl⟩
abbrev main_v206 : Ref sig .tc := ⟨.hbm, 229, rfl⟩
abbrev main_v207 : Ref sig .tc := ⟨.hbm, 230, rfl⟩
abbrev main_v208 : Ref sig .tc := ⟨.hbm, 231, rfl⟩
abbrev main_v209 : Ref sig .tc := ⟨.hbm, 232, rfl⟩
abbrev main_v210 : Ref sig .tc := ⟨.hbm, 233, rfl⟩
abbrev main_v211 : Ref sig .tc := ⟨.hbm, 234, rfl⟩
abbrev main_v212 : Ref sig .tc := ⟨.hbm, 235, rfl⟩
abbrev main_v213 : Ref sig .tc := ⟨.hbm, 236, rfl⟩
abbrev main_v214 : Ref sig .tc := ⟨.hbm, 237, rfl⟩
abbrev main_v215 : Ref sig .tc := ⟨.hbm, 238, rfl⟩
abbrev main_v216 : Ref sig .tc := ⟨.hbm, 239, rfl⟩
abbrev main_v217 : Ref sig .tc := ⟨.hbm, 240, rfl⟩
abbrev main_v218 : Ref sig .tc := ⟨.hbm, 241, rfl⟩
abbrev main_v219 : Ref sig .tc := ⟨.hbm, 242, rfl⟩
abbrev main_v220 : Ref sig .tc := ⟨.hbm, 243, rfl⟩
abbrev main_v221 : Ref sig .tc := ⟨.hbm, 244, rfl⟩
abbrev main_v222 : Ref sig .tc := ⟨.hbm, 245, rfl⟩
abbrev main_v223 : Ref sig .tc := ⟨.hbm, 246, rfl⟩
abbrev main_v224 : Ref sig .tc := ⟨.hbm, 247, rfl⟩
abbrev main_c_17 : Ref sig .tc := ⟨.hbm, 248, rfl⟩
abbrev main_v225 : Ref sig .tc := ⟨.hbm, 249, rfl⟩
abbrev main_v226 : Ref sig .tc := ⟨.hbm, 250, rfl⟩
abbrev main_c_18 : Ref sig .tc := ⟨.hbm, 251, rfl⟩
abbrev main_v227 : Ref sig .tc := ⟨.hbm, 252, rfl⟩
abbrev main_v228 : Ref sig .tc := ⟨.hbm, 253, rfl⟩
abbrev main_v229 : Ref sig .tc := ⟨.hbm, 254, rfl⟩
abbrev main_v230 : Ref sig .tc := ⟨.hbm, 255, rfl⟩
abbrev main_v231 : Ref sig .tc := ⟨.hbm, 256, rfl⟩
abbrev main_v232 : Ref sig .tc := ⟨.hbm, 257, rfl⟩
abbrev main_v233 : Ref sig .tc := ⟨.hbm, 258, rfl⟩
abbrev main_v234 : Ref sig .tc := ⟨.hbm, 259, rfl⟩
abbrev main_v235 : Ref sig .tc := ⟨.hbm, 260, rfl⟩
abbrev main_v236 : Ref sig .tc := ⟨.hbm, 261, rfl⟩
abbrev main_v237 : Ref sig .tc := ⟨.hbm, 262, rfl⟩
abbrev main_v238 : Ref sig .tc := ⟨.hbm, 263, rfl⟩
abbrev main_v239 : Ref sig .tc := ⟨.hbm, 264, rfl⟩
abbrev main_v240 : Ref sig .tc := ⟨.hbm, 265, rfl⟩
abbrev main_v241 : Ref sig .tc := ⟨.hbm, 266, rfl⟩
abbrev main_v242 : Ref sig .tc := ⟨.hbm, 267, rfl⟩
abbrev main_v243 : Ref sig .tc := ⟨.hbm, 268, rfl⟩
abbrev main_v244 : Ref sig .tc := ⟨.hbm, 269, rfl⟩
abbrev main_v245 : Ref sig .tc := ⟨.hbm, 270, rfl⟩
abbrev main_v246 : Ref sig .tc := ⟨.hbm, 271, rfl⟩
abbrev main_cst_19 : Ref sig .tc := ⟨.hbm, 272, rfl⟩
abbrev main_v247 : Ref sig .tc := ⟨.hbm, 273, rfl⟩
abbrev main_v248 : Ref sig .tc := ⟨.hbm, 274, rfl⟩
abbrev main_v249 : Ref sig .tc := ⟨.hbm, 275, rfl⟩
abbrev main_v250 : Ref sig .tc := ⟨.hbm, 276, rfl⟩
abbrev main_v251 : Ref sig .tc := ⟨.hbm, 277, rfl⟩
abbrev main_v252 : Ref sig .tc := ⟨.hbm, 278, rfl⟩
abbrev main_v253 : Ref sig .tc := ⟨.hbm, 279, rfl⟩
abbrev main_v254 : Ref sig .tc := ⟨.hbm, 280, rfl⟩
abbrev main_v255 : Ref sig .tc := ⟨.hbm, 281, rfl⟩

abbrev nD : Nat := 1
abbrev τ : Topo := Topo.v7x

variable {F : FTy → Type} [FloatOps F]
-- ==== Kernel4.lean ====
abbrev S4x4096x1024 : Shape := ⟨3, ![4, 4096, 1024]⟩
abbrev S1x1024x2560 : Shape := ⟨3, ![1, 1024, 2560]⟩
abbrev S1x512 : Shape := ⟨2, ![1, 512]⟩
abbrev S1x4x128x128 : Shape := ⟨4, ![1, 4, 128, 128]⟩
abbrev S1x4x128 : Shape := ⟨3, ![1, 4, 128]⟩
abbrev S1x3x512 : Shape := ⟨3, ![1, 3, 512]⟩
abbrev S4x128 : Shape := ⟨2, ![4, 128]⟩
abbrev S128x4 : Shape := ⟨2, ![128, 4]⟩
abbrev S128x4x128 : Shape := ⟨3, ![128, 4, 128]⟩
abbrev S128x512 : Shape := ⟨2, ![128, 512]⟩
abbrev S1024x2560 : Shape := ⟨2, ![1024, 2560]⟩
abbrev S512 : Shape := ⟨1, ![512]⟩
abbrev S4x128x128 : Shape := ⟨3, ![4, 128, 128]⟩
abbrev S3x512 : Shape := ⟨2, ![3, 512]⟩
abbrev S4x4096x512 : Shape := ⟨3, ![4, 4096, 512]⟩
abbrev S4x8x512 : Shape := ⟨3, ![4, 8, 512]⟩
abbrev S1x512x1024 : Shape := ⟨3, ![1, 512, 1024]⟩
abbrev S1x512x512 : Shape := ⟨3, ![1, 512, 512]⟩
abbrev S1x8x512 : Shape := ⟨3, ![1, 8, 512]⟩
abbrev S8x512 : Shape := ⟨2, ![8, 512]⟩
abbrev S512x1024 : Shape := ⟨2, ![512, 1024]⟩
abbrev S1024x512 : Shape := ⟨2, ![1024, 512]⟩
abbrev S512x512 : Shape := ⟨2, ![512, 512]⟩
abbrev S512x1 : Shape := ⟨2, ![512, 1]⟩
abbrev S128x128 : Shape := ⟨2, ![128, 128]⟩
abbrev S1x128x128 : Shape := ⟨3, ![1, 128, 128]⟩
abbrev S520x512 : Shape := ⟨2, ![520, 512]⟩

abbrev nBuf : Space → Nat
  | .hbm => 22
  | .vmem => 15
  | .smem => 0
  | _ => 0

abbrev bufTy : (tb : Table) → Fin (tcTables nBuf tb) → BufTy
  | .hbm, ⟨0, _⟩ => ⟨S4x4096x1024, .f32⟩
  | .hbm, ⟨1, _⟩ => ⟨S1x1024x2560, .f32⟩
  | .hbm, ⟨2, _⟩ => ⟨S1x512, .f32⟩
  | .hbm, ⟨3, _⟩ => ⟨S1x512, .f32⟩
  | .hbm, ⟨4, _⟩ => ⟨S1x4x128x128, .f32⟩
  | .hbm, ⟨5, _⟩ => ⟨S1x4x128, .f32⟩
  | .hbm, ⟨6, _⟩ => ⟨S1x3x512, .f32⟩
  | .hbm, ⟨7, _⟩ => ⟨S4x128, .f32⟩
  | .hbm, ⟨8, _⟩ => ⟨S128x4, .f32⟩
  | .hbm, ⟨9, _⟩ => ⟨S128x4x128, .f32⟩
  | .hbm, ⟨10, _⟩ => ⟨S128x512, .f32⟩
  | .hbm, ⟨11, _⟩ => ⟨S1024x2560, .f32⟩
  | .hbm, ⟨12, _⟩ => ⟨S1024x2560, .bf16⟩
  | .hbm, ⟨13, _⟩ => ⟨S512, .f32⟩
  | .hbm, ⟨14, _⟩ => ⟨S1x512, .f32⟩
  | .hbm, ⟨15, _⟩ => ⟨S512, .f32⟩
  | .hbm, ⟨16, _⟩ => ⟨S1x512, .f32⟩
  | .hbm, ⟨17, _⟩ => ⟨S4x128x128, .f32⟩
  | .hbm, ⟨18, _⟩ => ⟨S3x512, .f32⟩
  | .hbm, ⟨19, _⟩ => ⟨S4x4096x512, .bf16⟩
  | .hbm, ⟨20, _⟩ => ⟨S4x4096x512, .bf16⟩
  | .hbm, ⟨21, _⟩ => ⟨S4x8x512, .f32⟩
  | .local _ .vmem, ⟨0, _⟩ => ⟨S1x512x1024, .f32⟩
  | .local _ .vmem, ⟨1, _⟩ => ⟨S1x512x1024, .f32⟩
  | .local _ .vmem, ⟨2, _⟩ => ⟨S1024x2560, .bf16⟩
  | .local _ .vmem, ⟨3, _⟩ => ⟨S1x512, .f32⟩
  | .local _ .vmem, ⟨4, _⟩ => ⟨S1x512, .f32⟩
  | .local _ .vmem, ⟨5, _⟩ => ⟨S4x128x128, .f32⟩
  | .local _ .vmem, ⟨6, _⟩ => ⟨S128x512, .f32⟩
  | .local _ .vmem, ⟨7, _⟩ => ⟨S3x512, .f32⟩
  | .local _ .vmem, ⟨8, _⟩ => ⟨S1x512x512, .bf16⟩
  | .local _ .vmem, ⟨9, _⟩ => ⟨S1x512x512, .bf16⟩
  | .local _ .vmem, ⟨10, _⟩ => ⟨S1x512x512, .bf16⟩
  | .local _ .vmem, ⟨11, _⟩ => ⟨S1x512x512, .bf16⟩
  | .local _ .vmem, ⟨12, _⟩ => ⟨S1x8x512, .f32⟩
  | .local _ .vmem, ⟨13, _⟩ => ⟨S1x8x512, .f32⟩
  | .local _ .vmem, ⟨14, _⟩ => ⟨S8x512, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12_0 : Ref sig .tc := ⟨.hbm, 19, rfl⟩
abbrev main_v12_1 : Ref sig .tc := ⟨.hbm, 20, rfl⟩
abbrev main_v12_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1x512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x512 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x8x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]
-- ==== Reference4Ideal.lean ====
abbrev S4x4096x1024 : Shape := ⟨3, ![4, 4096, 1024]⟩
abbrev S1x1024x2560 : Shape := ⟨3, ![1, 1024, 2560]⟩
abbrev S1x512 : Shape := ⟨2, ![1, 512]⟩
abbrev S1x4x128x128 : Shape := ⟨4, ![1, 4, 128, 128]⟩
abbrev S1x4x128 : Shape := ⟨3, ![1, 4, 128]⟩
abbrev S1x3x512 : Shape := ⟨3, ![1, 3, 512]⟩
abbrev S1024x2560 : Shape := ⟨2, ![1024, 2560]⟩
abbrev S4x4096x2560 : Shape := ⟨3, ![4, 4096, 2560]⟩
abbrev S4x4096x512 : Shape := ⟨3, ![4, 4096, 512]⟩
abbrev S_ : Shape := ⟨0, ![]⟩
abbrev S512 : Shape := ⟨1, ![512]⟩
abbrev S4x4096 : Shape := ⟨2, ![4, 4096]⟩
abbrev S4x4096x1 : Shape := ⟨3, ![4, 4096, 1]⟩
abbrev S1x1x512 : Shape := ⟨3, ![1, 1, 512]⟩
abbrev S4x128x128 : Shape := ⟨3, ![4, 128, 128]⟩
abbrev S4x128 : Shape := ⟨2, ![4, 128]⟩
abbrev S4x32x128x4x128 : Shape := ⟨5, ![4, 32, 128, 4, 128]⟩
abbrev S128x128 : Shape := ⟨2, ![128, 128]⟩
abbrev S1x128x128 : Shape := ⟨3, ![1, 128, 128]⟩
abbrev S4x4x32x128x128 : Shape := ⟨5, ![4, 4, 32, 128, 128]⟩
abbrev S128x4 : Shape := ⟨2, ![128, 4]⟩
abbrev S128x4x1 : Shape := ⟨3, ![128, 4, 1]⟩
abbrev S1x1x128x4x1 : Shape := ⟨5, ![1, 1, 128, 4, 1]⟩
abbrev S4x2x512 : Shape := ⟨3, ![4, 2, 512]⟩
abbrev S4x4098x512 : Shape := ⟨3, ![4, 4098, 512]⟩
abbrev S3x512 : Shape := ⟨2, ![3, 512]⟩
abbrev S4x8x512 : Shape := ⟨3, ![4, 8, 512]⟩

abbrev nBuf : Space → Nat
  | .hbm => 136
  | .vmem => 0
  | .smem => 0
  | _ => 0

abbrev hbmTy0_0 (i : Nat) : BufTy := match i % 128 with
  | 0 => ⟨S4x4096x1024, .f32⟩
  | 1 => ⟨S1x1024x2560, .f32⟩
  | 2 => ⟨S1x512, .f32⟩
  | 3 => ⟨S1x512, .f32⟩
  | 4 => ⟨S1x4x128x128, .f32⟩
  | 5 => ⟨S1x4x128, .f32⟩
  | 6 => ⟨S1x3x512, .f32⟩
  | 7 => ⟨S1024x2560, .f32⟩
  | 8 => ⟨S4x4096x2560, .f32⟩
  | 9 => ⟨S4x4096x512, .f32⟩
  | 10 => ⟨S4x4096x512, .f32⟩
  | 11 => ⟨S4x4096x512, .f32⟩
  | 12 => ⟨S_, .f32⟩
  | 13 => ⟨S4x4096x512, .f32⟩
  | 14 => ⟨S4x4096x512, .f32⟩
  | 15 => ⟨S4x4096x512, .f32⟩
  | 16 => ⟨S_, .f32⟩
  | 17 => ⟨S4x4096x512, .f32⟩
  | 18 => ⟨S4x4096x512, .f32⟩
  | 19 => ⟨S4x4096x512, .f32⟩
  | 20 => ⟨S_, .f32⟩
  | 21 => ⟨S4x4096x512, .f32⟩
  | 22 => ⟨S4x4096x512, .f32⟩
  | 23 => ⟨S_, .f32⟩
  | 24 => ⟨S4x4096x512, .f32⟩
  | 25 => ⟨S4x4096x512, .f32⟩
  | 26 => ⟨S4x4096x512, .f32⟩
  | 27 => ⟨S4x4096x512, .f32⟩
  | 28 => ⟨S4x4096x512, .f32⟩
  | 29 => ⟨S4x4096x512, .f32⟩
  | 30 => ⟨S_, .f32⟩
  | 31 => ⟨S4x4096x512, .f32⟩
  | 32 => ⟨S4x4096x512, .f32⟩
  | 33 => ⟨S4x4096x512, .f32⟩
  | 34 => ⟨S_, .f32⟩
  | 35 => ⟨S4x4096x512, .f32⟩
  | 36 => ⟨S4x4096x512, .f32⟩
  | 37 => ⟨S4x4096x512, .f32⟩
  | 38 => ⟨S_, .f32⟩
  | 39 => ⟨S4x4096x512, .f32⟩
  | 40 => ⟨S4x4096x512, .f32⟩
  | 41 => ⟨S_, .f32⟩
  | 42 => ⟨S4x4096x512, .f32⟩
  | 43 => ⟨S4x4096x512, .f32⟩
  | 44 => ⟨S4x4096x512, .f32⟩
  | 45 => ⟨S512, .f32⟩
  | 46 => ⟨S512, .f32⟩
  | 47 => ⟨S_, .f32⟩
  | 48 => ⟨S4x4096, .f32⟩
  | 49 => ⟨S4x4096x1, .f32⟩
  | 50 => ⟨S_, .f32⟩
  | 51 => ⟨S4x4096x1, .f32⟩
  | 52 => ⟨S4x4096x1, .f32⟩
  | 53 => ⟨S4x4096x512, .f32⟩
  | 54 => ⟨S4x4096x512, .f32⟩
  | 55 => ⟨S4x4096x512, .f32⟩
  | 56 => ⟨S_, .f32⟩
  | 57 => ⟨S4x4096, .f32⟩
  | 58 => ⟨S4x4096x1, .f32⟩
  | 59 => ⟨S_, .f32⟩
  | 60 => ⟨S4x4096x1, .f32⟩
  | 61 => ⟨S4x4096x1, .f32⟩
  | 62 => ⟨S4x4096x512, .f32⟩
  | 63 => ⟨S4x4096x512, .f32⟩
  | 64 => ⟨S_, .f32⟩
  | 65 => ⟨S4x4096x1, .f32⟩
  | 66 => ⟨S4x4096x1, .f32⟩
  | 67 => ⟨S4x4096x1, .f32⟩
  | 68 => ⟨S4x4096x512, .f32⟩
  | 69 => ⟨S4x4096x512, .f32⟩
  | 70 => ⟨S1x1x512, .f32⟩
  | 71 => ⟨S4x4096x512, .f32⟩
  | 72 => ⟨S4x4096x512, .f32⟩
  | 73 => ⟨S1x1x512, .f32⟩
  | 74 => ⟨S4x4096x512, .f32⟩
  | 75 => ⟨S4x4096x512, .f32⟩
  | 76 => ⟨S4x128x128, .f32⟩
  | 77 => ⟨S4x128, .f32⟩
  | 78 => ⟨S4x32x128x4x128, .f32⟩
  | 79 => ⟨S_, .i1⟩
  | 80 => ⟨S128x128, .i1⟩
  | 81 => ⟨S128x128, .i32⟩
  | 82 => ⟨S_, .i32⟩
  | 83 => ⟨S128x128, .i32⟩
  | 84 => ⟨S128x128, .i32⟩
  | 85 => ⟨S128x128, .i32⟩
  | 86 => ⟨S128x128, .i1⟩
  | 87 => ⟨S_, .i1⟩
  | 88 => ⟨S128x128, .i1⟩
  | 89 => ⟨S128x128, .i1⟩
  | 90 => ⟨S1x128x128, .i1⟩
  | 91 => ⟨S_, .f32⟩
  | 92 => ⟨S4x128x128, .f32⟩
  | 93 => ⟨S4x128x128, .i1⟩
  | 94 => ⟨S4x128x128, .f32⟩
  | 95 => ⟨S4x4x32x128x128, .f32⟩
  | 96 => ⟨S4x32x128x4x128, .f32⟩
  | 97 => ⟨S128x4, .f32⟩
  | 98 => ⟨S128x4x1, .f32⟩
  | 99 => ⟨S1x1x128x4x1, .f32⟩
  | 100 => ⟨S4x32x128x4x128, .f32⟩
  | 101 => ⟨S4x32x128x4x128, .f32⟩
  | 102 => ⟨S4x4096x512, .f32⟩
  | 103 => ⟨S4x4096x512, .f32⟩
  | 104 => ⟨S_, .f32⟩
  | 105 => ⟨S4x2x512, .f32⟩
  | 106 => ⟨S4x4096x512, .f32⟩
  | 107 => ⟨S4x4096x512, .f32⟩
  | 108 => ⟨S4x4096x512, .f32⟩
  | 109 => ⟨S4x4098x512, .f32⟩
  | 110 => ⟨S4x4096x512, .f32⟩
  | 111 => ⟨S3x512, .f32⟩
  | 112 => ⟨S4x4096x512, .f32⟩
  | 113 => ⟨S1x512, .f32⟩
  | 114 => ⟨S512, .f32⟩
  | 115 => ⟨S1x1x512, .f32⟩
  | 116 => ⟨S4x4096x512, .f32⟩
  | 117 => ⟨S4x4096x512, .f32⟩
  | 118 => ⟨S4x4096x512, .f32⟩
  | 119 => ⟨S1x512, .f32⟩
  | 120 => ⟨S512, .f32⟩
  | 121 => ⟨S1x1x512, .f32⟩
  | 122 => ⟨S4x4096x512, .f32⟩
  | 123 => ⟨S4x4096x512, .f32⟩
  | 124 => ⟨S4x4096x512, .f32⟩
  | 125 => ⟨S4x4096x512, .f32⟩
  | 126 => ⟨S1x512, .f32⟩
  | 127 => ⟨S512, .f32⟩
  | _ => ⟨S4x4096x1024, .f32⟩

abbrev hbmTy0_1 (i : Nat) : BufTy := match i % 128 with
  | 0 => ⟨S1x1x512, .f32⟩
  | 1 => ⟨S4x4096x512, .f32⟩
  | 2 => ⟨S4x4096x512, .f32⟩
  | 3 => ⟨S4x4096x512, .f32⟩
  | 4 => ⟨S4x4096x512, .f32⟩
  | 5 => ⟨S4x4096x512, .bf16⟩
  | 6 => ⟨S4x4096x512, .bf16⟩
  | 7 => ⟨S4x8x512, .f32⟩
  | _ => ⟨S4x4096x1024, .f32⟩

abbrev hbmTy (i : Nat) : BufTy := match i / 128 with
  | 0 => hbmTy0_0 i
  | 1 => hbmTy0_1 i
  | _ => ⟨S4x4096x1024, .f32⟩

abbrev bufTy : (tb : Table) → Fin (tcTables nBuf tb) → BufTy
  | .hbm, ⟨i, _⟩ => hbmTy i
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_1 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_3 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_cst_6 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_7 : Ref sig .tc := ⟨.hbm, 47, rfl⟩
abbrev main_v32 : Ref sig .tc := ⟨.hbm, 48, rfl⟩
abbrev main_v33 : Ref sig .tc := ⟨.hbm, 49, rfl⟩
abbrev main_cst_8 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_9 : Ref sig .tc := ⟨.hbm, 56, rfl⟩
abbrev main_v39 : Ref sig .tc := ⟨.hbm, 57, rfl⟩
abbrev main_v40 : Ref sig .tc := ⟨.hbm, 58, rfl⟩
abbrev main_cst_10 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_11 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_c : Ref sig .tc := ⟨.hbm, 79, rfl⟩
abbrev main_v59 : Ref sig .tc := ⟨.hbm, 80, rfl⟩
abbrev main_call0_v0 : Ref sig .tc := ⟨.hbm, 81, rfl⟩
abbrev main_call0_c : Ref sig .tc := ⟨.hbm, 82, rfl⟩
abbrev main_call0_v1 : Ref sig .tc := ⟨.hbm, 83, rfl⟩
abbrev main_call0_v2 : Ref sig .tc := ⟨.hbm, 84, rfl⟩
abbrev main_call0_v3 : Ref sig .tc := ⟨.hbm, 85, rfl⟩
abbrev main_call0_v4 : Ref sig .tc := ⟨.hbm, 86, rfl⟩
abbrev main_call0_c_0 : Ref sig .tc := ⟨.hbm, 87, rfl⟩
abbrev main_call0_v5 : Ref sig .tc := ⟨.hbm, 88, rfl⟩
abbrev main_v60 : Ref sig .tc := ⟨.hbm, 89, rfl⟩
abbrev main_v61 : Ref sig .tc := ⟨.hbm, 90, rfl⟩
abbrev main_cst_12 : Ref sig .tc := ⟨.hbm, 91, rfl⟩
abbrev main_v62 : Ref sig .tc := ⟨.hbm, 92, rfl⟩
abbrev main_call1_v0 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_cst_13 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩
abbrev main_v95 : Ref sig .tc := ⟨.hbm, 127, rfl⟩
abbrev main_v96 : Ref sig .tc := ⟨.hbm, 128, rfl⟩
abbrev main_v97 : Ref sig .tc := ⟨.hbm, 129, rfl⟩
abbrev main_v98 : Ref sig .tc := ⟨.hbm, 130, rfl⟩
abbrev main_v99 : Ref sig .tc := ⟨.hbm, 131, rfl⟩
abbrev main_v100 : Ref sig .tc := ⟨.hbm, 132, rfl⟩
abbrev main_v101 : Ref sig .tc := ⟨.hbm, 133, rfl⟩
abbrev main_v102 : Ref sig .tc := ⟨.hbm, 134, rfl⟩
abbrev main_v103 : Ref sig .tc := ⟨.hbm, 135, rfl⟩

abbrev nD : Nat := 1
abbrev τ : Topo := Topo.v7x

variable {F : FTy → Type} [FloatOps F]
-- ==== Kernel5.lean ====
abbrev S128x4x1024 : Shape := ⟨3, ![128, 4, 1024]⟩
abbrev S1x1024x2560 : Shape := ⟨3, ![1, 1024, 2560]⟩
abbrev S1x512 : Shape := ⟨2, ![1, 512]⟩
abbrev S1x4x128x128 : Shape := ⟨4, ![1, 4, 128, 128]⟩
abbrev S1x4x128 : Shape := ⟨3, ![1, 4, 128]⟩
abbrev S1x3x512 : Shape := ⟨3, ![1, 3, 512]⟩
abbrev S1x128x2x512 : Shape := ⟨4, ![1, 128, 2, 512]⟩
abbrev S4x128 : Shape := ⟨2, ![4, 128]⟩
abbrev S128x4 : Shape := ⟨2, ![128, 4]⟩
abbrev S128x4x128 : Shape := ⟨3, ![128, 4, 128]⟩
abbrev S128x512 : Shape := ⟨2, ![128, 512]⟩
abbrev S4x128x128 : Shape := ⟨3, ![4, 128, 128]⟩
abbrev S4x4x4 : Shape := ⟨3, ![4, 4, 4]⟩
abbrev S16x4 : Shape := ⟨2, ![16, 4]⟩
abbrev S16x4x128 : Shape := ⟨3, ![16, 4, 128]⟩
abbrev S16x512 : Shape := ⟨2, ![16, 512]⟩
abbrev S4x128x1024 : Shape := ⟨3, ![4, 128, 1024]⟩
abbrev S512x1024 : Shape := ⟨2, ![512, 1024]⟩
abbrev S1024x2560 : Shape := ⟨2, ![1024, 2560]⟩
abbrev S512 : Shape := ⟨1, ![512]⟩
abbrev S3x512 : Shape := ⟨2, ![3, 512]⟩
abbrev S128x2x512 : Shape := ⟨3, ![128, 2, 512]⟩
abbrev S2x128x512 : Shape := ⟨3, ![2, 128, 512]⟩
abbrev S256x512 : Shape := ⟨2, ![256, 512]⟩
abbrev S512x512 : Shape := ⟨2, ![512, 512]⟩
abbrev S1024x512 : Shape := ⟨2, ![1024, 512]⟩
abbrev S512x1 : Shape := ⟨2, ![512, 1]⟩
abbrev S384x512 : Shape := ⟨2, ![384, 512]⟩

abbrev nBuf : Space → Nat
  | .hbm => 34
  | .vmem => 12
  | .smem => 0
  | _ => 0

abbrev bufTy : (tb : Table) → Fin (tcTables nBuf tb) → BufTy
  | .hbm, ⟨0, _⟩ => ⟨S128x4x1024, .f32⟩
  | .hbm, ⟨1, _⟩ => ⟨S1x1024x2560, .f32⟩
  | .hbm, ⟨2, _⟩ => ⟨S1x512, .f32⟩
  | .hbm, ⟨3, _⟩ => ⟨S1x512, .f32⟩
  | .hbm, ⟨4, _⟩ => ⟨S1x4x128x128, .f32⟩
  | .hbm, ⟨5, _⟩ => ⟨S1x4x128, .f32⟩
  | .hbm, ⟨6, _⟩ => ⟨S1x3x512, .f32⟩
  | .hbm, ⟨7, _⟩ => ⟨S1x128x2x512, .f32⟩
  | .hbm, ⟨8, _⟩ => ⟨S4x128, .f32⟩
  | .hbm, ⟨9, _⟩ => ⟨S128x4, .f32⟩
  | .hbm, ⟨10, _⟩ => ⟨S128x4x128, .f32⟩
  | .hbm, ⟨11, _⟩ => ⟨S128x512, .f32⟩
  | .hbm, ⟨12, _⟩ => ⟨S4x128x128, .f32⟩
  | .hbm, ⟨13, _⟩ => ⟨S4x4x4, .f32⟩
  | .hbm, ⟨14, _⟩ => ⟨S4x4x4, .f32⟩
  | .hbm, ⟨15, _⟩ => ⟨S16x4, .f32⟩
  | .hbm, ⟨16, _⟩ => ⟨S16x4x128, .f32⟩
  | .hbm, ⟨17, _⟩ => ⟨S16x512, .f32⟩
  | .hbm, ⟨18, _⟩ => ⟨S4x128x1024, .f32⟩
  | .hbm, ⟨19, _⟩ => ⟨S512x1024, .f32⟩
  | .hbm, ⟨20, _⟩ => ⟨S1024x2560, .f32⟩
  | .hbm, ⟨21, _⟩ => ⟨S1024x2560, .bf16⟩
  | .hbm, ⟨22, _⟩ => ⟨S512, .f32⟩
  | .hbm, ⟨23, _⟩ => ⟨S1x512, .f32⟩
  | .hbm, ⟨24, _⟩ => ⟨S512, .f32⟩
  | .hbm, ⟨25, _⟩ => ⟨S1x512, .f32⟩
  | .hbm, ⟨26, _⟩ => ⟨S3x512, .f32⟩
  | .hbm, ⟨27, _⟩ => ⟨S128x2x512, .f32⟩
  | .hbm, ⟨28, _⟩ => ⟨S2x128x512, .f32⟩
  | .hbm, ⟨29, _⟩ => ⟨S256x512, .f32⟩
  | .hbm, ⟨30, _⟩ => ⟨S512x512, .bf16⟩
  | .hbm, ⟨31, _⟩ => ⟨S512x512, .bf16⟩
  | .hbm, ⟨32, _⟩ => ⟨S512x512, .f32⟩
  | .hbm, ⟨33, _⟩ => ⟨S512x512, .f32⟩
  | .local _ .vmem, ⟨0, _⟩ => ⟨S512x1024, .f32⟩
  | .local _ .vmem, ⟨1, _⟩ => ⟨S1024x2560, .bf16⟩
  | .local _ .vmem, ⟨2, _⟩ => ⟨S1x512, .f32⟩
  | .local _ .vmem, ⟨3, _⟩ => ⟨S1x512, .f32⟩
  | .local _ .vmem, ⟨4, _⟩ => ⟨S16x512, .f32⟩
  | .local _ .vmem, ⟨5, _⟩ => ⟨S128x512, .f32⟩
  | .local _ .vmem, ⟨6, _⟩ => ⟨S3x512, .f32⟩
  | .local _ .vmem, ⟨7, _⟩ => ⟨S256x512, .f32⟩
  | .local _ .vmem, ⟨8, _⟩ => ⟨S512x512, .bf16⟩
  | .local _ .vmem, ⟨9, _⟩ => ⟨S512x512, .bf16⟩
  | .local _ .vmem, ⟨10, _⟩ => ⟨S512x512, .f32⟩
  | .local _ .vmem, ⟨11, _⟩ => ⟨S512x512, .f32⟩
  | _, _ => ⟨S128x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22_0 : Ref sig .tc := ⟨.hbm, 30, rfl⟩
abbrev main_v22_1 : Ref sig .tc := ⟨.hbm, 31, rfl⟩
abbrev main_v22_2 : Ref sig .tc := ⟨.hbm, 32, rfl⟩
abbrev main_v22_3 : Ref sig .tc := ⟨.hbm, 33, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S512x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x2560 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S3x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x512 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S512x512 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S512x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S512x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference5Ideal.lean ====
abbrev S128x4x1024 : Shape := ⟨3, ![128, 4, 1024]⟩
abbrev S1x1024x2560 : Shape := ⟨3, ![1, 1024, 2560]⟩
abbrev S1x512 : Shape := ⟨2, ![1, 512]⟩
abbrev S1x4x128x128 : Shape := ⟨4, ![1, 4, 128, 128]⟩
abbrev S1x4x128 : Shape := ⟨3, ![1, 4, 128]⟩
abbrev S1x3x512 : Shape := ⟨3, ![1, 3, 512]⟩
abbrev S1x128x2x512 : Shape := ⟨4, ![1, 128, 2, 512]⟩
abbrev S1024x2560 : Shape := ⟨2, ![1024, 2560]⟩
abbrev S128x4x2560 : Shape := ⟨3, ![128, 4, 2560]⟩
abbrev S128x4x512 : Shape := ⟨3, ![128, 4, 512]⟩
abbrev S_ : Shape := ⟨0, ![]⟩
abbrev S512 : Shape := ⟨1, ![512]⟩
abbrev S128x4 : Shape := ⟨2, ![128, 4]⟩
abbrev S128x4x1 : Shape := ⟨3, ![128, 4, 1]⟩
abbrev S1x1x512 : Shape := ⟨3, ![1, 1, 512]⟩
abbrev S128x124x512 : Shape := ⟨3, ![128, 124, 512]⟩
abbrev S128x128x512 : Shape := ⟨3, ![128, 128, 512]⟩
abbrev S4x128x128 : Shape := ⟨3, ![4, 128, 128]⟩
abbrev S4x128 : Shape := ⟨2, ![4, 128]⟩
abbrev S128x1x128x4x128 : Shape := ⟨5, ![128, 1, 128, 4, 128]⟩
abbrev S128x128 : Shape := ⟨2, ![128, 128]⟩
abbrev S1x128x128 : Shape := ⟨3, ![1, 128, 128]⟩
abbrev S4x128x1x128x128 : Shape := ⟨5, ![4, 128, 1, 128, 128]⟩
abbrev S1x1x128x4x1 : Shape := ⟨5, ![1, 1, 128, 4, 1]⟩
abbrev S128x2x512 : Shape := ⟨3, ![128, 2, 512]⟩
abbrev S128x6x512 : Shape := ⟨3, ![128, 6, 512]⟩
abbrev S3x512 : Shape := ⟨2, ![3, 512]⟩
abbrev S4x128x512 : Shape := ⟨3, ![4, 128, 512]⟩
abbrev S512x512 : Shape := ⟨2, ![512, 512]⟩

abbrev nBuf : Space → Nat
  | .hbm => 151
  | .vmem => 0
  | .smem => 0
  | _ => 0

abbrev hbmTy0_0 (i : Nat) : BufTy := match i % 128 with
  | 0 => ⟨S128x4x1024, .f32⟩
  | 1 => ⟨S1x1024x2560, .f32⟩
  | 2 => ⟨S1x512, .f32⟩
  | 3 => ⟨S1x512, .f32⟩
  | 4 => ⟨S1x4x128x128, .f32⟩
  | 5 => ⟨S1x4x128, .f32⟩
  | 6 => ⟨S1x3x512, .f32⟩
  | 7 => ⟨S1x128x2x512, .f32⟩
  | 8 => ⟨S1024x2560, .f32⟩
  | 9 => ⟨S128x4x2560, .f32⟩
  | 10 => ⟨S128x4x512, .f32⟩
  | 11 => ⟨S128x4x512, .f32⟩
  | 12 => ⟨S128x4x512, .f32⟩
  | 13 => ⟨S_, .f32⟩
  | 14 => ⟨S128x4x512, .f32⟩
  | 15 => ⟨S128x4x512, .f32⟩
  | 16 => ⟨S128x4x512, .f32⟩
  | 17 => ⟨S_, .f32⟩
  | 18 => ⟨S128x4x512, .f32⟩
  | 19 => ⟨S128x4x512, .f32⟩
  | 20 => ⟨S128x4x512, .f32⟩
  | 21 => ⟨S_, .f32⟩
  | 22 => ⟨S128x4x512, .f32⟩
  | 23 => ⟨S128x4x512, .f32⟩
  | 24 => ⟨S_, .f32⟩
  | 25 => ⟨S128x4x512, .f32⟩
  | 26 => ⟨S128x4x512, .f32⟩
  | 27 => ⟨S128x4x512, .f32⟩
  | 28 => ⟨S128x4x512, .f32⟩
  | 29 => ⟨S128x4x512, .f32⟩
  | 30 => ⟨S128x4x512, .f32⟩
  | 31 => ⟨S_, .f32⟩
  | 32 => ⟨S128x4x512, .f32⟩
  | 33 => ⟨S128x4x512, .f32⟩
  | 34 => ⟨S128x4x512, .f32⟩
  | 35 => ⟨S_, .f32⟩
  | 36 => ⟨S128x4x512, .f32⟩
  | 37 => ⟨S128x4x512, .f32⟩
  | 38 => ⟨S128x4x512, .f32⟩
  | 39 => ⟨S_, .f32⟩
  | 40 => ⟨S128x4x512, .f32⟩
  | 41 => ⟨S128x4x512, .f32⟩
  | 42 => ⟨S_, .f32⟩
  | 43 => ⟨S128x4x512, .f32⟩
  | 44 => ⟨S128x4x512, .f32⟩
  | 45 => ⟨S128x4x512, .f32⟩
  | 46 => ⟨S512, .f32⟩
  | 47 => ⟨S512, .f32⟩
  | 48 => ⟨S_, .f32⟩
  | 49 => ⟨S128x4, .f32⟩
  | 50 => ⟨S128x4x1, .f32⟩
  | 51 => ⟨S_, .f32⟩
  | 52 => ⟨S128x4x1, .f32⟩
  | 53 => ⟨S128x4x1, .f32⟩
  | 54 => ⟨S128x4x512, .f32⟩
  | 55 => ⟨S128x4x512, .f32⟩
  | 56 => ⟨S128x4x512, .f32⟩
  | 57 => ⟨S_, .f32⟩
  | 58 => ⟨S128x4, .f32⟩
  | 59 => ⟨S128x4x1, .f32⟩
  | 60 => ⟨S_, .f32⟩
  | 61 => ⟨S128x4x1, .f32⟩
  | 62 => ⟨S128x4x1, .f32⟩
  | 63 => ⟨S128x4x512, .f32⟩
  | 64 => ⟨S128x4x512, .f32⟩
  | 65 => ⟨S_, .f32⟩
  | 66 => ⟨S128x4x1, .f32⟩
  | 67 => ⟨S128x4x1, .f32⟩
  | 68 => ⟨S128x4x1, .f32⟩
  | 69 => ⟨S128x4x512, .f32⟩
  | 70 => ⟨S128x4x512, .f32⟩
  | 71 => ⟨S1x1x512, .f32⟩
  | 72 => ⟨S128x4x512, .f32⟩
  | 73 => ⟨S128x4x512, .f32⟩
  | 74 => ⟨S1x1x512, .f32⟩
  | 75 => ⟨S128x4x512, .f32⟩
  | 76 => ⟨S128x4x512, .f32⟩
  | 77 => ⟨S_, .f32⟩
  | 78 => ⟨S128x124x512, .f32⟩
  | 79 => ⟨S128x128x512, .f32⟩
  | 80 => ⟨S_, .f32⟩
  | 81 => ⟨S128x124x512, .f32⟩
  | 82 => ⟨S128x128x512, .f32⟩
  | 83 => ⟨S4x128x128, .f32⟩
  | 84 => ⟨S4x128, .f32⟩
  | 85 => ⟨S128x1x128x4x128, .f32⟩
  | 86 => ⟨S_, .i1⟩
  | 87 => ⟨S128x128, .i1⟩
  | 88 => ⟨S128x128, .i32⟩
  | 89 => ⟨S_, .i32⟩
  | 90 => ⟨S128x128, .i32⟩
  | 91 => ⟨S128x128, .i32⟩
  | 92 => ⟨S128x128, .i32⟩
  | 93 => ⟨S128x128, .i1⟩
  | 94 => ⟨S_, .i1⟩
  | 95 => ⟨S128x128, .i1⟩
  | 96 => ⟨S128x128, .i1⟩
  | 97 => ⟨S1x128x128, .i1⟩
  | 98 => ⟨S_, .f32⟩
  | 99 => ⟨S4x128x128, .f32⟩
  | 100 => ⟨S4x128x128, .i1⟩
  | 101 => ⟨S4x128x128, .f32⟩
  | 102 => ⟨S4x128x1x128x128, .f32⟩
  | 103 => ⟨S128x1x128x4x128, .f32⟩
  | 104 => ⟨S128x4, .f32⟩
  | 105 => ⟨S128x4x1, .f32⟩
  | 106 => ⟨S1x1x128x4x1, .f32⟩
  | 107 => ⟨S128x1x128x4x128, .f32⟩
  | 108 => ⟨S128x1x128x4x128, .f32⟩
  | 109 => ⟨S128x128x512, .f32⟩
  | 110 => ⟨S128x128x512, .f32⟩
  | 111 => ⟨S128x4x512, .f32⟩
  | 112 => ⟨S128x2x512, .f32⟩
  | 113 => ⟨S128x4x512, .f32⟩
  | 114 => ⟨S128x4x512, .f32⟩
  | 115 => ⟨S128x4x512, .f32⟩
  | 116 => ⟨S128x6x512, .f32⟩
  | 117 => ⟨S128x4x512, .f32⟩
  | 118 => ⟨S3x512, .f32⟩
  | 119 => ⟨S128x4x512, .f32⟩
  | 120 => ⟨S1x512, .f32⟩
  | 121 => ⟨S512, .f32⟩
  | 122 => ⟨S1x1x512, .f32⟩
  | 123 => ⟨S128x4x512, .f32⟩
  | 124 => ⟨S128x4x512, .f32⟩
  | 125 => ⟨S128x4x512, .f32⟩
  | 126 => ⟨S1x512, .f32⟩
  | 127 => ⟨S512, .f32⟩
  | _ => ⟨S128x4x1024, .f32⟩

abbrev hbmTy0_1 (i : Nat) : BufTy := match i % 128 with
  | 0 => ⟨S1x1x512, .f32⟩
  | 1 => ⟨S128x4x512, .f32⟩
  | 2 => ⟨S128x4x512, .f32⟩
  | 3 => ⟨S128x4x512, .f32⟩
  | 4 => ⟨S128x4x512, .f32⟩
  | 5 => ⟨S1x512, .f32⟩
  | 6 => ⟨S512, .f32⟩
  | 7 => ⟨S1x1x512, .f32⟩
  | 8 => ⟨S128x4x512, .f32⟩
  | 9 => ⟨S128x4x512, .f32⟩
  | 10 => ⟨S128x4x512, .f32⟩
  | 11 => ⟨S128x4x512, .f32⟩
  | 12 => ⟨S4x128x512, .f32⟩
  | 13 => ⟨S512x512, .f32⟩
  | 14 => ⟨S512x512, .bf16⟩
  | 15 => ⟨S4x128x512, .f32⟩
  | 16 => ⟨S512x512, .f32⟩
  | 17 => ⟨S512x512, .bf16⟩
  | 18 => ⟨S4x128x512, .f32⟩
  | 19 => ⟨S512x512, .f32⟩
  | 20 => ⟨S128x4x512, .f32⟩
  | 21 => ⟨S4x128x512, .f32⟩
  | 22 => ⟨S512x512, .f32⟩
  | _ => ⟨S128x4x1024, .f32⟩

abbrev hbmTy (i : Nat) : BufTy := match i / 128 with
  | 0 => hbmTy0_0 i
  | 1 => hbmTy0_1 i
  | _ => ⟨S128x4x1024, .f32⟩

abbrev bufTy : (tb : Table) → Fin (tcTables nBuf tb) → BufTy
  | .hbm, ⟨i, _⟩ => hbmTy i
  | _, _ => ⟨S128x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_5 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_cst_8 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_9 : Ref sig .tc := ⟨.hbm, 57, rfl⟩
abbrev main_v39 : Ref sig .tc := ⟨.hbm, 58, rfl⟩
abbrev main_v40 : Ref sig .tc := ⟨.hbm, 59, rfl⟩
abbrev main_cst_10 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_11 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_12 : Ref sig .tc := ⟨.hbm, 77, rfl⟩
abbrev main_v56 : Ref sig .tc := ⟨.hbm, 78, rfl⟩
abbrev main_v57 : Ref sig .tc := ⟨.hbm, 79, rfl⟩
abbrev main_cst_13 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_c : Ref sig .tc := ⟨.hbm, 86, rfl⟩
abbrev main_v63 : Ref sig .tc := ⟨.hbm, 87, rfl⟩
abbrev main_call0_v0 : Ref sig .tc := ⟨.hbm, 88, rfl⟩
abbrev main_call0_c : Ref sig .tc := ⟨.hbm, 89, rfl⟩
abbrev main_call0_v1 : Ref sig .tc := ⟨.hbm, 90, rfl⟩
abbrev main_call0_v2 : Ref sig .tc := ⟨.hbm, 91, rfl⟩
abbrev main_call0_v3 : Ref sig .tc := ⟨.hbm, 92, rfl⟩
abbrev main_call0_v4 : Ref sig .tc := ⟨.hbm, 93, rfl⟩
abbrev main_call0_c_0 : Ref sig .tc := ⟨.hbm, 94, rfl⟩
abbrev main_call0_v5 : Ref sig .tc := ⟨.hbm, 95, rfl⟩
abbrev main_v64 : Ref sig .tc := ⟨.hbm, 96, rfl⟩
abbrev main_v65 : Ref sig .tc := ⟨.hbm, 97, rfl⟩
abbrev main_cst_14 : Ref sig .tc := ⟨.hbm, 98, rfl⟩
abbrev main_v66 : Ref sig .tc := ⟨.hbm, 99, rfl⟩
abbrev main_call1_v0 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩

abbrev nD : Nat := 1
abbrev τ : Topo := Topo.v7x

variable {F : FTy → Type} [FloatOps F]
-- ==== Proof.Frame.Keeps.lean ====
/-
  A program that KEEPS an assertion: run from `I`, it ends in `I` again, whatever it returns (`Keeps`). For the frame of a
  kernel nothing has to be said of what its buffers hold, so one assertion — every staging buffer and every scratch buffer
  held, the inputs at their blocks, the others at anything — is kept by each load, by each store and therefore by sequences,
  branches and loops of them: the rules below, one per construct of the printed text.
-/
module

public import Idealize.ShloMosaic.Lib.Pipeline.FrameBody
public import Idealize.ShloMosaic.Lib.Scf
public import Idealize.ShloMosaic.Lib.Tactic

@[expose] public section

noncomputable section

namespace Cert.Keeps

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {Λ : Labels}

variable (defs : Defs nD τ sig Val Λ) (𝒱 : Variants) (c : Dev nD) (I : sProp (MT nD τ sig Unit Val ℕ (UR sig nD τ) ℕ))

/-- `p`, run on core `c` from `I`, ends in `I`. -/
structure Keeps {α : Type} (p : Prog (TpuEff nD τ sig Val Λ .tc) α) : Prop where
  run : I ⊢ wp frame (wpE defs 𝒱 (c : Thread nD τ) none) Set.univ p (fun _ => I)

/-- `I` holds `M`'s buffer, at contents the holder puts back as they were. -/
def Reads {sp : Space} {s : Shape} {e : EltTy} (M : Memref sig .tc sp s e) : Prop :=
  I ⊢ iprop(∃ f : Buf Val (M.view.loc (c : Thread nD τ)), (M.view.loc (c : Thread nD τ) ↦[M.view.set]{fullShare} f)
    ∗ ((M.view.loc (c : Thread nD τ) ↦[M.view.set]{fullShare} f) -∗ I))

/-- `I` holds `M`'s buffer, at contents the holder may change. -/
def Writes {sp : Space} {s : Shape} {e : EltTy} (M : Memref sig .tc sp s e) : Prop :=
  I ⊢ iprop(∃ f : Buf Val (M.view.loc (c : Thread nD τ)), (M.view.loc (c : Thread nD τ) ↦[M.view.set]{fullShare} f)
    ∗ (∀ g : Buf Val (M.view.loc (c : Thread nD τ)), (M.view.loc (c : Thread nD τ) ↦[M.view.set]{fullShare} g) -∗ I))

variable {defs 𝒱 c I}

/-- What may be written may be read. -/
theorem Writes.reads {sp : Space} {s : Shape} {e : EltTy} {M : Memref sig .tc sp s e} (h : Writes c I M) : Reads c I M := by
  refine BIBase.Entails.trans h ?_
  iintro ⟨%f, Hf, HI⟩
  iexists f
  isplitl [Hf]; · iexact Hf
  iintro Hf
  iapply HI; iexact Hf

/-- A value returned. -/
theorem keeps_pure {α : Type} (a : α) : Keeps defs 𝒱 c I (pure a) := by
  constructor
  rw [Prog.pure_eq_ret, wp_ret]
  iintro H
  imodintro
  iexact H

/-- One program after another. -/
theorem keeps_bind {α β : Type} {p : Prog (TpuEff nD τ sig Val Λ .tc) α} {k : α → Prog (TpuEff nD τ sig Val Λ .tc) β}
    (hp : Keeps defs 𝒱 c I p) (hk : ∀ a, Keeps defs 𝒱 c I (k a)) : Keeps defs 𝒱 c I (p >>= k) := by
  constructor
  rw [wp_bind]
  exact BIBase.Entails.trans hp.run (wp_mono _ _ _ fun a => (hk a).run)

/-- A branch on a condition. -/
theorem keeps_ite {α : Type} {q : Prop} [Decidable q] {p r : Prog (TpuEff nD τ sig Val Λ .tc) α}
    (hp : Keeps defs 𝒱 c I p) (hr : Keeps defs 𝒱 c I r) : Keeps defs 𝒱 c I (if q then p else r) := by
  split
  · exact hp
  · exact hr

/-- A branch whose arms cite the condition. -/
theorem keeps_dite {α : Type} {q : Prop} [Decidable q] {p : q → Prog (TpuEff nD τ sig Val Λ .tc) α} {r : ¬ q → Prog (TpuEff nD τ sig Val Λ .tc) α}
    (hp : ∀ h, Keeps defs 𝒱 c I (p h)) (hr : ∀ h, Keeps defs 𝒱 c I (r h)) : Keeps defs 𝒱 c I (if h : q then p h else r h) := by
  split
  · exact hp _
  · exact hr _

/-- A counted loop whose every trip keeps `I`. -/
theorem keeps_for {w : Nat} {σ : Type} (l : Scf.Loop w) (hok : l.OK) (init : σ) (body : Fin l.trips → σ → Prog (TpuEff nD τ sig Val Λ .tc) σ)
    (hb : ∀ k a, Keeps defs 𝒱 c I (body k a)) : Keeps defs 𝒱 c I (Scf.Loop.for l hok init body) := by
  constructor
  refine BIBase.Entails.trans ?_ (Scf.wp_for _ _ _ l.lb l.ub l.st hok init body (fun _ _ => I) fun k a => (hb k a).run)
  iintro H
  isplitl [H]; · iexact H
  iintro %a H
  iexact H

/-- A load through a buffer that `I` holds. -/
theorem keeps_load {cs : CoreSpace} {s : Shape} {e : EltTy} {M : Memref sig .tc cs s e} {r : LoadRect s} {hl : M.view.LoadsAt r}
    (h : Reads c I M) : Keeps defs 𝒱 c I (Prog.lift (TpuEff.load M r hl)) := by
  constructor
  refine BIBase.Entails.trans h ?_
  iintro ⟨%f, Hf, HI⟩
  unfold Prog.lift
  iapply (wp_load 𝒱 (c : Thread nD τ) none Set.univ (View.setOn_subset_set _ _)) $$ [Hf]
  · iexact Hf
  iintro Hf
  rw [wp_ret]
  imodintro
  iapply HI; iexact Hf

/-- A store through a buffer that `I` holds at anything. -/
theorem keeps_store {cs : CoreSpace} {s : Shape} {e : EltTy} {M : Memref sig .tc cs s e} {r : Rect s} {w : r.shape.Idx → Val e} {Mk : Finset r.shape.Idx}
    {hx : (M.access r).Stores Mk} {hm : Mk = Finset.univ ∨ ∀ a, r.stride a = 1}
    (h : Writes c I M) : Keeps defs 𝒱 c I (Prog.lift (TpuEff.store M r w Mk hx hm)) := by
  constructor
  refine BIBase.Entails.trans h ?_
  iintro ⟨%f, Hf, HI⟩
  unfold Prog.lift
  iapply (wp_store 𝒱 (c : Thread nD τ) none Set.univ (S := M.view.set) (f := f) ?_) $$ [Hf]
  · exact (View.setOn_subset_set _ _).trans (View.set_slice_subset _ _)
  · iexact Hf
  iintro Hf
  rw [wp_ret]
  imodintro
  iapply HI; iexact Hf

end Cert.Keeps

end
-- ==== Proof.Frame.Body.lean ====
/-
  The body of the sparse attention's grid point keeps any assertion that holds its operands' staging buffers, its result's
  and its eight scratch buffers: one rule of `Cert.Keeps` at each load, store, branch, loop and sequence of the text.
-/
module

public import proofs.«01_k».proof.Kernel
public import proofs.«01_k».proof.Proof.Frame.Keeps

@[expose] public section

noncomputable section

namespace Cert.Kernel.Hand

open Cert.Kernel Cert.Keeps
open Idealize.ShloMosaic Idealize.ShloMosaic.TcCoe
open Idealize.SL Idealize.SL.RA Idealize.SL.BI Idealize.SL.Sem

variable [Facts] {F : FTy → Type} [BitOps F] {defs : Defs nD τ sig (Elt F) Λ₀} {𝒱 : Variants} {c : Dev nD}
  {I : sProp (MT nD τ sig Unit (Elt F) ℕ (UR sig nD τ) ℕ)}

set_option maxHeartbeats 0 in
set_option maxRecDepth 100000 in
/-- The part of the body that chooses the number of chunks searched: sixteen branches, each with its tie search. -/
theorem keeps_switch (i : grid0.Coords) (v : BitVec 32)
    (arg2 : Memref sig .tc .vmem S1x128x512 .bf16) (harg2 : arg2.IsWhole)
    (arg3 : Memref sig .tc .vmem S1x512x128 .bf16) (harg3 : arg3.IsWhole)
    (arg4 : Memref sig .tc .vmem S1x8x128 .f32) (harg4 : arg4.IsWhole)
    (arg5 : Memref sig .tc .vmem S1x4096x512 .bf16) (harg5 : arg5.IsWhole)
    (arg6 : Memref sig .tc .vmem S1x4096x1024 .bf16) (harg6 : arg6.IsWhole)
    (arg7 : Memref sig .tc .vmem S1x4096x64 .bf16) (harg7 : arg7.IsWhole)
    (arg8 : Memref sig .tc .vmem S1x128x512 .bf16) (harg8 : arg8.IsWhole)
    (arg9 : Memref sig .tc .vmem S4096x128 .i32) (harg9 : arg9.IsWhole)
    (arg10 : Memref sig .tc .vmem S4096x128 .i32) (harg10 : arg10.IsWhole)
    (arg11 : Memref sig .tc .vmem S4x256x1 .f32) (harg11 : arg11.IsWhole)
    (arg12 : Memref sig .tc .vmem S4x256x128 .f32) (harg12 : arg12.IsWhole)
    (arg13 : Memref sig .tc .vmem S4x256x512 .f32) (harg13 : arg13.IsWhole)
    (arg14 : Memref sig .tc .vmem S4x256x512 .f32) (harg14 : arg14.IsWhole)
    (arg15 : Memref sig .tc .vmem S512x1024 .f32) (harg15 : arg15.IsWhole)
    (arg16 : Memref sig .tc .vmem S512x1024 .f32) (harg16 : arg16.IsWhole)
    (h2 : Reads c I arg2) (h3 : Reads c I arg3) (h4 : Reads c I arg4) (h5 : Reads c I arg5) (h6 : Reads c I arg6) (h7 : Reads c I arg7) (h8 : Writes c I arg8) (h9 : Writes c I arg9) (h10 : Writes c I arg10) (h11 : Writes c I arg11) (h12 : Writes c I arg12) (h13 : Writes c I arg13) (h14 : Writes c I arg14) (h15 : Writes c I arg15) (h16 : Writes c I arg16) :
    Keeps defs 𝒱 c I (k0_part1058 i arg2 harg2 arg3 harg3 arg4 harg4 arg5 harg5 arg6 harg6 arg7 harg7 arg8 harg8 arg9 harg9 arg10 harg10 arg11 harg11 arg12 harg12 arg13 harg13 arg14 harg14 arg15 harg15 arg16 harg16 v) := by
  have r8 := h8.reads; have r9 := h9.reads; have r10 := h10.reads; have r11 := h11.reads; have r12 := h12.reads
  have r13 := h13.reads; have r14 := h14.reads; have r15 := h15.reads; have r16 := h16.reads
  delta k0_part1058
  have r8 := h8.reads; have r9 := h9.reads; have r10 := h10.reads; have r11 := h11.reads; have r12 := h12.reads
  have r13 := h13.reads; have r14 := h14.reads; have r15 := h15.reads; have r16 := h16.reads
  repeat' first
    | intro _
    | with_reducible exact keeps_pure _
    | with_reducible exact keeps_load (by assumption)
    | with_reducible exact keeps_store (by assumption)
    | with_reducible refine keeps_for _ _ _ _ ?_
    | with_reducible refine keeps_ite ?_ ?_
    | with_reducible refine keeps_dite ?_ ?_
    | refine keeps_bind ?_ ?_
    | exact keeps_pure _

set_option maxHeartbeats 0 in
set_option maxRecDepth 100000 in
/-- The body of a grid point keeps `I`: the index scores, the tie search under its branches, and the attention's chunks. -/
theorem keeps_body (i : grid0.Coords)
    (arg2 : Memref sig .tc .vmem S1x128x512 .bf16) (harg2 : arg2.IsWhole)
    (arg3 : Memref sig .tc .vmem S1x512x128 .bf16) (harg3 : arg3.IsWhole)
    (arg4 : Memref sig .tc .vmem S1x8x128 .f32) (harg4 : arg4.IsWhole)
    (arg5 : Memref sig .tc .vmem S1x4096x512 .bf16) (harg5 : arg5.IsWhole)
    (arg6 : Memref sig .tc .vmem S1x4096x1024 .bf16) (harg6 : arg6.IsWhole)
    (arg7 : Memref sig .tc .vmem S1x4096x64 .bf16) (harg7 : arg7.IsWhole)
    (arg8 : Memref sig .tc .vmem S1x128x512 .bf16) (harg8 : arg8.IsWhole)
    (arg9 : Memref sig .tc .vmem S4096x128 .i32) (harg9 : arg9.IsWhole)
    (arg10 : Memref sig .tc .vmem S4096x128 .i32) (harg10 : arg10.IsWhole)
    (arg11 : Memref sig .tc .vmem S4x256x1 .f32) (harg11 : arg11.IsWhole)
    (arg12 : Memref sig .tc .vmem S4x256x128 .f32) (harg12 : arg12.IsWhole)
    (arg13 : Memref sig .tc .vmem S4x256x512 .f32) (harg13 : arg13.IsWhole)
    (arg14 : Memref sig .tc .vmem S4x256x512 .f32) (harg14 : arg14.IsWhole)
    (arg15 : Memref sig .tc .vmem S512x1024 .f32) (harg15 : arg15.IsWhole)
    (arg16 : Memref sig .tc .vmem S512x1024 .f32) (harg16 : arg16.IsWhole)
    (h2 : Reads c I arg2) (h3 : Reads c I arg3) (h4 : Reads c I arg4) (h5 : Reads c I arg5) (h6 : Reads c I arg6) (h7 : Reads c I arg7) (h8 : Writes c I arg8) (h9 : Writes c I arg9) (h10 : Writes c I arg10) (h11 : Writes c I arg11) (h12 : Writes c I arg12) (h13 : Writes c I arg13) (h14 : Writes c I arg14) (h15 : Writes c I arg15) (h16 : Writes c I arg16) :
    Keeps defs 𝒱 c I (cc0_dsa_prompt i arg2 harg2 arg3 harg3 arg4 harg4 arg5 harg5 arg6 harg6 arg7 harg7 arg8 harg8 arg9 harg9 arg10 harg10 arg11 harg11 arg12 harg12 arg13 harg13 arg14 harg14 arg15 harg15 arg16 harg16) := by
  have r8 := h8.reads; have r9 := h9.reads; have r10 := h10.reads; have r11 := h11.reads; have r12 := h12.reads
  have r13 := h13.reads; have r14 := h14.reads; have r15 := h15.reads; have r16 := h16.reads
  repeat' first
    | intro _
    | (with_reducible apply keeps_switch <;> assumption)
    | with_reducible exact keeps_pure _
    | with_reducible exact keeps_load (by assumption)
    | with_reducible exact keeps_store (by assumption)
    | with_reducible refine keeps_for _ _ _ _ ?_
    | with_reducible refine keeps_ite ?_ ?_
    | with_reducible refine keeps_dite ?_ ?_
    | refine keeps_bind ?_ ?_
    | exact keeps_pure _

end Cert.Kernel.Hand

end
-- ==== Proof.Frame.Dsa.lean ====
/-
  The frame of the prompt's sparse attention: its one pallas_call, whose operands stay as they are and whose result's
  window is left at anything (`forgets0`).
-/
module

public import proofs.«01_k».proof.Proof.Gen.Kernel
public import proofs.«01_k».proof.Proof.Gen.Kernel.Launch
public import proofs.«01_k».proof.Proof.Gen.Kernel.Points
public import proofs.«01_k».proof.Proof.Gen.Kernel.Frame
public import proofs.«01_k».proof.Proof.Frame.Body
public import Idealize.ShloMosaic.Adequacy
public import Idealize.ShloMosaic.Init

@[expose] public section

noncomputable section

namespace Cert.Kernel.Hand

open Cert.Kernel Cert.Kernel.Gen Cert.Keeps
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [BitOps F]

local notation "𝕄" => MT nD τ sig Unit (Elt F) ℕ (UR sig nD τ) ℕ

section Held

variable {Val : EltTy → Type} {c : Dev nD} {P Q : sProp (MT nD τ sig Unit Val ℕ (UR sig nD τ) ℕ)}

/-- What the left of two holds, the two hold. -/
theorem reads_left {sp : Space} {s : Shape} {e : EltTy} {M : Memref sig .tc sp s e} (h : Reads c P M) : Reads c iprop(P ∗ Q) M := by
  refine (sep_mono_left h).trans ?_
  iintro ⟨⟨%f, Hf, HP⟩, HQ⟩
  iexists f
  isplitl [Hf]; · iexact Hf
  iintro Hf
  isplitl [Hf HP]
  · iapply HP; iexact Hf
  iexact HQ

/-- What the right of two holds, the two hold. -/
theorem reads_right {sp : Space} {s : Shape} {e : EltTy} {M : Memref sig .tc sp s e} (h : Reads c Q M) : Reads c iprop(P ∗ Q) M := by
  refine (sep_mono_right h).trans ?_
  iintro ⟨HP, %f, Hf, HQ⟩
  iexists f
  isplitl [Hf]; · iexact Hf
  iintro Hf
  isplitl [HP]
  · iexact HP
  iapply HQ; iexact Hf

/-- What the left of two holds to be changed, the two do. -/
theorem writes_left {sp : Space} {s : Shape} {e : EltTy} {M : Memref sig .tc sp s e} (h : Writes c P M) : Writes c iprop(P ∗ Q) M := by
  refine (sep_mono_left h).trans ?_
  iintro ⟨⟨%f, Hf, HP⟩, HQ⟩
  iexists f
  isplitl [Hf]; · iexact Hf
  iintro %g Hf
  isplitl [Hf HP]
  · iapply HP; iexact Hf
  iexact HQ

/-- What the right of two holds to be changed, the two do. -/
theorem writes_right {sp : Space} {s : Shape} {e : EltTy} {M : Memref sig .tc sp s e} (h : Writes c Q M) : Writes c iprop(P ∗ Q) M := by
  refine (sep_mono_right h).trans ?_
  iintro ⟨HP, %f, Hf, HQ⟩
  iexists f
  isplitl [Hf]; · iexact Hf
  iintro %g Hf
  isplitl [HP]
  · iexact HP
  iapply HQ; iexact Hf

/-- A buffer held at given contents may be read. -/
theorem reads_owns {sp : Space} {s : Shape} {e : EltTy} (M : Memref sig .tc sp s e) (X : s.Idx → Elt F e) :
    Reads c (owns (c : Thread nD τ) M fullShare X : sProp 𝕄) M := by
  unfold Reads owns
  iintro ⟨%f, %hf, Hf⟩
  iexists f
  isplitl [Hf]; · iexact Hf
  iintro Hf
  iexists f
  isplitr; · ipureintro; exact hf
  iexact Hf

/-- A buffer held at some contents may be written. -/
theorem writes_owns {sp : Space} {s : Shape} {e : EltTy} (M : Memref sig .tc sp s e) :
    Writes c (iprop(∃ X, owns (c : Thread nD τ) M fullShare X) : sProp 𝕄) M := by
  unfold Writes owns
  iintro ⟨%X, %f, %hf, Hf⟩
  iexists f
  isplitl [Hf]; · iexact Hf
  iintro %g Hf
  iexists _
  iexists g
  isplitr; · ipureintro; rfl
  iexact Hf

/-- A whole scratch buffer held at some contents may be written. -/
theorem writes_whole (b : Ref sig .tc) :
    Writes c (iprop(∃ f : Buf (Elt F) ((c : Thread nD τ).loc b), ((c : Thread nD τ).loc b) ↦{fullShare} f) : sProp 𝕄) (Memref.whole b) := by
  unfold Writes
  iintro ⟨%f, Hf⟩
  iexists f
  simp only [Memref.view_whole, View.set_whole]
  isplitl [Hf]; · iexact Hf
  iintro %g Hf
  iexists g
  iexact Hf

end Held

variable (m : (ℓ : Loc nD τ sig) → Buf (Elt F) ℓ) (ρ : Dev nD → PrngReg)

/-- The result's window: what the body leaves there is not told. -/
def forgets0 : Fin 7 → Bool := fun w => w.val == 6

/-- The pipeline's data on core `c`: every operand's block stays, the scratch buffers hold anything. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => Dat.unnamed 6 t
  Φ _ := Pipeline.ΦA spec0 c
  q _ := fullShare
  owed _ := 0

theorem A_eq (c : Dev nD) (w : Fin cfg0.W) : (dats m 0 c).A w = V m c (Pipeline.arrRef spec0 w) := by dsimp only [dats]

/-- What is held at a point: the six operands' blocks, the result's buffer, the scratch buffers. -/
def held (c : Dev nD) (t : Fin cfg0.N) : sProp 𝕄 :=
  iprop(owns (c : Thread nD τ) (win0_0.stage (cfg0.slots t 0)) fullShare (iblk m c 0 t)
    ∗ owns (c : Thread nD τ) (win0_1.stage (cfg0.slots t 1)) fullShare (iblk m c 1 t)
    ∗ owns (c : Thread nD τ) (win0_2.stage (cfg0.slots t 2)) fullShare (iblk m c 2 t)
    ∗ owns (c : Thread nD τ) (win0_3.stage (cfg0.slots t 3)) fullShare (iblk m c 3 t)
    ∗ owns (c : Thread nD τ) (win0_4.stage (cfg0.slots t 4)) fullShare (iblk m c 4 t)
    ∗ owns (c : Thread nD τ) (win0_5.stage (cfg0.slots t 5)) fullShare (iblk m c 5 t)
    ∗ (∃ X, owns (c : Thread nD τ) (win0_6.stage (cfg0.slots t 6)) fullShare X)
    ∗ Pipeline.scopedRest (Ix := Unit) (Name := ℕ) (U := UR sig nD τ) (Lvl := ℕ) (Val := Elt F) spec0 c)

/-- The body at a point keeps what is held there. -/
theorem keeps_point (c : Dev nD) (t : Fin cfg0.N) : Keeps (defs₀ (F := F)) Variants.none c (held m c t) (bodyAt0 (F := F) t) := by
  unfold held
  rw [scopedRest0_eq]
  refine keeps_body _ _ _ _ _ _ _ _ _ _ _ _ _ _ _ _ _ _ _ _ _ _ _ _ _ _ _ _ _ _ _ ?_ ?_ ?_ ?_ ?_ ?_ ?_ ?_ ?_ ?_ ?_ ?_ ?_ ?_ ?_
  · exact reads_left (reads_owns _ _)
  · exact reads_right (reads_left (reads_owns _ _))
  · exact reads_right (reads_right (reads_left (reads_owns _ _)))
  · exact reads_right (reads_right (reads_right (reads_left (reads_owns _ _))))
  · exact reads_right (reads_right (reads_right (reads_right (reads_left (reads_owns _ _)))))
  · exact reads_right (reads_right (reads_right (reads_right (reads_right (reads_left (reads_owns _ _))))))
  · exact writes_right (writes_right (writes_right (writes_right (writes_right (writes_right (writes_left (writes_owns _)))))))
  all_goals refine writes_right (writes_right (writes_right (writes_right (writes_right (writes_right (writes_right ?_))))))
  · exact writes_left (writes_whole _)
  · exact writes_right (writes_left (writes_whole _))
  · exact writes_right (writes_right (writes_left (writes_whole _)))
  · exact writes_right (writes_right (writes_right (writes_left (writes_whole _))))
  · exact writes_right (writes_right (writes_right (writes_right (writes_left (writes_whole _)))))
  · exact writes_right (writes_right (writes_right (writes_right (writes_right (writes_left (writes_whole _))))))
  · exact writes_right (writes_right (writes_right (writes_right (writes_right (writes_right (writes_left (writes_whole _)))))))
  · exact writes_right (writes_right (writes_right (writes_right (writes_right (writes_right (writes_right (writes_whole _)))))))

/-- The body at a point as the pipeline calls it, with the seven windows one by one. -/
theorem sound_body (c : Dev nD) (t : Fin cfg0.N) :
    iprop((dats m 0 c).Φ t.castSucc ∗ (dats m 0 c).owesAt () t.castSucc
      ∗ ((∃ d, owns (c : Thread nD τ) (win0_0.stage (cfg0.slots t 0)) fullShare ((dats m 0 c).before 0 t d))
        ∗ (∃ d, owns (c : Thread nD τ) (win0_1.stage (cfg0.slots t 1)) fullShare ((dats m 0 c).before 1 t d))
        ∗ (∃ d, owns (c : Thread nD τ) (win0_2.stage (cfg0.slots t 2)) fullShare ((dats m 0 c).before 2 t d))
        ∗ (∃ d, owns (c : Thread nD τ) (win0_3.stage (cfg0.slots t 3)) fullShare ((dats m 0 c).before 3 t d))
        ∗ (∃ d, owns (c : Thread nD τ) (win0_4.stage (cfg0.slots t 4)) fullShare ((dats m 0 c).before 4 t d))
        ∗ (∃ d, owns (c : Thread nD τ) (win0_5.stage (cfg0.slots t 5)) fullShare ((dats m 0 c).before 5 t d))
        ∗ (∃ X, owns (c : Thread nD τ) (win0_6.stage (cfg0.slots t 6)) fullShare X)))
    ⊢ wp frame (wpE (defs₀ (F := F)) Variants.none (c : Thread nD τ) none) Set.univ (bodyAt0 (F := F) t)
        (fun _ => iprop((dats m 0 c).Φ t.succ ∗ (dats m 0 c).owesAt () t.succ
      ∗ (owns (c : Thread nD τ) (win0_0.stage (cfg0.slots t 0)) fullShare (iblk m c 0 t)
        ∗ owns (c : Thread nD τ) (win0_1.stage (cfg0.slots t 1)) fullShare (iblk m c 1 t)
        ∗ owns (c : Thread nD τ) (win0_2.stage (cfg0.slots t 2)) fullShare (iblk m c 2 t)
        ∗ owns (c : Thread nD τ) (win0_3.stage (cfg0.slots t 3)) fullShare (iblk m c 3 t)
        ∗ owns (c : Thread nD τ) (win0_4.stage (cfg0.slots t 4)) fullShare (iblk m c 4 t)
        ∗ owns (c : Thread nD τ) (win0_5.stage (cfg0.slots t 5)) fullShare (iblk m c 5 t)
        ∗ (∃ X, owns (c : Thread nD τ) (win0_6.stage (cfg0.slots t 6)) fullShare X)))) := by
  have hb0 := before0_0_of m (dats m 0 c) rfl (fun _ => rfl) t
  have hb1 := before0_1_of m (dats m 0 c) rfl (fun _ => rfl) t
  have hb2 := before0_2_of m (dats m 0 c) rfl (fun _ => rfl) t
  have hb3 := before0_3_of m (dats m 0 c) rfl (fun _ => rfl) t
  have hb4 := before0_4_of m (dats m 0 c) rfl (fun _ => rfl) t
  have hb5 := before0_5_of m (dats m 0 c) rfl (fun _ => rfl) t
  simp only [hb0, hb1, hb2, hb3, hb4, hb5]
  refine BIBase.Entails.trans (Q := iprop(held m c t ∗ ((∃ r, prngReg c r) ∗ (dats m 0 c).owesAt () t.castSucc))) ?_ ?_
  · unfold held
    dsimp only [dats]
    unfold Pipeline.ΦA
    iintro ⟨⟨Hs, Hr⟩, Ho, ⟨%d0, H0⟩, ⟨%d1, H1⟩, ⟨%d2, H2⟩, ⟨%d3, H3⟩, ⟨%d4, H4⟩, ⟨%d5, H5⟩, H6⟩
    isplitl [H0 H1 H2 H3 H4 H5 H6 Hs]
    · isplitl [H0]; · iexact H0
      isplitl [H1]; · iexact H1
      isplitl [H2]; · iexact H2
      isplitl [H3]; · iexact H3
      isplitl [H4]; · iexact H4
      isplitl [H5]; · iexact H5
      isplitl [H6]; · iexact H6
      iexact Hs
    isplitl [Hr]; · iexact Hr
    iexact Ho
  · refine (sep_mono_left (keeps_point m c t).run).trans ?_
    refine (wp_frame_r _ _ _).trans (wp_mono _ _ _ fun _ => ?_)
    unfold held
    dsimp only [dats]
    unfold Pipeline.ΦA
    iintro ⟨⟨H0, H1, H2, H3, H4, H5, H6, Hs⟩, Hr, Ho⟩
    isplitl [Hs Hr]
    · isplitl [Hs]; · iexact Hs
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6

theorem defs₀_row (t : Fin cfg0.N) : defs₀ (F := F) .tc cfg0.body (cfg0.bodyArgs t (cfg0.slots t)) = bodyAt0 t := by
  unfold defs₀; rw [Defs.onTc_tc]

/-- The body's obligation at every point. -/
theorem body_obligation (c : Dev nD) : BodyObligation (dats m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
/-- The run of the whole program, at any reading of the floats. -/
theorem run_main : θ_run defs (onTc (τ := τ) (main (F := F))) (s₀ m ρ)
    (fun r => Pipeline.RDat.FramePost cfg0 (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The six operands end as they began, and every counter at zero. -/
theorem run_frame : θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
    ⟨Pipeline.RDat.FramePost.arr_in h.1 c 0 rfl, Pipeline.RDat.FramePost.arr_in h.1 c 1 rfl, Pipeline.RDat.FramePost.arr_in h.1 c 2 rfl,
      Pipeline.RDat.FramePost.arr_in h.1 c 3 rfl, Pipeline.RDat.FramePost.arr_in h.1 c 4 rfl, Pipeline.RDat.FramePost.arr_in h.1 c 5 rfl⟩, h.2⟩)
    (run_main m ρ)

end Cert.Kernel.Hand

end
-- ==== Proof.Post.Stage.lean ====
/-
  The stages of one tile of the layer's tail, as vectors: the projection and the normalisation of the rows, a column chunk
  of the widening product, its convolution over the eight rows before the tile, the gated activation, the rows left to the
  next tile, and the narrowing product with its normalisation.
-/
module

public import proofs.«01_k».proof.Proof.Gen.Kernel2Ideal.Skeleton
public import Idealize.ShloMosaic.Lib.Pipeline.FrameBody

@[expose] public section

set_option maxRecDepth 16384

noncomputable section

namespace Cert.Kernel2Ideal.Post

open Cert.Kernel2Ideal Cert.Kernel2Ideal.Gen
open Idealize.ShloMosaic Idealize.ShloMosaic.TcCoe Idealize.SL.Sem

variable {F : FTy → Type} [FloatOps F]

/-- The rows after the first normalisation: `LN(α·x + a·W₁ + b·W₂)`, the product in two halves. -/
def rows (x : Vec F S1x256x1024 .f32) (a b : Vec F S1x256x512 .bf16) (w : Vec F S1024x1024 .bf16)
    (g s : Vec F S1x1x1024 .f32) : FVec F S256x1024 .f32 :=
  let w1 : Vec F S512x1024 .bf16 := View.ld (Val := Elt F) w (Rect.unit (s := S1024x1024) ![0, 0] S512x1024.size (by decide))
  let w2 : Vec F S512x1024 .bf16 := View.ld (Val := Elt F) w (Rect.unit (s := S1024x1024) ![512, 0] S512x1024.size (by decide))
  k0_pay7 (k0_pay3 g) (k0_pay4 s) (k0_pay5 a w1 b w2 x) (k0_pay6 a w1 b w2 x)

/-- Column chunk `k` (256 columns from `256 k`) of the widening weights. -/
def chunk (w : Vec F S1x1024x5632 .bf16) (k : Fin 22) : FVec F S1024x256 .bf16 :=
  shapeCast S1024x256 (View.ld (Val := Elt F) w (Rect.unit (s := S1x1024x5632) ![0, 0, 256 * k.val] S1x1024x256.size
      (by intro a; fin_cases a <;> simp; omega)) : Vec F S1x1024x256 .bf16) shapeCasts_S1x1024x256_S1024x256

/-- That chunk's columns of the widening product of the rounded rows. -/
def hu (y : FVec F S256x1024 .f32) (w : Vec F S1x1024x5632 .bf16) (k : Fin 22) : FVec F S256x256 .f32 :=
  matmul dot_S256x1024_S1024x256_S256x256_1_0_0_1_n_n none (truncf .bf16 y bitsLt_bf16_f32) (chunk w k)
    (constant S256x256 .f32 0x00000000#32)

/-- Row `n` of the convolution's kernel of width three, chunk `k`, on every row of the tile. -/
def tap (w : Vec F S1x3x5632 .f32) (n : Fin 3) (k : Fin 22) : FVec F S256x256 .f32 :=
  broadcastTo S256x256 (shapeCast S1x256 (View.ld (Val := Elt F) w (Rect.unit (s := S1x3x5632) ![0, n.val, 256 * k.val]
    S1x1x256.size (by intro a; fin_cases a <;> simp <;> omega)) : Vec F S1x1x256 .f32) shapeCasts_S1x1x256_S1x256)
    broadcasts_S1x256_S256x256

/-- The convolution's bias, chunk `k`, on every row of the tile. -/
def bias (b : Vec F S1x1x5632 .f32) (k : Fin 22) : FVec F S256x256 .f32 :=
  broadcastTo S256x256 (shapeCast S1x256 (View.ld (Val := Elt F) b (Rect.unit (s := S1x1x5632) ![0, 0, 256 * k.val]
    S1x1x256.size (by intro a; fin_cases a <;> simp; omega)) : Vec F S1x1x256 .f32) shapeCasts_S1x1x256_S1x256)
    broadcasts_S1x256_S256x256

/-- Chunk `k` of the eight rows before the tile. -/
def hist (H : Vec F S8x5632 .f32) (k : Fin 22) : Vec F S8x256 .f32 :=
  View.ld (Val := Elt F) H (Rect.unit (s := S8x5632) ![0, 256 * k.val] S8x256.size
    (by intro a; fin_cases a <;> simp; omega))

/-- The eight rows before the tile on top of the tile's own. -/
def ext (H : Vec F S8x256 .f32) (h : FVec F S256x256 .f32) : FVec F S264x256 .f32 :=
  concatenate S264x256 0 [⟨S8x256, H⟩, ⟨S256x256, h⟩] concatenates_S8x256_S256x256_S264x256_d0

/-- Chunk `k` after the convolution. -/
def conv (y : FVec F S256x1024 .f32) (w : Vec F S1x1024x5632 .bf16) (cw : Vec F S1x3x5632 .f32) (cb : Vec F S1x1x5632 .f32)
    (H : Vec F S8x5632 .f32) (k : Fin 22) : FVec F S256x256 .f32 :=
  addf (addf (addf (mulf (hu y w k) (tap cw 2 k))
    (mulf (extractStridedSlice S256x256 ![8, 0] (dynamicRotate 0 1#32 none (ext (hist H k) (hu y w k)) rotates_S264x256_d0)
      slices_S264x256_o8_0_S256x256) (tap cw 1 k)))
    (mulf (extractStridedSlice S256x256 ![8, 0] (dynamicRotate 0 2#32 none (ext (hist H k) (hu y w k)) rotates_S264x256_d0)
      slices_S264x256_o8_0_S256x256) (tap cw 0 k))) (bias cb k)

/-- Chunk `j` of the gated activation: the gate is chunk `j`, what it gates chunk `11 + j`. -/
def act (y : FVec F S256x1024 .f32) (w : Vec F S1x1024x5632 .bf16) (cw : Vec F S1x3x5632 .f32) (cb : Vec F S1x1x5632 .f32)
    (H : Vec F S8x5632 .f32) (j : Fin 11) : FVec F S256x256 .bf16 :=
  shapeCast S256x256 (truncf .bf16 (mulf (mulf (conv y w cw cb H ⟨j.val, by omega⟩)
    (logistic (conv y w cw cb H ⟨j.val, by omega⟩))) (conv y w cw cb H ⟨11 + j.val, by omega⟩)) bitsLt_bf16_f32)
    shapeCasts_S256x256_S256x256

/-- The store of chunk `j` of the activation. -/
def actPiece (y : FVec F S256x1024 .f32) (w : Vec F S1x1024x5632 .bf16) (cw : Vec F S1x3x5632 .f32) (cb : Vec F S1x1x5632 .f32)
    (H : Vec F S8x5632 .f32) (j : Fin 11) : View.Piece (Elt F) S256x2816 .bf16 :=
  ⟨Rect.unit (s := S256x2816) ![0, 256 * j.val] S256x256.size (by intro a; fin_cases a <;> simp; omega), act y w cw cb H j⟩

/-- The activation's stores, last first. -/
def acts (y : FVec F S256x1024 .f32) (w : Vec F S1x1024x5632 .bf16) (cw : Vec F S1x3x5632 .f32) (cb : Vec F S1x1x5632 .f32)
    (H : Vec F S8x5632 .f32) : List (View.Piece (Elt F) S256x2816 .bf16) :=
  ([10, 9, 8, 7, 6, 5, 4, 3, 2, 1, 0] : List (Fin 11)).map (actPiece y w cw cb H)

/-- The last eight rows of chunk `k` of the widening product. -/
def last (y : FVec F S256x1024 .f32) (w : Vec F S1x1024x5632 .bf16) (k : Fin 22) : FVec F S8x256 .f32 :=
  shapeCast S8x256 (extractStridedSlice S8x256 ![248, 0] (hu y w k) slices_S256x256_o248_0_S8x256) shapeCasts_S8x256_S8x256

/-- The same rows, as stored in the state's block. -/
def lastRow (y : FVec F S256x1024 .f32) (w : Vec F S1x1024x5632 .bf16) (k : Fin 22) : FVec F S1x8x256 .f32 :=
  shapeCast S1x8x256 (extractStridedSlice S8x256 ![248, 0] (hu y w k) slices_S256x256_o248_0_S8x256) shapeCasts_S8x256_S1x8x256

def lastPiece (y : FVec F S256x1024 .f32) (w : Vec F S1x1024x5632 .bf16) (k : Fin 22) : View.Piece (Elt F) S8x5632 .f32 :=
  ⟨Rect.unit (s := S8x5632) ![0, 256 * k.val] S8x256.size (by intro a; fin_cases a <;> simp; omega), last y w k⟩

def lastRowPiece (y : FVec F S256x1024 .f32) (w : Vec F S1x1024x5632 .bf16) (k : Fin 22) : View.Piece (Elt F) S1x8x5632 .f32 :=
  ⟨Rect.unit (s := S1x8x5632) ![0, 0, 256 * k.val] S1x8x256.size (by intro a; fin_cases a <;> simp; omega), lastRow y w k⟩

/-- The order in which the chunks are stored, last first. -/
def order : List (Fin 22) := [21, 10, 20, 9, 19, 8, 18, 7, 17, 6, 16, 5, 15, 4, 14, 3, 13, 2, 12, 1, 11, 0]

/-- The narrowing product of the activation `z` over the rows, and its normalisation. -/
def out (y : FVec F S256x1024 .f32) (z : Vec F S256x2816 .bf16) (w : Vec F S1x2816x1024 .bf16) (g s : Vec F S1x1x1024 .f32) :
    FVec F S1x256x1024 .f32 :=
  k0_pay1 (k0_pay162 g) (k0_pay163 s) (k0_pay164 (k0_pay161 y) z w) (k0_pay165 (k0_pay161 y) z w)

end Cert.Kernel2Ideal.Post

end
-- ==== Proof.Post.Spec.lean ====
/-
  The layer's tail on one row, over the extended reals: what both programs compute, stated once. A row is a function of the
  column; the convolution sees its own row and the two before.
-/
module

public import Idealize.ShloMosaic.Lib.Pointwise

@[expose] public section

noncomputable section

namespace Cert.Tail

open Idealize.ShloMosaic

/-- The residual's weight, the row's length and the variance's offset, as the programs print them. -/
def alpha : EReal := Ideal.ofBits .f32 0x3FB504F3#32
def count : EReal := Ideal.ofBits .f32 0x44800000#32
def eps : EReal := Ideal.ofBits .f32 0x3727C5AC#32

/-- A row's mean. -/
def mean (v : Fin 1024 → EReal) : EReal := Ideal.div (∑ k, v k) count

/-- A row normalised, scaled and shifted. -/
def norm (v g s : Fin 1024 → EReal) (j : Fin 1024) : EReal :=
  (v j - mean v) * Ideal.rsqrt (mean (fun k => (v k - mean v) * (v k - mean v)) + eps) * g j + s j

/-- The residual plus the projection of the mixer's output, whose two halves are `a` and `b`. -/
def mix (x : Fin 1024 → EReal) (a b : Fin 512 → EReal) (w : Fin 1024 → Fin 1024 → EReal) (j : Fin 1024) : EReal :=
  alpha * x j + ((∑ k : Fin 512, a k * w ⟨k.val, by omega⟩ j) + ∑ k : Fin 512, b k * w ⟨512 + k.val, by omega⟩ j)

/-- The widening product's row. -/
def up (y : Fin 1024 → EReal) (w : Fin 1024 → Fin 5632 → EReal) (j : Fin 5632) : EReal := ∑ d, y d * w d j

/-- The convolution at one column: the row `h0`, the one before it and the one before that. -/
def conv (h0 h1 h2 : Fin 5632 → EReal) (w : Fin 3 → Fin 5632 → EReal) (b : Fin 5632 → EReal) (j : Fin 5632) : EReal :=
  h0 j * w 2 j + h1 j * w 1 j + h2 j * w 0 j + b j

/-- The activation: the first half of the columns gates the second. -/
def gated (c : Fin 5632 → EReal) (q : Fin 2816) : EReal :=
  c ⟨q.val, by omega⟩ * Ideal.logistic (c ⟨q.val, by omega⟩) * c ⟨2816 + q.val, by omega⟩

/-- The residual plus the narrowing product. -/
def down (y : Fin 1024 → EReal) (z : Fin 2816 → EReal) (w : Fin 2816 → Fin 1024 → EReal) (j : Fin 1024) : EReal :=
  alpha * y j + ∑ k, z k * w k j

/-- The row `n` before row `p` of a sequence, zero before its first. -/
def prev (u : ℕ → Fin 5632 → EReal) (n p : ℕ) (j : Fin 5632) : EReal := if n ≤ p then u (p - n) j else 0

/-- Row `p` after the convolution. -/
def convRow (u : ℕ → Fin 5632 → EReal) (w : Fin 3 → Fin 5632 → EReal) (b : Fin 5632 → EReal) (p : ℕ) : Fin 5632 → EReal :=
  conv (prev u 0 p) (prev u 1 p) (prev u 2 p) w b

/-- The tail on row `p`, `u` the widening product's rows, `y` the row after the first normalisation. -/
def tail (u : ℕ → Fin 5632 → EReal) (w : Fin 3 → Fin 5632 → EReal) (b : Fin 5632 → EReal) (y : Fin 1024 → EReal)
    (wd : Fin 2816 → Fin 1024 → EReal) (g s : Fin 1024 → EReal) (p : ℕ) : Fin 1024 → EReal :=
  norm (down y (gated (convRow u w b p)) wd) g s

/-- Row `p` of a sequence after the first normalisation. -/
def yRow (x : Fin 4096 → Fin 1024 → EReal) (a b : Fin 4096 → Fin 512 → EReal) (w : Fin 1024 → Fin 1024 → EReal)
    (g s : Fin 1024 → EReal) (p : Fin 4096) : Fin 1024 → EReal :=
  norm (mix (x p) (a p) (b p) w) g s

/-- Row `p` of a sequence's widening product. -/
def uRow (y : Fin 4096 → Fin 1024 → EReal) (w : Fin 1024 → Fin 5632 → EReal) (p : ℕ) : Fin 5632 → EReal :=
  if h : p < 4096 then up (y ⟨p, h⟩) w else fun _ => 0

theorem uRow_of_lt (y : Fin 4096 → Fin 1024 → EReal) (w : Fin 1024 → Fin 5632 → EReal) (p : ℕ) (h : p < 4096) :
    uRow y w p = up (y ⟨p, h⟩) w := dif_pos h

end Cert.Tail

end
-- ==== Proof.Post.Read.lean ====
/-
  The stages read at one element, over the extended reals: each is the row function of the same name.
-/
module

public import proofs.«01_k».proof.Proof.Post.Stage
public import proofs.«01_k».proof.Proof.Post.Spec
public import Idealize.ShloMosaic.Lib.Pointwise
public import Idealize.ShloMosaic.Lib.Pipeline.ValueKit.Tiles

@[expose] public section

set_option maxRecDepth 16384

noncomputable section

namespace Cert.Kernel2Ideal.Post

open Cert.Kernel2Ideal Cert.Kernel2Ideal.Gen
open Idealize.ShloMosaic Idealize.ShloMosaic.TcCoe Idealize.SL.Sem

/-- The residual plus the projection, less its row's mean. -/
theorem centred_apply (x : Vec Ideal S1x256x1024 .f32) (a b : Vec Ideal S1x256x512 .bf16) (w1 w2 : Vec Ideal S512x1024 .bf16)
    (r : Fin 256) (j : Fin 1024) :
    k0_pay5 a w1 b w2 x (ix2 r j) =
      (fun v : Fin 1024 → EReal => v j - Tail.mean v) fun j => Tail.alpha * (show EReal from x (ix3 0 r j))
        + ((∑ k : Fin 512, (show EReal from a (ix3 0 r k)) * (show EReal from w1 (ix2 k j)))
          + ∑ k : Fin 512, (show EReal from b (ix3 0 r k)) * (show EReal from w2 (ix2 k j))) := by
  pointwise [k0_pay5, Tail.mean, Tail.alpha, Tail.count]

/-- A centred row scaled by its deviation, then by the weights, and shifted. -/
theorem scaled_apply (g s : FVec Ideal S1x1024 .f32) (v q : FVec Ideal S256x1024 .f32) (r : Fin 256) (j : Fin 1024) :
    k0_pay7 g s v q (ix2 r j) = v (ix2 r j) * Ideal.rsqrt (Tail.mean (fun k => q (ix2 r k)) + Tail.eps) * g (ix2 0 j)
      + s (ix2 0 j) := by
  pointwise [k0_pay7, Tail.mean, Tail.eps, Tail.count]

theorem rows_apply (x : Vec Ideal S1x256x1024 .f32) (a b : Vec Ideal S1x256x512 .bf16) (w : Vec Ideal S1024x1024 .bf16)
    (g s : Vec Ideal S1x1x1024 .f32) (r : Fin 256) (j : Fin 1024) :
    rows x a b w g s (ix2 r j) = Tail.norm (Tail.mix (fun k => x (ix3 0 r k)) (fun k => a (ix3 0 r k)) (fun k => b (ix3 0 r k))
      (fun k j => w (ix2 k j))) (fun k => g (ix3 0 0 k)) (fun k => s (ix3 0 0 k)) j := by
  pointwise [rows, scaled_apply, k0_pay6, centred_apply, k0_pay3, k0_pay4, Tail.norm, Tail.mix]
  all_goals rfl

theorem chunk_apply (w : Vec Ideal S1x1024x5632 .bf16) (k : Fin 22) (d : Fin 1024) (l : Fin 256) :
    chunk w k (ix2 d l) = w (ix3 0 d ⟨256 * k.val + l.val, by omega⟩) := by
  have h (X : Vec Ideal S1x1024x256 .bf16) : shapeCast S1024x256 X shapeCasts_S1x1024x256_S1024x256 (ix2 d l) = X (ix3 0 d l) := by
    pointwise
  unfold chunk
  rw [h]
  refine congrArg w ?_
  funext a
  apply Fin.ext
  rw [Rect.idx_unit_val]
  fin_cases a <;> simp [ix3]

theorem hu_apply (y : FVec Ideal S256x1024 .f32) (w : Vec Ideal S1x1024x5632 .bf16) (k : Fin 22) (r l : Fin 256) :
    hu y w k (ix2 r l) = Tail.up (fun d => y (ix2 r d)) (fun d j => w (ix3 0 d j)) ⟨256 * k.val + l.val, by omega⟩ := by
  pointwise [hu, chunk_apply, Tail.up]

theorem tap_apply (w : Vec Ideal S1x3x5632 .f32) (n : Fin 3) (k : Fin 22) (r l : Fin 256) :
    tap w n k (ix2 r l) = w (ix3 0 n ⟨256 * k.val + l.val, by omega⟩) := by
  pointwise [tap]

theorem bias_apply (b : Vec Ideal S1x1x5632 .f32) (k : Fin 22) (r l : Fin 256) :
    bias b k (ix2 r l) = b (ix3 0 0 ⟨256 * k.val + l.val, by omega⟩) := by
  pointwise [bias]

/-- The convolution reads the two rows before each row: in the tile, or in the eight rows kept before it. -/
theorem conv_apply (y : FVec Ideal S256x1024 .f32) (w : Vec Ideal S1x1024x5632 .bf16) (cw : Vec Ideal S1x3x5632 .f32)
    (cb : Vec Ideal S1x1x5632 .f32) (H : Vec Ideal S8x5632 .f32) (u : ℕ → Fin 5632 → EReal) (p : ℕ)
    (hu0 : ∀ r : Fin 256, Tail.up (fun d => y (ix2 r d)) (fun d j => w (ix3 0 d j)) = u (p + r.val))
    (hH : ∀ (i : Fin 8) (j : Fin 5632), H (ix2 i j) = Tail.prev u (8 - i.val) p j) (k : Fin 22) (r l : Fin 256) :
    conv y w cw cb H k (ix2 r l) = Tail.convRow u (fun n j => cw (ix3 0 n j)) (fun j => cb (ix3 0 0 j)) (p + r.val)
      ⟨256 * k.val + l.val, by omega⟩ := by
  pointwise [conv, ext, hist, hu_apply, tap_apply, bias_apply]
  simp only [Tail.convRow, Tail.conv, hu0, hH]
  have e1 : (8 + r.val + 264 - 1) % 264 = r.val + 7 := by omega
  have e2 : (8 + r.val + 264 - 2) % 264 = r.val + 6 := by omega
  simp only [e1, e2, Tail.prev]
  refine congrArg₂ (· + ·) (congrArg₂ (· + ·) (congrArg₂ (· + ·) ?_ ?_) ?_) rfl
  · simp
  · refine congrArg₂ (· * ·) ?_ rfl
    split_ifs with h1 h2 h3 h3 <;> first | omega | rfl | exact congrFun (congrArg u (by omega)) _
  · refine congrArg₂ (· * ·) ?_ rfl
    split_ifs with h1 h2 h3 h3 <;> first | omega | rfl | exact congrFun (congrArg u (by omega)) _

/-- The activation's chunk. -/
theorem act_apply (y : FVec Ideal S256x1024 .f32) (w : Vec Ideal S1x1024x5632 .bf16) (cw : Vec Ideal S1x3x5632 .f32)
    (cb : Vec Ideal S1x1x5632 .f32) (H : Vec Ideal S8x5632 .f32) (u : ℕ → Fin 5632 → EReal) (p : ℕ)
    (hu0 : ∀ r : Fin 256, Tail.up (fun d => y (ix2 r d)) (fun d j => w (ix3 0 d j)) = u (p + r.val))
    (hH : ∀ (i : Fin 8) (j : Fin 5632), H (ix2 i j) = Tail.prev u (8 - i.val) p j) (k : Fin 11) (r l : Fin 256) :
    act y w cw cb H k (ix2 r l) = Tail.gated (Tail.convRow u (fun n j => cw (ix3 0 n j)) (fun j => cb (ix3 0 0 j)) (p + r.val))
      ⟨256 * k.val + l.val, by omega⟩ := by
  pointwise [act]
  simp only [conv_apply y w cw cb H u p hu0 hH, Tail.gated]
  congr 3
  omega

/-- The rows left to the next tile. -/
theorem last_apply (y : FVec Ideal S256x1024 .f32) (w : Vec Ideal S1x1024x5632 .bf16) (k : Fin 22) (i : Fin 8) (l : Fin 256) :
    last y w k (ix2 i l) = Tail.up (fun d => y (ix2 ⟨248 + i.val, by omega⟩ d)) (fun d j => w (ix3 0 d j))
      ⟨256 * k.val + l.val, by omega⟩ := by
  pointwise [last, hu_apply]

/-- The same rows, in the state's block. -/
theorem lastRow_apply (y : FVec Ideal S256x1024 .f32) (w : Vec Ideal S1x1024x5632 .bf16) (k : Fin 22) (i : Fin 8) (l : Fin 256) :
    lastRow y w k (ix3 0 i l) = Tail.up (fun d => y (ix2 ⟨248 + i.val, by omega⟩ d)) (fun d j => w (ix3 0 d j))
      ⟨256 * k.val + l.val, by omega⟩ := by
  pointwise [lastRow, hu_apply]

/-- The residual plus the narrowing product, less its row's mean. -/
theorem centred2_apply (y : FVec Ideal S256x1024 .f32) (z : Vec Ideal S256x2816 .bf16) (w : Vec Ideal S1x2816x1024 .bf16)
    (r : Fin 256) (j : Fin 1024) :
    k0_pay164 (k0_pay161 y) z w (ix2 r j) = (fun v : Fin 1024 → EReal => v j - Tail.mean v)
      (Tail.down (fun k => y (ix2 r k)) (fun k => z (ix2 r k)) (fun k j => w (ix3 0 k j))) := by
  pointwise [k0_pay164, k0_pay161, Tail.down, Tail.mean, Tail.alpha, Tail.count]

/-- The reciprocal deviation of a centred row. -/
theorem deviation_apply (y : FVec Ideal S256x1024 .f32) (z : Vec Ideal S256x2816 .bf16) (w : Vec Ideal S1x2816x1024 .bf16)
    (r : Fin 256) (j : Fin 1024) :
    k0_pay165 y z w (ix2 r j) = Ideal.rsqrt (Tail.mean (fun k => k0_pay164 y z w (ix2 r k) * k0_pay164 y z w (ix2 r k))
      + Tail.eps) := by
  pointwise [k0_pay165, Tail.mean, Tail.eps, Tail.count]

theorem out_apply (y : FVec Ideal S256x1024 .f32) (z : Vec Ideal S256x2816 .bf16) (w : Vec Ideal S1x2816x1024 .bf16)
    (g s : Vec Ideal S1x1x1024 .f32) (r : Fin 256) (j : Fin 1024) :
    out y z w g s (ix3 0 r j) = Tail.norm (Tail.down (fun k => y (ix2 r k)) (fun k => z (ix2 r k)) (fun k j => w (ix3 0 k j)))
      (fun k => g (ix3 0 0 k)) (fun k => s (ix3 0 0 k)) j := by
  pointwise [out, k0_pay1, deviation_apply, centred2_apply, k0_pay162, k0_pay163, Tail.norm]
  all_goals rfl

end Cert.Kernel2Ideal.Post

end
-- ==== Proof.Post.Tile.lean ====
/-
  What the stores of a tile leave, read at one element: the activation, the state's block and the rows kept for the next tile.
-/
module

public import proofs.«01_k».proof.Proof.Post.Read
public import Idealize.ShloMosaic.Lib.Pipeline.ValueKit
public import Idealize.ShloMosaic.Lib.Ring
public import Idealize.ShloMosaic.Lib.Pipeline.CanonAppend

@[expose] public section

set_option maxRecDepth 16384

noncomputable section

namespace Cert.Kernel2Ideal.Post

open Cert.Kernel2Ideal Cert.Kernel2Ideal.Gen
open Idealize.ShloMosaic Idealize.ShloMosaic.TcCoe Idealize.SL.Sem

/-- The activation's stores cover its buffer. -/
theorem acts_cover (y : FVec Ideal S256x1024 .f32) (w : Vec Ideal S1x1024x5632 .bf16) (cw : Vec Ideal S1x3x5632 .f32)
    (cb : Vec Ideal S1x1x5632 .f32) (H : Vec Ideal S8x5632 .f32) (i : S256x2816.Idx) :
    ∃ p ∈ acts y w cw cb H, i ∈ p.1.set :=
  View.cover_of_tiledL (s := S256x2816) _ S256x256.size (by sl_kernel_rfl) i

/-- The activation read back. -/
theorem acts_apply (v : View sig .tc .vmem S256x2816 .bf16) (y : FVec Ideal S256x1024 .f32) (w : Vec Ideal S1x1024x5632 .bf16)
    (cw : Vec Ideal S1x3x5632 .f32) (cb : Vec Ideal S1x1x5632 .f32) (H : Vec Ideal S8x5632 .f32) (u : ℕ → Fin 5632 → EReal) (p : ℕ)
    (hu0 : ∀ r : Fin 256, Tail.up (fun d => y (ix2 r d)) (fun d j => w (ix3 0 d j)) = u (p + r.val))
    (hH : ∀ (i : Fin 8) (j : Fin 5632), H (ix2 i j) = Tail.prev u (8 - i.val) p j) (r : Fin 256) (q : Fin 2816) :
    v.readCov (acts y w cw cb H) (Rect.unit ![0, 0] S256x2816.size (by decide)).toLoadRect (ix2 r q) =
      Tail.gated (Tail.convRow u (fun n j => cw (ix3 0 n j)) (fun j => cb (ix3 0 0 j)) (p + r.val)) q := by
  rw [View.readCov_eq_canon']
  refine (View.canon_apply_of_pieces (fun i : S256x2816.Idx =>
    Tail.gated (Tail.convRow u (fun n j => cw (ix3 0 n j)) (fun j => cb (ix3 0 0 j)) (p + (i 0).val)) (i 1)) _ ?_ _
    (acts_cover y w cw cb H _)).trans ?_
  · intro pc hp x
    obtain ⟨k, -, rfl⟩ := List.mem_map.1 hp
    revert x
    intro (x : S256x256.Idx)
    rw [eq_ix2 x]
    refine (act_apply y w cw cb H u p hu0 hH k (x 0) (x 1)).trans ?_
    congr 1
    · refine congrArg (fun n => Tail.convRow u _ _ (p + n)) ?_
      unfold actPiece; rw [ValueKit.rect_emb_unit_val]; simp
    · apply Fin.ext
      unfold actPiece; rw [ValueKit.rect_emb_unit_val]; simp
  · congr 1
    · congr 1
      simp
    · apply Fin.ext
      simp

/-- The state's block. -/
theorem lastRows_apply (y : FVec Ideal S256x1024 .f32) (w : Vec Ideal S1x1024x5632 .bf16) (i : Fin 8) (j : Fin 5632) :
    View.canon (order.map (lastRowPiece y w)) (ix3 0 i j) =
      Tail.up (fun d => y (ix2 ⟨248 + i.val, by omega⟩ d)) (fun d j => w (ix3 0 d j)) j := by
  refine (View.canon_apply_of_pieces (fun i : S1x8x5632.Idx =>
    Tail.up (fun d => y (ix2 ⟨248 + (i 1).val, by have : (i 1).val < 8 := (i 1).isLt; omega⟩ d)) (fun d j => w (ix3 0 d j)) (i 2)) _ ?_ _
    (View.cover_of_tiledL (s := S1x8x5632) _ S1x8x256.size (by sl_kernel_rfl) _)).trans rfl
  intro pc hp x
  obtain ⟨k, -, rfl⟩ := List.mem_map.1 hp
  revert x
  intro (x : S1x8x256.Idx)
  obtain ⟨a, b, rfl⟩ : ∃ (a : Fin 8) (b : Fin 256), x = ix3 0 a b := by
    refine ⟨x 1, x 2, ?_⟩
    rw [eq_ix3 x]; congr 1; exact Fin.ext (show (x 0).val = 0 from Nat.lt_one_iff.1 (x 0).isLt)
  refine (lastRow_apply y w k a b).trans ?_
  congr 1
  · funext d; refine congrArg (fun a => y (ix2 a d)) (Fin.ext (congrArg (248 + ·) ?_)); unfold lastRowPiece; rw [ValueKit.rect_emb_unit_val]; simp
  · apply Fin.ext; unfold lastRowPiece; rw [ValueKit.rect_emb_unit_val]; simp

/-- The rows kept for the next tile, whatever was stored before them. -/
theorem last_kept_apply (y : FVec Ideal S256x1024 .f32) (w : Vec Ideal S1x1024x5632 .bf16)
    (L : List (View.Piece (Elt Ideal) S8x5632 .f32)) (i : Fin 8) (j : Fin 5632) :
    View.canon (order.map (lastPiece y w) ++ L) (ix2 i j) =
      Tail.up (fun d => y (ix2 ⟨248 + i.val, by omega⟩ d)) (fun d j => w (ix3 0 d j)) j := by
  refine (View.canon_append_of_pieces (fun i : S8x5632.Idx =>
    Tail.up (fun d => y (ix2 ⟨248 + (i 0).val, by have : (i 0).val < 8 := (i 0).isLt; omega⟩ d)) (fun d j => w (ix3 0 d j)) (i 1)) L _ ?_ _
    (View.cover_of_tiledL (s := S8x5632) _ S8x256.size (by sl_kernel_rfl) _)).trans rfl
  intro pc hp x
  obtain ⟨k, -, rfl⟩ := List.mem_map.1 hp
  revert x
  intro (x : S8x256.Idx)
  rw [eq_ix2 x]
  refine (last_apply y w k (x 0) (x 1)).trans ?_
  congr 1
  · funext d; refine congrArg (fun a => y (ix2 a d)) (Fin.ext (congrArg (248 + ·) ?_)); unfold lastPiece; rw [ValueKit.rect_emb_unit_val]; simp
  · apply Fin.ext; unfold lastPiece; rw [ValueKit.rect_emb_unit_val]; simp

end Cert.Kernel2Ideal.Post

end
-- ==== Proof.Post.RunA.lean ====
/-
  What the body of a grid point leaves, in the stages' terms: the output's block, the state's block and the eight rows kept
  for the next tile. At the first tile of a sequence, the rows before are zero.
-/
module

public import proofs.«01_k».proof.Proof.Gen.Kernel2Ideal.Frame
public import proofs.«01_k».proof.Proof.Post.Stage
public import Idealize.ShloMosaic.Lib.Pipeline.Value
public import Idealize.ShloMosaic.Lib.Pipeline.ReadBack

@[expose] public section

set_option maxRecDepth 16384

noncomputable section

namespace Cert.Kernel2Ideal.Post

open Cert.Kernel2Ideal Cert.Kernel2Ideal.Gen
open Idealize.ShloMosaic Idealize.ShloMosaic.TcCoe Idealize.SL.Sem

variable {F : FTy → Type} [FloatOps F]
variable (c : Dev nD) (i : grid0.Coords) (arg2 : Memref sig .tc .vmem S1x256x1024 .f32) (harg2 : arg2.IsWhole)
    (arg3 : Memref sig .tc .vmem S1x256x512 .bf16) (harg3 : arg3.IsWhole) (arg4 : Memref sig .tc .vmem S1x256x512 .bf16)
    (harg4 : arg4.IsWhole) (arg5 : Memref sig .tc .vmem S1024x1024 .bf16) (harg5 : arg5.IsWhole)
    (arg6 : Memref sig .tc .vmem S1x1x1024 .f32) (harg6 : arg6.IsWhole) (arg7 : Memref sig .tc .vmem S1x1x1024 .f32)
    (harg7 : arg7.IsWhole) (arg8 : Memref sig .tc .vmem S1x1024x5632 .bf16) (harg8 : arg8.IsWhole)
    (arg9 : Memref sig .tc .vmem S1x3x5632 .f32) (harg9 : arg9.IsWhole) (arg10 : Memref sig .tc .vmem S1x1x5632 .f32)
    (harg10 : arg10.IsWhole) (arg11 : Memref sig .tc .vmem S1x2816x1024 .bf16) (harg11 : arg11.IsWhole)
    (arg12 : Memref sig .tc .vmem S1x1x1024 .f32) (harg12 : arg12.IsWhole) (arg13 : Memref sig .tc .vmem S1x1x1024 .f32)
    (harg13 : arg13.IsWhole) (arg14 : Memref sig .tc .vmem S1x256x1024 .f32) (harg14 : arg14.IsWhole)
    (arg15 : Memref sig .tc .vmem S1x8x5632 .f32) (harg15 : arg15.IsWhole) (arg16 : Memref sig .tc .vmem S256x2816 .bf16)
    (harg16 : arg16.IsWhole) (arg17 : Memref sig .tc .vmem S8x5632 .f32) (harg17 : arg17.IsWhole)
    (hc0 : cond0_0 i)
    (x0 : Vec F S1x256x1024 .f32) (x1 : Vec F S1x256x512 .bf16) (x2 : Vec F S1x256x512 .bf16)
    (x3 : Vec F S1024x1024 .bf16) (x4 : Vec F S1x1x1024 .f32) (x5 : Vec F S1x1x1024 .f32) (x6 : Vec F S1x1024x5632 .bf16)
    (x7 : Vec F S1x3x5632 .f32) (x8 : Vec F S1x1x5632 .f32) (x9 : Vec F S1x2816x1024 .bf16) (x10 : Vec F S1x1x1024 .f32)
    (x11 : Vec F S1x1x1024 .f32)

/-- The output's block: the narrowing product over the activation's stores read back. -/
theorem out12_A :
    out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0
      x0 x1 x2 x3 x4 x5 x6 x7 x8 x9 x10 x11 =
      out (rows x0 x1 x2 x3 x4 x5) (arg16.view.readCov (acts (rows x0 x1 x2 x3 x4 x5) x6 x7 x8 k0_pay2)
        (Rect.unit ![0, 0] S256x2816.size (by decide)).toLoadRect) x9 x10 x11 := by
  have hz : (![0, 0, 0] : Fin 3 → ℕ) = fun _ => 0 := by funext a; fin_cases a <;> rfl
  unfold out0_A_12
  rw [View.read_writes_eq_canon _ _ _ (cover0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11)]
  unfold kernelRun0_A
  dsimp only
  sl_unfold_words
  rw [View.canon_unit_zero (S := S1x256x1024) hz]
  simp (disch := decide) only [↓View.readCov_skip, ↓View.readCov_fill]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1x256x1024) hz, View.ld_unit_zero (S := S1x256x512) hz, View.ld_unit_zero (S := S1x1x1024) hz, View.ld_unit_zero (S := S1x2816x1024) hz]
  rfl

/-- The state's block: the last eight rows of the widening product, chunk by chunk. -/
theorem out13_A :
    out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0
      x0 x1 x2 x3 x4 x5 x6 x7 x8 x9 x10 x11 =
      View.canon (order.map (lastRowPiece (rows x0 x1 x2 x3 x4 x5) x6)) := by
  have hz : (![0, 0, 0] : Fin 3 → ℕ) = fun _ => 0 := by funext a; fin_cases a <;> rfl
  unfold out0_A_13
  rw [View.read_writes_eq_canon _ _ _ (cover0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1x256x1024) hz, View.ld_unit_zero (S := S1x256x512) hz, View.ld_unit_zero (S := S1x1x1024) hz, View.ld_unit_zero (S := S1x2816x1024) hz]
  rfl

/-- What is kept for the next tile: the same rows, over the zeros. -/
theorem kept_A :
    sout0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0
      x0 x1 x2 x3 x4 x5 x6 x7 x8 x9 x10 x11 =
      View.canon (order.map (lastPiece (rows x0 x1 x2 x3 x4 x5) x6) ++ [⟨Rect.unit ![0, 0] S8x5632.size (by decide), k0_pay2⟩]) := by
  have hz : (![0, 0, 0] : Fin 3 → ℕ) = fun _ => 0 := by funext a; fin_cases a <;> rfl
  unfold sout0_A_1
  rw [View.read_writes_eq_canon _ _ _ (scover0_A_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11)]
  unfold kernelRun0_A
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, View.ld_unit_zero (S := S1x256x1024) hz, View.ld_unit_zero (S := S1x256x512) hz, View.ld_unit_zero (S := S1x1x1024) hz, View.ld_unit_zero (S := S1x2816x1024) hz]
  rfl

end Cert.Kernel2Ideal.Post

end
-- ==== Proof.Post.RunB.lean ====
/-
  What the body of a grid point leaves, in the stages' terms: the output's block, the state's block and the eight rows kept
  for the next tile. At a later tile of a sequence, the rows before are what the tile before left.
-/
module

public import proofs.«01_k».proof.Proof.Gen.Kernel2Ideal.Frame
public import proofs.«01_k».proof.Proof.Post.Stage
public import Idealize.ShloMosaic.Lib.Pipeline.Value
public import Idealize.ShloMosaic.Lib.Pipeline.ReadBack

@[expose] public section

set_option maxRecDepth 16384

noncomputable section

namespace Cert.Kernel2Ideal.Post

open Cert.Kernel2Ideal Cert.Kernel2Ideal.Gen
open Idealize.ShloMosaic Idealize.ShloMosaic.TcCoe Idealize.SL.Sem

variable {F : FTy → Type} [FloatOps F]
variable (c : Dev nD) (i : grid0.Coords) (arg2 : Memref sig .tc .vmem S1x256x1024 .f32) (harg2 : arg2.IsWhole)
    (arg3 : Memref sig .tc .vmem S1x256x512 .bf16) (harg3 : arg3.IsWhole) (arg4 : Memref sig .tc .vmem S1x256x512 .bf16)
    (harg4 : arg4.IsWhole) (arg5 : Memref sig .tc .vmem S1024x1024 .bf16) (harg5 : arg5.IsWhole)
    (arg6 : Memref sig .tc .vmem S1x1x1024 .f32) (harg6 : arg6.IsWhole) (arg7 : Memref sig .tc .vmem S1x1x1024 .f32)
    (harg7 : arg7.IsWhole) (arg8 : Memref sig .tc .vmem S1x1024x5632 .bf16) (harg8 : arg8.IsWhole)
    (arg9 : Memref sig .tc .vmem S1x3x5632 .f32) (harg9 : arg9.IsWhole) (arg10 : Memref sig .tc .vmem S1x1x5632 .f32)
    (harg10 : arg10.IsWhole) (arg11 : Memref sig .tc .vmem S1x2816x1024 .bf16) (harg11 : arg11.IsWhole)
    (arg12 : Memref sig .tc .vmem S1x1x1024 .f32) (harg12 : arg12.IsWhole) (arg13 : Memref sig .tc .vmem S1x1x1024 .f32)
    (harg13 : arg13.IsWhole) (arg14 : Memref sig .tc .vmem S1x256x1024 .f32) (harg14 : arg14.IsWhole)
    (arg15 : Memref sig .tc .vmem S1x8x5632 .f32) (harg15 : arg15.IsWhole) (arg16 : Memref sig .tc .vmem S256x2816 .bf16)
    (harg16 : arg16.IsWhole) (arg17 : Memref sig .tc .vmem S8x5632 .f32) (harg17 : arg17.IsWhole)
    (hc0 : ¬cond0_0 i)
    (x0 : Vec F S1x256x1024 .f32) (x1 : Vec F S1x256x512 .bf16) (x2 : Vec F S1x256x512 .bf16)
    (x3 : Vec F S1024x1024 .bf16) (x4 : Vec F S1x1x1024 .f32) (x5 : Vec F S1x1x1024 .f32) (x6 : Vec F S1x1024x5632 .bf16)
    (x7 : Vec F S1x3x5632 .f32) (x8 : Vec F S1x1x5632 .f32) (x9 : Vec F S1x2816x1024 .bf16) (x10 : Vec F S1x1x1024 .f32)
    (x11 : Vec F S1x1x1024 .f32)
    (xs1 : Vec F S8x5632 .f32)

/-- The output's block: the narrowing product over the activation's stores read back. -/
theorem out12_B :
    out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0
      x0 x1 x2 x3 x4 x5 x6 x7 x8 x9 x10 x11 xs1 =
      out (rows x0 x1 x2 x3 x4 x5) (arg16.view.readCov (acts (rows x0 x1 x2 x3 x4 x5) x6 x7 x8 xs1)
        (Rect.unit ![0, 0] S256x2816.size (by decide)).toLoadRect) x9 x10 x11 := by
  have hz : (![0, 0, 0] : Fin 3 → ℕ) = fun _ => 0 := by funext a; fin_cases a <;> rfl
  unfold out0_B_12
  rw [View.read_writes_eq_canon _ _ _ (cover0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs1)]
  unfold kernelRun0_B
  dsimp only
  sl_unfold_words
  rw [View.canon_unit_zero (S := S1x256x1024) hz]
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg17.read_unread, View.ld_unit_zero (S := S1x256x1024) hz, View.ld_unit_zero (S := S1x256x512) hz, View.ld_unit_zero (S := S1x1x1024) hz, View.ld_unit_zero (S := S1x2816x1024) hz]
  rfl

/-- The state's block: the last eight rows of the widening product, chunk by chunk. -/
theorem out13_B :
    out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0
      x0 x1 x2 x3 x4 x5 x6 x7 x8 x9 x10 x11 xs1 =
      View.canon (order.map (lastRowPiece (rows x0 x1 x2 x3 x4 x5) x6)) := by
  have hz : (![0, 0, 0] : Fin 3 → ℕ) = fun _ => 0 := by funext a; fin_cases a <;> rfl
  unfold out0_B_13
  rw [View.read_writes_eq_canon _ _ _ (cover0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs1)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg17.read_unread, View.ld_unit_zero (S := S1x256x1024) hz, View.ld_unit_zero (S := S1x256x512) hz, View.ld_unit_zero (S := S1x1x1024) hz, View.ld_unit_zero (S := S1x2816x1024) hz]
  rfl

/-- What is kept for the next tile: the same rows. -/
theorem kept_B :
    sout0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0
      x0 x1 x2 x3 x4 x5 x6 x7 x8 x9 x10 x11 xs1 =
      View.canon (order.map (lastPiece (rows x0 x1 x2 x3 x4 x5) x6)) := by
  have hz : (![0, 0, 0] : Fin 3 → ℕ) = fun _ => 0 := by funext a; fin_cases a <;> rfl
  unfold sout0_B_1
  rw [View.read_writes_eq_canon _ _ _ (scover0_B_1 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 x0 x1 x2 x3 x4 x5 x6 x7 x8 x9 x10 x11 xs1)]
  unfold kernelRun0_B
  dsimp only
  sl_unfold_words
  simp only [View.readAt_eq_ld, harg2.read_unread, harg3.read_unread, harg4.read_unread, harg5.read_unread, harg6.read_unread, harg7.read_unread, harg8.read_unread, harg9.read_unread, harg10.read_unread, harg11.read_unread, harg12.read_unread, harg13.read_unread, harg17.read_unread, View.ld_unit_zero (S := S1x256x1024) hz, View.ld_unit_zero (S := S1x256x512) hz, View.ld_unit_zero (S := S1x1x1024) hz, View.ld_unit_zero (S := S1x2816x1024) hz]
  rfl

end Cert.Kernel2Ideal.Post

end
-- ==== Proof.Post.Blocks.lean ====
/-
  The blocks of a grid point as the arrays they come from: point `t` is tile `t % 16` of sequence `t / 16`; the per-layer
  arrays are read at layer 1.
-/
module

public import proofs.«01_k».proof.Proof.Gen.Kernel2Ideal.Frame
public import Idealize.ShloMosaic.Lib.Pipeline.ValueKit
public import Idealize.ShloMosaic.Lib.Pointwise
public import Idealize.ShloMosaic.Lib.Claim

@[expose] public section

set_option maxRecDepth 16384

noncomputable section

namespace Cert.Kernel2Ideal.Post

open Cert.Kernel2Ideal Cert.Kernel2Ideal.Gen
open Idealize.ShloMosaic Idealize.ShloMosaic.TcCoe Idealize.SL.Sem

variable (m : (ℓ : Loc nD τ sig) → Buf (Elt Ideal) ℓ)

/-- The windows' block indices. -/
theorem idx : ∀ t : Fin cfg0.N, win0_0.index t = ![t.val / 16, t.val % 16, 0] ∧ win0_1.index t = ![t.val / 16, t.val % 16, 0]
    ∧ win0_2.index t = ![t.val / 16, t.val % 16, 0] ∧ win0_3.index t = ![0, 0] ∧ win0_4.index t = ![1, 0, 0]
    ∧ win0_5.index t = ![1, 0, 0] ∧ win0_6.index t = ![1, 0, 0] ∧ win0_7.index t = ![1, 0, 0]
    ∧ win0_8.index t = ![1, 0, 0] ∧ win0_9.index t = ![1, 0, 0] ∧ win0_10.index t = ![1, 0, 0]
    ∧ win0_11.index t = ![1, 0, 0] :=
  (by decide +kernel : ∀ t : Fin grid0.N, _)

theorem seq_lt (t : Fin cfg0.N) : t.val / 16 < 4 := by
  have := t.isLt; have h : cfg0.N = 64 := rfl; omega

theorem row_lt (t : Fin cfg0.N) (r : Fin 256) : 256 * (t.val % 16) + r.val < 4096 := by omega

/-! The arrays as the kernel's arguments hold them. -/

def arr0 (c : Dev nD) : Vec Ideal S4x4096x1024 .f32 := m ((c : Thread nD τ).loc main_arg0)
def arr1 (c : Dev nD) : Vec Ideal S4x4096x512 .f32 := m ((c : Thread nD τ).loc main_arg1)
def arr2 (c : Dev nD) : Vec Ideal S4x4096x512 .f32 := m ((c : Thread nD τ).loc main_arg2)
def arr3 (c : Dev nD) : Vec Ideal S1024x1024 .f32 := m ((c : Thread nD τ).loc main_arg3)
def arr4 (c : Dev nD) : Vec Ideal S2x1024 .f32 := m ((c : Thread nD τ).loc main_arg4)
def arr5 (c : Dev nD) : Vec Ideal S2x1024 .f32 := m ((c : Thread nD τ).loc main_arg5)
def arr6 (c : Dev nD) : Vec Ideal S2x1024x5632 .f32 := m ((c : Thread nD τ).loc main_arg6)
def arr7 (c : Dev nD) : Vec Ideal S2x3x5632 .f32 := m ((c : Thread nD τ).loc main_arg7)
def arr8 (c : Dev nD) : Vec Ideal S2x5632 .f32 := m ((c : Thread nD τ).loc main_arg8)
def arr9 (c : Dev nD) : Vec Ideal S2x2816x1024 .f32 := m ((c : Thread nD τ).loc main_arg9)
def arr10 (c : Dev nD) : Vec Ideal S2x1024 .f32 := m ((c : Thread nD τ).loc main_arg10)
def arr11 (c : Dev nD) : Vec Ideal S2x1024 .f32 := m ((c : Thread nD τ).loc main_arg11)

/-! The blocks of a grid point. -/

def blk0 (c : Dev nD) (t : Fin cfg0.N) : Vec Ideal S1x256x1024 .f32 := iblk m c 0 t
def blk1 (c : Dev nD) (t : Fin cfg0.N) : Vec Ideal S1x256x512 .bf16 := iblk m c 1 t
def blk2 (c : Dev nD) (t : Fin cfg0.N) : Vec Ideal S1x256x512 .bf16 := iblk m c 2 t
def blk3 (c : Dev nD) (t : Fin cfg0.N) : Vec Ideal S1024x1024 .bf16 := iblk m c 3 t
def blk4 (c : Dev nD) (t : Fin cfg0.N) : Vec Ideal S1x1x1024 .f32 := iblk m c 4 t
def blk5 (c : Dev nD) (t : Fin cfg0.N) : Vec Ideal S1x1x1024 .f32 := iblk m c 5 t
def blk6 (c : Dev nD) (t : Fin cfg0.N) : Vec Ideal S1x1024x5632 .bf16 := iblk m c 6 t
def blk7 (c : Dev nD) (t : Fin cfg0.N) : Vec Ideal S1x3x5632 .f32 := iblk m c 7 t
def blk8 (c : Dev nD) (t : Fin cfg0.N) : Vec Ideal S1x1x5632 .f32 := iblk m c 8 t
def blk9 (c : Dev nD) (t : Fin cfg0.N) : Vec Ideal S1x2816x1024 .bf16 := iblk m c 9 t
def blk10 (c : Dev nD) (t : Fin cfg0.N) : Vec Ideal S1x1x1024 .f32 := iblk m c 10 t
def blk11 (c : Dev nD) (t : Fin cfg0.N) : Vec Ideal S1x1x1024 .f32 := iblk m c 11 t

theorem block0 (c : Dev nD) (t : Fin cfg0.N) (r : Fin 256) (d : Fin 1024) :
    blk0 m c t (ix3 0 r d)
      = arr0 m c
        (ix3 ⟨t.val / 16, seq_lt t⟩ ⟨256 * (t.val % 16) + r.val, row_lt t r⟩ d) := by
  unfold blk0 arr0
  blk_ext [iblk, V, idx t]

theorem block1 (c : Dev nD) (t : Fin cfg0.N) (r : Fin 256) (d : Fin 512) :
    blk1 m c t (ix3 0 r d)
      = arr1 m c
        (ix3 ⟨t.val / 16, seq_lt t⟩ ⟨256 * (t.val % 16) + r.val, row_lt t r⟩ d) := by
  unfold blk1 arr1
  blk_simp [iblk]
  entry_read
  pointwise
  blk_ext [idx t]

theorem block2 (c : Dev nD) (t : Fin cfg0.N) (r : Fin 256) (d : Fin 512) :
    blk2 m c t (ix3 0 r d)
      = arr2 m c
        (ix3 ⟨t.val / 16, seq_lt t⟩ ⟨256 * (t.val % 16) + r.val, row_lt t r⟩ d) := by
  unfold blk2 arr2
  blk_simp [iblk]
  entry_read
  pointwise
  blk_ext [idx t]

theorem block3 (c : Dev nD) (t : Fin cfg0.N) (k d : Fin 1024) :
    blk3 m c t (ix2 k d)
      = arr3 m c (ix2 k d) := by
  unfold blk3 arr3
  blk_simp [iblk]
  entry_read
  pointwise
  blk_ext [idx t]

theorem block4 (c : Dev nD) (t : Fin cfg0.N) (d : Fin 1024) :
    blk4 m c t (ix3 0 0 d)
      = arr4 m c (ix2 1 d) := by
  unfold blk4 arr4
  blk_simp [iblk]
  entry_read
  pointwise
  blk_ext [idx t]

theorem block5 (c : Dev nD) (t : Fin cfg0.N) (d : Fin 1024) :
    blk5 m c t (ix3 0 0 d)
      = arr5 m c (ix2 1 d) := by
  unfold blk5 arr5
  blk_simp [iblk]
  entry_read
  pointwise
  blk_ext [idx t]

theorem block6 (c : Dev nD) (t : Fin cfg0.N) (k : Fin 1024) (d : Fin 5632) :
    blk6 m c t (ix3 0 k d)
      = arr6 m c (ix3 1 k d) := by
  unfold blk6 arr6
  blk_simp [iblk]
  entry_read
  pointwise
  blk_ext [idx t]

theorem block7 (c : Dev nD) (t : Fin cfg0.N) (k : Fin 3) (d : Fin 5632) :
    blk7 m c t (ix3 0 k d)
      = arr7 m c (ix3 1 k d) := by
  unfold blk7 arr7
  blk_ext [iblk, V, idx t]

theorem block8 (c : Dev nD) (t : Fin cfg0.N) (d : Fin 5632) :
    blk8 m c t (ix3 0 0 d)
      = arr8 m c (ix2 1 d) := by
  unfold blk8 arr8
  blk_simp [iblk]
  entry_read
  pointwise
  blk_ext [idx t]

theorem block9 (c : Dev nD) (t : Fin cfg0.N) (k : Fin 2816) (d : Fin 1024) :
    blk9 m c t (ix3 0 k d)
      = arr9 m c (ix3 1 k d) := by
  unfold blk9 arr9
  blk_simp [iblk]
  entry_read
  pointwise
  blk_ext [idx t]

theorem block10 (c : Dev nD) (t : Fin cfg0.N) (d : Fin 1024) :
    blk10 m c t (ix3 0 0 d)
      = arr10 m c (ix2 1 d) := by
  unfold blk10 arr10
  blk_simp [iblk]
  entry_read
  pointwise
  blk_ext [idx t]

theorem block11 (c : Dev nD) (t : Fin cfg0.N) (d : Fin 1024) :
    blk11 m c t (ix3 0 0 d)
      = arr11 m c (ix2 1 d) := by
  unfold blk11 arr11
  blk_simp [iblk]
  entry_read
  pointwise
  blk_ext [idx t]

end Cert.Kernel2Ideal.Post

end
-- ==== Proof.Post.Point.lean ====
/-
  One grid point, from its blocks to the rows of its tile; then all the points of a sequence, the eight rows kept between
  them by induction.
-/
module

public import proofs.«01_k».proof.Proof.Post.Tile
public import proofs.«01_k».proof.Proof.Post.RunA
public import proofs.«01_k».proof.Proof.Post.RunB
public import proofs.«01_k».proof.Proof.Post.Blocks
public import proofs.«01_k».proof.Proof.Gen.Kernel2Ideal.Value

@[expose] public section

set_option maxRecDepth 16384

noncomputable section

namespace Cert.Kernel2Ideal.Post

open Cert.Kernel2Ideal Cert.Kernel2Ideal.Gen
open Idealize.ShloMosaic Idealize.ShloMosaic.TcCoe Idealize.SL.Sem

/-- The rows, over any names for the blocks' rows. -/
theorem rows_of (x0 : Vec Ideal S1x256x1024 .f32) (x1 x2 : Vec Ideal S1x256x512 .bf16) (x3 : Vec Ideal S1024x1024 .bf16)
    (x4 x5 : Vec Ideal S1x1x1024 .f32) (r : Fin 256) (x : Fin 1024 → EReal) (a b : Fin 512 → EReal)
    (w : Fin 1024 → Fin 1024 → EReal) (g s : Fin 1024 → EReal) (h0 : ∀ d, x0 (ix3 0 r d) = x d) (h1 : ∀ d, x1 (ix3 0 r d) = a d)
    (h2 : ∀ d, x2 (ix3 0 r d) = b d) (h3 : ∀ k d, x3 (ix2 k d) = w k d) (h4 : ∀ d, x4 (ix3 0 0 d) = g d)
    (h5 : ∀ d, x5 (ix3 0 0 d) = s d) (j : Fin 1024) :
    rows x0 x1 x2 x3 x4 x5 (ix2 r j) = Tail.norm (Tail.mix x a b w) g s j := by
  obtain rfl : (fun d => x0 (ix3 0 r d)) = x := funext h0
  obtain rfl : (fun d => x1 (ix3 0 r d)) = a := funext h1
  obtain rfl : (fun d => x2 (ix3 0 r d)) = b := funext h2
  obtain rfl : (fun k d => x3 (ix2 k d)) = w := funext₂ h3
  obtain rfl : (fun d => x4 (ix3 0 0 d)) = g := funext h4
  obtain rfl : (fun d => x5 (ix3 0 0 d)) = s := funext h5
  exact rows_apply x0 x1 x2 x3 x4 x5 r j

section Tile

variable (x0 : Vec Ideal S1x256x1024 .f32) (x1 x2 : Vec Ideal S1x256x512 .bf16) (x3 : Vec Ideal S1024x1024 .bf16)
    (x4 x5 : Vec Ideal S1x1x1024 .f32) (x6 : Vec Ideal S1x1024x5632 .bf16) (x7 : Vec Ideal S1x3x5632 .f32)
    (x8 : Vec Ideal S1x1x5632 .f32) (x9 : Vec Ideal S1x2816x1024 .bf16) (x10 x11 : Vec Ideal S1x1x1024 .f32)
    (H : Vec Ideal S8x5632 .f32) (y : Fin 256 → Fin 1024 → EReal) (wu : Fin 1024 → Fin 5632 → EReal)
    (cw : Fin 3 → Fin 5632 → EReal) (cb : Fin 5632 → EReal) (wd : Fin 2816 → Fin 1024 → EReal) (g s : Fin 1024 → EReal)
    (u : ℕ → Fin 5632 → EReal) (p : ℕ)
    (hy : ∀ r j, rows x0 x1 x2 x3 x4 x5 (ix2 r j) = y r j) (h6 : ∀ d j, x6 (ix3 0 d j) = wu d j)
    (hu : ∀ r : Fin 256, Tail.up (y r) wu = u (p + r.val))

include hy h6 hu

/-- The output's block. -/
theorem tile_out (v : View sig .tc .vmem S256x2816 .bf16) (h7 : ∀ n j, x7 (ix3 0 n j) = cw n j) (h8 : ∀ j, x8 (ix3 0 0 j) = cb j)
    (h9 : ∀ k j, x9 (ix3 0 k j) = wd k j) (h10 : ∀ j, x10 (ix3 0 0 j) = g j) (h11 : ∀ j, x11 (ix3 0 0 j) = s j)
    (hH : ∀ (i : Fin 8) (j : Fin 5632), H (ix2 i j) = Tail.prev u (8 - i.val) p j) (r : Fin 256) (j : Fin 1024) :
    out (rows x0 x1 x2 x3 x4 x5) (v.readCov (acts (rows x0 x1 x2 x3 x4 x5) x6 x7 x8 H)
        (Rect.unit ![0, 0] S256x2816.size (by decide)).toLoadRect) x9 x10 x11 (ix3 0 r j) =
      Tail.tail u cw cb (y r) wd g s (p + r.val) j := by
  obtain rfl : (fun r j => rows x0 x1 x2 x3 x4 x5 (ix2 r j)) = y := funext₂ hy
  obtain rfl : (fun d j => x6 (ix3 0 d j)) = wu := funext₂ h6
  obtain rfl : (fun n j => x7 (ix3 0 n j)) = cw := funext₂ h7
  obtain rfl : (fun j => x8 (ix3 0 0 j)) = cb := funext h8
  obtain rfl : (fun k j => x9 (ix3 0 k j)) = wd := funext₂ h9
  obtain rfl : (fun j => x10 (ix3 0 0 j)) = g := funext h10
  obtain rfl : (fun j => x11 (ix3 0 0 j)) = s := funext h11
  refine (out_apply _ _ _ _ _ r j).trans ?_
  unfold Tail.tail
  refine congrArg (fun z => Tail.norm (Tail.down _ z _) _ _ j) (funext fun q => ?_)
  exact acts_apply v _ x6 x7 x8 H u p hu hH r q

/-- The state's block. -/
theorem tile_state (i : Fin 8) (j : Fin 5632) :
    View.canon (order.map (lastRowPiece (rows x0 x1 x2 x3 x4 x5) x6)) (ix3 0 i j) = u (p + 248 + i.val) j := by
  obtain rfl : (fun r j => rows x0 x1 x2 x3 x4 x5 (ix2 r j)) = y := funext₂ hy
  obtain rfl : (fun d j => x6 (ix3 0 d j)) = wu := funext₂ h6
  refine (lastRows_apply _ x6 i j).trans ?_
  rw [Nat.add_assoc]
  exact congrFun (hu ⟨248 + i.val, by omega⟩) j

/-- The rows kept. -/
theorem tile_kept (L : List (View.Piece (Elt Ideal) S8x5632 .f32)) (i : Fin 8) (j : Fin 5632) :
    View.canon (order.map (lastPiece (rows x0 x1 x2 x3 x4 x5) x6) ++ L) (ix2 i j) = u (p + 248 + i.val) j := by
  obtain rfl : (fun r j => rows x0 x1 x2 x3 x4 x5 (ix2 r j)) = y := funext₂ hy
  obtain rfl : (fun d j => x6 (ix3 0 d j)) = wu := funext₂ h6
  refine (last_kept_apply _ x6 L i j).trans ?_
  rw [Nat.add_assoc]
  exact congrFun (hu ⟨248 + i.val, by omega⟩) j

end Tile

variable (m : (ℓ : Loc nD τ sig) → Buf (Elt Ideal) ℓ)

/-- Sequence `b`'s rows after the first normalisation, and those of its widening product. -/
def Y (c : Dev nD) (b : Fin 4) : Fin 4096 → Fin 1024 → EReal :=
  Tail.yRow (fun p d => arr0 m c (ix3 b p d)) (fun p d => arr1 m c (ix3 b p d)) (fun p d => arr2 m c (ix3 b p d))
    (fun k d => arr3 m c (ix2 k d)) (fun d => arr4 m c (ix2 1 d)) (fun d => arr5 m c (ix2 1 d))

def U (c : Dev nD) (b : Fin 4) : ℕ → Fin 5632 → EReal := Tail.uRow (Y m c b) (fun d j => arr6 m c (ix3 1 d j))

/-- The tail on row `p` of sequence `b`. -/
def T (c : Dev nD) (b : Fin 4) (p : Fin 4096) : Fin 1024 → EReal :=
  Tail.tail (U m c b) (fun n j => arr7 m c (ix3 1 n j)) (fun j => arr8 m c (ix2 1 j)) (Y m c b p)
    (fun k d => arr9 m c (ix3 1 k d)) (fun d => arr10 m c (ix2 1 d)) (fun d => arr11 m c (ix2 1 d)) p.val

/-- The rows of point `t`'s tile. -/
theorem rows_point (c : Dev nD) (t : Fin cfg0.N) (r : Fin 256) (j : Fin 1024) :
    rows (blk0 m c t) (blk1 m c t) (blk2 m c t) (blk3 m c t) (blk4 m c t) (blk5 m c t) (ix2 r j) =
      Y m c ⟨t.val / 16, seq_lt t⟩ ⟨256 * (t.val % 16) + r.val, row_lt t r⟩ j := by
  unfold Y Tail.yRow
  exact rows_of _ _ _ _ _ _ r _ _ _ _ _ _ (block0 m c t r) (block1 m c t r) (block2 m c t r) (block3 m c t) (block4 m c t)
    (block5 m c t) j

theorem U_row (c : Dev nD) (t : Fin cfg0.N) (r : Fin 256) :
    Tail.up (Y m c ⟨t.val / 16, seq_lt t⟩ ⟨256 * (t.val % 16) + r.val, row_lt t r⟩) (fun d j => arr6 m c (ix3 1 d j)) =
      U m c ⟨t.val / 16, seq_lt t⟩ (256 * (t.val % 16) + r.val) :=
  (Tail.uRow_of_lt _ _ _ (row_lt t r)).symm

/-- What point `t` leaves: its rows of the output, and its last eight rows of the widening product twice. -/
def Good (c : Dev nD) (t : Fin cfg0.N) (o : Vec Ideal S1x256x1024 .f32 × Vec Ideal S1x8x5632 .f32 × Vec Ideal S8x5632 .f32) : Prop :=
  (∀ r j, o.1 (ix3 0 r j) = T m c ⟨t.val / 16, seq_lt t⟩ ⟨256 * (t.val % 16) + r.val, row_lt t r⟩ j)
  ∧ (∀ i j, o.2.1 (ix3 0 i j) = U m c ⟨t.val / 16, seq_lt t⟩ (256 * (t.val % 16) + 248 + i.val) j)
  ∧ (∀ i j, o.2.2 (ix2 i j) = U m c ⟨t.val / 16, seq_lt t⟩ (256 * (t.val % 16) + 248 + i.val) j)

/-- What a sequence's first point leaves, in the stages' terms. -/
theorem outs_A (c : Dev nD) (t : Fin cfg0.N) (h0 : t.val % 16 = 0) : ∃ L, outsAt0 m c t.val t.isLt =
    (out (rows (blk0 m c t) (blk1 m c t) (blk2 m c t) (blk3 m c t) (blk4 m c t) (blk5 m c t)) (scM0_0.view.readCov
        (acts (rows (blk0 m c t) (blk1 m c t) (blk2 m c t) (blk3 m c t) (blk4 m c t) (blk5 m c t)) (blk6 m c t) (blk7 m c t) (blk8 m c t) (k0_pay2 (F := Ideal))) (Rect.unit ![0, 0] S256x2816.size (by decide)).toLoadRect) (blk9 m c t) (blk10 m c t) (blk11 m c t),
      View.canon (order.map (lastRowPiece (rows (blk0 m c t) (blk1 m c t) (blk2 m c t) (blk3 m c t) (blk4 m c t) (blk5 m c t)) (blk6 m c t))),
      View.canon (order.map (lastPiece (rows (blk0 m c t) (blk1 m c t) (blk2 m c t) (blk3 m c t) (blk4 m c t) (blk5 m c t)) (blk6 m c t)) ++ L)) := by
  refine ⟨[⟨Rect.unit (s := S8x5632) ![0, 0] S8x5632.size (by decide), k0_pay2 (F := Ideal)⟩], ?_⟩
  rw [outsAt0_A m c t h0, out12_A, out13_A, kept_A]
  rfl

/-- What a later point leaves, over the rows `(outsAt0 …).2.2` that the point before it kept. -/
theorem outs_B (c : Dev nD) (t : Fin cfg0.N) (h0 : ¬t.val % 16 = 0) (h : t.val - 1 < cfg0.N) : outsAt0 m c t.val t.isLt =
    (out (rows (blk0 m c t) (blk1 m c t) (blk2 m c t) (blk3 m c t) (blk4 m c t) (blk5 m c t)) (scM0_0.view.readCov
        (acts (rows (blk0 m c t) (blk1 m c t) (blk2 m c t) (blk3 m c t) (blk4 m c t) (blk5 m c t)) (blk6 m c t) (blk7 m c t) (blk8 m c t) (outsAt0 m c (t.val - 1) h).2.2) (Rect.unit ![0, 0] S256x2816.size (by decide)).toLoadRect) (blk9 m c t) (blk10 m c t) (blk11 m c t),
      View.canon (order.map (lastRowPiece (rows (blk0 m c t) (blk1 m c t) (blk2 m c t) (blk3 m c t) (blk4 m c t) (blk5 m c t)) (blk6 m c t))),
      View.canon (order.map (lastPiece (rows (blk0 m c t) (blk1 m c t) (blk2 m c t) (blk3 m c t) (blk4 m c t) (blk5 m c t)) (blk6 m c t)) ++ [])) := by
  rw [outsAt0_B m c t h0, out12_B, out13_B, kept_B, List.append_nil]
  rfl

/-- Any point's contents are its tile's rows, when the rows kept before it are those before its tile. -/
theorem good_of (c : Dev nD) (t : Fin cfg0.N) (H : Vec Ideal S8x5632 .f32) (L : List (View.Piece (Elt Ideal) S8x5632 .f32))
    (hH : ∀ i j, H (ix2 i j) = Tail.prev (U m c ⟨t.val / 16, seq_lt t⟩) (8 - i.val) (256 * (t.val % 16)) j) :
    Good m c t (out (rows (blk0 m c t) (blk1 m c t) (blk2 m c t) (blk3 m c t) (blk4 m c t) (blk5 m c t)) (scM0_0.view.readCov
        (acts (rows (blk0 m c t) (blk1 m c t) (blk2 m c t) (blk3 m c t) (blk4 m c t) (blk5 m c t)) (blk6 m c t) (blk7 m c t) (blk8 m c t) H) (Rect.unit ![0, 0] S256x2816.size (by decide)).toLoadRect) (blk9 m c t) (blk10 m c t) (blk11 m c t),
      View.canon (order.map (lastRowPiece (rows (blk0 m c t) (blk1 m c t) (blk2 m c t) (blk3 m c t) (blk4 m c t) (blk5 m c t)) (blk6 m c t))),
      View.canon (order.map (lastPiece (rows (blk0 m c t) (blk1 m c t) (blk2 m c t) (blk3 m c t) (blk4 m c t) (blk5 m c t)) (blk6 m c t)) ++ L)) :=
by
  have hy := rows_point m c t
  have hu := U_row m c t
  have h6 := block6 m c t
  have h7 := block7 m c t
  have h8 := block8 m c t
  have h9 := block9 m c t
  have h10 := block10 m c t
  have h11 := block11 m c t
  generalize blk0 m c t = x0 at *
  generalize blk1 m c t = x1 at *
  generalize blk2 m c t = x2 at *
  generalize blk3 m c t = x3 at *
  generalize blk4 m c t = x4 at *
  generalize blk5 m c t = x5 at *
  generalize blk6 m c t = x6 at *
  generalize blk7 m c t = x7 at *
  generalize blk8 m c t = x8 at *
  generalize blk9 m c t = x9 at *
  generalize blk10 m c t = x10 at *
  generalize blk11 m c t = x11 at *
  unfold Good T
  refine ⟨fun r j => ?_, fun i j => ?_, fun i j => ?_⟩ <;> dsimp only
  · have e := tile_out x0 x1 x2 x3 x4 x5 x6 x7 x8 x9 x10 x11 H (fun r => Y m c ⟨t.val / 16, seq_lt t⟩ ⟨256 * (t.val % 16) + r.val, row_lt t r⟩) _ _ _ _ _ _ _ (256 * (t.val % 16)) hy h6 hu scM0_0.view h7 h8 h9 h10 h11 hH r j
    exact e
  · exact tile_state x0 x1 x2 x3 x4 x5 x6 (fun r => Y m c ⟨t.val / 16, seq_lt t⟩ ⟨256 * (t.val % 16) + r.val, row_lt t r⟩) _ _ (256 * (t.val % 16)) hy h6 hu i j
  · exact tile_kept x0 x1 x2 x3 x4 x5 x6 (fun r => Y m c ⟨t.val / 16, seq_lt t⟩ ⟨256 * (t.val % 16) + r.val, row_lt t r⟩) _ _ (256 * (t.val % 16)) hy h6 hu L i j

theorem zeros_apply (i : Fin 8) (j : Fin 5632) : k0_pay2 (F := Ideal) (ix2 i j) = 0 := by
  pointwise [k0_pay2]

theorem good_A (c : Dev nD) (t : Fin cfg0.N) (h0 : t.val % 16 = 0) : Good m c t (outsAt0 m c t.val t.isLt) := by
  obtain ⟨L, e⟩ := outs_A m c t h0
  rw [e]
  refine good_of m c t _ L fun i j => (zeros_apply i j).trans ?_
  unfold Tail.prev
  rw [if_neg (by omega)]

theorem good_B (c : Dev nD) (t : Fin cfg0.N) (h0 : ¬t.val % 16 = 0)
    (ih : ∀ h, Good m c ⟨t.val - 1, h⟩ (outsAt0 m c (t.val - 1) h)) : Good m c t (outsAt0 m c t.val t.isLt) := by
  have hlt := Nat.lt_of_le_of_lt (Nat.sub_le t.val 1) t.isLt
  rw [outs_B m c t h0 hlt]
  refine good_of m c t _ [] fun i j => ((ih hlt).2.2 i j).trans ?_
  unfold Tail.prev
  rw [if_pos (by omega)]
  have e1 : (t.val - 1) / 16 = t.val / 16 := by omega
  have e2 : 256 * ((t.val - 1) % 16) + 248 + i.val = 256 * (t.val % 16) - (8 - i.val) := by omega
  simp only [e1, e2]

theorem good (c : Dev nD) : ∀ (n : ℕ) (h : n < cfg0.N), Good m c ⟨n, h⟩ (outsAt0 m c n h)
  | 0, h => good_A m c ⟨0, h⟩ rfl
  | n + 1, h => by
    by_cases h0 : (n + 1) % 16 = 0
    · exact good_A m c ⟨n + 1, h⟩ h0
    · exact good_B m c ⟨n + 1, h⟩ h0 fun h' => good c n h'

/-- The output array at an element. -/
theorem G12_apply (c : Dev nD) (b : Fin 4) (p : Fin 4096) (j : Fin 1024) :
    (show Vec Ideal S4x4096x1024 .f32 from Value.G12 m c) (ix3 b p j) = T m c b p j := by
  have hN : cfg0.N = 64 := rfl
  have hpt : Value.pt12Of (ix3 b p j) = 16 * b.val + p.val / 256 := by
    show 16 * (b.val / 1 - 0) + 1 * (p.val / 256 - 0) + 1 * (j.val / 1024 - 0) = _
    omega
  have h : Value.pt12Of (ix3 b p j) < cfg0.N := by omega
  refine (dif_pos h).trans ?_
  rw [← Value.outsAt0_sweep m c _ h]
  refine Eq.trans ?_ (((good m c _ h).1 ⟨p.val % 256, by omega⟩ ⟨j.val % 1024, by omega⟩).trans ?_)
  · refine congrArg (outsAt0 m c _ h).1 (funext fun a => Fin.ext ?_)
    fin_cases a
    · show b.val % 1 = 0
      omega
    · rfl
    · rfl
  · have e1 : Value.pt12Of (ix3 b p j) / 16 = b.val := by omega
    have e2 : 256 * (Value.pt12Of (ix3 b p j) % 16) + p.val % 256 = p.val := by omega
    have e3 : j.val % 1024 = j.val := by omega
    simp only [e1, e2, e3]

/-- The state array at an element. -/
theorem G13_apply (c : Dev nD) (b : Fin 4) (i : Fin 8) (j : Fin 5632) :
    (show Vec Ideal S4x8x5632 .f32 from Value.G13 m c) (ix3 b i j) = U m c b (4088 + i.val) j := by
  have hN : cfg0.N = 64 := rfl
  have hpt : Value.pt13Of (ix3 b i j) = 16 * b.val + 15 := by
    show 16 * (1 * (b.val / 1 - 0) + 1 * (i.val / 8 - 0) + 1 * (j.val / 5632 - 0)) + 15 = _
    omega
  have h : Value.pt13Of (ix3 b i j) < cfg0.N := by omega
  refine (dif_pos h).trans ?_
  rw [← Value.outsAt0_sweep m c _ h]
  refine Eq.trans ?_ (((good m c _ h).2.1 ⟨i.val % 8, by omega⟩ ⟨j.val % 5632, by omega⟩).trans ?_)
  · refine congrArg (outsAt0 m c _ h).2.1 (funext fun a => Fin.ext ?_)
    fin_cases a
    · show b.val % 1 = 0
      omega
    · rfl
    · rfl
  · have e1 : Value.pt13Of (ix3 b i j) / 16 = b.val := by omega
    have e2 : 256 * (Value.pt13Of (ix3 b i j) % 16) + 248 + i.val % 8 = 4088 + i.val := by omega
    have e3 : j.val % 5632 = j.val := by omega
    simp only [e1, e2, e3]

end Cert.Kernel2Ideal.Post

end
-- ==== Proof.Post.Ref.lean ====
/-
  The reference's terms read at one element: the same row functions.
-/
module

public import proofs.«01_k».proof.Proof.Post.Spec
public import proofs.«01_k».proof.Proof.Gen.Reference2Ideal.Run
public import Idealize.ShloMosaic.Lib.Pointwise

@[expose] public section

set_option maxRecDepth 16384

noncomputable section

namespace Cert.Reference2Ideal.Post

open Cert.Reference2Ideal Cert.Reference2Ideal.Gen Cert.Reference2Ideal.Value
open Idealize.ShloMosaic Idealize.ShloMosaic.TcCoe Idealize.SL.Sem Idealize.ShloMosaic.StableHlo

/-! The reference's terms, over any arrays. -/

/-- The residual plus the projection of the joined mixer's output. -/
def t4 (x : FVec Ideal S4x4096x1024 .f32) (a b : FVec Ideal S4x4096x512 .f32) (w : FVec Ideal S1024x1024 .f32) :
    FVec Ideal S4x4096x1024 .f32 :=
  addf (mulf (broadcastInDim S4x4096x1024 ![] bcast_S_S4x4096x1024 (constant S_ .f32 0x3FB504F3#32)) x)
    (Host.dotGeneral dot_S4x4096x1024_S1024x1024_S4x4096x1024_2_0_01_1_n_n none
      (concatenate S4x4096x1024 2 [⟨S4x4096x512, a⟩, ⟨S4x4096x512, b⟩] concatenates_S4x4096x512_S4x4096x512_S4x4096x1024_d2) w)

/-- The mean along the rows. -/
def tmean (v : FVec Ideal S4x4096x1024 .f32) : FVec Ideal S4x4096x1 .f32 :=
  Host.divf (broadcastInDim S4x4096x1 ![0, 1] bcast_S4x4096_S4x4096x1_0_1 (Host.reduceAdd v (constant S_ .f32 0x00000000#32)
    reducesTo_S4x4096x1024_S4x4096_d2 h_S_)) (broadcastInDim S4x4096x1 ![] bcast_S_S4x4096x1 (constant S_ .f32 0x44800000#32))

/-- A row less its mean. -/
def tcentred (v : FVec Ideal S4x4096x1024 .f32) : FVec Ideal S4x4096x1024 .f32 :=
  subf v (broadcastInDim S4x4096x1024 ![0, 1, 2] bcast_S4x4096x1_S4x4096x1024_0_1_2 (tmean v))

/-- Layer 1 of a per-layer vector, on every row. -/
def tvec (g : FVec Ideal S2x1024 .f32) : FVec Ideal S4x4096x1024 .f32 :=
  broadcastInDim S4x4096x1024 ![0, 1, 2] bcast_S1x1x1024_S4x4096x1024_0_1_2 (broadcastInDim S1x1x1024 ![2] bcast_S1024_S1x1x1024_2
    (shapeCast _ (extractStridedSlice S1x1024 ![1, 0] g slices_S2x1024_S1x1024_1_0) shapeCasts_S1x1024_S1024))

/-- The normalisation. -/
def tnorm (v : FVec Ideal S4x4096x1024 .f32) (g s : FVec Ideal S2x1024 .f32) : FVec Ideal S4x4096x1024 .f32 :=
  addf (mulf (mulf (tcentred v) (broadcastInDim S4x4096x1024 ![0, 1, 2] bcast_S4x4096x1_S4x4096x1024_0_1_2
    (Host.rsqrt (addf (tmean (mulf (tcentred v) (tcentred v)))
      (broadcastInDim S4x4096x1 ![] bcast_S_S4x4096x1 (constant S_ .f32 0x3727C5AC#32)))))) (tvec g)) (tvec s)

/-- The widening product under two rows of zeros. -/
def t43 (y : FVec Ideal S4x4096x1024 .f32) (w : FVec Ideal S2x1024x5632 .f32) : FVec Ideal S4x4098x5632 .f32 :=
  concatenate S4x4098x5632 1 [⟨S4x2x5632, broadcastInDim S4x2x5632 ![] bcast_S_S4x2x5632 (constant S_ .f32 0x00000000#32)⟩,
    ⟨S4x4096x5632, Host.dotGeneral dot_S4x4096x1024_S1024x5632_S4x4096x5632_2_0_01_1_n_n none y
      (shapeCast _ (extractStridedSlice S1x1024x5632 ![1, 0, 0] w slices_S2x1024x5632_S1x1024x5632_1_0_0)
        shapeCasts_S1x1024x5632_S1024x5632)⟩] concatenates_S4x2x5632_S4x4096x5632_S4x4098x5632_d1

/-- A row of 5632 on every row. -/
def twide (v : FVec Ideal S5632 .f32) : FVec Ideal S4x4096x5632 .f32 :=
  broadcastInDim S4x4096x5632 ![0, 1, 2] bcast_S1x1x5632_S4x4096x5632_0_1_2 (broadcastInDim S1x1x5632 ![2] bcast_S5632_S1x1x5632_2 v)

/-- Layer 1 of the convolution's kernel. -/
def t37 (w : FVec Ideal S2x3x5632 .f32) : FVec Ideal S3x5632 .f32 :=
  shapeCast _ (extractStridedSlice S1x3x5632 ![1, 0, 0] w slices_S2x3x5632_S1x3x5632_1_0_0) shapeCasts_S1x3x5632_S3x5632

/-- The convolution. -/
def t66 (u : FVec Ideal S4x4098x5632 .f32) (w : FVec Ideal S2x3x5632 .f32) (b : FVec Ideal S2x5632 .f32) :
    FVec Ideal S4x4096x5632 .f32 :=
  addf (addf (addf
    (mulf (extractStridedSlice S4x4096x5632 ![0, 2, 0] u slices_S4x4098x5632_S4x4096x5632_0_2_0)
      (twide (shapeCast _ (extractStridedSlice S1x5632 ![2, 0] (t37 w) slices_S3x5632_S1x5632_2_0) shapeCasts_S1x5632_S5632)))
    (mulf (extractStridedSlice S4x4096x5632 ![0, 0, 0] u slices_S4x4098x5632_S4x4096x5632_0_0_0)
      (twide (shapeCast _ (extractStridedSlice S1x5632 ![0, 0] (t37 w) slices_S3x5632_S1x5632_0_0) shapeCasts_S1x5632_S5632))))
    (mulf (extractStridedSlice S4x4096x5632 ![0, 1, 0] u slices_S4x4098x5632_S4x4096x5632_0_1_0)
      (twide (shapeCast _ (extractStridedSlice S1x5632 ![1, 0] (t37 w) slices_S3x5632_S1x5632_1_0) shapeCasts_S1x5632_S5632))))
    (twide (shapeCast _ (extractStridedSlice S1x5632 ![1, 0] b slices_S2x5632_S1x5632_1_0) shapeCasts_S1x5632_S5632))

/-- The residual plus the narrowing product of the gated activation. -/
def t75 (y : FVec Ideal S4x4096x1024 .f32) (h : FVec Ideal S4x4096x5632 .f32) (w : FVec Ideal S2x2816x1024 .f32) :
    FVec Ideal S4x4096x1024 .f32 :=
  addf (mulf (broadcastInDim S4x4096x1024 ![] bcast_S_S4x4096x1024 (constant S_ .f32 0x3FB504F3#32)) y)
    (Host.dotGeneral dot_S4x4096x2816_S2816x1024_S4x4096x1024_2_0_01_1_n_n none
      (mulf (mulf (extractStridedSlice S4x4096x2816 ![0, 0, 0] h slices_S4x4096x5632_S4x4096x2816_0_0_0)
        (Host.divf (broadcastInDim S4x4096x2816 ![] bcast_S_S4x4096x2816 (constant S_ .f32 0x3F800000#32))
          (addf (broadcastInDim S4x4096x2816 ![] bcast_S_S4x4096x2816 (constant S_ .f32 0x3F800000#32))
            (Host.exp (Host.negf (extractStridedSlice S4x4096x2816 ![0, 0, 0] h slices_S4x4096x5632_S4x4096x2816_0_0_0))))))
        (extractStridedSlice S4x4096x2816 ![0, 0, 2816] h slices_S4x4096x5632_S4x4096x2816_0_0_2816))
      (shapeCast _ (extractStridedSlice S1x2816x1024 ![1, 0, 0] w slices_S2x2816x1024_S1x2816x1024_1_0_0)
        shapeCasts_S1x2816x1024_S2816x1024))

/-! Each read at one element. -/

theorem t4_apply (x : FVec Ideal S4x4096x1024 .f32) (a b : FVec Ideal S4x4096x512 .f32) (w : FVec Ideal S1024x1024 .f32)
    (i : Fin 4) (p : Fin 4096) (j : Fin 1024) :
    t4 x a b w (ix3 i p j) = Tail.mix (fun d => x (ix3 i p d)) (fun d => a (ix3 i p d)) (fun d => b (ix3 i p d))
      (fun k d => w (ix2 k d)) j := by
  pointwise [t4, Tail.mix, Tail.alpha]

theorem tmean_apply (v : FVec Ideal S4x4096x1024 .f32) (i : Fin 4) (p : Fin 4096) :
    tmean v (ix3 i p 0) = Tail.mean fun d => v (ix3 i p d) := by
  pointwise [tmean, Tail.mean, Tail.count]

theorem tcentred_apply (v : FVec Ideal S4x4096x1024 .f32) (i : Fin 4) (p : Fin 4096) (j : Fin 1024) :
    tcentred v (ix3 i p j) = v (ix3 i p j) - Tail.mean fun d => v (ix3 i p d) := by
  pointwise [tcentred, tmean_apply]

theorem tvec_apply (g : FVec Ideal S2x1024 .f32) (i : Fin 4) (p : Fin 4096) (j : Fin 1024) :
    tvec g (ix3 i p j) = g (ix2 1 j) := by
  pointwise [tvec]

theorem tnorm_apply (v : FVec Ideal S4x4096x1024 .f32) (g s : FVec Ideal S2x1024 .f32) (i : Fin 4) (p : Fin 4096) (j : Fin 1024) :
    tnorm v g s (ix3 i p j) = Tail.norm (fun d => v (ix3 i p d)) (fun d => g (ix2 1 d)) (fun d => s (ix2 1 d)) j := by
  pointwise [tnorm, tcentred_apply, tmean_apply, tvec_apply, Tail.norm, Tail.eps]

theorem t43_apply (y : FVec Ideal S4x4096x1024 .f32) (w : FVec Ideal S2x1024x5632 .f32) (i : Fin 4) (n : Fin 3) (p : Fin 4096)
    (j : Fin 5632) :
    t43 y w (ix3 i ⟨2 - n.val + p.val, by omega⟩ j) =
      Tail.prev (Tail.uRow (fun p d => y (ix3 i p d)) (fun d j => w (ix3 1 d j))) n.val p.val j := by
  pointwise [t43, Tail.prev]
  by_cases h : n.val ≤ p.val
  · rw [dif_neg (by omega), if_pos h, Tail.uRow_of_lt _ _ _ (by omega)]
    unfold Tail.up
    have e : 2 - n.val + p.val - 2 = p.val - n.val := by omega
    simp only [e]
  · rw [dif_pos (by omega), if_neg h]

theorem t66_apply (y : FVec Ideal S4x4096x1024 .f32) (wu : FVec Ideal S2x1024x5632 .f32) (w : FVec Ideal S2x3x5632 .f32)
    (b : FVec Ideal S2x5632 .f32) (i : Fin 4) (p : Fin 4096) (j : Fin 5632) :
    t66 (t43 y wu) w b (ix3 i p j) = Tail.convRow (Tail.uRow (fun p d => y (ix3 i p d)) (fun d j => wu (ix3 1 d j)))
      (fun n j => w (ix3 1 n j)) (fun j => b (ix2 1 j)) p.val j := by
  have h0 := t43_apply y wu i 0 p j
  have h1 := t43_apply y wu i 1 p j
  have h2 := t43_apply y wu i 2 p j
  unfold Tail.convRow Tail.conv
  refine Eq.trans ?_ (congrArg₂ (· + ·) (congrArg₂ (· + ·) (congrArg₂ (· + ·) (congrArg₂ (· * ·) h0 rfl)
    (congrArg₂ (· * ·) h1 rfl)) (congrArg₂ (· * ·) h2 rfl)) rfl)
  generalize t43 y wu = u
  pointwise [t66, twide, t37]
  rw [add_right_comm (_ * _) (_ * _) (_ * _)]

theorem t75_apply (y : FVec Ideal S4x4096x1024 .f32) (h : FVec Ideal S4x4096x5632 .f32) (w : FVec Ideal S2x2816x1024 .f32)
    (i : Fin 4) (p : Fin 4096) (j : Fin 1024) :
    t75 y h w (ix3 i p j) = Tail.down (fun d => y (ix3 i p d)) (Tail.gated fun j => h (ix3 i p j)) (fun k d => w (ix3 1 k d)) j := by
  have hl (a : EReal) : Ideal.logistic a = Ideal.div 1 (1 + Ideal.exp (-a)) := rfl
  pointwise [t75, Tail.down, Tail.gated, Tail.alpha]
  simp only [hl]

/-- The rows after the first normalisation. -/
def tY (x : FVec Ideal S4x4096x1024 .f32) (a b : FVec Ideal S4x4096x512 .f32) (w : FVec Ideal S1024x1024 .f32)
    (g s : FVec Ideal S2x1024 .f32) : FVec Ideal S4x4096x1024 .f32 := tnorm (t4 x a b w) g s

theorem tY_apply (x : FVec Ideal S4x4096x1024 .f32) (a b : FVec Ideal S4x4096x512 .f32) (w : FVec Ideal S1024x1024 .f32)
    (g s : FVec Ideal S2x1024 .f32) (i : Fin 4) (p : Fin 4096) (j : Fin 1024) :
    tY x a b w g s (ix3 i p j) = Tail.yRow (fun p d => x (ix3 i p d)) (fun p d => a (ix3 i p d)) (fun p d => b (ix3 i p d))
      (fun k d => w (ix2 k d)) (fun d => g (ix2 1 d)) (fun d => s (ix2 1 d)) p j := by
  refine (tnorm_apply _ g s i p j).trans ?_
  unfold Tail.yRow
  exact congrArg (fun v => Tail.norm v _ _ j) (funext fun d => t4_apply x a b w i p d)

/-- The whole tail. -/
def tout (x : FVec Ideal S4x4096x1024 .f32) (a b : FVec Ideal S4x4096x512 .f32) (w : FVec Ideal S1024x1024 .f32)
    (g s : FVec Ideal S2x1024 .f32) (wu : FVec Ideal S2x1024x5632 .f32) (cw : FVec Ideal S2x3x5632 .f32)
    (cb : FVec Ideal S2x5632 .f32) (wd : FVec Ideal S2x2816x1024 .f32) (g2 s2 : FVec Ideal S2x1024 .f32) :
    FVec Ideal S4x4096x1024 .f32 :=
  tnorm (t75 (tY x a b w g s) (t66 (t43 (tY x a b w g s) wu) cw cb) wd) g2 s2

theorem tout_apply (x : FVec Ideal S4x4096x1024 .f32) (a b : FVec Ideal S4x4096x512 .f32) (w : FVec Ideal S1024x1024 .f32)
    (g s : FVec Ideal S2x1024 .f32) (wu : FVec Ideal S2x1024x5632 .f32) (cw : FVec Ideal S2x3x5632 .f32)
    (cb : FVec Ideal S2x5632 .f32) (wd : FVec Ideal S2x2816x1024 .f32) (g2 s2 : FVec Ideal S2x1024 .f32)
    (i : Fin 4) (p : Fin 4096) (j : Fin 1024) :
    tout x a b w g s wu cw cb wd g2 s2 (ix3 i p j) =
      Tail.tail (Tail.uRow (fun p d => tY x a b w g s (ix3 i p d)) (fun d j => wu (ix3 1 d j))) (fun n j => cw (ix3 1 n j))
        (fun j => cb (ix2 1 j)) (fun d => tY x a b w g s (ix3 i p d)) (fun k d => wd (ix3 1 k d)) (fun d => g2 (ix2 1 d))
        (fun d => s2 (ix2 1 d)) p.val j := by
  refine (tnorm_apply _ g2 s2 i p j).trans ?_
  unfold Tail.tail
  refine congrArg (fun v => Tail.norm v _ _ j) (funext fun d => (t75_apply _ _ wd i p d).trans ?_)
  exact congrArg (fun z => Tail.down _ (Tail.gated z) _ d) (funext fun q => t66_apply _ wu cw cb i p q)

/-- The state: the last eight rows of the widening product. -/
def tstate (y : FVec Ideal S4x4096x1024 .f32) (wu : FVec Ideal S2x1024x5632 .f32) : FVec Ideal S4x8x5632 .f32 :=
  extractStridedSlice S4x8x5632 ![0, 4090, 0] (t43 y wu) slices_S4x4098x5632_S4x8x5632_0_4090_0

theorem tstate_apply (y : FVec Ideal S4x4096x1024 .f32) (wu : FVec Ideal S2x1024x5632 .f32) (b : Fin 4) (i : Fin 8) (j : Fin 5632) :
    tstate y wu (ix3 b i j) = Tail.uRow (fun p d => y (ix3 b p d)) (fun d j => wu (ix3 1 d j)) (4088 + i.val) j := by
  have h := t43_apply y wu b 0 ⟨4088 + i.val, by omega⟩ j
  unfold tstate
  generalize t43 y wu = u at *
  pointwise
  refine Eq.trans (congrArg u ?_) (h.trans ?_)
  · congr 1
    exact Fin.ext (show 4090 + i.val = 2 - 0 + (4088 + i.val) by omega)
  · simp [Tail.prev]

end Cert.Reference2Ideal.Post

end
-- ==== Proof.Post.Final.lean ====
/-
  The two programs' results are the same arrays.
-/
module

public import proofs.«01_k».proof.Defs
public import proofs.«01_k».proof.Proof.Post.Point
public import proofs.«01_k».proof.Proof.Post.Ref

@[expose] public section

set_option maxRecDepth 16384

noncomputable section

namespace Cert.Reference2Ideal.Post

open Cert.Reference2Ideal Cert.Reference2Ideal.Gen
open Idealize.ShloMosaic Idealize.ShloMosaic.TcCoe Idealize.SL.Sem

section Agree

variable (m : (ℓ : Loc Kernel2Ideal.nD Kernel2Ideal.τ Kernel2Ideal.sig) → Buf (Elt Ideal) ℓ) (c : Dev Kernel2Ideal.nD)

/-- The rows after the first normalisation are the kernel's. -/
theorem rows_agree (b : Fin 4) : (fun p d => tY (Kernel2Ideal.Post.arr0 m c) (Kernel2Ideal.Post.arr1 m c) (Kernel2Ideal.Post.arr2 m c) (Kernel2Ideal.Post.arr3 m c) (Kernel2Ideal.Post.arr4 m c) (Kernel2Ideal.Post.arr5 m c) (ix3 b p d)) = Kernel2Ideal.Post.Y m c b :=
  funext₂ fun p d => tY_apply _ _ _ _ _ _ b p d

/-- The output. -/
theorem out_agree : tout (Kernel2Ideal.Post.arr0 m c) (Kernel2Ideal.Post.arr1 m c) (Kernel2Ideal.Post.arr2 m c) (Kernel2Ideal.Post.arr3 m c) (Kernel2Ideal.Post.arr4 m c) (Kernel2Ideal.Post.arr5 m c) (Kernel2Ideal.Post.arr6 m c) (Kernel2Ideal.Post.arr7 m c) (Kernel2Ideal.Post.arr8 m c) (Kernel2Ideal.Post.arr9 m c) (Kernel2Ideal.Post.arr10 m c) (Kernel2Ideal.Post.arr11 m c) =
    Kernel2Ideal.Value.G12 m c := by
  funext i
  revert i
  intro (i : S4x4096x1024.Idx)
  obtain ⟨b, p, j, rfl⟩ : ∃ (b : Fin 4) (p : Fin 4096) (j : Fin 1024), i = ix3 b p j := ⟨i 0, i 1, i 2, eq_ix3 i⟩
  refine (tout_apply _ _ _ _ _ _ _ _ _ _ _ _ b p j).trans (Eq.trans ?_ (Kernel2Ideal.Post.G12_apply m c b p j).symm)
  have h := rows_agree m c b
  unfold Kernel2Ideal.Post.T Kernel2Ideal.Post.U
  rw [← h]

/-- The state. -/
theorem state_agree : tstate (tY (Kernel2Ideal.Post.arr0 m c) (Kernel2Ideal.Post.arr1 m c) (Kernel2Ideal.Post.arr2 m c) (Kernel2Ideal.Post.arr3 m c) (Kernel2Ideal.Post.arr4 m c) (Kernel2Ideal.Post.arr5 m c)) (Kernel2Ideal.Post.arr6 m c) = Kernel2Ideal.Value.G13 m c := by
  funext i
  revert i
  intro (i : S4x8x5632.Idx)
  obtain ⟨b, p, j, rfl⟩ : ∃ (b : Fin 4) (p : Fin 8) (j : Fin 5632), i = ix3 b p j := ⟨i 0, i 1, i 2, eq_ix3 i⟩
  refine (tstate_apply _ _ b p j).trans (Eq.trans ?_ (Kernel2Ideal.Post.G13_apply m c b p j).symm)
  have h := rows_agree m c b
  unfold Kernel2Ideal.Post.U
  rw [← h]

end Agree

section Congr

variable {a0 b0 : FVec Ideal S4x4096x1024 .f32} {a1 b1 : FVec Ideal S4x4096x512 .f32} {a2 b2 : FVec Ideal S4x4096x512 .f32} {a3 b3 : FVec Ideal S1024x1024 .f32} {a4 b4 : FVec Ideal S2x1024 .f32} {a5 b5 : FVec Ideal S2x1024 .f32} {a6 b6 : FVec Ideal S2x1024x5632 .f32} {a7 b7 : FVec Ideal S2x3x5632 .f32} {a8 b8 : FVec Ideal S2x5632 .f32} {a9 b9 : FVec Ideal S2x2816x1024 .f32} {a10 b10 : FVec Ideal S2x1024 .f32} {a11 b11 : FVec Ideal S2x1024 .f32}

theorem tout_congr (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) :
    tout a0 a1 a2 a3 a4 a5 a6 a7 a8 a9 a10 a11 = tout b0 b1 b2 b3 b4 b5 b6 b7 b8 b9 b10 b11 := by
  subst h0 h1 h2 h3 h4 h5 h6 h7 h8 h9 h10 h11; rfl

theorem tstate_congr (h0 : a0 = b0) (h1 : a1 = b1) (h2 : a2 = b2) (h3 : a3 = b3) (h4 : a4 = b4) (h5 : a5 = b5) (h6 : a6 = b6) :
    tstate (tY a0 a1 a2 a3 a4 a5) a6 = tstate (tY b0 b1 b2 b3 b4 b5) b6 := by
  subst h0 h1 h2 h3 h4 h5 h6; rfl

end Congr

/-- The reference's run, its results the terms above. -/
theorem run_terms (m' : (ℓ : Loc nD τ sig) → Buf (Elt Ideal) ℓ) (ρ : Dev nD → PrngReg) :
    θ_run (defs (F := Ideal)) (onTc (τ := τ) (main (F := Ideal))) ⟨m', fun _ => 0, ρ⟩ fun r => ∀ c : Dev nD,
      r.2.mem ((c.tc : Thread nD τ).loc main_v103) = tout (show FVec Ideal S4x4096x1024 .f32 from m' ((c.tc : Thread nD τ).loc main_arg0)) (show FVec Ideal S4x4096x512 .f32 from m' ((c.tc : Thread nD τ).loc main_arg1)) (show FVec Ideal S4x4096x512 .f32 from m' ((c.tc : Thread nD τ).loc main_arg2)) (show FVec Ideal S1024x1024 .f32 from m' ((c.tc : Thread nD τ).loc main_arg3)) (show FVec Ideal S2x1024 .f32 from m' ((c.tc : Thread nD τ).loc main_arg4)) (show FVec Ideal S2x1024 .f32 from m' ((c.tc : Thread nD τ).loc main_arg5)) (show FVec Ideal S2x1024x5632 .f32 from m' ((c.tc : Thread nD τ).loc main_arg6)) (show FVec Ideal S2x3x5632 .f32 from m' ((c.tc : Thread nD τ).loc main_arg7)) (show FVec Ideal S2x5632 .f32 from m' ((c.tc : Thread nD τ).loc main_arg8)) (show FVec Ideal S2x2816x1024 .f32 from m' ((c.tc : Thread nD τ).loc main_arg9)) (show FVec Ideal S2x1024 .f32 from m' ((c.tc : Thread nD τ).loc main_arg10)) (show FVec Ideal S2x1024 .f32 from m' ((c.tc : Thread nD τ).loc main_arg11))
      ∧ r.2.mem ((c.tc : Thread nD τ).loc main_v72) = tstate (tY (show FVec Ideal S4x4096x1024 .f32 from m' ((c.tc : Thread nD τ).loc main_arg0)) (show FVec Ideal S4x4096x512 .f32 from m' ((c.tc : Thread nD τ).loc main_arg1)) (show FVec Ideal S4x4096x512 .f32 from m' ((c.tc : Thread nD τ).loc main_arg2)) (show FVec Ideal S1024x1024 .f32 from m' ((c.tc : Thread nD τ).loc main_arg3)) (show FVec Ideal S2x1024 .f32 from m' ((c.tc : Thread nD τ).loc main_arg4)) (show FVec Ideal S2x1024 .f32 from m' ((c.tc : Thread nD τ).loc main_arg5))) (show FVec Ideal S2x1024x5632 .f32 from m' ((c.tc : Thread nD τ).loc main_arg6))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7)
      ∧ r.2.mem ((c.tc : Thread nD τ).loc main_arg8) = m' ((c.tc : Thread nD τ).loc main_arg8)
      ∧ r.2.mem ((c.tc : Thread nD τ).loc main_arg9) = m' ((c.tc : Thread nD τ).loc main_arg9)
      ∧ r.2.mem ((c.tc : Thread nD τ).loc main_arg10) = m' ((c.tc : Thread nD τ).loc main_arg10)
      ∧ r.2.mem ((c.tc : Thread nD τ).loc main_arg11) = m' ((c.tc : Thread nD τ).loc main_arg11) :=
  Value.run m' ρ

/-- The claim. -/
theorem algebraic : Cert.algebraic_Kernel2Ideal_Reference2Ideal := by
  intro m g m' g' _ hagree
  refine ⟨fun c => Kernel2Ideal.Value.G12 m c, fun c => Kernel2Ideal.Value.G13 m c, Kernel2Ideal.Value.run m g, ?_⟩
  refine (θ_run _ _ _).mono (fun r h c => ?_) (run_terms m' g')
  obtain ⟨a0, a1, a2, a3, a4, a5, a6, a7, a8, a9, a10, a11⟩ := hagree c
  obtain ⟨h1, h2, rest⟩ := h c
  exact ⟨h1.trans ((tout_congr a0 a1 a2 a3 a4 a5 a6 a7 a8 a9 a10 a11).trans (out_agree m c)),
    h2.trans ((tstate_congr a0 a1 a2 a3 a4 a5 a6).trans (state_agree m c)), rest⟩

end Cert.Reference2Ideal.Post

end
-- ==== Proof.Post.Frame.lean ====
/-
  The reference's frame: its operations leave the arguments as they were, and no counter moves.
-/
module

public import proofs.«01_k».proof.Defs
public import proofs.«01_k».proof.Proof.Gen.Reference2Ideal
public import proofs.«01_k».proof.Proof.Gen.Reference2Ideal.Run
public import Idealize.ShloMosaic.Lib.Claim

@[expose] public section

set_option maxRecDepth 16384

noncomputable section

namespace Cert.Reference2Ideal.Post

open Idealize.ShloMosaic Idealize.ShloMosaic.TcCoe Idealize.SL.Sem Idealize.ShloMosaic.StableHlo

theorem frame : Cert.quiescent_Reference2Ideal (hReference2Ideal := Cert.Reference2Ideal.Gen.facts) := by
  intro m g _
  refine (θ_run _ _ _).mono (fun r h => ⟨fun c => (h c).2.2, ?_⟩) (Value.run m g)
  funext s
  rcases s with ⟨_, (i | i)⟩ <;> exact i.elim0

end Cert.Reference2Ideal.Post

end
-- ==== Proof.Odd.Stage.lean ====
/-
  The stages of one tile of the odd mixer's projections, as vectors: a column range of the wide product, the rotary embedding
  of its heads two by two, the index keys, and the pooled windows of the rows with the sixteen rows before the tile.
-/
module

public import proofs.«01_k».proof.Proof.Gen.Kernel3Ideal.Skeleton
public import Idealize.ShloMosaic.Lib.Pipeline.FrameBody

@[expose] public section

set_option maxRecDepth 16384

noncomputable section

namespace Cert.Kernel3Ideal.Odd

open Cert.Kernel3Ideal Cert.Kernel3Ideal.Gen
open Idealize.ShloMosaic Idealize.ShloMosaic.TcCoe Idealize.SL.Sem

variable {F : FTy → Type} [FloatOps F]

/-- Columns `512 k` to `512 k + 511` of the wide weights. -/
def cols (w : Vec F S1024x2560 .bf16) (k : Fin 5) : Vec F S1024x512 .bf16 :=
  View.ld (Val := Elt F) w (Rect.unit (s := S1024x2560) ![0, 512 * k.val] S1024x512.size
    (by intro a; fin_cases a <;> simp; omega))

/-- The rows' product with them. -/
def proj (x : Vec F S1x512x1024 .f32) (w : Vec F S1024x2560 .bf16) (k : Fin 5) : FVec F S512x512 .f32 :=
  k0_pay47 (k0_pay5 x) (cols w k)

/-- The rotary embedding of two heads of 64. -/
def rot (c s1 s2 : Vec F S512x128 .f32) (h : FVec F S512x128 .f32) : FVec F S512x128 .f32 :=
  k0_pay21 (k0_pay6 c) (k0_pay7 s1) (k0_pay8 s2) h

/-- … of all eight heads. -/
def rotAll (c s1 s2 : Vec F S512x128 .f32) (h : FVec F S512x512 .f32) : FVec F S512x512 .f32 :=
  concatenate S512x512 1 [⟨S512x128, rot c s1 s2 (extractStridedSlice S512x128 ![0, 0] h slices_S512x512_o0_0_S512x128)⟩,
    ⟨S512x128, rot c s1 s2 (extractStridedSlice S512x128 ![0, 128] h slices_S512x512_o0_128_S512x128)⟩,
    ⟨S512x128, rot c s1 s2 (extractStridedSlice S512x128 ![0, 256] h slices_S512x512_o0_256_S512x128)⟩,
    ⟨S512x128, rot c s1 s2 (extractStridedSlice S512x128 ![0, 384] h slices_S512x512_o0_384_S512x128)⟩]
    concatenates_S512x128_S512x128_S512x128_S512x128_S512x512_d1

/-- Group `g`'s mixing weights, and its scales. -/
def mixW (w : Vec F S4x128x128 .bf16) (g : Fin 4) : Vec F S1x128x128 .bf16 :=
  View.ld (Val := Elt F) w (Rect.unit (s := S4x128x128) ![g.val, 0, 0] S1x128x128.size
    (by intro a; fin_cases a <;> simp; omega))

def scales (s : Vec F S1x512 .f32) (g : Fin 4) : Vec F S1x128 .f32 :=
  View.ld (Val := Elt F) s (Rect.unit (s := S1x512) ![0, 128 * g.val] S1x128.size
    (by intro a; fin_cases a <;> simp; omega))

/-- The rows before the tile and the tile's. -/
def ext (x : Vec F S1x512x1024 .f32) (w : Vec F S1024x2560 .bf16) (H : Vec F S16x512 .f32) : FVec F S528x512 .f32 :=
  k0_pay48 (k0_pay5 x) (cols w 0) H

section Pool

variable (t : BitVec 32) (x : Vec F S1x512x1024 .f32) (w : Vec F S1024x2560 .bf16) (mw : Vec F S4x128x128 .bf16)
    (sc : Vec F S1x512 .f32) (H : Vec F S16x512 .f32)

/-- The four groups' outputs: windows of two, four, eight and sixteen rows. -/
def pool (g : Fin 4) : FVec F S1x512x128 .bf16 :=
  match g with
  | 0 => k0_pay51 (k0_pay50 t (k0_pay5 x) (cols w 0) H (mixW mw 0) (scales sc 0))
  | 1 => k0_pay52 (proj x w 0) (ext x w H) (k0_pay49 t) (mixW mw 1) (scales sc 1)
  | 2 => k0_pay55 (proj x w 0) (k0_pay53 (ext x w H)) (k0_pay54 (k0_pay49 t)) (mixW mw 2) (scales sc 2)
  | 3 => k0_pay1 (k0_pay56 (proj x w 0) (ext x w H) (k0_pay49 t)) (k0_pay57 (mixW mw 3))
      (constant S512x128 .f32 0x00000000#32) (scales sc 3)

/-- A column range of the rows with those before, and of the tile's. -/
def before (e : FVec F S528x512 .f32) (g : Fin 4) : FVec F S528x128 .f32 :=
  match g with
  | 0 => extractStridedSlice S528x128 ![0, 0] e slices_S528x512_o0_0_S528x128
  | 1 => extractStridedSlice S528x128 ![0, 128] e slices_S528x512_o0_128_S528x128
  | 2 => extractStridedSlice S528x128 ![0, 256] e slices_S528x512_o0_256_S528x128
  | 3 => extractStridedSlice S528x128 ![0, 384] e slices_S528x512_o0_384_S528x128

def own (e : FVec F S512x512 .f32) (g : Fin 4) : FVec F S512x128 .f32 :=
  match g with
  | 0 => extractStridedSlice S512x128 ![0, 0] e slices_S512x512_o0_0_S512x128
  | 1 => extractStridedSlice S512x128 ![0, 128] e slices_S512x512_o0_128_S512x128
  | 2 => extractStridedSlice S512x128 ![0, 256] e slices_S512x512_o0_256_S512x128
  | 3 => extractStridedSlice S512x128 ![0, 384] e slices_S512x512_o0_384_S512x128

/-- Adding to each row the row `k` before. -/
def step (k : ℕ) (s : FVec F S528x128 .f32) : FVec F S528x128 .f32 :=
  addf s (dynamicRotate 0 (BitVec.ofNat 32 k) none s rotates_S528x128_d0)

/-- The sums over the group's window. -/
def sums (s : FVec F S528x128 .f32) (g : Fin 4) : FVec F S528x128 .f32 :=
  match g with
  | 0 => step 1 s
  | 1 => step 2 (step 1 s)
  | 2 => step 4 (step 2 (step 1 s))
  | 3 => step 8 (step 4 (step 2 (step 1 s)))

/-- The mean of the window less the row, mixed and scaled. -/
def blend (k : BitVec 32) (t : BitVec 32) (s : FVec F S528x128 .f32) (o : FVec F S512x128 .f32) (w : Vec F S1x128x128 .bf16)
    (c : Vec F S1x128 .f32) : FVec F S1x512x128 .bf16 :=
  shapeCast S1x512x128 (truncf .bf16 (mulf (matmul dot_S512x128_S128x128_S512x128_1_0_0_1_n_n none
    (truncf .bf16 (subf (divf (extractStridedSlice S512x128 ![16, 0] s slices_S528x128_o16_0_S512x128)
      (broadcastTo S512x128 (sitofp .f32 (minsi (broadcast S512x1 k) (addi (k0_pay49 t) (broadcast S512x1 1#32))))
        broadcasts_S512x1_S512x128)) o) bitsLt_bf16_f32) (shapeCast S128x128 w shapeCasts_S1x128x128_S128x128)
    (constant S512x128 .f32 0x00000000#32))
    (broadcastTo S512x128 (shapeCast S1x128 c shapeCasts_S1x128_S1x128) broadcasts_S1x128_S512x128)) bitsLt_bf16_f32)
    shapeCasts_S512x128_S1x512x128

/-- Each group's output is such a blend. -/
theorem pool_eq (g : Fin 4) : pool t x w mw sc H g = blend (BitVec.ofNat 32 (2 ^ (g.val + 1))) t (sums (before (ext x w H) g) g)
    (own (proj x w 0) g) (mixW mw g) (scales sc g) := by
  fin_cases g <;> rfl

def poolPiece (g : Fin 4) : View.Piece (Elt F) S1x512x512 .bf16 :=
  ⟨Rect.unit (s := S1x512x512) ![0, 0, 128 * g.val] S1x512x128.size (by intro a; fin_cases a <;> simp; omega),
    pool t x w mw sc H g⟩

end Pool

end Cert.Kernel3Ideal.Odd

end
-- ==== Proof.Odd.Spec.lean ====
/-
  The odd mixer's projections, rotary embedding and pooling on one row, over the extended reals: what both programs compute,
  stated once. A row is a function of the column; the pooling sees its own row and the fifteen before.
-/
module

public import Idealize.ShloMosaic.Lib.Pointwise

@[expose] public section

noncomputable section

namespace Cert.Mixer

open Idealize.ShloMosaic

/-- A row's product with one column of the weights. -/
def dot (x w : Fin 1024 → EReal) : EReal := ∑ d, x d * w d

/-- The rotary embedding of one head: the first sixteen columns turn, in pairs `(l, l + 8)`, the others stay. -/
def rope (c s : Fin 8 → EReal) (h : Fin 64 → EReal) (l : Fin 64) : EReal :=
  if h1 : l.val < 8 then h l * c ⟨l.val, h1⟩ - h ⟨l.val + 8, by omega⟩ * s ⟨l.val, h1⟩
  else if h2 : l.val < 16 then h l * c ⟨l.val - 8, by omega⟩ + h ⟨l.val - 8, by omega⟩ * s ⟨l.val - 8, by omega⟩
  else h l

theorem rope_congr (c s : Fin 8 → EReal) {h h' : Fin 64 → EReal} {l l' : Fin 64} (hh : ∀ m, h m = h' m) (hl : l.val = l'.val) :
    rope c s h l = rope c s h' l' := by
  obtain rfl := funext hh
  obtain rfl := Fin.ext hl
  rfl

/-- … of each of a row's eight heads. -/
def ropeRow (c s : Fin 8 → EReal) (h : Fin 512 → EReal) (j : Fin 512) : EReal :=
  rope c s (fun l => h ⟨64 * (j.val / 64) + l.val, by omega⟩) ⟨j.val % 64, by omega⟩

/-- A head's row of the three tables: the factor of the column itself, of the column eight before, of the column eight after. -/
def tabC (c : Fin 8 → EReal) (m : ℕ) : EReal :=
  if h1 : m < 8 then c ⟨m, h1⟩ else if h2 : m < 16 then c ⟨m - 8, by omega⟩ else 1

def tabS (s : Fin 8 → EReal) (m : ℕ) : EReal :=
  if h1 : m < 8 then 0 else if h2 : m < 16 then s ⟨m - 8, by omega⟩ else 0

def tabN (s : Fin 8 → EReal) (m : ℕ) : EReal := if h1 : m < 8 then -s ⟨m, h1⟩ else 0

/-- The embedding through the tables. -/
theorem rope_tab (c s : Fin 8 → EReal) (h : Fin 64 → EReal) (l : Fin 64) (a b : EReal)
    (ha : 8 ≤ l.val → a = h ⟨l.val - 8, by omega⟩) (hb : ∀ hl : l.val < 8, b = h ⟨l.val + 8, by omega⟩) :
    h l * tabC c l.val + a * tabS s l.val + b * tabN s l.val = rope c s h l := by
  unfold rope tabC tabS tabN
  by_cases h1 : l.val < 8
  · simp only [dif_pos h1, mul_zero, add_zero, hb h1, mul_neg, sub_eq_add_neg]
  · by_cases h2 : l.val < 16
    · simp only [dif_neg h1, dif_pos h2, mul_zero, add_zero, ha (by omega)]
    · simp only [dif_neg h1, dif_neg h2, mul_zero, add_zero, mul_one]

/-- Row `p - n` of the sequence, zero before its first. -/
def prev (u : ℕ → Fin 512 → EReal) (n p : ℕ) (j : Fin 512) : EReal := if n ≤ p then u (p - n) j else 0

/-- The sum of `w` rows ending at row `p`. -/
def window (w : ℕ) (u : ℕ → Fin 512 → EReal) (p : ℕ) (j : Fin 512) : EReal := ∑ n ∈ Finset.range w, prev u n p j

/-- The number of rows in that window, as a 32-bit word turned into a number. -/
def count (w p : ℕ) : EReal :=
  FloatOps.sitofp (F := Ideal) .f32 (IntOp.minsi (BitVec.ofNat 32 w) (BitVec.ofNat 32 p + 1#32))

/-- The window's mean less the row itself. -/
def pooled (w : ℕ) (u : ℕ → Fin 512 → EReal) (p : ℕ) (j : Fin 512) : EReal :=
  Ideal.div (window w u p j) (count w p) - u p j

/-- Group `g` of the pooled columns, mixed and scaled. -/
def group (u : ℕ → Fin 512 → EReal) (cw : Fin 4 → Fin 128 → Fin 128 → EReal) (cs : Fin 512 → EReal) (p : ℕ) (g : Fin 4)
    (l : Fin 128) : EReal :=
  (∑ d : Fin 128, pooled (2 ^ (g.val + 1)) u p ⟨128 * g.val + d.val, by omega⟩ * cw g d l)
    * cs ⟨128 * g.val + l.val, by omega⟩

/-- The row of the pooled mixer's output. -/
def mixed (u : ℕ → Fin 512 → EReal) (cw : Fin 4 → Fin 128 → Fin 128 → EReal) (cs : Fin 512 → EReal) (p : ℕ) (j : Fin 512) :
    EReal := group u cw cs p ⟨j.val / 128, by omega⟩ ⟨j.val % 128, by omega⟩

/-! ### Of a sequence's rows -/

/-- The angle by which pair `n` turns at row `p`, as the programs compute it. -/
def angle (p n : ℕ) : EReal :=
  FloatOps.sitofp (F := Ideal) .f32 (BitVec.ofNat 32 p) * Ideal.pow (Ideal.ofBits .f32 0x48F42400#32)
    (Ideal.div (-FloatOps.sitofp (F := Ideal) .f32 (BitVec.ofNat 32 n) * Ideal.ofBits .f32 0x40000000#32)
      (Ideal.ofBits .f32 0x41800000#32))

def cosAt (p n : ℕ) : EReal := Ideal.cos (angle p n)
def sinAt (p n : ℕ) : EReal := Ideal.sin (angle p n)

/-- Row `x`'s columns `512 k` to `512 k + 511` of the projection. -/
def sect (x : Fin 1024 → EReal) (w : Fin 1024 → Fin 2632 → EReal) (k : Fin 5) (j : Fin 512) : EReal :=
  dot x fun d => w d ⟨512 * k.val + j.val, by omega⟩

/-- A section turned by the angles of row `p`. -/
def turned (p : ℕ) (x : Fin 1024 → EReal) (w : Fin 1024 → Fin 2632 → EReal) (k : Fin 5) : Fin 512 → EReal :=
  ropeRow (fun n => cosAt p n.val) (fun n => sinAt p n.val) (sect x w k)

/-- The index key of row `p`. -/
def key (p : ℕ) (x : Fin 1024 → EReal) (w : Fin 1024 → Fin 2632 → EReal) : Fin 64 → EReal :=
  rope (fun n => cosAt p n.val) (fun n => sinAt p n.val) fun l => dot x fun d => w d ⟨2560 + l.val, by omega⟩

/-- The index weights of a row. -/
def weight (x : Fin 1024 → EReal) (w : Fin 1024 → Fin 2632 → EReal) (i : Fin 8) : EReal :=
  dot x fun d => w d ⟨2624 + i.val, by omega⟩

/-- The rows that are pooled. -/
def rows (x : Fin 4096 → Fin 1024 → EReal) (w : Fin 1024 → Fin 2632 → EReal) (p : ℕ) (j : Fin 512) : EReal :=
  if h : p < 4096 then sect (x ⟨p, h⟩) w 0 j else 0

theorem rows_of_lt (x : Fin 4096 → Fin 1024 → EReal) (w : Fin 1024 → Fin 2632 → EReal) {p : ℕ} (h : p < 4096) (j : Fin 512) :
    rows x w p j = sect (x ⟨p, h⟩) w 0 j := dif_pos h

end Cert.Mixer

end
-- ==== Proof.Odd.Read.lean ====
/-
  The stages read at one element, over the extended reals: each is the row function of the same name.
-/
module

public import proofs.«01_k».proof.Proof.Odd.Stage
public import proofs.«01_k».proof.Proof.Odd.Spec
public import Idealize.ShloMosaic.Lib.Pointwise
public import Idealize.ShloMosaic.Lib.Pipeline.ValueKit.Tiles

@[expose] public section

set_option maxRecDepth 16384

noncomputable section

namespace Cert.Kernel3Ideal.Odd

open Cert.Kernel3Ideal Cert.Kernel3Ideal.Gen
open Idealize.ShloMosaic Idealize.ShloMosaic.TcCoe Idealize.SL.Sem

theorem cols_apply (w : Vec Ideal S1024x2560 .bf16) (k : Fin 5) (d : Fin 1024) (l : Fin 512) :
    cols w k (ix2 d l) = w (ix2 d ⟨512 * k.val + l.val, by omega⟩) := by
  unfold cols
  refine congrArg w ?_
  funext a
  apply Fin.ext
  rw [Rect.idx_unit_val]
  fin_cases a <;> simp [ix2]

theorem mixW_apply (w : Vec Ideal S4x128x128 .bf16) (g : Fin 4) (d l : Fin 128) :
    mixW w g (ix3 0 d l) = w (ix3 g d l) := by
  unfold mixW
  refine congrArg w ?_
  funext a
  apply Fin.ext
  rw [Rect.idx_unit_val]
  fin_cases a <;> simp [ix3]

theorem scales_apply (s : Vec Ideal S1x512 .f32) (g : Fin 4) (l : Fin 128) :
    scales s g (ix2 0 l) = s (ix2 0 ⟨128 * g.val + l.val, by omega⟩) := by
  unfold scales
  refine congrArg s ?_
  funext a
  apply Fin.ext
  rw [Rect.idx_unit_val]
  fin_cases a <;> simp [ix2]

/-- The product of row `r` with one column. -/
theorem proj_apply (x : Vec Ideal S1x512x1024 .f32) (w : Vec Ideal S1024x2560 .bf16) (k : Fin 5) (r l : Fin 512) :
    proj x w k (ix2 r l) = Mixer.dot (fun d => x (ix3 0 r d)) (fun d => w (ix2 d ⟨512 * k.val + l.val, by omega⟩)) := by
  pointwise [proj, k0_pay47, k0_pay5, cols_apply, Mixer.dot]

theorem tail_apply (x : Vec Ideal S1x512x1024 .f32) (w : Vec Ideal S1024x256 .bf16) (r : Fin 512) (l : Fin 256) :
    k0_pay19 (k0_pay5 x) w (ix2 r l) = Mixer.dot (fun d => x (ix3 0 r d)) (fun d => w (ix2 d l)) := by
  pointwise [k0_pay19, k0_pay5, Mixer.dot]

/-- The three tables hold, at each of two heads, the tables of the row's angles. -/
def Tables (c s1 s2 : Vec Ideal S512x128 .f32) (C S : Fin 512 → Fin 8 → EReal) : Prop :=
  ∀ (r : Fin 512) (l : Fin 128), c (ix2 r l) = Mixer.tabC (C r) (l.val % 64) ∧ s1 (ix2 r l) = Mixer.tabS (S r) (l.val % 64)
    ∧ s2 (ix2 r l) = Mixer.tabN (S r) (l.val % 64)

theorem rot_apply (c s1 s2 : Vec Ideal S512x128 .f32) (C S : Fin 512 → Fin 8 → EReal) (T : Tables c s1 s2 C S)
    (h : FVec Ideal S512x128 .f32) (r : Fin 512) (l : Fin 128) :
    rot c s1 s2 h (ix2 r l) = Mixer.rope (C r) (S r) (fun m => h (ix2 r ⟨64 * (l.val / 64) + m.val, by omega⟩))
      ⟨l.val % 64, by omega⟩ := by
  obtain ⟨t1, t2, t3⟩ := T r l
  have e := Mixer.rope_tab (C r) (S r) (fun m => h (ix2 r ⟨64 * (l.val / 64) + m.val, by omega⟩)) ⟨l.val % 64, by omega⟩
    (h (ix2 r ⟨(l.val + 128 - 8) % 128, by omega⟩)) (h (ix2 r ⟨(l.val + 128 - 120) % 128, by omega⟩)) (fun hl => by
      refine congrArg h (congrArg (ix2 r) (Fin.ext ?_))
      dsimp only at hl ⊢
      omega) (fun hl => by
      refine congrArg h (congrArg (ix2 r) (Fin.ext ?_))
      dsimp only at hl ⊢
      omega)
  refine Eq.trans ?_ e
  pointwise [rot, k0_pay21, k0_pay6, k0_pay7, k0_pay8, t1, t2, t3]
  have el : (⟨64 * (l.val / 64) + l.val % 64, by omega⟩ : Fin 128) = l := Fin.ext (by dsimp only; omega)
  rw [el]

theorem rotAll_apply (c s1 s2 : Vec Ideal S512x128 .f32) (C S : Fin 512 → Fin 8 → EReal) (T : Tables c s1 s2 C S)
    (h : FVec Ideal S512x512 .f32) (r j : Fin 512) :
    rotAll c s1 s2 h (ix2 r j) = Mixer.ropeRow (C r) (S r) (fun l => h (ix2 r l)) j := by
  pointwise [rotAll, rot_apply c s1 s2 C S T, Mixer.ropeRow]
  split_ifs <;> refine Mixer.rope_congr _ _ (fun m => congrArg h (congrArg (ix2 r) (Fin.ext ?_))) ?_ <;> dsimp only <;> omega

/-- The index keys: the first 64 columns of the narrow product, turned. -/
theorem ki_apply (x : Vec Ideal S1x512x1024 .f32) (w : Vec Ideal S1024x256 .bf16) (c s1 s2 : Vec Ideal S512x128 .f32)
    (C S : Fin 512 → Fin 8 → EReal) (T : Tables c s1 s2 C S) (r : Fin 512) (l : Fin 64) :
    k0_pay24 (k0_pay6 c) (k0_pay7 s1) (k0_pay8 s2) (k0_pay20 (k0_pay5 x) w) (ix3 0 r l) =
      Mixer.rope (C r) (S r) (fun m => Mixer.dot (fun d => x (ix3 0 r d)) (fun d => w (ix2 d ⟨m.val, by omega⟩))) l := by
  have e := rot_apply c s1 s2 C S T (k0_pay20 (k0_pay5 x) w) r ⟨l.val, by omega⟩
  unfold rot at e
  pointwise [k0_pay24, e]
  pointwise [k0_pay20, tail_apply]
  refine Mixer.rope_congr _ _ (fun m => congrArg (Mixer.dot _) (funext fun d => congrArg w (congrArg (ix2 d) (Fin.ext ?_)))) ?_ <;>
    dsimp only <;> omega

/-- The index weights, transposed. -/
theorem wi_apply (x : Vec Ideal S1x512x1024 .f32) (w : Vec Ideal S1024x256 .bf16) (i : Fin 8) (r : Fin 512) :
    k0_pay46 (k0_pay25 (k0_pay19 (k0_pay5 x) w)) (ix3 0 i r) =
      Mixer.dot (fun d => x (ix3 0 r d)) (fun d => w (ix2 d ⟨128 + i.val, by omega⟩)) := by
  pointwise [k0_pay46, k0_pay25, tail_apply]

theorem qi_apply (h : FVec Ideal S512x512 .f32) (j r : Fin 512) : k0_pay44 h (ix3 0 j r) = h (ix2 r j) := by
  pointwise [k0_pay44]

theorem q_apply (h : FVec Ideal S512x512 .f32) (r j : Fin 512) :
    k0_pay26 h (ix3 0 r j) = h (ix2 r j) * Ideal.ofBits .f32 0x3E38AA3B#32 := by
  pointwise [k0_pay26]

theorem k_apply (h : FVec Ideal S512x512 .f32) (r j : Fin 512) : k0_pay22 h (ix3 0 r j) = h (ix2 r j) := by
  pointwise [k0_pay22]

theorem v_apply (h : FVec Ideal S512x512 .f32) (r j : Fin 512) : k0_pay23 h (ix3 0 r j) = h (ix2 r j) := by
  pointwise [k0_pay23]

theorem state_apply (h : FVec Ideal S512x512 .f32) (i : Fin 16) (j : Fin 512) :
    k0_pay3 h (ix3 0 i j) = h (ix2 ⟨496 + i.val, by omega⟩ j) := by
  pointwise [k0_pay3]

theorem last_apply (h : FVec Ideal S512x512 .f32) (i : Fin 16) (j : Fin 512) :
    k0_pay2 h (ix2 i j) = h (ix2 ⟨496 + i.val, by omega⟩ j) := by
  pointwise [k0_pay2]

/-! ### The pooling -/

theorem step_apply (k : ℕ) (hk : k = 1 ∨ k = 2 ∨ k = 4 ∨ k = 8) (s : FVec Ideal S528x128 .f32) (i : Fin 528) (l : Fin 128) :
    step k s (ix2 i l) = s (ix2 i l) + s (ix2 ⟨(i.val + 528 - k) % 528, by omega⟩ l) := by
  rcases hk with rfl | rfl | rfl | rfl <;> pointwise [step]

/-- Each row is the sum of `w` terms of `E`, from the row where they are all inside. -/
def Sums (w : ℕ) (s : FVec Ideal S528x128 .f32) (E : ℕ → Fin 128 → EReal) : Prop :=
  ∀ (i : Fin 528) (l : Fin 128), w ≤ i.val + 1 → s (ix2 i l) = ∑ n ∈ Finset.range w, E (i.val - n) l

theorem step_sums (k : ℕ) (hk : k = 1 ∨ k = 2 ∨ k = 4 ∨ k = 8) (s : FVec Ideal S528x128 .f32) (E : ℕ → Fin 128 → EReal)
    (h : Sums k s E) : Sums (2 * k) (step k s) E := by
  intro i l hi
  have e : (i.val + 528 - k) % 528 = i.val - k := by omega
  rw [step_apply k hk, h i l (by omega), h _ l (by dsimp only; omega), two_mul, Finset.sum_range_add]
  simp only [e, Nat.sub_sub]

theorem sums_apply (s : FVec Ideal S528x128 .f32) (E : ℕ → Fin 128 → EReal) (h : ∀ i l, s (ix2 i l) = E i.val l) (g : Fin 4) :
    Sums (2 ^ (g.val + 1)) (sums s g) E := by
  have h1 : Sums 1 s E := fun i l _ => by rw [Finset.sum_range_one]; exact h i l
  have h2 := step_sums 1 (by decide) _ _ h1
  have h4 := step_sums 2 (by decide) _ _ h2
  have h8 := step_sums 4 (by decide) _ _ h4
  have h16 := step_sums 8 (by decide) _ _ h8
  fin_cases g
  exacts [h2, h4, h8, h16]

theorem before_apply (e : FVec Ideal S528x512 .f32) (g : Fin 4) (i : Fin 528) (l : Fin 128) :
    before e g (ix2 i l) = e (ix2 i ⟨128 * g.val + l.val, by omega⟩) := by
  fin_cases g <;> pointwise [before]

theorem own_apply (e : FVec Ideal S512x512 .f32) (g : Fin 4) (r : Fin 512) (l : Fin 128) :
    own e g (ix2 r l) = e (ix2 r ⟨128 * g.val + l.val, by omega⟩) := by
  fin_cases g <;> pointwise [own]

theorem ext_apply (x : Vec Ideal S1x512x1024 .f32) (w : Vec Ideal S1024x2560 .bf16) (H : Vec Ideal S16x512 .f32)
    (i : Fin 528) (j : Fin 512) : ext x w H (ix2 i j) =
      if h : i.val < 16 then H (ix2 ⟨i.val, h⟩ j) else proj x w 0 (ix2 ⟨i.val - 16, by omega⟩ j) := by
  pointwise [ext, k0_pay48, proj]

theorem pos_apply (t : ℕ) (r : Fin 512) : k0_pay49 (BitVec.ofNat 32 t) (ix2 r 0) = BitVec.ofNat 32 (512 * t + r.val) := by
  pointwise [k0_pay49]
  show BitVec.ofNat 32 t * BitVec.ofNat 32 512 + BitVec.ofNat 32 r.val = _
  rw [← BitVec.ofNat_mul, ← BitVec.ofNat_add, Nat.mul_comm]

theorem blend_apply (k : BitVec 32) (t : ℕ) (s : FVec Ideal S528x128 .f32) (o : FVec Ideal S512x128 .f32)
    (w : Vec Ideal S1x128x128 .bf16) (c : Vec Ideal S1x128 .f32) (r : Fin 512) (l : Fin 128) :
    blend k (BitVec.ofNat 32 t) s o w c (ix3 0 r l) = (∑ d : Fin 128, (Ideal.div (s (ix2 ⟨16 + r.val, by omega⟩ d))
      (FloatOps.sitofp (F := Ideal) .f32 (IntOp.minsi k (BitVec.ofNat 32 (512 * t + r.val) + 1#32))) - o (ix2 r d)) * w (ix3 0 d l))
        * c (ix2 0 l) := by
  pointwise [blend, pos_apply]
  rfl

end Cert.Kernel3Ideal.Odd

end
-- ==== Proof.Odd.Tile.lean ====
/-
  The pooled mixer's output in one tile, over the rows of its sequence: each group's stores, then the whole block.
-/
module

public import proofs.«01_k».proof.Proof.Odd.Read
public import Idealize.ShloMosaic.Lib.Pipeline.ValueKit
public import Idealize.ShloMosaic.Lib.Ring
public import Idealize.ShloMosaic.Lib.Pipeline.CanonAppend

@[expose] public section

set_option maxRecDepth 16384

noncomputable section

namespace Cert.Kernel3Ideal.Odd

open Cert.Kernel3Ideal Cert.Kernel3Ideal.Gen
open Idealize.ShloMosaic Idealize.ShloMosaic.TcCoe Idealize.SL.Sem

variable (T : ℕ) (x : Vec Ideal S1x512x1024 .f32) (w : Vec Ideal S1024x2560 .bf16) (mw : Vec Ideal S4x128x128 .bf16)
    (sc : Vec Ideal S1x512 .f32) (H : Vec Ideal S16x512 .f32) (u : ℕ → Fin 512 → EReal)
    (hu : ∀ r j : Fin 512, proj x w 0 (ix2 r j) = u (512 * T + r.val) j)
    (hH : ∀ (i : Fin 16) (j : Fin 512), H (ix2 i j) = Mixer.prev u (16 - i.val) (512 * T) j)

include hu hH

/-- The rows with those before, at their places in the sequence. -/
theorem ext_row (i : Fin 528) (j : Fin 512) :
    ext x w H (ix2 i j) = if 16 ≤ 512 * T + i.val then u (512 * T + i.val - 16) j else 0 := by
  rw [ext_apply]
  by_cases h : i.val < 16
  · rw [dif_pos h, hH, Mixer.prev]
    refine if_congr ?_ (congrFun (congrArg u ?_) j) rfl <;> dsimp only <;> omega
  · rw [dif_neg h, hu, if_pos (by omega)]
    exact congrFun (congrArg u (by dsimp only; omega)) j

theorem window_row (g : Fin 4) (r : Fin 512) (d : Fin 128) :
    sums (before (ext x w H) g) g (ix2 ⟨16 + r.val, by omega⟩ d) =
      Mixer.window (2 ^ (g.val + 1)) u (512 * T + r.val) ⟨128 * g.val + d.val, by omega⟩ := by
  have hw : 2 ^ (g.val + 1) ≤ 16 := by fin_cases g <;> decide
  refine (sums_apply _ (fun i d => if 16 ≤ 512 * T + i then u (512 * T + i - 16) ⟨(128 * g.val + d.val) % 512, by omega⟩ else 0)
    (fun i l => ?_) g ⟨16 + r.val, by omega⟩ d (by dsimp only; omega)).trans ?_
  · rw [before_apply, ext_row T x w H u hu hH]
    refine if_congr Iff.rfl (congrArg (u _) (Fin.ext ?_)) rfl
    dsimp only
    omega
  · unfold Mixer.window
    refine Finset.sum_congr rfl fun n hn => ?_
    have hn' : n < 16 := lt_of_lt_of_le (Finset.mem_range.1 hn) hw
    unfold Mixer.prev
    refine if_congr ?_ (congr (congrArg u ?_) (Fin.ext ?_)) rfl <;> dsimp only <;> omega

/-- One group's stores. -/
theorem pool_apply (g : Fin 4) (r : Fin 512) (l : Fin 128) :
    pool (BitVec.ofNat 32 T) x w mw sc H g (ix3 0 r l) =
      Mixer.group u (fun g d l => mw (ix3 g d l)) (fun j => sc (ix2 0 j)) (512 * T + r.val) g l := by
  rw [pool_eq, blend_apply]
  simp only [window_row T x w H u hu hH, own_apply, hu, mixW_apply, scales_apply]
  rfl

/-- The whole block. -/
theorem pools_apply (r j : Fin 512) :
    View.canon ([3, 2, 1, 0].map (poolPiece (BitVec.ofNat 32 T) x w mw sc H)) (ix3 0 r j) =
      Mixer.mixed u (fun g d l => mw (ix3 g d l)) (fun j => sc (ix2 0 j)) (512 * T + r.val) j := by
  refine (View.canon_apply_of_pieces (fun i : S1x512x512.Idx =>
    Mixer.mixed u (fun g d l => mw (ix3 g d l)) (fun j => sc (ix2 0 j)) (512 * T + (i 1).val) (i 2)) _ ?_ _
    (View.cover_of_tiledL (s := S1x512x512) _ S1x512x128.size (by sl_kernel_rfl) _)).trans rfl
  intro pc hp y
  obtain ⟨g, -, rfl⟩ := List.mem_map.1 hp
  revert y
  intro (y : S1x512x128.Idx)
  obtain ⟨a, b, rfl⟩ : ∃ (a : Fin 512) (b : Fin 128), y = ix3 0 a b := by
    refine ⟨y 1, y 2, ?_⟩
    rw [eq_ix3 y]; congr 1; exact Fin.ext (show (y 0).val = 0 from Nat.lt_one_iff.1 (y 0).isLt)
  refine (pool_apply T x w mw sc H u hu hH g a b).trans ?_
  unfold Mixer.mixed
  have e1 : ((poolPiece (BitVec.ofNat 32 T) x w mw sc H g).1.emb (ix3 0 a b) 1).val = a.val := by
    unfold poolPiece; rw [ValueKit.rect_emb_unit_val]; simp
  have e2 : ((poolPiece (BitVec.ofNat 32 T) x w mw sc H g).1.emb (ix3 0 a b) 2).val = 128 * g.val + b.val := by
    unfold poolPiece; rw [ValueKit.rect_emb_unit_val]; simp
  congr 1
  · rw [e1]
  · apply Fin.ext; dsimp only; rw [e2]; omega
  · apply Fin.ext; dsimp only; rw [e2]; omega

end Cert.Kernel3Ideal.Odd

end
-- ==== Proof.Odd.RunA.lean ====
/-
  What the body of a grid point leaves, in the stages' terms. At the first tile of a sequence, the rows before are zero.
-/
module

public import proofs.«01_k».proof.Proof.Gen.Kernel3Ideal.Frame
public import proofs.«01_k».proof.Proof.Odd.Stage
public import Idealize.ShloMosaic.Lib.Pipeline.Value
public import Idealize.ShloMosaic.Lib.Pipeline.ReadBack

@[expose] public section

set_option maxRecDepth 16384

noncomputable section

namespace Cert.Kernel3Ideal.Odd

open Cert.Kernel3Ideal Cert.Kernel3Ideal.Gen
open Idealize.ShloMosaic Idealize.ShloMosaic.TcCoe Idealize.SL.Sem

variable {F : FTy → Type} [FloatOps F]
variable (c : Dev nD) (i : grid0.Coords)
    (arg2 : Memref sig .tc .vmem S1x512x1024 .f32) (harg2 : arg2.IsWhole)
    (arg3 : Memref sig .tc .vmem S1024x2560 .bf16) (harg3 : arg3.IsWhole)
    (arg4 : Memref sig .tc .vmem S1024x256 .bf16) (harg4 : arg4.IsWhole)
    (arg5 : Memref sig .tc .vmem S512x128 .f32) (harg5 : arg5.IsWhole)
    (arg6 : Memref sig .tc .vmem S512x128 .f32) (harg6 : arg6.IsWhole)
    (arg7 : Memref sig .tc .vmem S512x128 .f32) (harg7 : arg7.IsWhole)
    (arg8 : Memref sig .tc .vmem S4x128x128 .bf16) (harg8 : arg8.IsWhole)
    (arg9 : Memref sig .tc .vmem S1x512 .f32) (harg9 : arg9.IsWhole)
    (arg10 : Memref sig .tc .vmem S1x512x512 .f32) (harg10 : arg10.IsWhole)
    (arg11 : Memref sig .tc .vmem S1x512x512 .f32) (harg11 : arg11.IsWhole)
    (arg12 : Memref sig .tc .vmem S1x512x64 .f32) (harg12 : arg12.IsWhole)
    (arg13 : Memref sig .tc .vmem S1x512x512 .bf16) (harg13 : arg13.IsWhole)
    (arg14 : Memref sig .tc .vmem S1x512x512 .bf16) (harg14 : arg14.IsWhole)
    (arg15 : Memref sig .tc .vmem S1x512x1024 .bf16) (harg15 : arg15.IsWhole)
    (arg16 : Memref sig .tc .vmem S1x512x512 .bf16) (harg16 : arg16.IsWhole)
    (arg17 : Memref sig .tc .vmem S1x512x64 .bf16) (harg17 : arg17.IsWhole)
    (arg18 : Memref sig .tc .vmem S1x8x512 .f32) (harg18 : arg18.IsWhole)
    (arg19 : Memref sig .tc .vmem S1x512x512 .bf16) (harg19 : arg19.IsWhole)
    (arg20 : Memref sig .tc .vmem S1x16x512 .f32) (harg20 : arg20.IsWhole)
    (arg21 : Memref sig .tc .vmem S16x512 .f32) (harg21 : arg21.IsWhole)
    (hc0 : cond0_0 i)
    (x0 : Vec F S1x512x1024 .f32)
    (x1 : Vec F S1024x2560 .bf16)
    (x2 : Vec F S1024x256 .bf16)
    (x3 : Vec F S512x128 .f32)
    (x4 : Vec F S512x128 .f32)
    (x5 : Vec F S512x128 .f32)
    (x6 : Vec F S4x128x128 .bf16)
    (x7 : Vec F S1x512 .f32)

/-- The keys. -/
theorem k_A :
    out0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0
      x0 x1 x2 x3 x4 x5 x6 x7 =
      k0_pay22 (rotAll x3 x4 x5 (proj x0 x1 2)) := by
  have hz : (![0, 0, 0] : Fin 3 → ℕ) = fun _ => 0 := by funext a; fin_cases a <;> rfl
  have hz2 : (![0, 0] : Fin 2 → ℕ) = fun _ => 0 := by funext a; fin_cases a <;> rfl
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7)]
  unfold kernelRun0_A
  dsimp only
  sl_unfold_words
  rw [View.canon_unit_zero (S := S1x512x512) hz]
  simp only [View.readAt_eq_ld, harg2.read_unread, harg3.read_unread, harg4.read_unread, harg5.read_unread, harg6.read_unread, harg7.read_unread, harg8.read_unread, harg9.read_unread, View.ld_unit_zero (S := S1x512x1024) hz, View.ld_unit_zero (S := S1024x256) hz2, View.ld_unit_zero (S := S512x128) hz2]
  rfl

/-- The values. -/
theorem v_A :
    out0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0
      x0 x1 x2 x3 x4 x5 x6 x7 =
      k0_pay23 (proj x0 x1 3) := by
  have hz : (![0, 0, 0] : Fin 3 → ℕ) = fun _ => 0 := by funext a; fin_cases a <;> rfl
  have hz2 : (![0, 0] : Fin 2 → ℕ) = fun _ => 0 := by funext a; fin_cases a <;> rfl
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7)]
  unfold kernelRun0_A
  dsimp only
  sl_unfold_words
  rw [View.canon_unit_zero (S := S1x512x512) hz]
  simp only [View.readAt_eq_ld, harg2.read_unread, harg3.read_unread, harg4.read_unread, harg5.read_unread, harg6.read_unread, harg7.read_unread, harg8.read_unread, harg9.read_unread, View.ld_unit_zero (S := S1x512x1024) hz, View.ld_unit_zero (S := S1024x256) hz2, View.ld_unit_zero (S := S512x128) hz2]
  rfl

/-- The index keys. -/
theorem ki_A :
    out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0
      x0 x1 x2 x3 x4 x5 x6 x7 =
      k0_pay24 (k0_pay6 x3) (k0_pay7 x4) (k0_pay8 x5) (k0_pay20 (k0_pay5 x0) x2) := by
  have hz : (![0, 0, 0] : Fin 3 → ℕ) = fun _ => 0 := by funext a; fin_cases a <;> rfl
  have hz2 : (![0, 0] : Fin 2 → ℕ) = fun _ => 0 := by funext a; fin_cases a <;> rfl
  unfold out0_A_10
  rw [View.read_writes_eq_canon _ _ _ (cover0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7)]
  unfold kernelRun0_A
  dsimp only
  sl_unfold_words
  rw [View.canon_unit_zero (S := S1x512x64) hz]
  simp only [View.readAt_eq_ld, harg2.read_unread, harg3.read_unread, harg4.read_unread, harg5.read_unread, harg6.read_unread, harg7.read_unread, harg8.read_unread, harg9.read_unread, View.ld_unit_zero (S := S1x512x1024) hz, View.ld_unit_zero (S := S1024x256) hz2, View.ld_unit_zero (S := S512x128) hz2]

/-- The queries, scaled. -/
theorem q_A :
    out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0
      x0 x1 x2 x3 x4 x5 x6 x7 =
      k0_pay26 (rotAll x3 x4 x5 (proj x0 x1 1)) := by
  have hz : (![0, 0, 0] : Fin 3 → ℕ) = fun _ => 0 := by funext a; fin_cases a <;> rfl
  have hz2 : (![0, 0] : Fin 2 → ℕ) = fun _ => 0 := by funext a; fin_cases a <;> rfl
  unfold out0_A_11
  rw [View.read_writes_eq_canon _ _ _ (cover0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7)]
  unfold kernelRun0_A
  dsimp only
  sl_unfold_words
  rw [View.canon_unit_zero (S := S1x512x512) hz]
  simp only [View.readAt_eq_ld, harg2.read_unread, harg3.read_unread, harg4.read_unread, harg5.read_unread, harg6.read_unread, harg7.read_unread, harg8.read_unread, harg9.read_unread, View.ld_unit_zero (S := S1x512x1024) hz, View.ld_unit_zero (S := S1024x256) hz2, View.ld_unit_zero (S := S512x128) hz2]
  rfl

/-- The index queries, transposed. -/
theorem qi_A :
    out0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0
      x0 x1 x2 x3 x4 x5 x6 x7 =
      k0_pay44 (rotAll x3 x4 x5 (proj x0 x1 4)) := by
  have hz : (![0, 0, 0] : Fin 3 → ℕ) = fun _ => 0 := by funext a; fin_cases a <;> rfl
  have hz2 : (![0, 0] : Fin 2 → ℕ) = fun _ => 0 := by funext a; fin_cases a <;> rfl
  unfold out0_A_14
  rw [View.read_writes_eq_canon _ _ _ (cover0_A_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7)]
  unfold kernelRun0_A
  dsimp only
  sl_unfold_words
  rw [View.canon_unit_zero (S := S1x512x512) hz]
  simp only [View.readAt_eq_ld, harg2.read_unread, harg3.read_unread, harg4.read_unread, harg5.read_unread, harg6.read_unread, harg7.read_unread, harg8.read_unread, harg9.read_unread, View.ld_unit_zero (S := S1x512x1024) hz, View.ld_unit_zero (S := S1024x256) hz2, View.ld_unit_zero (S := S512x128) hz2]
  rfl

/-- The index weights, transposed. -/
theorem wi_A :
    out0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0
      x0 x1 x2 x3 x4 x5 x6 x7 =
      k0_pay46 (k0_pay25 (k0_pay19 (k0_pay5 x0) x2)) := by
  have hz : (![0, 0, 0] : Fin 3 → ℕ) = fun _ => 0 := by funext a; fin_cases a <;> rfl
  have hz2 : (![0, 0] : Fin 2 → ℕ) = fun _ => 0 := by funext a; fin_cases a <;> rfl
  unfold out0_A_16
  rw [View.read_writes_eq_canon _ _ _ (cover0_A_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7)]
  unfold kernelRun0_A
  dsimp only
  sl_unfold_words
  rw [View.canon_unit_zero (S := S1x8x512) hz]
  simp only [View.readAt_eq_ld, harg2.read_unread, harg3.read_unread, harg4.read_unread, harg5.read_unread, harg6.read_unread, harg7.read_unread, harg8.read_unread, harg9.read_unread, View.ld_unit_zero (S := S1x512x1024) hz, View.ld_unit_zero (S := S1024x256) hz2, View.ld_unit_zero (S := S512x128) hz2]

/-- The pooled mixer's output. -/
theorem co_A :
    out0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0
      x0 x1 x2 x3 x4 x5 x6 x7 =
      View.canon ([3, 2, 1, 0].map (poolPiece (BitVec.ofNat 32 (i 1).val) x0 x1 x6 x7 k0_pay4)) := by
  have hz : (![0, 0, 0] : Fin 3 → ℕ) = fun _ => 0 := by funext a; fin_cases a <;> rfl
  have hz2 : (![0, 0] : Fin 2 → ℕ) = fun _ => 0 := by funext a; fin_cases a <;> rfl
  unfold out0_A_17
  rw [View.read_writes_eq_canon _ _ _ (cover0_A_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7)]
  unfold kernelRun0_A
  dsimp only
  sl_unfold_words
  simp (disch := decide) only [↓View.readCov_skip, ↓View.readCov_fill]
  simp only [View.readAt_eq_ld, harg2.read_unread, harg3.read_unread, harg4.read_unread, harg5.read_unread, harg6.read_unread, harg7.read_unread, harg8.read_unread, harg9.read_unread, View.ld_unit_zero (S := S1x512x1024) hz, View.ld_unit_zero (S := S1024x256) hz2, View.ld_unit_zero (S := S512x128) hz2]
  rfl

/-- The state. -/
theorem ph_A :
    out0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0
      x0 x1 x2 x3 x4 x5 x6 x7 =
      k0_pay3 (proj x0 x1 0) := by
  have hz : (![0, 0, 0] : Fin 3 → ℕ) = fun _ => 0 := by funext a; fin_cases a <;> rfl
  have hz2 : (![0, 0] : Fin 2 → ℕ) = fun _ => 0 := by funext a; fin_cases a <;> rfl
  unfold out0_A_18
  rw [View.read_writes_eq_canon _ _ _ (cover0_A_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7)]
  unfold kernelRun0_A
  dsimp only
  sl_unfold_words
  rw [View.canon_unit_zero (S := S1x16x512) hz]
  simp only [View.readAt_eq_ld, harg2.read_unread, harg3.read_unread, harg4.read_unread, harg5.read_unread, harg6.read_unread, harg7.read_unread, harg8.read_unread, harg9.read_unread, View.ld_unit_zero (S := S1x512x1024) hz, View.ld_unit_zero (S := S1024x256) hz2, View.ld_unit_zero (S := S512x128) hz2]
  rfl

/-- The rows kept for the next tile. -/
theorem kept_A :
    sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0
      x0 x1 x2 x3 x4 x5 x6 x7 =
      View.canon ([⟨Rect.unit ![0, 0] S16x512.size (by decide), k0_pay2 (proj x0 x1 0)⟩, ⟨Rect.unit ![0, 0] S16x512.size (by decide), k0_pay4⟩]) := by
  have hz : (![0, 0, 0] : Fin 3 → ℕ) = fun _ => 0 := by funext a; fin_cases a <;> rfl
  have hz2 : (![0, 0] : Fin 2 → ℕ) = fun _ => 0 := by funext a; fin_cases a <;> rfl
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7)]
  unfold kernelRun0_A
  dsimp only
  sl_unfold_words
  simp only [View.readAt_eq_ld, harg2.read_unread, harg3.read_unread, harg4.read_unread, harg5.read_unread, harg6.read_unread, harg7.read_unread, harg8.read_unread, harg9.read_unread, View.ld_unit_zero (S := S1x512x1024) hz, View.ld_unit_zero (S := S1024x256) hz2, View.ld_unit_zero (S := S512x128) hz2]
  rfl

end Cert.Kernel3Ideal.Odd

end
-- ==== Proof.Odd.RunB.lean ====
/-
  What the body of a grid point leaves, in the stages' terms. At a later tile of a sequence, the rows before are what the tile before left.
-/
module

public import proofs.«01_k».proof.Proof.Gen.Kernel3Ideal.Frame
public import proofs.«01_k».proof.Proof.Odd.Stage
public import Idealize.ShloMosaic.Lib.Pipeline.Value
public import Idealize.ShloMosaic.Lib.Pipeline.ReadBack

@[expose] public section

set_option maxRecDepth 16384

noncomputable section

namespace Cert.Kernel3Ideal.Odd

open Cert.Kernel3Ideal Cert.Kernel3Ideal.Gen
open Idealize.ShloMosaic Idealize.ShloMosaic.TcCoe Idealize.SL.Sem

variable {F : FTy → Type} [FloatOps F]
variable (c : Dev nD) (i : grid0.Coords)
    (arg2 : Memref sig .tc .vmem S1x512x1024 .f32) (harg2 : arg2.IsWhole)
    (arg3 : Memref sig .tc .vmem S1024x2560 .bf16) (harg3 : arg3.IsWhole)
    (arg4 : Memref sig .tc .vmem S1024x256 .bf16) (harg4 : arg4.IsWhole)
    (arg5 : Memref sig .tc .vmem S512x128 .f32) (harg5 : arg5.IsWhole)
    (arg6 : Memref sig .tc .vmem S512x128 .f32) (harg6 : arg6.IsWhole)
    (arg7 : Memref sig .tc .vmem S512x128 .f32) (harg7 : arg7.IsWhole)
    (arg8 : Memref sig .tc .vmem S4x128x128 .bf16) (harg8 : arg8.IsWhole)
    (arg9 : Memref sig .tc .vmem S1x512 .f32) (harg9 : arg9.IsWhole)
    (arg10 : Memref sig .tc .vmem S1x512x512 .f32) (harg10 : arg10.IsWhole)
    (arg11 : Memref sig .tc .vmem S1x512x512 .f32) (harg11 : arg11.IsWhole)
    (arg12 : Memref sig .tc .vmem S1x512x64 .f32) (harg12 : arg12.IsWhole)
    (arg13 : Memref sig .tc .vmem S1x512x512 .bf16) (harg13 : arg13.IsWhole)
    (arg14 : Memref sig .tc .vmem S1x512x512 .bf16) (harg14 : arg14.IsWhole)
    (arg15 : Memref sig .tc .vmem S1x512x1024 .bf16) (harg15 : arg15.IsWhole)
    (arg16 : Memref sig .tc .vmem S1x512x512 .bf16) (harg16 : arg16.IsWhole)
    (arg17 : Memref sig .tc .vmem S1x512x64 .bf16) (harg17 : arg17.IsWhole)
    (arg18 : Memref sig .tc .vmem S1x8x512 .f32) (harg18 : arg18.IsWhole)
    (arg19 : Memref sig .tc .vmem S1x512x512 .bf16) (harg19 : arg19.IsWhole)
    (arg20 : Memref sig .tc .vmem S1x16x512 .f32) (harg20 : arg20.IsWhole)
    (arg21 : Memref sig .tc .vmem S16x512 .f32) (harg21 : arg21.IsWhole)
    (hc0 : ¬cond0_0 i)
    (x0 : Vec F S1x512x1024 .f32)
    (x1 : Vec F S1024x2560 .bf16)
    (x2 : Vec F S1024x256 .bf16)
    (x3 : Vec F S512x128 .f32)
    (x4 : Vec F S512x128 .f32)
    (x5 : Vec F S512x128 .f32)
    (x6 : Vec F S4x128x128 .bf16)
    (x7 : Vec F S1x512 .f32) (H : Vec F S16x512 .f32)

/-- The keys. -/
theorem k_B :
    out0_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0
      x0 x1 x2 x3 x4 x5 x6 x7 H =
      k0_pay22 (rotAll x3 x4 x5 (proj x0 x1 2)) := by
  have hz : (![0, 0, 0] : Fin 3 → ℕ) = fun _ => 0 := by funext a; fin_cases a <;> rfl
  have hz2 : (![0, 0] : Fin 2 → ℕ) = fun _ => 0 := by funext a; fin_cases a <;> rfl
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 H)]
  unfold kernelRun0_B
  dsimp only
  sl_unfold_words
  rw [View.canon_unit_zero (S := S1x512x512) hz]
  simp only [View.readAt_eq_ld, harg2.read_unread, harg3.read_unread, harg4.read_unread, harg5.read_unread, harg6.read_unread, harg7.read_unread, harg8.read_unread, harg9.read_unread, harg21.read_unread, View.ld_unit_zero (S := S1x512x1024) hz, View.ld_unit_zero (S := S1024x256) hz2, View.ld_unit_zero (S := S512x128) hz2, View.ld_unit_zero (S := S16x512) hz2]
  rfl

/-- The values. -/
theorem v_B :
    out0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0
      x0 x1 x2 x3 x4 x5 x6 x7 H =
      k0_pay23 (proj x0 x1 3) := by
  have hz : (![0, 0, 0] : Fin 3 → ℕ) = fun _ => 0 := by funext a; fin_cases a <;> rfl
  have hz2 : (![0, 0] : Fin 2 → ℕ) = fun _ => 0 := by funext a; fin_cases a <;> rfl
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 H)]
  unfold kernelRun0_B
  dsimp only
  sl_unfold_words
  rw [View.canon_unit_zero (S := S1x512x512) hz]
  simp only [View.readAt_eq_ld, harg2.read_unread, harg3.read_unread, harg4.read_unread, harg5.read_unread, harg6.read_unread, harg7.read_unread, harg8.read_unread, harg9.read_unread, harg21.read_unread, View.ld_unit_zero (S := S1x512x1024) hz, View.ld_unit_zero (S := S1024x256) hz2, View.ld_unit_zero (S := S512x128) hz2, View.ld_unit_zero (S := S16x512) hz2]
  rfl

/-- The index keys. -/
theorem ki_B :
    out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0
      x0 x1 x2 x3 x4 x5 x6 x7 H =
      k0_pay24 (k0_pay6 x3) (k0_pay7 x4) (k0_pay8 x5) (k0_pay20 (k0_pay5 x0) x2) := by
  have hz : (![0, 0, 0] : Fin 3 → ℕ) = fun _ => 0 := by funext a; fin_cases a <;> rfl
  have hz2 : (![0, 0] : Fin 2 → ℕ) = fun _ => 0 := by funext a; fin_cases a <;> rfl
  unfold out0_B_10
  rw [View.read_writes_eq_canon _ _ _ (cover0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 H)]
  unfold kernelRun0_B
  dsimp only
  sl_unfold_words
  rw [View.canon_unit_zero (S := S1x512x64) hz]
  simp only [View.readAt_eq_ld, harg2.read_unread, harg3.read_unread, harg4.read_unread, harg5.read_unread, harg6.read_unread, harg7.read_unread, harg8.read_unread, harg9.read_unread, harg21.read_unread, View.ld_unit_zero (S := S1x512x1024) hz, View.ld_unit_zero (S := S1024x256) hz2, View.ld_unit_zero (S := S512x128) hz2, View.ld_unit_zero (S := S16x512) hz2]

/-- The queries, scaled. -/
theorem q_B :
    out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0
      x0 x1 x2 x3 x4 x5 x6 x7 H =
      k0_pay26 (rotAll x3 x4 x5 (proj x0 x1 1)) := by
  have hz : (![0, 0, 0] : Fin 3 → ℕ) = fun _ => 0 := by funext a; fin_cases a <;> rfl
  have hz2 : (![0, 0] : Fin 2 → ℕ) = fun _ => 0 := by funext a; fin_cases a <;> rfl
  unfold out0_B_11
  rw [View.read_writes_eq_canon _ _ _ (cover0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 H)]
  unfold kernelRun0_B
  dsimp only
  sl_unfold_words
  rw [View.canon_unit_zero (S := S1x512x512) hz]
  simp only [View.readAt_eq_ld, harg2.read_unread, harg3.read_unread, harg4.read_unread, harg5.read_unread, harg6.read_unread, harg7.read_unread, harg8.read_unread, harg9.read_unread, harg21.read_unread, View.ld_unit_zero (S := S1x512x1024) hz, View.ld_unit_zero (S := S1024x256) hz2, View.ld_unit_zero (S := S512x128) hz2, View.ld_unit_zero (S := S16x512) hz2]
  rfl

/-- The index queries, transposed. -/
theorem qi_B :
    out0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0
      x0 x1 x2 x3 x4 x5 x6 x7 H =
      k0_pay44 (rotAll x3 x4 x5 (proj x0 x1 4)) := by
  have hz : (![0, 0, 0] : Fin 3 → ℕ) = fun _ => 0 := by funext a; fin_cases a <;> rfl
  have hz2 : (![0, 0] : Fin 2 → ℕ) = fun _ => 0 := by funext a; fin_cases a <;> rfl
  unfold out0_B_14
  rw [View.read_writes_eq_canon _ _ _ (cover0_B_14 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 H)]
  unfold kernelRun0_B
  dsimp only
  sl_unfold_words
  rw [View.canon_unit_zero (S := S1x512x512) hz]
  simp only [View.readAt_eq_ld, harg2.read_unread, harg3.read_unread, harg4.read_unread, harg5.read_unread, harg6.read_unread, harg7.read_unread, harg8.read_unread, harg9.read_unread, harg21.read_unread, View.ld_unit_zero (S := S1x512x1024) hz, View.ld_unit_zero (S := S1024x256) hz2, View.ld_unit_zero (S := S512x128) hz2, View.ld_unit_zero (S := S16x512) hz2]
  rfl

/-- The index weights, transposed. -/
theorem wi_B :
    out0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0
      x0 x1 x2 x3 x4 x5 x6 x7 H =
      k0_pay46 (k0_pay25 (k0_pay19 (k0_pay5 x0) x2)) := by
  have hz : (![0, 0, 0] : Fin 3 → ℕ) = fun _ => 0 := by funext a; fin_cases a <;> rfl
  have hz2 : (![0, 0] : Fin 2 → ℕ) = fun _ => 0 := by funext a; fin_cases a <;> rfl
  unfold out0_B_16
  rw [View.read_writes_eq_canon _ _ _ (cover0_B_16 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 H)]
  unfold kernelRun0_B
  dsimp only
  sl_unfold_words
  rw [View.canon_unit_zero (S := S1x8x512) hz]
  simp only [View.readAt_eq_ld, harg2.read_unread, harg3.read_unread, harg4.read_unread, harg5.read_unread, harg6.read_unread, harg7.read_unread, harg8.read_unread, harg9.read_unread, harg21.read_unread, View.ld_unit_zero (S := S1x512x1024) hz, View.ld_unit_zero (S := S1024x256) hz2, View.ld_unit_zero (S := S512x128) hz2, View.ld_unit_zero (S := S16x512) hz2]

/-- The pooled mixer's output. -/
theorem co_B :
    out0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0
      x0 x1 x2 x3 x4 x5 x6 x7 H =
      View.canon ([3, 2, 1, 0].map (poolPiece (BitVec.ofNat 32 (i 1).val) x0 x1 x6 x7 H)) := by
  have hz : (![0, 0, 0] : Fin 3 → ℕ) = fun _ => 0 := by funext a; fin_cases a <;> rfl
  have hz2 : (![0, 0] : Fin 2 → ℕ) = fun _ => 0 := by funext a; fin_cases a <;> rfl
  unfold out0_B_17
  rw [View.read_writes_eq_canon _ _ _ (cover0_B_17 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 H)]
  unfold kernelRun0_B
  dsimp only
  sl_unfold_words
  simp only [View.readAt_eq_ld, harg2.read_unread, harg3.read_unread, harg4.read_unread, harg5.read_unread, harg6.read_unread, harg7.read_unread, harg8.read_unread, harg9.read_unread, harg21.read_unread, View.ld_unit_zero (S := S1x512x1024) hz, View.ld_unit_zero (S := S1024x256) hz2, View.ld_unit_zero (S := S512x128) hz2, View.ld_unit_zero (S := S16x512) hz2]
  rfl

/-- The state. -/
theorem ph_B :
    out0_B_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0
      x0 x1 x2 x3 x4 x5 x6 x7 H =
      k0_pay3 (proj x0 x1 0) := by
  have hz : (![0, 0, 0] : Fin 3 → ℕ) = fun _ => 0 := by funext a; fin_cases a <;> rfl
  have hz2 : (![0, 0] : Fin 2 → ℕ) = fun _ => 0 := by funext a; fin_cases a <;> rfl
  unfold out0_B_18
  rw [View.read_writes_eq_canon _ _ _ (cover0_B_18 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 H)]
  unfold kernelRun0_B
  dsimp only
  sl_unfold_words
  rw [View.canon_unit_zero (S := S1x16x512) hz]
  simp only [View.readAt_eq_ld, harg2.read_unread, harg3.read_unread, harg4.read_unread, harg5.read_unread, harg6.read_unread, harg7.read_unread, harg8.read_unread, harg9.read_unread, harg21.read_unread, View.ld_unit_zero (S := S1x512x1024) hz, View.ld_unit_zero (S := S1024x256) hz2, View.ld_unit_zero (S := S512x128) hz2, View.ld_unit_zero (S := S16x512) hz2]
  rfl

/-- The rows kept for the next tile. -/
theorem kept_B :
    sout0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0
      x0 x1 x2 x3 x4 x5 x6 x7 H =
      k0_pay2 (proj x0 x1 0) := by
  have hz : (![0, 0, 0] : Fin 3 → ℕ) = fun _ => 0 := by funext a; fin_cases a <;> rfl
  have hz2 : (![0, 0] : Fin 2 → ℕ) = fun _ => 0 := by funext a; fin_cases a <;> rfl
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 H)]
  unfold kernelRun0_B
  dsimp only
  sl_unfold_words
  rw [View.canon_unit_zero (S := S16x512) hz2]
  simp only [View.readAt_eq_ld, harg2.read_unread, harg3.read_unread, harg4.read_unread, harg5.read_unread, harg6.read_unread, harg7.read_unread, harg8.read_unread, harg9.read_unread, harg21.read_unread, View.ld_unit_zero (S := S1x512x1024) hz, View.ld_unit_zero (S := S1024x256) hz2, View.ld_unit_zero (S := S512x128) hz2, View.ld_unit_zero (S := S16x512) hz2]
  rfl

end Cert.Kernel3Ideal.Odd

end
-- ==== Proof.Odd.Blocks.lean ====
/-
  The blocks of a grid point as the arrays they come from: point `t` is tile `t % 8` of sequence `t / 8`.
-/
module

public import proofs.«01_k».proof.Proof.Gen.Kernel3Ideal.Frame
public import proofs.«01_k».proof.Proof.Odd.Spec
public import Idealize.ShloMosaic.Lib.Pipeline.ValueKit
public import Idealize.ShloMosaic.Lib.Pointwise
public import Idealize.ShloMosaic.Lib.Claim

@[expose] public section

set_option maxRecDepth 16384

noncomputable section

namespace Cert.Kernel3Ideal.Odd

open Cert.Kernel3Ideal Cert.Kernel3Ideal.Gen
open Idealize.ShloMosaic Idealize.ShloMosaic.TcCoe Idealize.SL.Sem

variable (m : (ℓ : Loc nD τ sig) → Buf (Elt Ideal) ℓ)

/-- The windows' block indices. -/
theorem idx : ∀ t : Fin cfg0.N, win0_0.index t = ![t.val / 8, t.val % 8, 0] ∧ win0_1.index t = ![0, 0]
    ∧ win0_2.index t = ![0, 0] ∧ win0_3.index t = ![t.val % 8, 0] ∧ win0_4.index t = ![t.val % 8, 0]
    ∧ win0_5.index t = ![t.val % 8, 0] ∧ win0_6.index t = ![0, 0, 0] ∧ win0_7.index t = ![0, 0] :=
  (by decide +kernel : ∀ t : Fin grid0.N, _)

theorem seq_lt (t : Fin cfg0.N) : t.val / 8 < 4 := by
  have := t.isLt; have h : cfg0.N = 32 := rfl; omega

theorem row_lt (t : Fin cfg0.N) (r : Fin 512) : 512 * (t.val % 8) + r.val < 4096 := by omega

/-! The arrays as the kernel's arguments hold them. -/

def arr0 (c : Dev nD) : Vec Ideal S4x4096x1024 .f32 := m ((c : Thread nD τ).loc main_arg0)
def arr1 (c : Dev nD) : Vec Ideal S1x1024x2632 .f32 := m ((c : Thread nD τ).loc main_arg1)
def arr2 (c : Dev nD) : Vec Ideal S1x4x128x128 .f32 := m ((c : Thread nD τ).loc main_arg2)
def arr3 (c : Dev nD) : Vec Ideal S1x512 .f32 := m ((c : Thread nD τ).loc main_arg3)

/-! The blocks of a grid point. -/

def blk0 (c : Dev nD) (t : Fin cfg0.N) : Vec Ideal S1x512x1024 .f32 := iblk m c 0 t
def blk1 (c : Dev nD) (t : Fin cfg0.N) : Vec Ideal S1024x2560 .bf16 := iblk m c 1 t
def blk2 (c : Dev nD) (t : Fin cfg0.N) : Vec Ideal S1024x256 .bf16 := iblk m c 2 t
def blk3 (c : Dev nD) (t : Fin cfg0.N) : Vec Ideal S512x128 .f32 := iblk m c 3 t
def blk4 (c : Dev nD) (t : Fin cfg0.N) : Vec Ideal S512x128 .f32 := iblk m c 4 t
def blk5 (c : Dev nD) (t : Fin cfg0.N) : Vec Ideal S512x128 .f32 := iblk m c 5 t
def blk6 (c : Dev nD) (t : Fin cfg0.N) : Vec Ideal S4x128x128 .bf16 := iblk m c 6 t
def blk7 (c : Dev nD) (t : Fin cfg0.N) : Vec Ideal S1x512 .f32 := iblk m c 7 t

theorem block0 (c : Dev nD) (t : Fin cfg0.N) (r : Fin 512) (d : Fin 1024) :
    blk0 m c t (ix3 0 r d) = arr0 m c (ix3 ⟨t.val / 8, seq_lt t⟩ ⟨512 * (t.val % 8) + r.val, row_lt t r⟩ d) := by
  unfold blk0 arr0
  blk_ext [iblk, V, idx t]

theorem block1 (c : Dev nD) (t : Fin cfg0.N) (d : Fin 1024) (j : Fin 2560) :
    blk1 m c t (ix2 d j) = arr1 m c (ix3 0 d ⟨j.val, by omega⟩) := by
  unfold blk1 arr1
  blk_simp [iblk]
  entry_read
  pointwise
  blk_ext [idx t]

/-! The host's arrays: the narrow weights and the three tables. -/

def narrow (c : Dev nD) : Vec Ideal S1024x256 .bf16 := V m c main_v9
def tabs3 (c : Dev nD) : Vec Ideal S4096x128 .f32 := V m c main_v35
def tabs4 (c : Dev nD) : Vec Ideal S4096x128 .f32 := V m c main_v36
def tabs5 (c : Dev nD) : Vec Ideal S4096x128 .f32 := V m c main_v37

theorem block2 (c : Dev nD) (t : Fin cfg0.N) (d : Fin 1024) (j : Fin 256) : blk2 m c t (ix2 d j) = narrow m c (ix2 d j) := by
  unfold blk2 narrow
  blk_ext [iblk, idx t]

theorem block3 (c : Dev nD) (t : Fin cfg0.N) (r : Fin 512) (l : Fin 128) :
    blk3 m c t (ix2 r l) = tabs3 m c (ix2 ⟨512 * (t.val % 8) + r.val, row_lt t r⟩ l) := by
  unfold blk3 tabs3
  blk_ext [iblk, idx t]

theorem block4 (c : Dev nD) (t : Fin cfg0.N) (r : Fin 512) (l : Fin 128) :
    blk4 m c t (ix2 r l) = tabs4 m c (ix2 ⟨512 * (t.val % 8) + r.val, row_lt t r⟩ l) := by
  unfold blk4 tabs4
  blk_ext [iblk, idx t]

theorem block5 (c : Dev nD) (t : Fin cfg0.N) (r : Fin 512) (l : Fin 128) :
    blk5 m c t (ix2 r l) = tabs5 m c (ix2 ⟨512 * (t.val % 8) + r.val, row_lt t r⟩ l) := by
  unfold blk5 tabs5
  blk_ext [iblk, idx t]

theorem block6 (c : Dev nD) (t : Fin cfg0.N) (g : Fin 4) (d l : Fin 128) :
    blk6 m c t (ix3 g d l) = arr2 m c (ix4 0 g d l) := by
  unfold blk6 arr2
  blk_simp [iblk]
  entry_read
  pointwise
  blk_ext [idx t]

theorem block7 (c : Dev nD) (t : Fin cfg0.N) (j : Fin 512) : blk7 m c t (ix2 0 j) = arr3 m c (ix2 0 j) := by
  unfold blk7 arr3
  blk_simp [iblk]
  entry_read
  pointwise
  blk_ext [idx t]

end Cert.Kernel3Ideal.Odd

end
-- ==== Proof.Odd.Hosts.lean ====
/-
  The arrays that the host prepares, at one element: the narrow weights are columns of the projection's weights, the tables
  are the cosines and sines of the row's angles.
-/
module

public import proofs.«01_k».proof.Proof.Gen.Kernel3Ideal.Frame
public import proofs.«01_k».proof.Proof.Odd.Blocks
public import Idealize.ShloMosaic.Lib.Pipeline.ValueKit
public import Idealize.ShloMosaic.Lib.Pointwise
public import Idealize.ShloMosaic.Lib.StableHlo.ReadAt

@[expose] public section

set_option maxRecDepth 16384

noncomputable section

namespace Cert.Kernel3Ideal.Odd

open Cert.Kernel3Ideal Cert.Kernel3Ideal.Gen
open Idealize.ShloMosaic Idealize.ShloMosaic.TcCoe Idealize.SL.Sem

variable (m : (ℓ : Loc nD τ sig) → Buf (Elt Ideal) ℓ)

theorem narrow_ki (c : Dev nD) (d : Fin 1024) (j : Fin 64) :
    narrow m c (ix2 d ⟨j.val, by omega⟩) = arr1 m c (ix3 0 d ⟨2560 + j.val, by omega⟩) := by
  unfold narrow arr1 V
  repeat after_reads_at

theorem narrow_wi (c : Dev nD) (d : Fin 1024) (j : Fin 8) :
    narrow m c (ix2 d ⟨128 + j.val, by omega⟩) = arr1 m c (ix3 0 d ⟨2624 + j.val, by omega⟩) := by
  unfold narrow arr1 V
  repeat after_reads_at
  rw [dif_neg (by omega), dif_neg (by omega), dif_pos (by omega)]
  exact congrArg (fun n => arr1 m c (ix3 0 d n)) (Fin.ext (by dsimp only; omega))

theorem tabs3_apply (c : Dev nD) (p : Fin 4096) (l : Fin 128) :
    tabs3 m c (ix2 p l) = Mixer.tabC (fun n => Mixer.cosAt p.val n.val) (l.val % 64) := by
  unfold tabs3 V
  repeat after_reads_at
  unfold Mixer.tabC
  split_ifs <;> first | omega | rfl | exact congrArg (Mixer.cosAt p.val) (by dsimp only; omega)

theorem tabs4_apply (c : Dev nD) (p : Fin 4096) (l : Fin 128) :
    tabs4 m c (ix2 p l) = Mixer.tabS (fun n => Mixer.sinAt p.val n.val) (l.val % 64) := by
  unfold tabs4 V
  repeat after_reads_at
  unfold Mixer.tabS
  split_ifs <;> first | omega | rfl | exact congrArg (Mixer.sinAt p.val) (by dsimp only; omega)

theorem tabs5_apply (c : Dev nD) (p : Fin 4096) (l : Fin 128) :
    tabs5 m c (ix2 p l) = Mixer.tabN (fun n => Mixer.sinAt p.val n.val) (l.val % 64) := by
  unfold tabs5 V
  repeat after_reads_at
  unfold Mixer.tabN
  split_ifs <;> first | omega | rfl | exact congrArg (fun n => -Mixer.sinAt p.val n) (by dsimp only; omega)

end Cert.Kernel3Ideal.Odd

end
-- ==== Proof.Odd.Point.lean ====
/-
  One grid point, from its blocks to the rows of its tile; then all the points of a sequence, the sixteen rows kept between
  them by induction; then the arrays.
-/
module

public import proofs.«01_k».proof.Proof.Odd.Tile
public import proofs.«01_k».proof.Proof.Odd.RunA
public import proofs.«01_k».proof.Proof.Odd.RunB
public import proofs.«01_k».proof.Proof.Odd.Hosts
public import proofs.«01_k».proof.Proof.Gen.Kernel3Ideal.Value

@[expose] public section

set_option maxRecDepth 16384

noncomputable section

namespace Cert.Kernel3Ideal.Odd

open Cert.Kernel3Ideal Cert.Kernel3Ideal.Gen
open Idealize.ShloMosaic Idealize.ShloMosaic.TcCoe Idealize.SL.Sem

/-! ### A tile, over any names for its blocks' elements -/

section Tile

variable (x0 : Vec Ideal S1x512x1024 .f32) (x1 : Vec Ideal S1024x2560 .bf16) (x2 : Vec Ideal S1024x256 .bf16)
    (x3 x4 x5 : Vec Ideal S512x128 .f32) (x : Fin 512 → Fin 1024 → EReal) (w : Fin 1024 → Fin 2632 → EReal) (p : ℕ)
    (h0 : ∀ r d, x0 (ix3 0 r d) = x r d) (h1 : ∀ d (j : Fin 2560), x1 (ix2 d j) = w d ⟨j.val, by omega⟩)

include h0 h1 in
theorem proj_row (k : Fin 5) (r j : Fin 512) : proj x0 x1 k (ix2 r j) = Mixer.sect (x r) w k j := by
  rw [proj_apply]
  simp only [h0, h1]
  rfl

variable (T : Tables x3 x4 x5 (fun r n => Mixer.cosAt (p + r.val) n.val) (fun r n => Mixer.sinAt (p + r.val) n.val))

include h0 h1 T in
theorem turned_row (k : Fin 5) (r j : Fin 512) :
    rotAll x3 x4 x5 (proj x0 x1 k) (ix2 r j) = Mixer.turned (p + r.val) (x r) w k j := by
  rw [rotAll_apply _ _ _ _ _ T]
  simp only [proj_row x0 x1 x w h0 h1]
  rfl

include h0 T in
theorem key_row (h2 : ∀ d (j : Fin 64), x2 (ix2 d ⟨j.val, by omega⟩) = w d ⟨2560 + j.val, by omega⟩) (r : Fin 512) (l : Fin 64) :
    k0_pay24 (k0_pay6 x3) (k0_pay7 x4) (k0_pay8 x5) (k0_pay20 (k0_pay5 x0) x2) (ix3 0 r l) = Mixer.key (p + r.val) (x r) w l := by
  rw [ki_apply _ _ _ _ _ _ _ T]
  simp only [h0, h2]
  rfl

include h0 in
theorem weight_row (h2 : ∀ d (j : Fin 8), x2 (ix2 d ⟨128 + j.val, by omega⟩) = w d ⟨2624 + j.val, by omega⟩) (i : Fin 8)
    (r : Fin 512) : k0_pay46 (k0_pay25 (k0_pay19 (k0_pay5 x0) x2)) (ix3 0 i r) = Mixer.weight (x r) w i := by
  rw [wi_apply]
  simp only [h0, h2]
  rfl

end Tile

variable (m : (ℓ : Loc nD τ sig) → Buf (Elt Ideal) ℓ)

/-! ### The arguments, as functions -/

def X (c : Dev nD) (b : Fin 4) (p : Fin 4096) (d : Fin 1024) : EReal := arr0 m c (ix3 b p d)
def W (c : Dev nD) (d : Fin 1024) (j : Fin 2632) : EReal := arr1 m c (ix3 0 d j)
def CW (c : Dev nD) (g : Fin 4) (d l : Fin 128) : EReal := arr2 m c (ix4 0 g d l)
def CS (c : Dev nD) (j : Fin 512) : EReal := arr3 m c (ix2 0 j)

/-- The rows that sequence `b` pools. -/
def U (c : Dev nD) (b : Fin 4) : ℕ → Fin 512 → EReal := Mixer.rows (X m c b) (W m c)

/-- Point `t`'s sequence, and its tile's rows in it. -/
def seq (t : Fin cfg0.N) : Fin 4 := ⟨t.val / 8, seq_lt t⟩
def row (t : Fin cfg0.N) (r : Fin 512) : Fin 4096 := ⟨512 * (t.val % 8) + r.val, row_lt t r⟩

theorem tables_point (c : Dev nD) (t : Fin cfg0.N) : Tables (blk3 m c t) (blk4 m c t) (blk5 m c t)
    (fun r n => Mixer.cosAt (512 * (t.val % 8) + r.val) n.val) (fun r n => Mixer.sinAt (512 * (t.val % 8) + r.val) n.val) :=
  fun r l => ⟨(block3 m c t r l).trans (tabs3_apply m c _ l), (block4 m c t r l).trans (tabs4_apply m c _ l),
    (block5 m c t r l).trans (tabs5_apply m c _ l)⟩

/-- What a point leaves. -/
abbrev Left := Vec Ideal S1x512x512 .f32 × Vec Ideal S1x512x512 .f32 × Vec Ideal S1x512x64 .f32 × Vec Ideal S1x512x512 .bf16
  × Vec Ideal S1x512x512 .bf16 × Vec Ideal S1x512x1024 .bf16 × Vec Ideal S1x512x512 .bf16 × Vec Ideal S1x512x64 .bf16
  × Vec Ideal S1x8x512 .f32 × Vec Ideal S1x512x512 .bf16 × Vec Ideal S1x16x512 .f32 × Vec Ideal S16x512 .f32

/-- Each output's block is its tile's rows; the rows kept are the tile's last sixteen. -/
structure Good (c : Dev nD) (t : Fin cfg0.N) (o : Left) : Prop where
  k : ∀ r j, o.1 (ix3 0 r j) = Mixer.turned (512 * (t.val % 8) + r.val) (X m c (seq t) (row t r)) (W m c) 2 j
  v : ∀ r j, o.2.1 (ix3 0 r j) = Mixer.sect (X m c (seq t) (row t r)) (W m c) 3 j
  ki : ∀ r j, o.2.2.1 (ix3 0 r j) = Mixer.key (512 * (t.val % 8) + r.val) (X m c (seq t) (row t r)) (W m c) j
  q : ∀ r j, o.2.2.2.1 (ix3 0 r j) = Mixer.turned (512 * (t.val % 8) + r.val) (X m c (seq t) (row t r)) (W m c) 1 j * Ideal.ofBits .f32 0x3E38AA3B#32
  qi : ∀ r j, o.2.2.2.2.2.2.1 (ix3 0 j r) = Mixer.turned (512 * (t.val % 8) + r.val) (X m c (seq t) (row t r)) (W m c) 4 j
  wi : ∀ r j, o.2.2.2.2.2.2.2.2.1 (ix3 0 j r) = Mixer.weight (X m c (seq t) (row t r)) (W m c) j
  co : ∀ r j, o.2.2.2.2.2.2.2.2.2.1 (ix3 0 r j) = Mixer.mixed (U m c (seq t)) (CW m c) (CS m c) (512 * (t.val % 8) + r.val) j
  ph : ∀ i j, o.2.2.2.2.2.2.2.2.2.2.1 (ix3 0 i j) = U m c (seq t) (512 * (t.val % 8) + 496 + i.val) j
  kept : ∀ i j, o.2.2.2.2.2.2.2.2.2.2.2 (ix2 i j) = U m c (seq t) (512 * (t.val % 8) + 496 + i.val) j

/-- The same in the stages' terms, over the rows kept before; three outputs are not followed. -/
def parts (c : Dev nD) (t : Fin cfg0.N) (H kept : Vec Ideal S16x512 .f32) (a : Vec Ideal S1x512x512 .bf16)
    (b : Vec Ideal S1x512x1024 .bf16) (d : Vec Ideal S1x512x64 .bf16) : Left :=
  (k0_pay22 (rotAll (blk3 m c t) (blk4 m c t) (blk5 m c t) (proj (blk0 m c t) (blk1 m c t) 2)),
    k0_pay23 (proj (blk0 m c t) (blk1 m c t) 3),
    k0_pay24 (k0_pay6 (blk3 m c t)) (k0_pay7 (blk4 m c t)) (k0_pay8 (blk5 m c t)) (k0_pay20 (k0_pay5 (blk0 m c t)) (blk2 m c t)),
    k0_pay26 (rotAll (blk3 m c t) (blk4 m c t) (blk5 m c t) (proj (blk0 m c t) (blk1 m c t) 1)), a, b,
    k0_pay44 (rotAll (blk3 m c t) (blk4 m c t) (blk5 m c t) (proj (blk0 m c t) (blk1 m c t) 4)), d,
    k0_pay46 (k0_pay25 (k0_pay19 (k0_pay5 (blk0 m c t)) (blk2 m c t))),
    View.canon ([3, 2, 1, 0].map (poolPiece (BitVec.ofNat 32 (grid0.coords t 1).val) (blk0 m c t) (blk1 m c t) (blk6 m c t)
      (blk7 m c t) H)), k0_pay3 (proj (blk0 m c t) (blk1 m c t) 0), kept)

/-- Two points' contents agree when the nine that are followed do. -/
theorem left_congr {k k' : Vec Ideal S1x512x512 .f32} {v v' : Vec Ideal S1x512x512 .f32} {ki ki' : Vec Ideal S1x512x64 .f32}
    {q q' : Vec Ideal S1x512x512 .bf16} {a : Vec Ideal S1x512x512 .bf16} {b : Vec Ideal S1x512x1024 .bf16}
    {qi qi' : Vec Ideal S1x512x512 .bf16} {d : Vec Ideal S1x512x64 .bf16} {wi wi' : Vec Ideal S1x8x512 .f32}
    {co co' : Vec Ideal S1x512x512 .bf16} {ph ph' : Vec Ideal S1x16x512 .f32} {kept kept' : Vec Ideal S16x512 .f32}
    (h1 : k = k') (h2 : v = v') (h3 : ki = ki') (h4 : q = q') (h5 : qi = qi') (h6 : wi = wi') (h7 : co = co') (h8 : ph = ph')
    (h9 : kept = kept') :
    ((k, v, ki, q, a, b, qi, d, wi, co, ph, kept) : Left) = (k', v', ki', q', a, b, qi', d, wi', co', ph', kept') := by
  subst h1 h2 h3 h4 h5 h6 h7 h8 h9; rfl

theorem outs_A (c : Dev nD) (t : Fin cfg0.N) (h0 : t.val % 8 = 0) : ∃ a b d, outsAt0 m c t.val t.isLt =
    parts m c t (k0_pay4 (F := Ideal)) (View.canon [⟨Rect.unit (s := S16x512) ![0, 0] S16x512.size (by decide),
        k0_pay2 (proj (blk0 m c t) (blk1 m c t) 0)⟩,
      ⟨Rect.unit (s := S16x512) ![0, 0] S16x512.size (by decide), k0_pay4 (F := Ideal)⟩]) a b d := by
  exact ⟨_, _, _, (outsAt0_A m c t h0).trans (left_congr (k_A ..) (v_A ..) (ki_A ..) (q_A ..) (qi_A ..) (wi_A ..) (co_A ..)
    (ph_A ..) (kept_A ..))⟩

theorem outs_B (c : Dev nD) (t : Fin cfg0.N) (h0 : ¬t.val % 8 = 0) (h : t.val - 1 < cfg0.N) : ∃ a b d,
    outsAt0 m c t.val t.isLt = parts m c t (outsAt0 m c (t.val - 1) h).2.2.2.2.2.2.2.2.2.2.2
      (k0_pay2 (proj (blk0 m c t) (blk1 m c t) 0)) a b d := by
  exact ⟨_, _, _, (outsAt0_B m c t h0).trans (left_congr (k_B ..) (v_B ..) (ki_B ..) (q_B ..) (qi_B ..) (wi_B ..) (co_B ..)
    (ph_B ..) (kept_B ..))⟩

theorem coord : ∀ t : Fin cfg0.N, (grid0.coords t 1).val = t.val % 8 := (by decide +kernel : ∀ t : Fin grid0.N, _)

/-- Any point's contents are its tile's rows, when the rows kept before it are those before its tile. -/
theorem good_of (c : Dev nD) (t : Fin cfg0.N) (H kept : Vec Ideal S16x512 .f32) (a : Vec Ideal S1x512x512 .bf16)
    (b : Vec Ideal S1x512x1024 .bf16) (d : Vec Ideal S1x512x64 .bf16)
    (hH : ∀ i j, H (ix2 i j) = Mixer.prev (U m c (seq t)) (16 - i.val) (512 * (t.val % 8)) j)
    (hk : ∀ i j, kept (ix2 i j) = k0_pay2 (proj (blk0 m c t) (blk1 m c t) 0) (ix2 i j)) : Good m c t (parts m c t H kept a b d) := by
  have h0 : ∀ r d, blk0 m c t (ix3 0 r d) = X m c (seq t) (row t r) d := block0 m c t
  have h1 : ∀ d (j : Fin 2560), blk1 m c t (ix2 d j) = W m c d ⟨j.val, by omega⟩ := block1 m c t
  have h2 : ∀ d (j : Fin 64), blk2 m c t (ix2 d ⟨j.val, by omega⟩) = W m c d ⟨2560 + j.val, by omega⟩ :=
    fun d j => (block2 m c t d _).trans (narrow_ki m c d j)
  have h2' : ∀ d (j : Fin 8), blk2 m c t (ix2 d ⟨128 + j.val, by omega⟩) = W m c d ⟨2624 + j.val, by omega⟩ :=
    fun d j => (block2 m c t d _).trans (narrow_wi m c d j)
  have hT := tables_point m c t
  have h6 : (fun g d l => blk6 m c t (ix3 g d l)) = CW m c := by funext g d l; exact block6 m c t g d l
  have h7 : (fun j => blk7 m c t (ix2 0 j)) = CS m c := funext (block7 m c t)
  unfold parts
  rw [coord t]
  generalize blk0 m c t = x0 at *
  generalize blk1 m c t = x1 at *
  generalize blk2 m c t = x2 at *
  generalize blk3 m c t = x3 at *
  generalize blk4 m c t = x4 at *
  generalize blk5 m c t = x5 at *
  generalize blk6 m c t = x6 at *
  generalize blk7 m c t = x7 at *
  have hp := proj_row x0 x1 (fun r => X m c (seq t) (row t r)) (W m c) h0 h1
  have ht := turned_row x0 x1 x3 x4 x5 (fun r => X m c (seq t) (row t r)) (W m c) _ h0 h1 hT
  have hu : ∀ r j : Fin 512, proj x0 x1 0 (ix2 r j) = U m c (seq t) (512 * (t.val % 8) + r.val) j := fun r j =>
    (hp 0 r j).trans (Mixer.rows_of_lt (X m c (seq t)) (W m c) (row t r).isLt j).symm
  have hl : ∀ (i : Fin 16) (j : Fin 512), proj x0 x1 0 (ix2 ⟨496 + i.val, by omega⟩ j) =
      U m c (seq t) (512 * (t.val % 8) + 496 + i.val) j := fun i j => by rw [hu, Nat.add_assoc]
  constructor <;> dsimp only
  · exact fun r j => (k_apply _ r j).trans (ht 2 r j)
  · exact fun r j => (v_apply _ r j).trans (hp 3 r j)
  · exact fun r j => key_row x0 x2 x3 x4 x5 (fun r => X m c (seq t) (row t r)) (W m c) _ h0 hT h2 r j
  · exact fun r j => (q_apply _ r j).trans (congrArg (· * _) (ht 1 r j))
  · exact fun r j => (qi_apply _ j r).trans (ht 4 r j)
  · exact fun r j => weight_row x0 x2 (fun r => X m c (seq t) (row t r)) (W m c) h0 h2' j r
  · intro r j
    rw [pools_apply _ x0 x1 x6 x7 H _ hu hH, h6, h7]
  · exact fun i j => (state_apply _ i j).trans (hl i j)
  · exact fun i j => (hk i j).trans ((last_apply _ i j).trans (hl i j))

theorem zeros_apply (i : Fin 16) (j : Fin 512) : k0_pay4 (F := Ideal) (ix2 i j) = 0 := by
  pointwise [k0_pay4]

/-- The second store over the first. -/
theorem over_apply (v z : Vec Ideal S16x512 .f32) (i : Fin 16) (j : Fin 512) :
    View.canon [⟨Rect.unit (s := S16x512) ![0, 0] S16x512.size (by decide), v⟩,
      ⟨Rect.unit (s := S16x512) ![0, 0] S16x512.size (by decide), z⟩] (ix2 i j) = v (ix2 i j) := by
  refine (View.canon_append_of_pieces (fun i => v i) [⟨Rect.unit (s := S16x512) ![0, 0] S16x512.size (by decide), z⟩]
    [⟨Rect.unit (s := S16x512) ![0, 0] S16x512.size (by decide), v⟩] ?_ (ix2 i j)
    (View.cover_of_tiledL (s := S16x512) _ S16x512.size (by sl_kernel_rfl) _)).trans rfl
  intro pc hp x
  obtain rfl := List.mem_singleton.1 hp
  refine congrArg v (funext fun a => Fin.ext ?_)
  rw [ValueKit.rect_emb_unit_val]
  fin_cases a <;> simp

theorem good_A (c : Dev nD) (t : Fin cfg0.N) (h0 : t.val % 8 = 0) : Good m c t (outsAt0 m c t.val t.isLt) := by
  obtain ⟨a, b, d, e⟩ := outs_A m c t h0
  rw [e]
  refine good_of m c t _ _ a b d (fun i j => (zeros_apply i j).trans ?_) (over_apply _ _)
  unfold Mixer.prev
  rw [if_neg (by omega)]

theorem good_B (c : Dev nD) (t : Fin cfg0.N) (h0 : ¬t.val % 8 = 0)
    (ih : ∀ h, Good m c ⟨t.val - 1, h⟩ (outsAt0 m c (t.val - 1) h)) : Good m c t (outsAt0 m c t.val t.isLt) := by
  have hlt := Nat.lt_of_le_of_lt (Nat.sub_le t.val 1) t.isLt
  obtain ⟨a, b, d, e⟩ := outs_B m c t h0 hlt
  rw [e]
  refine good_of m c t _ _ a b d (fun i j => ((ih hlt).kept i j).trans ?_) fun _ _ => rfl
  unfold Mixer.prev
  rw [if_pos (by omega)]
  have e1 : seq ⟨t.val - 1, hlt⟩ = seq t := Fin.ext (by unfold seq; dsimp only; omega)
  have e2 : 512 * ((t.val - 1) % 8) + 496 + i.val = 512 * (t.val % 8) - (16 - i.val) := by omega
  simp only [e1, e2]

theorem good (c : Dev nD) : ∀ (n : ℕ) (h : n < cfg0.N), Good m c ⟨n, h⟩ (outsAt0 m c n h)
  | 0, h => good_A m c ⟨0, h⟩ rfl
  | n + 1, h => by
    by_cases h0 : (n + 1) % 8 = 0
    · exact good_A m c ⟨n + 1, h⟩ h0
    · exact good_B m c ⟨n + 1, h⟩ h0 fun h' => good c n h'

/-! ### The arrays at an element -/

/-- The point that writes row `p` of sequence `b`, and the row's place in its tile. -/
theorem place (b : Fin 4) (p : Fin 4096) (q : ℕ) (hq : q = 8 * b.val + p.val / 512) : ∃ h : q < cfg0.N,
    seq ⟨q, h⟩ = b ∧ row ⟨q, h⟩ ⟨p.val % 512, by omega⟩ = p ∧ 512 * (q % 8) + p.val % 512 = p.val := by
  have hN : cfg0.N = 32 := rfl
  have e : 512 * (q % 8) + p.val % 512 = p.val := by omega
  exact ⟨by omega, Fin.ext (by unfold seq; dsimp only; omega), Fin.ext e, e⟩

/-- The keys. -/
theorem G8_apply (c : Dev nD) (b : Fin 4) (p : Fin 4096) (j : Fin 512) :
    (show Vec Ideal S4x4096x512 .f32 from Value.G8 m c) (ix3 b p j) = Mixer.turned p.val (X m c b p) (W m c) 2 j := by
  obtain ⟨h, e1, e2, e3⟩ := place b p (Value.pt8Of (ix3 b p j)) (by
    show 8 * (b.val / 1 - 0) + 1 * (p.val / 512 - 0) + 1 * (j.val / 512 - 0) = _
    omega)
  refine (dif_pos h).trans ?_
  rw [← Value.outsAt0_sweep m c _ h]
  refine Eq.trans ?_ (((good m c _ h).k ⟨p.val % 512, by omega⟩ j).trans ?_)
  · refine congrArg (outsAt0 m c _ h).1 (funext fun a => Fin.ext ?_)
    fin_cases a
    · show b.val % 1 = 0
      omega
    · rfl
    · show j.val % 512 = j.val; omega
  · simp only [e1, e2, e3]

/-- The values. -/
theorem G9_apply (c : Dev nD) (b : Fin 4) (p : Fin 4096) (j : Fin 512) :
    (show Vec Ideal S4x4096x512 .f32 from Value.G9 m c) (ix3 b p j) = Mixer.sect (X m c b p) (W m c) 3 j := by
  obtain ⟨h, e1, e2, e3⟩ := place b p (Value.pt9Of (ix3 b p j)) (by
    show 8 * (b.val / 1 - 0) + 1 * (p.val / 512 - 0) + 1 * (j.val / 512 - 0) = _
    omega)
  refine (dif_pos h).trans ?_
  rw [← Value.outsAt0_sweep m c _ h]
  refine Eq.trans ?_ (((good m c _ h).v ⟨p.val % 512, by omega⟩ j).trans ?_)
  · refine congrArg (outsAt0 m c _ h).2.1 (funext fun a => Fin.ext ?_)
    fin_cases a
    · show b.val % 1 = 0
      omega
    · rfl
    · show j.val % 512 = j.val; omega
  · simp only [e1, e2]

/-- The index keys. -/
theorem G10_apply (c : Dev nD) (b : Fin 4) (p : Fin 4096) (j : Fin 64) :
    (show Vec Ideal S4x4096x64 .f32 from Value.G10 m c) (ix3 b p j) = Mixer.key p.val (X m c b p) (W m c) j := by
  obtain ⟨h, e1, e2, e3⟩ := place b p (Value.pt10Of (ix3 b p j)) (by
    show 8 * (b.val / 1 - 0) + 1 * (p.val / 512 - 0) + 1 * (j.val / 64 - 0) = _
    omega)
  refine (dif_pos h).trans ?_
  rw [← Value.outsAt0_sweep m c _ h]
  refine Eq.trans ?_ (((good m c _ h).ki ⟨p.val % 512, by omega⟩ j).trans ?_)
  · refine congrArg (outsAt0 m c _ h).2.2.1 (funext fun a => Fin.ext ?_)
    fin_cases a
    · show b.val % 1 = 0
      omega
    · rfl
    · show j.val % 64 = j.val; omega
  · simp only [e1, e2, e3]

/-- The queries. -/
theorem G11_apply (c : Dev nD) (b : Fin 4) (p : Fin 4096) (j : Fin 512) :
    (show Vec Ideal S4x4096x512 .bf16 from Value.G11 m c) (ix3 b p j) = Mixer.turned p.val (X m c b p) (W m c) 1 j * Ideal.ofBits .f32 0x3E38AA3B#32 := by
  obtain ⟨h, e1, e2, e3⟩ := place b p (Value.pt11Of (ix3 b p j)) (by
    show 8 * (b.val / 1 - 0) + 1 * (p.val / 512 - 0) + 1 * (j.val / 512 - 0) = _
    omega)
  refine (dif_pos h).trans ?_
  rw [← Value.outsAt0_sweep m c _ h]
  refine Eq.trans ?_ (((good m c _ h).q ⟨p.val % 512, by omega⟩ j).trans ?_)
  · refine congrArg (outsAt0 m c _ h).2.2.2.1 (funext fun a => Fin.ext ?_)
    fin_cases a
    · show b.val % 1 = 0
      omega
    · rfl
    · show j.val % 512 = j.val; omega
  · simp only [e1, e2, e3]

/-- The index queries. -/
theorem G14_apply (c : Dev nD) (b : Fin 4) (p : Fin 4096) (j : Fin 512) :
    (show Vec Ideal S4x512x4096 .bf16 from Value.G14 m c) (ix3 b j p) = Mixer.turned p.val (X m c b p) (W m c) 4 j := by
  obtain ⟨h, e1, e2, e3⟩ := place b p (Value.pt14Of (ix3 b j p)) (by
    show 8 * (b.val / 1 - 0) + 8 * (j.val / 512 - 0) + 1 * (p.val / 512 - 0) = _
    omega)
  refine (dif_pos h).trans ?_
  rw [← Value.outsAt0_sweep m c _ h]
  refine Eq.trans ?_ (((good m c _ h).qi ⟨p.val % 512, by omega⟩ j).trans ?_)
  · refine congrArg (outsAt0 m c _ h).2.2.2.2.2.2.1 (funext fun a => Fin.ext ?_)
    fin_cases a
    · show b.val % 1 = 0
      omega
    · show j.val % 512 = j.val; omega
    · rfl
  · simp only [e1, e2, e3]

/-- The index weights. -/
theorem G16_apply (c : Dev nD) (b : Fin 4) (p : Fin 4096) (j : Fin 8) :
    (show Vec Ideal S4x8x4096 .f32 from Value.G16 m c) (ix3 b j p) = Mixer.weight (X m c b p) (W m c) j := by
  obtain ⟨h, e1, e2, e3⟩ := place b p (Value.pt16Of (ix3 b j p)) (by
    show 8 * (b.val / 1 - 0) + 8 * (j.val / 8 - 0) + 1 * (p.val / 512 - 0) = _
    omega)
  refine (dif_pos h).trans ?_
  rw [← Value.outsAt0_sweep m c _ h]
  refine Eq.trans ?_ (((good m c _ h).wi ⟨p.val % 512, by omega⟩ j).trans ?_)
  · refine congrArg (outsAt0 m c _ h).2.2.2.2.2.2.2.2.1 (funext fun a => Fin.ext ?_)
    fin_cases a
    · show b.val % 1 = 0
      omega
    · show j.val % 8 = j.val; omega
    · rfl
  · simp only [e1, e2]

/-- The pooled mixer's output. -/
theorem G17_apply (c : Dev nD) (b : Fin 4) (p : Fin 4096) (j : Fin 512) :
    (show Vec Ideal S4x4096x512 .bf16 from Value.G17 m c) (ix3 b p j) = Mixer.mixed (U m c b) (CW m c) (CS m c) p.val j := by
  obtain ⟨h, e1, e2, e3⟩ := place b p (Value.pt17Of (ix3 b p j)) (by
    show 8 * (b.val / 1 - 0) + 1 * (p.val / 512 - 0) + 1 * (j.val / 512 - 0) = _
    omega)
  refine (dif_pos h).trans ?_
  rw [← Value.outsAt0_sweep m c _ h]
  refine Eq.trans ?_ (((good m c _ h).co ⟨p.val % 512, by omega⟩ j).trans ?_)
  · refine congrArg (outsAt0 m c _ h).2.2.2.2.2.2.2.2.2.1 (funext fun a => Fin.ext ?_)
    fin_cases a
    · show b.val % 1 = 0
      omega
    · rfl
    · show j.val % 512 = j.val; omega
  · simp only [e1, e3]

/-- The state. -/
theorem G18_apply (c : Dev nD) (b : Fin 4) (i : Fin 16) (j : Fin 512) :
    (show Vec Ideal S4x16x512 .f32 from Value.G18 m c) (ix3 b i j) = U m c b (4080 + i.val) j := by
  have hN : cfg0.N = 32 := rfl
  have hpt : Value.pt18Of (ix3 b i j) = 8 * b.val + 7 := by
    show 8 * (1 * (b.val / 1 - 0) + 1 * (i.val / 16 - 0) + 1 * (j.val / 512 - 0)) + 7 = _
    omega
  have h : Value.pt18Of (ix3 b i j) < cfg0.N := by omega
  refine (dif_pos h).trans ?_
  rw [← Value.outsAt0_sweep m c _ h]
  refine Eq.trans ?_ (((good m c _ h).ph i j).trans ?_)
  · refine congrArg (outsAt0 m c _ h).2.2.2.2.2.2.2.2.2.2.1 (funext fun a => Fin.ext ?_)
    fin_cases a
    · show b.val % 1 = 0
      omega
    · show i.val % 16 = i.val; omega
    · show j.val % 512 = j.val; omega
  · have e1 : seq ⟨Value.pt18Of (ix3 b i j), h⟩ = b := Fin.ext (by unfold seq; dsimp only; omega)
    have e2 : 512 * (Value.pt18Of (ix3 b i j) % 8) + 496 + i.val = 4080 + i.val := by omega
    simp only [e1, e2]

end Cert.Kernel3Ideal.Odd

end
-- ==== Proof.Odd.Ref.lean ====
/-
  The reference's terms read at one element: the same row functions.
-/
module

public import proofs.«01_k».proof.Proof.Odd.Spec
public import proofs.«01_k».proof.Proof.Gen.Reference3Ideal.Run
public import Idealize.ShloMosaic.Lib.Pointwise

@[expose] public section

set_option maxRecDepth 16384

noncomputable section

namespace Cert.Reference3Ideal.Odd

open Cert.Reference3Ideal Cert.Reference3Ideal.Gen Cert.Reference3Ideal.Value
open Idealize.ShloMosaic Idealize.ShloMosaic.TcCoe Idealize.SL.Sem Idealize.ShloMosaic.StableHlo

/-! ### The projection -/

/-- Every row's projection. -/
def tproj (x : FVec Ideal S4x4096x1024 .f32) (w : FVec Ideal S1x1024x2632 .f32) : FVec Ideal S4x4096x2632 .f32 :=
  Host.dotGeneral dot_S4x4096x1024_S1024x2632_S4x4096x2632_2_0_01_1_n_n none x
    (shapeCast _ w shapeCasts_S1x1024x2632_S1024x2632)

theorem tproj_apply (x : FVec Ideal S4x4096x1024 .f32) (w : FVec Ideal S1x1024x2632 .f32) (b : Fin 4) (p : Fin 4096)
    (j : Fin 2632) : tproj x w (ix3 b p j) = Mixer.dot (fun d => x (ix3 b p d)) fun d => w (ix3 0 d j) := by
  pointwise [tproj, Mixer.dot]

/-! ### The rotary embedding -/

/-- The angles. -/
def tang : FVec Ideal S4096x8 .f32 :=
  mulf (broadcastInDim S4096x8 ![0, 1] bcast_S4096x1_S4096x8_0_1 (broadcastInDim S4096x1 ![0] bcast_S4096_S4096x1_0
    (sitofp .f32 (iotaInDim S4096 32 0)))) (broadcastInDim S4096x8 ![0, 1] bcast_S1x8_S4096x8_0_1
    (broadcastInDim S1x8 ![1] bcast_S8_S1x8_1 (Host.powf (broadcastInDim S8 ![] bcast_S_S8 (constant S_ .f32 0x48F42400#32))
      (Host.divf (mulf (Host.negf (sitofp .f32 (iotaInDim S8 32 0))) (broadcastInDim S8 ![] bcast_S_S8 (constant S_ .f32 0x40000000#32)))
        (broadcastInDim S8 ![] bcast_S_S8 (constant S_ .f32 0x41800000#32))))))

def tcos : FVec Ideal S1x4096x1x8 .f32 := broadcastInDim S1x4096x1x8 ![1, 3] bcast_S4096x8_S1x4096x1x8_1_3 (Host.cos tang)
def tsin : FVec Ideal S1x4096x1x8 .f32 := broadcastInDim S1x4096x1x8 ![1, 3] bcast_S4096x8_S1x4096x1x8_1_3 (Host.sin tang)

theorem tang_apply (p : Fin 4096) (n : Fin 8) : tang (ix2 p n) = Mixer.angle p.val n.val := by
  pointwise [tang, Mixer.angle]

theorem tcos_apply (p : Fin 4096) (n : Fin 8) : tcos (ix4 0 p 0 n) = Mixer.cosAt p.val n.val := by
  pointwise [tcos, Mixer.cosAt, tang_apply]

theorem tsin_apply (p : Fin 4096) (n : Fin 8) : tsin (ix4 0 p 0 n) = Mixer.sinAt p.val n.val := by
  pointwise [tsin, Mixer.sinAt, tang_apply]

/-- Eight heads of every row, turned. -/
def trope8 (h : FVec Ideal S4x4096x8x64 .f32) (c s : FVec Ideal S1x4096x1x8 .f32) : FVec Ideal S4x4096x8x64 .f32 :=
  concatenate S4x4096x8x64 3 [
    ⟨S4x4096x8x8, subf (mulf (extractStridedSlice S4x4096x8x8 ![0, 0, 0, 0] h slices_S4x4096x8x64_S4x4096x8x8_0_0_0_0)
        (broadcastInDim S4x4096x8x8 ![0, 1, 2, 3] bcast_S1x4096x1x8_S4x4096x8x8_0_1_2_3 c))
      (mulf (extractStridedSlice S4x4096x8x8 ![0, 0, 0, 8] h slices_S4x4096x8x64_S4x4096x8x8_0_0_0_8)
        (broadcastInDim S4x4096x8x8 ![0, 1, 2, 3] bcast_S1x4096x1x8_S4x4096x8x8_0_1_2_3 s))⟩,
    ⟨S4x4096x8x8, addf (mulf (extractStridedSlice S4x4096x8x8 ![0, 0, 0, 8] h slices_S4x4096x8x64_S4x4096x8x8_0_0_0_8)
        (broadcastInDim S4x4096x8x8 ![0, 1, 2, 3] bcast_S1x4096x1x8_S4x4096x8x8_0_1_2_3 c))
      (mulf (extractStridedSlice S4x4096x8x8 ![0, 0, 0, 0] h slices_S4x4096x8x64_S4x4096x8x8_0_0_0_0)
        (broadcastInDim S4x4096x8x8 ![0, 1, 2, 3] bcast_S1x4096x1x8_S4x4096x8x8_0_1_2_3 s))⟩,
    ⟨S4x4096x8x48, extractStridedSlice S4x4096x8x48 ![0, 0, 0, 16] h slices_S4x4096x8x64_S4x4096x8x48_0_0_0_16⟩]
    concatenates_S4x4096x8x8_S4x4096x8x8_S4x4096x8x48_S4x4096x8x64_d3

theorem trope8_apply (h : FVec Ideal S4x4096x8x64 .f32) (c s : FVec Ideal S1x4096x1x8 .f32) (b : Fin 4) (p : Fin 4096) (i : Fin 8) (l : Fin 64) :
    trope8 h c s (ix4 b p i l) =
      Mixer.rope (fun n => c (ix4 0 p 0 n)) (fun n => s (ix4 0 p 0 n)) (fun l => h (ix4 b p i l)) l := by
  pointwise [trope8, Mixer.rope]
  by_cases h1 : l.val < 8
  · simp only [dif_pos h1, Nat.add_comm 8]
  · by_cases h2 : l.val < 16
    · have e : 8 + (l.val - 8) = l.val := by omega
      simp only [dif_neg h1, dif_pos h2, dif_pos (show l.val - 8 < 8 by omega), e]
    · have e : 16 + (l.val - 8 - 8) = l.val := by omega
      simp only [dif_neg h1, dif_neg h2, dif_neg (show ¬l.val - 8 < 8 by omega), e]

/-- One head of every row, turned. -/
def trope1 (h : FVec Ideal S4x4096x1x64 .f32) (c s : FVec Ideal S1x4096x1x8 .f32) : FVec Ideal S4x4096x1x64 .f32 :=
  concatenate S4x4096x1x64 3 [
    ⟨S4x4096x1x8, subf (mulf (extractStridedSlice S4x4096x1x8 ![0, 0, 0, 0] h slices_S4x4096x1x64_S4x4096x1x8_0_0_0_0)
        (broadcastInDim S4x4096x1x8 ![0, 1, 2, 3] bcast_S1x4096x1x8_S4x4096x1x8_0_1_2_3 c))
      (mulf (extractStridedSlice S4x4096x1x8 ![0, 0, 0, 8] h slices_S4x4096x1x64_S4x4096x1x8_0_0_0_8)
        (broadcastInDim S4x4096x1x8 ![0, 1, 2, 3] bcast_S1x4096x1x8_S4x4096x1x8_0_1_2_3 s))⟩,
    ⟨S4x4096x1x8, addf (mulf (extractStridedSlice S4x4096x1x8 ![0, 0, 0, 8] h slices_S4x4096x1x64_S4x4096x1x8_0_0_0_8)
        (broadcastInDim S4x4096x1x8 ![0, 1, 2, 3] bcast_S1x4096x1x8_S4x4096x1x8_0_1_2_3 c))
      (mulf (extractStridedSlice S4x4096x1x8 ![0, 0, 0, 0] h slices_S4x4096x1x64_S4x4096x1x8_0_0_0_0)
        (broadcastInDim S4x4096x1x8 ![0, 1, 2, 3] bcast_S1x4096x1x8_S4x4096x1x8_0_1_2_3 s))⟩,
    ⟨S4x4096x1x48, extractStridedSlice S4x4096x1x48 ![0, 0, 0, 16] h slices_S4x4096x1x64_S4x4096x1x48_0_0_0_16⟩]
    concatenates_S4x4096x1x8_S4x4096x1x8_S4x4096x1x48_S4x4096x1x64_d3

theorem trope1_apply (h : FVec Ideal S4x4096x1x64 .f32) (c s : FVec Ideal S1x4096x1x8 .f32) (b : Fin 4) (p : Fin 4096) (l : Fin 64) :
    trope1 h c s (ix4 b p 0 l) =
      Mixer.rope (fun n => c (ix4 0 p 0 n)) (fun n => s (ix4 0 p 0 n)) (fun l => h (ix4 b p 0 l)) l := by
  pointwise [trope1, Mixer.rope]
  by_cases h1 : l.val < 8
  · simp only [dif_pos h1, Nat.add_comm 8]
  · by_cases h2 : l.val < 16
    · have e : 8 + (l.val - 8) = l.val := by omega
      simp only [dif_neg h1, dif_pos h2, dif_pos (show l.val - 8 < 8 by omega), e]
    · have e : 16 + (l.val - 8 - 8) = l.val := by omega
      simp only [dif_neg h1, dif_neg h2, dif_neg (show ¬l.val - 8 < 8 by omega), e]

/-- A section's heads. -/
def theads (v : FVec Ideal S4x4096x512 .f32) : FVec Ideal S4x4096x8x64 .f32 :=
  shapeCast _ v shapeCasts_S4x4096x512_S4x4096x8x64

/-- The heads side by side again. -/
def tflat (v : FVec Ideal S4x4096x8x64 .f32) : FVec Ideal S4x4096x512 .f32 :=
  shapeCast _ v shapeCasts_S4x4096x8x64_S4x4096x512

theorem theads_apply (v : FVec Ideal S4x4096x512 .f32) (b : Fin 4) (p : Fin 4096) (i : Fin 8) (l : Fin 64) :
    theads v (ix4 b p i l) = v (ix3 b p ⟨64 * i.val + l.val, by omega⟩) := by
  pointwise [theads]
  simp only [Nat.mul_comm i.val 64]

theorem tflat_apply (v : FVec Ideal S4x4096x8x64 .f32) (b : Fin 4) (p : Fin 4096) (j : Fin 512) :
    tflat v (ix3 b p j) = v (ix4 b p ⟨j.val / 64, by omega⟩ ⟨j.val % 64, by omega⟩) := by
  pointwise [tflat]

/-- A section turned. -/
def tturned (v : FVec Ideal S4x4096x512 .f32) : FVec Ideal S4x4096x512 .f32 := tflat (trope8 (theads v) tcos tsin)

theorem tturned_apply (v : FVec Ideal S4x4096x512 .f32) (b : Fin 4) (p : Fin 4096) (j : Fin 512) :
    tturned v (ix3 b p j) =
      Mixer.ropeRow (fun n => Mixer.cosAt p.val n.val) (fun n => Mixer.sinAt p.val n.val) (fun j => v (ix3 b p j)) j := by
  unfold tturned Mixer.ropeRow
  rw [tflat_apply, trope8_apply]
  simp only [theads_apply, tcos_apply, tsin_apply]

/-! ### The sections -/

def tsect1 (h : FVec Ideal S4x4096x2632 .f32) : FVec Ideal S4x4096x512 .f32 :=
  extractStridedSlice S4x4096x512 ![0, 0, 512] h slices_S4x4096x2632_S4x4096x512_0_0_512
def tsect2 (h : FVec Ideal S4x4096x2632 .f32) : FVec Ideal S4x4096x512 .f32 :=
  extractStridedSlice S4x4096x512 ![0, 0, 1024] h slices_S4x4096x2632_S4x4096x512_0_0_1024
def tsect3 (h : FVec Ideal S4x4096x2632 .f32) : FVec Ideal S4x4096x512 .f32 :=
  extractStridedSlice S4x4096x512 ![0, 0, 1536] h slices_S4x4096x2632_S4x4096x512_0_0_1536
def tsect4 (h : FVec Ideal S4x4096x2632 .f32) : FVec Ideal S4x4096x512 .f32 :=
  extractStridedSlice S4x4096x512 ![0, 0, 2048] h slices_S4x4096x2632_S4x4096x512_0_0_2048

theorem tsect1_apply (h : FVec Ideal S4x4096x2632 .f32) (b : Fin 4) (p : Fin 4096) (j : Fin 512) :
    tsect1 h (ix3 b p j) = h (ix3 b p ⟨512 + j.val, by omega⟩) := by
  pointwise [tsect1]

theorem tsect2_apply (h : FVec Ideal S4x4096x2632 .f32) (b : Fin 4) (p : Fin 4096) (j : Fin 512) :
    tsect2 h (ix3 b p j) = h (ix3 b p ⟨1024 + j.val, by omega⟩) := by
  pointwise [tsect2]

theorem tsect3_apply (h : FVec Ideal S4x4096x2632 .f32) (b : Fin 4) (p : Fin 4096) (j : Fin 512) :
    tsect3 h (ix3 b p j) = h (ix3 b p ⟨1536 + j.val, by omega⟩) := by
  pointwise [tsect3]

theorem tsect4_apply (h : FVec Ideal S4x4096x2632 .f32) (b : Fin 4) (p : Fin 4096) (j : Fin 512) :
    tsect4 h (ix3 b p j) = h (ix3 b p ⟨2048 + j.val, by omega⟩) := by
  pointwise [tsect4]

/-! ### The results -/

/-- The keys. -/
def tk (x : FVec Ideal S4x4096x1024 .f32) (w : FVec Ideal S1x1024x2632 .f32) : FVec Ideal S4x4096x512 .f32 :=
  tturned (tsect2 (tproj x w))

theorem tk_apply (x : FVec Ideal S4x4096x1024 .f32) (w : FVec Ideal S1x1024x2632 .f32) (b : Fin 4) (p : Fin 4096) (j : Fin 512) :
    tk x w (ix3 b p j) = Mixer.turned p.val (fun d => x (ix3 b p d)) (fun d j => w (ix3 0 d j)) 2 j := by
  unfold tk
  rw [tturned_apply]
  simp only [tsect2_apply, tproj_apply]
  rfl

/-- The values. -/
def tv (x : FVec Ideal S4x4096x1024 .f32) (w : FVec Ideal S1x1024x2632 .f32) : FVec Ideal S4x4096x512 .f32 := tsect3 (tproj x w)

theorem tv_apply (x : FVec Ideal S4x4096x1024 .f32) (w : FVec Ideal S1x1024x2632 .f32) (b : Fin 4) (p : Fin 4096) (j : Fin 512) :
    tv x w (ix3 b p j) = Mixer.sect (fun d => x (ix3 b p d)) (fun d j => w (ix3 0 d j)) 3 j := by
  unfold tv
  rw [tsect3_apply, tproj_apply]
  rfl

/-- Scaled. -/
def tscaled (v : FVec Ideal S4x4096x512 .f32) : FVec Ideal S4x4096x512 .bf16 :=
  truncf .bf16 (mulf v (broadcastInDim S4x4096x512 ![] bcast_S_S4x4096x512 (constant S_ .f32 0x3E38AA3B#32))) bitsLt_bf16_f32

theorem tscaled_apply (v : FVec Ideal S4x4096x512 .f32) (b : Fin 4) (p : Fin 4096) (j : Fin 512) :
    tscaled v (ix3 b p j) = v (ix3 b p j) * Ideal.ofBits .f32 0x3E38AA3B#32 := by
  pointwise [tscaled]

/-- The queries. -/
def tq (x : FVec Ideal S4x4096x1024 .f32) (w : FVec Ideal S1x1024x2632 .f32) : FVec Ideal S4x4096x512 .bf16 :=
  tscaled (tturned (tsect1 (tproj x w)))

theorem tq_apply (x : FVec Ideal S4x4096x1024 .f32) (w : FVec Ideal S1x1024x2632 .f32) (b : Fin 4) (p : Fin 4096) (j : Fin 512) :
    tq x w (ix3 b p j) = Mixer.turned p.val (fun d => x (ix3 b p d)) (fun d j => w (ix3 0 d j)) 1 j
      * Ideal.ofBits .f32 0x3E38AA3B#32 := by
  unfold tq
  rw [tscaled_apply, tturned_apply]
  simp only [tsect1_apply, tproj_apply]
  unfold Mixer.turned Mixer.sect
  rfl

/-- Across. -/
def tacross (v : FVec Ideal S4x4096x512 .f32) : FVec Ideal S4x512x4096 .bf16 :=
  truncf .bf16 (transpose S4x512x4096 [0, 2, 1] v transposes_S4x4096x512_S4x512x4096_0_2_1) bitsLt_bf16_f32

theorem tacross_apply (v : FVec Ideal S4x4096x512 .f32) (b : Fin 4) (p : Fin 4096) (j : Fin 512) :
    tacross v (ix3 b j p) = v (ix3 b p j) := by
  pointwise [tacross]

/-- The index queries, across. -/
def tqi (x : FVec Ideal S4x4096x1024 .f32) (w : FVec Ideal S1x1024x2632 .f32) : FVec Ideal S4x512x4096 .bf16 :=
  tacross (tturned (tsect4 (tproj x w)))

theorem tqi_apply (x : FVec Ideal S4x4096x1024 .f32) (w : FVec Ideal S1x1024x2632 .f32) (b : Fin 4) (p : Fin 4096) (j : Fin 512) :
    tqi x w (ix3 b j p) = Mixer.turned p.val (fun d => x (ix3 b p d)) (fun d j => w (ix3 0 d j)) 4 j := by
  unfold tqi
  rw [tacross_apply, tturned_apply]
  simp only [tsect4_apply, tproj_apply]
  unfold Mixer.turned Mixer.sect
  rfl

/-- The index keys' section, as one head. -/
def tone (h : FVec Ideal S4x4096x2632 .f32) : FVec Ideal S4x4096x1x64 .f32 :=
  broadcastInDim S4x4096x1x64 ![0, 1, 3] bcast_S4x4096x64_S4x4096x1x64_0_1_3
    (extractStridedSlice S4x4096x64 ![0, 0, 2560] h slices_S4x4096x2632_S4x4096x64_0_0_2560)

theorem tone_apply (h : FVec Ideal S4x4096x2632 .f32) (b : Fin 4) (p : Fin 4096) (l : Fin 64) :
    tone h (ix4 b p 0 l) = h (ix3 b p ⟨2560 + l.val, by omega⟩) := by
  pointwise [tone]

/-- That head's rows. -/
def trow (v : FVec Ideal S4x4096x1x64 .f32) : FVec Ideal S4x4096x64 .f32 := shapeCast _ v shapeCasts_S4x4096x1x64_S4x4096x64

theorem trow_apply (v : FVec Ideal S4x4096x1x64 .f32) (b : Fin 4) (p : Fin 4096) (l : Fin 64) :
    trow v (ix3 b p l) = v (ix4 b p 0 l) := by
  pointwise [trow]

/-- The index keys. -/
def tki (x : FVec Ideal S4x4096x1024 .f32) (w : FVec Ideal S1x1024x2632 .f32) : FVec Ideal S4x4096x64 .f32 :=
  trow (trope1 (tone (tproj x w)) tcos tsin)

theorem tki_apply (x : FVec Ideal S4x4096x1024 .f32) (w : FVec Ideal S1x1024x2632 .f32) (b : Fin 4) (p : Fin 4096) (l : Fin 64) :
    tki x w (ix3 b p l) = Mixer.key p.val (fun d => x (ix3 b p d)) (fun d j => w (ix3 0 d j)) l := by
  unfold tki
  rw [trow_apply, trope1_apply]
  simp only [tone_apply, tproj_apply, tcos_apply, tsin_apply]
  rfl

/-- The index weights, across. -/
def twi (h : FVec Ideal S4x4096x2632 .f32) : FVec Ideal S4x8x4096 .f32 :=
  transpose S4x8x4096 [0, 2, 1] (extractStridedSlice S4x4096x8 ![0, 0, 2624] h slices_S4x4096x2632_S4x4096x8_0_0_2624)
    transposes_S4x4096x8_S4x8x4096_0_2_1

theorem twi_apply (h : FVec Ideal S4x4096x2632 .f32) (b : Fin 4) (p : Fin 4096) (j : Fin 8) :
    twi h (ix3 b j p) = h (ix3 b p ⟨2624 + j.val, by omega⟩) := by
  pointwise [twi]

theorem twi_row (x : FVec Ideal S4x4096x1024 .f32) (w : FVec Ideal S1x1024x2632 .f32) (b : Fin 4) (p : Fin 4096) (j : Fin 8) :
    twi (tproj x w) (ix3 b j p) = Mixer.weight (fun d => x (ix3 b p d)) (fun d j => w (ix3 0 d j)) j := by
  rw [twi_apply, tproj_apply]
  rfl

end Cert.Reference3Ideal.Odd

end
-- ==== Proof.Odd.Pool.lean ====
/-
  The reference's pooled mixer read at one element.
-/
module

public import proofs.«01_k».proof.Proof.Odd.Ref

@[expose] public section

set_option maxRecDepth 16384

noncomputable section

namespace Cert.Reference3Ideal.Odd

open Cert.Reference3Ideal Cert.Reference3Ideal.Gen Cert.Reference3Ideal.Value
open Idealize.ShloMosaic Idealize.ShloMosaic.TcCoe Idealize.SL.Sem Idealize.ShloMosaic.StableHlo

/-- The rows that are pooled, under fifteen rows of zeros. -/
def text (h : FVec Ideal S4x4096x2632 .f32) : FVec Ideal S4x4111x512 .f32 :=
  concatenate S4x4111x512 1 [⟨S4x15x512, broadcastInDim S4x15x512 ![] bcast_S_S4x15x512 (constant S_ .f32 0x00000000#32)⟩,
    ⟨S4x4096x512, extractStridedSlice S4x4096x512 ![0, 0, 0] h slices_S4x4096x2632_S4x4096x512_0_0_0⟩]
    concatenates_S4x15x512_S4x4096x512_S4x4111x512_d1

theorem text_apply (h : FVec Ideal S4x4096x2632 .f32) (b : Fin 4) (q : Fin 4111) (j : Fin 512) :
    text h (ix3 b q j) = if hq : q.val < 15 then 0 else h (ix3 b ⟨q.val - 15, by omega⟩ ⟨j.val, by omega⟩) := by
  pointwise [text]

/-- `u`'s rows are `U`'s, fifteen further on, below them zeros. -/
def Padded (u : FVec Ideal S4x4111x512 .f32) (b : Fin 4) (U : ℕ → Fin 512 → EReal) : Prop :=
  ∀ (n : ℕ) (hn : n ≤ 15) (p : Fin 4096) (j : Fin 512), u (ix3 b ⟨n + p.val, by omega⟩ j) = Mixer.prev U (15 - n) p.val j

theorem text_padded (x : FVec Ideal S4x4096x1024 .f32) (w : FVec Ideal S1x1024x2632 .f32) (b : Fin 4) :
    Padded (text (tproj x w)) b (Mixer.rows (fun p d => x (ix3 b p d)) fun d j => w (ix3 0 d j)) := by
  intro n hn p j
  rw [text_apply]
  unfold Mixer.prev
  by_cases h : 15 - n ≤ p.val
  · rw [dif_neg (by dsimp only; omega), if_pos h, Mixer.rows_of_lt _ _ (by omega), tproj_apply]
    have e : n + p.val - 15 = p.val - (15 - n) := by omega
    simp only [e]
    unfold Mixer.sect
    congr 1
    funext d
    congr 2
    exact Fin.ext (by show j.val = 512 * 0 + j.val; omega)
  · rw [dif_pos (by dsimp only; omega), if_neg h]

/-- The number of rows in a window of `w`, on every row. -/
def tcount (w : BitVec 32) : FVec Ideal S4x4096x128 .f32 :=
  broadcastInDim S4x4096x128 ![0, 1, 2] bcast_S1x4096x1_S4x4096x128_0_1_2 (broadcastInDim S1x4096x1 ![1] bcast_S4096_S1x4096x1_1
    (sitofp .f32 (minsi (broadcastInDim S4096 ![] bcast_S_S4096 (constantI S_ 32 w)) (addi (iotaInDim S4096 32 0)
      (broadcastInDim S4096 ![] bcast_S_S4096 (constantI S_ 32 1#32))))))

theorem tcount_apply (w : ℕ) (b : Fin 4) (p : Fin 4096) (l : Fin 128) :
    tcount (BitVec.ofNat 32 w) (ix3 b p l) = Mixer.count w p.val := by
  pointwise [tcount, Mixer.count]
  rfl

/-- Group 0's rows, from row `n` on, and their elements. -/
theorem shift0 (u : FVec Ideal S4x4111x512 .f32) (b : Fin 4) (U : ℕ → Fin 512 → EReal) (hu : Padded u b U) (n : ℕ) (hn : n ≤ 15)
    (hs : S4x4111x512.Slices ![0, n, 0] S4x4096x128) (p : Fin 4096) (l : Fin 128) :
    extractStridedSlice S4x4096x128 ![0, n, 0] u hs (ix3 b p l) = Mixer.prev U (15 - n) p.val ⟨0 + l.val, by omega⟩ := by
  rw [← hu n hn]
  pointwise

/-- Group 1's rows, from row `n` on, and their elements. -/
theorem shift1 (u : FVec Ideal S4x4111x512 .f32) (b : Fin 4) (U : ℕ → Fin 512 → EReal) (hu : Padded u b U) (n : ℕ) (hn : n ≤ 15)
    (hs : S4x4111x512.Slices ![0, n, 128] S4x4096x128) (p : Fin 4096) (l : Fin 128) :
    extractStridedSlice S4x4096x128 ![0, n, 128] u hs (ix3 b p l) = Mixer.prev U (15 - n) p.val ⟨128 + l.val, by omega⟩ := by
  rw [← hu n hn]
  pointwise

/-- Group 2's rows, from row `n` on, and their elements. -/
theorem shift2 (u : FVec Ideal S4x4111x512 .f32) (b : Fin 4) (U : ℕ → Fin 512 → EReal) (hu : Padded u b U) (n : ℕ) (hn : n ≤ 15)
    (hs : S4x4111x512.Slices ![0, n, 256] S4x4096x128) (p : Fin 4096) (l : Fin 128) :
    extractStridedSlice S4x4096x128 ![0, n, 256] u hs (ix3 b p l) = Mixer.prev U (15 - n) p.val ⟨256 + l.val, by omega⟩ := by
  rw [← hu n hn]
  pointwise

/-- Group 3's rows, from row `n` on, and their elements. -/
theorem shift3 (u : FVec Ideal S4x4111x512 .f32) (b : Fin 4) (U : ℕ → Fin 512 → EReal) (hu : Padded u b U) (n : ℕ) (hn : n ≤ 15)
    (hs : S4x4111x512.Slices ![0, n, 384] S4x4096x128) (p : Fin 4096) (l : Fin 128) :
    extractStridedSlice S4x4096x128 ![0, n, 384] u hs (ix3 b p l) = Mixer.prev U (15 - n) p.val ⟨384 + l.val, by omega⟩ := by
  rw [← hu n hn]
  pointwise

/-- Group 0: the sum of two rows. -/
def twin0 (u : FVec Ideal S4x4111x512 .f32) : FVec Ideal S4x4096x128 .f32 :=
  addf (extractStridedSlice S4x4096x128 ![0, 15, 0] u slices_S4x4111x512_S4x4096x128_0_15_0)
    (extractStridedSlice S4x4096x128 ![0, 14, 0] u slices_S4x4111x512_S4x4096x128_0_14_0)

theorem twin0_apply (u : FVec Ideal S4x4111x512 .f32) (b : Fin 4) (U : ℕ → Fin 512 → EReal) (hu : Padded u b U) (p : Fin 4096)
    (l : Fin 128) : twin0 u (ix3 b p l) = Mixer.window 2 U p.val ⟨0 + l.val, by omega⟩ := by
  unfold twin0 Mixer.window
  rw [Finset.sum_range_succ, Finset.sum_range_one]
  repeat' refine congrArg₂ (· + ·) ?_ ?_
  all_goals exact shift0 u b U hu _ (by omega) _ p l

/-- Group 1: the sum of four rows. -/
def twin1 (u : FVec Ideal S4x4111x512 .f32) : FVec Ideal S4x4096x128 .f32 :=
  addf (addf (addf (extractStridedSlice S4x4096x128 ![0, 15, 128] u slices_S4x4111x512_S4x4096x128_0_15_128)
    (extractStridedSlice S4x4096x128 ![0, 14, 128] u slices_S4x4111x512_S4x4096x128_0_14_128))
    (extractStridedSlice S4x4096x128 ![0, 13, 128] u slices_S4x4111x512_S4x4096x128_0_13_128))
    (extractStridedSlice S4x4096x128 ![0, 12, 128] u slices_S4x4111x512_S4x4096x128_0_12_128)

theorem twin1_apply (u : FVec Ideal S4x4111x512 .f32) (b : Fin 4) (U : ℕ → Fin 512 → EReal) (hu : Padded u b U) (p : Fin 4096)
    (l : Fin 128) : twin1 u (ix3 b p l) = Mixer.window 4 U p.val ⟨128 + l.val, by omega⟩ := by
  unfold twin1 Mixer.window
  simp only [Finset.sum_range_succ, Finset.sum_range_zero, zero_add]
  repeat' refine congrArg₂ (· + ·) ?_ ?_
  all_goals exact shift1 u b U hu _ (by omega) _ p l

/-- Group 2: the sum of eight rows. -/
def twin2 (u : FVec Ideal S4x4111x512 .f32) : FVec Ideal S4x4096x128 .f32 :=
  addf (addf (addf (addf (addf (addf (addf (extractStridedSlice S4x4096x128 ![0, 15, 256] u slices_S4x4111x512_S4x4096x128_0_15_256)
    (extractStridedSlice S4x4096x128 ![0, 14, 256] u slices_S4x4111x512_S4x4096x128_0_14_256))
    (extractStridedSlice S4x4096x128 ![0, 13, 256] u slices_S4x4111x512_S4x4096x128_0_13_256))
    (extractStridedSlice S4x4096x128 ![0, 12, 256] u slices_S4x4111x512_S4x4096x128_0_12_256))
    (extractStridedSlice S4x4096x128 ![0, 11, 256] u slices_S4x4111x512_S4x4096x128_0_11_256))
    (extractStridedSlice S4x4096x128 ![0, 10, 256] u slices_S4x4111x512_S4x4096x128_0_10_256))
    (extractStridedSlice S4x4096x128 ![0, 9, 256] u slices_S4x4111x512_S4x4096x128_0_9_256))
    (extractStridedSlice S4x4096x128 ![0, 8, 256] u slices_S4x4111x512_S4x4096x128_0_8_256)

theorem twin2_apply (u : FVec Ideal S4x4111x512 .f32) (b : Fin 4) (U : ℕ → Fin 512 → EReal) (hu : Padded u b U) (p : Fin 4096)
    (l : Fin 128) : twin2 u (ix3 b p l) = Mixer.window 8 U p.val ⟨256 + l.val, by omega⟩ := by
  unfold twin2 Mixer.window
  simp only [Finset.sum_range_succ, Finset.sum_range_zero, zero_add]
  repeat' refine congrArg₂ (· + ·) ?_ ?_
  all_goals exact shift2 u b U hu _ (by omega) _ p l

/-- Group 3: the sum of sixteen rows. -/
def twin3 (u : FVec Ideal S4x4111x512 .f32) : FVec Ideal S4x4096x128 .f32 :=
  addf (addf (addf (addf (addf (addf (addf (addf (addf (addf (addf (addf (addf (addf (addf (extractStridedSlice S4x4096x128 ![0, 15, 384] u slices_S4x4111x512_S4x4096x128_0_15_384)
    (extractStridedSlice S4x4096x128 ![0, 14, 384] u slices_S4x4111x512_S4x4096x128_0_14_384))
    (extractStridedSlice S4x4096x128 ![0, 13, 384] u slices_S4x4111x512_S4x4096x128_0_13_384))
    (extractStridedSlice S4x4096x128 ![0, 12, 384] u slices_S4x4111x512_S4x4096x128_0_12_384))
    (extractStridedSlice S4x4096x128 ![0, 11, 384] u slices_S4x4111x512_S4x4096x128_0_11_384))
    (extractStridedSlice S4x4096x128 ![0, 10, 384] u slices_S4x4111x512_S4x4096x128_0_10_384))
    (extractStridedSlice S4x4096x128 ![0, 9, 384] u slices_S4x4111x512_S4x4096x128_0_9_384))
    (extractStridedSlice S4x4096x128 ![0, 8, 384] u slices_S4x4111x512_S4x4096x128_0_8_384))
    (extractStridedSlice S4x4096x128 ![0, 7, 384] u slices_S4x4111x512_S4x4096x128_0_7_384))
    (extractStridedSlice S4x4096x128 ![0, 6, 384] u slices_S4x4111x512_S4x4096x128_0_6_384))
    (extractStridedSlice S4x4096x128 ![0, 5, 384] u slices_S4x4111x512_S4x4096x128_0_5_384))
    (extractStridedSlice S4x4096x128 ![0, 4, 384] u slices_S4x4111x512_S4x4096x128_0_4_384))
    (extractStridedSlice S4x4096x128 ![0, 3, 384] u slices_S4x4111x512_S4x4096x128_0_3_384))
    (extractStridedSlice S4x4096x128 ![0, 2, 384] u slices_S4x4111x512_S4x4096x128_0_2_384))
    (extractStridedSlice S4x4096x128 ![0, 1, 384] u slices_S4x4111x512_S4x4096x128_0_1_384))
    (extractStridedSlice S4x4096x128 ![0, 0, 384] u slices_S4x4111x512_S4x4096x128_0_0_384)

theorem twin3_apply (u : FVec Ideal S4x4111x512 .f32) (b : Fin 4) (U : ℕ → Fin 512 → EReal) (hu : Padded u b U) (p : Fin 4096)
    (l : Fin 128) : twin3 u (ix3 b p l) = Mixer.window 16 U p.val ⟨384 + l.val, by omega⟩ := by
  unfold twin3 Mixer.window
  simp only [Finset.sum_range_succ, Finset.sum_range_zero, zero_add]
  repeat' refine congrArg₂ (· + ·) ?_ ?_
  all_goals exact shift3 u b U hu _ (by omega) _ p l

/-- The four groups' means side by side. -/
def tpool (a b c d : FVec Ideal S4x4096x128 .f32) : FVec Ideal S4x4096x512 .f32 :=
  concatenate S4x4096x512 2 [⟨S4x4096x128, Host.divf a (tcount 2#32)⟩, ⟨S4x4096x128, Host.divf b (tcount 4#32)⟩,
    ⟨S4x4096x128, Host.divf c (tcount 8#32)⟩, ⟨S4x4096x128, Host.divf d (tcount 16#32)⟩]
    concatenates_S4x4096x128_S4x4096x128_S4x4096x128_S4x4096x128_S4x4096x512_d2

theorem tpool_apply (u : FVec Ideal S4x4111x512 .f32) (b : Fin 4) (U : ℕ → Fin 512 → EReal) (hu : Padded u b U) (p : Fin 4096)
    (g : Fin 4) (l : Fin 128) : tpool (twin0 u) (twin1 u) (twin2 u) (twin3 u) (ix3 b p ⟨128 * g.val + l.val, by omega⟩) =
      Ideal.div (Mixer.window (2 ^ (g.val + 1)) U p.val ⟨128 * g.val + l.val, by omega⟩) (Mixer.count (2 ^ (g.val + 1)) p.val) := by
  have h0 := twin0_apply u b U hu p l
  have h1 := twin1_apply u b U hu p l
  have h2 := twin2_apply u b U hu p l
  have h3 := twin3_apply u b U hu p l
  have c0 := tcount_apply 2 b p l
  have c1 := tcount_apply 4 b p l
  have c2 := tcount_apply 8 b p l
  have c3 := tcount_apply 16 b p l
  unfold tpool
  generalize twin0 u = v0 at *
  generalize twin1 u = v1 at *
  generalize twin2 u = v2 at *
  generalize twin3 u = v3 at *
  generalize tcount 2#32 = n0 at *
  generalize tcount 4#32 = n1 at *
  generalize tcount 8#32 = n2 at *
  generalize tcount 16#32 = n3 at *
  fin_cases g
  · refine Eq.trans ?_ (congrArg₂ Ideal.div h0 c0)
    pointwise
  · refine Eq.trans ?_ (congrArg₂ Ideal.div h1 c1)
    pointwise
  · refine Eq.trans ?_ (congrArg₂ Ideal.div h2 c2)
    pointwise
    have e : 256 + l.val - 128 - 128 = l.val := by omega
    simp only [dif_neg (show ¬256 + l.val < 128 by omega), dif_neg (show ¬256 + l.val - 128 < 128 by omega), e]
    exact dif_pos l.isLt
  · refine Eq.trans ?_ (congrArg₂ Ideal.div h3 c3)
    pointwise
    have e : 384 + l.val - 128 - 128 - 128 = l.val := by omega
    simp only [dif_neg (show ¬384 + l.val < 128 by omega), dif_neg (show ¬384 + l.val - 128 < 128 by omega),
      dif_neg (show ¬384 + l.val - 128 - 128 < 128 by omega), e]

/-- The means less the rows, each group mixed, and scaled. -/
def tmix (v : FVec Ideal S4x4096x512 .f32) (u : FVec Ideal S4x4111x512 .f32) (cw : FVec Ideal S1x4x128x128 .f32)
    (cs : FVec Ideal S1x512 .f32) : FVec Ideal S4x4096x512 .bf16 :=
  truncf .bf16 (mulf (shapeCast _ (transpose S4x4096x4x128 [2, 3, 0, 1]
    (Host.dotGeneral dot_S4x128x128_S4x4096x4x128_S4x128x4x4096_1_3_2_01_0_2 none
      (shapeCast _ cw shapeCasts_S1x4x128x128_S4x128x128)
      (shapeCast _ (subf v (extractStridedSlice S4x4096x512 ![0, 15, 0] u slices_S4x4111x512_S4x4096x512_0_15_0))
        shapeCasts_S4x4096x512_S4x4096x4x128)) transposes_S4x128x4x4096_S4x4096x4x128_2_3_0_1)
      shapeCasts_S4x4096x4x128_S4x4096x512)
    (broadcastInDim S4x4096x512 ![0, 1, 2] bcast_S1x1x512_S4x4096x512_0_1_2 (broadcastInDim S1x1x512 ![2] bcast_S512_S1x1x512_2
      (shapeCast _ cs shapeCasts_S1x512_S512)))) bitsLt_bf16_f32

theorem tmix_apply (v : FVec Ideal S4x4096x512 .f32) (u : FVec Ideal S4x4111x512 .f32) (cw : FVec Ideal S1x4x128x128 .f32)
    (cs : FVec Ideal S1x512 .f32) (b : Fin 4) (p : Fin 4096) (g : Fin 4) (l : Fin 128) :
    tmix v u cw cs (ix3 b p ⟨128 * g.val + l.val, by omega⟩) =
      (∑ d : Fin 128, cw (ix4 0 g d l) * (v (ix3 b p ⟨128 * g.val + d.val, by omega⟩)
        - u (ix3 b ⟨15 + p.val, by omega⟩ ⟨128 * g.val + d.val, by omega⟩))) * cs (ix2 0 ⟨128 * g.val + l.val, by omega⟩) := by
  pointwise [tmix]
  simp only [Nat.mul_comm g.val 128]

/-- The pooled mixer's output. -/
def tco (h : FVec Ideal S4x4096x2632 .f32) (cw : FVec Ideal S1x4x128x128 .f32) (cs : FVec Ideal S1x512 .f32) :
    FVec Ideal S4x4096x512 .bf16 :=
  tmix (tpool (twin0 (text h)) (twin1 (text h)) (twin2 (text h)) (twin3 (text h))) (text h) cw cs

theorem tco_apply (x : FVec Ideal S4x4096x1024 .f32) (w : FVec Ideal S1x1024x2632 .f32) (cw : FVec Ideal S1x4x128x128 .f32)
    (cs : FVec Ideal S1x512 .f32) (b : Fin 4) (p : Fin 4096) (j : Fin 512) :
    tco (tproj x w) cw cs (ix3 b p j) = Mixer.mixed (Mixer.rows (fun p d => x (ix3 b p d)) fun d j => w (ix3 0 d j))
      (fun g d l => cw (ix4 0 g d l)) (fun j => cs (ix2 0 j)) p.val j := by
  have hu := text_padded x w b
  unfold tco
  generalize text (tproj x w) = u at *
  generalize Mixer.rows (fun p d => x (ix3 b p d)) (fun d j => w (ix3 0 d j)) = U at *
  have hj : j = ⟨128 * (j.val / 128) + j.val % 128, by omega⟩ := Fin.ext (by dsimp only; omega)
  have e := tmix_apply (tpool (twin0 u) (twin1 u) (twin2 u) (twin3 u)) u cw cs b p ⟨j.val / 128, by omega⟩ ⟨j.val % 128, by omega⟩
  refine (congrArg (fun j => tmix _ u cw cs (ix3 b p j)) hj).trans (e.trans ?_)
  unfold Mixer.mixed Mixer.group Mixer.pooled
  refine congrArg (· * _) (Finset.sum_congr rfl fun d _ => ?_)
  rw [mul_comm, tpool_apply u b U hu p ⟨j.val / 128, by omega⟩ d]
  refine congrArg (fun z => (_ - z) * _) ((hu 15 (by omega) p _).trans ?_)
  unfold Mixer.prev
  rw [if_pos (by omega)]
  rfl

/-- The state: the last sixteen rows. -/
def tph (u : FVec Ideal S4x4111x512 .f32) : FVec Ideal S4x16x512 .f32 :=
  extractStridedSlice S4x16x512 ![0, 4095, 0] u slices_S4x4111x512_S4x16x512_0_4095_0

theorem tph_apply (u : FVec Ideal S4x4111x512 .f32) (b : Fin 4) (U : ℕ → Fin 512 → EReal) (hu : Padded u b U) (i : Fin 16)
    (j : Fin 512) : tph u (ix3 b i j) = U (4080 + i.val) j := by
  have h := hu 15 (by omega) ⟨4080 + i.val, by omega⟩ j
  unfold Mixer.prev at h
  rw [if_pos (by omega)] at h
  refine Eq.trans ?_ h
  unfold tph
  pointwise
  have e : 15 + (4080 + i.val) = 4095 + i.val := by omega
  simp only [e]

end Cert.Reference3Ideal.Odd

end
-- ==== Proof.Odd.Final.lean ====
/-
  The two programs' results are the same arrays.
-/
module

public import proofs.«01_k».proof.Defs
public import proofs.«01_k».proof.Proof.Odd.Point
public import proofs.«01_k».proof.Proof.Odd.Pool

@[expose] public section

set_option maxRecDepth 16384

noncomputable section

namespace Cert.Reference3Ideal.Odd

open Cert.Reference3Ideal Cert.Reference3Ideal.Gen
open Idealize.ShloMosaic Idealize.ShloMosaic.TcCoe Idealize.SL.Sem

section Agree

variable (m : (ℓ : Loc Kernel3Ideal.nD Kernel3Ideal.τ Kernel3Ideal.sig) → Buf (Elt Ideal) ℓ) (c : Dev Kernel3Ideal.nD)

/-- The keys. -/
theorem keys_agree : tk (Kernel3Ideal.Odd.arr0 m c) (Kernel3Ideal.Odd.arr1 m c) = Kernel3Ideal.Value.G8 m c := by
  funext i
  revert i
  intro (i : S4x4096x512.Idx)
  obtain ⟨b, p, j, rfl⟩ : ∃ (b : Fin 4) (p : Fin 4096) (j : Fin 512), i = ix3 b p j := ⟨i 0, i 1, i 2, eq_ix3 i⟩
  exact (tk_apply (Kernel3Ideal.Odd.arr0 m c) (Kernel3Ideal.Odd.arr1 m c) b p j).trans (Kernel3Ideal.Odd.G8_apply m c b p j).symm

/-- The values. -/
theorem values_agree : tv (Kernel3Ideal.Odd.arr0 m c) (Kernel3Ideal.Odd.arr1 m c) = Kernel3Ideal.Value.G9 m c := by
  funext i
  revert i
  intro (i : S4x4096x512.Idx)
  obtain ⟨b, p, j, rfl⟩ : ∃ (b : Fin 4) (p : Fin 4096) (j : Fin 512), i = ix3 b p j := ⟨i 0, i 1, i 2, eq_ix3 i⟩
  exact (tv_apply (Kernel3Ideal.Odd.arr0 m c) (Kernel3Ideal.Odd.arr1 m c) b p j).trans (Kernel3Ideal.Odd.G9_apply m c b p j).symm

/-- The index keys. -/
theorem index_keys_agree : tki (Kernel3Ideal.Odd.arr0 m c) (Kernel3Ideal.Odd.arr1 m c) = Kernel3Ideal.Value.G10 m c := by
  funext i
  revert i
  intro (i : S4x4096x64.Idx)
  obtain ⟨b, p, j, rfl⟩ : ∃ (b : Fin 4) (p : Fin 4096) (j : Fin 64), i = ix3 b p j := ⟨i 0, i 1, i 2, eq_ix3 i⟩
  exact (tki_apply (Kernel3Ideal.Odd.arr0 m c) (Kernel3Ideal.Odd.arr1 m c) b p j).trans (Kernel3Ideal.Odd.G10_apply m c b p j).symm

/-- The queries. -/
theorem queries_agree : tq (Kernel3Ideal.Odd.arr0 m c) (Kernel3Ideal.Odd.arr1 m c) = Kernel3Ideal.Value.G11 m c := by
  funext i
  revert i
  intro (i : S4x4096x512.Idx)
  obtain ⟨b, p, j, rfl⟩ : ∃ (b : Fin 4) (p : Fin 4096) (j : Fin 512), i = ix3 b p j := ⟨i 0, i 1, i 2, eq_ix3 i⟩
  exact (tq_apply (Kernel3Ideal.Odd.arr0 m c) (Kernel3Ideal.Odd.arr1 m c) b p j).trans (Kernel3Ideal.Odd.G11_apply m c b p j).symm

/-- The index queries. -/
theorem index_queries_agree : tqi (Kernel3Ideal.Odd.arr0 m c) (Kernel3Ideal.Odd.arr1 m c) = Kernel3Ideal.Value.G14 m c := by
  funext i
  revert i
  intro (i : S4x512x4096.Idx)
  obtain ⟨b, j, p, rfl⟩ : ∃ (b : Fin 4) (j : Fin 512) (p : Fin 4096), i = ix3 b j p := ⟨i 0, i 1, i 2, eq_ix3 i⟩
  exact (tqi_apply (Kernel3Ideal.Odd.arr0 m c) (Kernel3Ideal.Odd.arr1 m c) b p j).trans (Kernel3Ideal.Odd.G14_apply m c b p j).symm

/-- The index weights. -/
theorem weights_agree : twi (tproj (Kernel3Ideal.Odd.arr0 m c) (Kernel3Ideal.Odd.arr1 m c)) = Kernel3Ideal.Value.G16 m c := by
  funext i
  revert i
  intro (i : S4x8x4096.Idx)
  obtain ⟨b, j, p, rfl⟩ : ∃ (b : Fin 4) (j : Fin 8) (p : Fin 4096), i = ix3 b j p := ⟨i 0, i 1, i 2, eq_ix3 i⟩
  exact (twi_row (Kernel3Ideal.Odd.arr0 m c) (Kernel3Ideal.Odd.arr1 m c) b p j).trans (Kernel3Ideal.Odd.G16_apply m c b p j).symm

/-- The pooled mixer's output. -/
theorem pools_agree : tco (tproj (Kernel3Ideal.Odd.arr0 m c) (Kernel3Ideal.Odd.arr1 m c)) (Kernel3Ideal.Odd.arr2 m c) (Kernel3Ideal.Odd.arr3 m c) = Kernel3Ideal.Value.G17 m c := by
  funext i
  revert i
  intro (i : S4x4096x512.Idx)
  obtain ⟨b, p, j, rfl⟩ : ∃ (b : Fin 4) (p : Fin 4096) (j : Fin 512), i = ix3 b p j := ⟨i 0, i 1, i 2, eq_ix3 i⟩
  exact (tco_apply (Kernel3Ideal.Odd.arr0 m c) (Kernel3Ideal.Odd.arr1 m c) (Kernel3Ideal.Odd.arr2 m c) (Kernel3Ideal.Odd.arr3 m c) b p j).trans (Kernel3Ideal.Odd.G17_apply m c b p j).symm

/-- The state. -/
theorem state_agree : tph (text (tproj (Kernel3Ideal.Odd.arr0 m c) (Kernel3Ideal.Odd.arr1 m c))) = Kernel3Ideal.Value.G18 m c := by
  funext i
  revert i
  intro (i : S4x16x512.Idx)
  obtain ⟨b, n, j, rfl⟩ : ∃ (b : Fin 4) (n : Fin 16) (j : Fin 512), i = ix3 b n j := ⟨i 0, i 1, i 2, eq_ix3 i⟩
  exact (tph_apply _ b _ (text_padded (Kernel3Ideal.Odd.arr0 m c) (Kernel3Ideal.Odd.arr1 m c) b) n j).trans (Kernel3Ideal.Odd.G18_apply m c b n j).symm

end Agree

/-! The reference's arguments, at their shapes. -/

def argX (m' : (ℓ : Loc nD τ sig) → Buf (Elt Ideal) ℓ) (c : Dev nD) : FVec Ideal S4x4096x1024 .f32 := m' ((c.tc : Thread nD τ).loc main_arg0)
def argW (m' : (ℓ : Loc nD τ sig) → Buf (Elt Ideal) ℓ) (c : Dev nD) : FVec Ideal S1x1024x2632 .f32 := m' ((c.tc : Thread nD τ).loc main_arg1)
def argC (m' : (ℓ : Loc nD τ sig) → Buf (Elt Ideal) ℓ) (c : Dev nD) : FVec Ideal S1x4x128x128 .f32 := m' ((c.tc : Thread nD τ).loc main_arg2)
def argS (m' : (ℓ : Loc nD τ sig) → Buf (Elt Ideal) ℓ) (c : Dev nD) : FVec Ideal S1x512 .f32 := m' ((c.tc : Thread nD τ).loc main_arg3)

/-- The reference's run, its results the terms above. -/
theorem run_terms (m' : (ℓ : Loc nD τ sig) → Buf (Elt Ideal) ℓ) (ρ : Dev nD → PrngReg) :
    θ_run (defs (F := Ideal)) (onTc (τ := τ) (main (F := Ideal))) ⟨m', fun _ => 0, ρ⟩ fun r => ∀ c : Dev nD,
      r.2.mem ((c.tc : Thread nD τ).loc main_v245) = tk (argX m' c) (argW m' c)
      ∧ r.2.mem ((c.tc : Thread nD τ).loc main_v71) = tv (argX m' c) (argW m' c)
      ∧ r.2.mem ((c.tc : Thread nD τ).loc main_v140) = tki (argX m' c) (argW m' c)
      ∧ r.2.mem ((c.tc : Thread nD τ).loc main_v249) = tq (argX m' c) (argW m' c)
      ∧ r.2.mem ((c.tc : Thread nD τ).loc main_v252) = tqi (argX m' c) (argW m' c)
      ∧ r.2.mem ((c.tc : Thread nD τ).loc main_v253) = twi (tproj (argX m' c) (argW m' c))
      ∧ r.2.mem ((c.tc : Thread nD τ).loc main_v254) = tco (tproj (argX m' c) (argW m' c)) (argC m' c) (argS m' c)
      ∧ r.2.mem ((c.tc : Thread nD τ).loc main_v255) = tph (text (tproj (argX m' c) (argW m' c)))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3) :=
  Value.run m' ρ

/-- The kernel's run, of the results that are compared. -/
theorem kernel_run (m : (ℓ : Loc Kernel3Ideal.nD Kernel3Ideal.τ Kernel3Ideal.sig) → Buf (Elt Ideal) ℓ) (g : Dev Kernel3Ideal.nD → PrngReg) :
    θ_run (Kernel3Ideal.defs (F := Ideal)) (onTc (τ := Kernel3Ideal.τ) (Kernel3Ideal.main (F := Ideal))) ⟨m, fun _ => 0, g⟩
      fun r => ∀ c : Dev Kernel3Ideal.nD,
        r.2.mem ((c.tc : Thread Kernel3Ideal.nD Kernel3Ideal.τ).loc Kernel3Ideal.main_v42_0) = Kernel3Ideal.Value.G8 m c
        ∧ r.2.mem ((c.tc : Thread Kernel3Ideal.nD Kernel3Ideal.τ).loc Kernel3Ideal.main_v42_1) = Kernel3Ideal.Value.G9 m c
        ∧ r.2.mem ((c.tc : Thread Kernel3Ideal.nD Kernel3Ideal.τ).loc Kernel3Ideal.main_v42_2) = Kernel3Ideal.Value.G10 m c
        ∧ r.2.mem ((c.tc : Thread Kernel3Ideal.nD Kernel3Ideal.τ).loc Kernel3Ideal.main_v42_3) = Kernel3Ideal.Value.G11 m c
        ∧ r.2.mem ((c.tc : Thread Kernel3Ideal.nD Kernel3Ideal.τ).loc Kernel3Ideal.main_v42_6) = Kernel3Ideal.Value.G14 m c
        ∧ r.2.mem ((c.tc : Thread Kernel3Ideal.nD Kernel3Ideal.τ).loc Kernel3Ideal.main_v42_8) = Kernel3Ideal.Value.G16 m c
        ∧ r.2.mem ((c.tc : Thread Kernel3Ideal.nD Kernel3Ideal.τ).loc Kernel3Ideal.main_v42_9) = Kernel3Ideal.Value.G17 m c
        ∧ r.2.mem ((c.tc : Thread Kernel3Ideal.nD Kernel3Ideal.τ).loc Kernel3Ideal.main_v42_10) = Kernel3Ideal.Value.G18 m c
        ∧ r.2.mem ((c.tc : Thread Kernel3Ideal.nD Kernel3Ideal.τ).loc Kernel3Ideal.main_arg0) = m ((c.tc : Thread Kernel3Ideal.nD Kernel3Ideal.τ).loc Kernel3Ideal.main_arg0)
        ∧ r.2.mem ((c.tc : Thread Kernel3Ideal.nD Kernel3Ideal.τ).loc Kernel3Ideal.main_arg1) = m ((c.tc : Thread Kernel3Ideal.nD Kernel3Ideal.τ).loc Kernel3Ideal.main_arg1)
        ∧ r.2.mem ((c.tc : Thread Kernel3Ideal.nD Kernel3Ideal.τ).loc Kernel3Ideal.main_arg2) = m ((c.tc : Thread Kernel3Ideal.nD Kernel3Ideal.τ).loc Kernel3Ideal.main_arg2)
        ∧ r.2.mem ((c.tc : Thread Kernel3Ideal.nD Kernel3Ideal.τ).loc Kernel3Ideal.main_arg3) = m ((c.tc : Thread Kernel3Ideal.nD Kernel3Ideal.τ).loc Kernel3Ideal.main_arg3) := by
  refine (θ_run _ _ _).mono (fun r h c => ?_) (Kernel3Ideal.Value.run m g)
  obtain ⟨h0, h1, h2, h3, _, _, h6, _, h8, h9, h10, rest⟩ := h c
  exact ⟨h0, h1, h2, h3, h6, h8, h9, h10, rest⟩

/-- The claim. -/
theorem algebraic : Cert.algebraic_Kernel3Ideal_Reference3Ideal := by
  intro m g m' g' _ hagree
  refine ⟨fun c => Kernel3Ideal.Value.G8 m c, fun c => Kernel3Ideal.Value.G9 m c, fun c => Kernel3Ideal.Value.G10 m c,
    fun c => Kernel3Ideal.Value.G11 m c, fun c => Kernel3Ideal.Value.G14 m c, fun c => Kernel3Ideal.Value.G16 m c,
    fun c => Kernel3Ideal.Value.G17 m c, fun c => Kernel3Ideal.Value.G18 m c, kernel_run m g, ?_⟩
  refine (θ_run _ _ _).mono (fun r h c => ?_) (run_terms m' g')
  have a0 : argX m' c = Kernel3Ideal.Odd.arr0 m c := (hagree c).1
  have a1 : argW m' c = Kernel3Ideal.Odd.arr1 m c := (hagree c).2.1
  have a2 : argC m' c = Kernel3Ideal.Odd.arr2 m c := (hagree c).2.2.1
  have a3 : argS m' c = Kernel3Ideal.Odd.arr3 m c := (hagree c).2.2.2
  have h' := h c
  rw [a0, a1, a2, a3] at h'
  obtain ⟨h1, h2, h3, h4, h5, h6, h7, h8, rest⟩ := h'
  exact ⟨h1.trans (keys_agree m c), h2.trans (values_agree m c), h3.trans (index_keys_agree m c), h4.trans (queries_agree m c),
    h5.trans (index_queries_agree m c), h6.trans (weights_agree m c), h7.trans (pools_agree m c), h8.trans (state_agree m c), rest⟩

end Cert.Reference3Ideal.Odd

end
-- ==== Proof.Odd.Frame.lean ====
/-
  The reference's frame: its operations leave the arguments as they were, and no counter moves.
-/
module

public import proofs.«01_k».proof.Defs
public import proofs.«01_k».proof.Proof.Gen.Reference3Ideal
public import proofs.«01_k».proof.Proof.Gen.Reference3Ideal.Run
public import Idealize.ShloMosaic.Lib.Claim

@[expose] public section

set_option maxRecDepth 16384

noncomputable section

namespace Cert.Reference3Ideal.Odd

open Idealize.ShloMosaic Idealize.ShloMosaic.TcCoe Idealize.SL.Sem Idealize.ShloMosaic.StableHlo

theorem frame : Cert.quiescent_Reference3Ideal (hReference3Ideal := Cert.Reference3Ideal.Gen.facts) := by
  intro m g _
  refine (θ_run _ _ _).mono (fun r h => ⟨fun c => (h c).2.2.2.2.2.2.2.2, ?_⟩) (Value.run m g)
  funext s
  rcases s with ⟨_, (i | i)⟩ <;> exact i.elim0

end Cert.Reference3Ideal.Odd

end
-- ==== Proof.Even.Stage.lean ====
/-
  The stages of one tile of the even mixer, as vectors: a column range of the wide product, the gate of one chunk and group
  of columns, and the convolution over the eight rows before the tile.
-/
module

public import proofs.«01_k».proof.Proof.Gen.Kernel4Ideal.Skeleton
public import Idealize.ShloMosaic.Lib.Pipeline.FrameBody

@[expose] public section

set_option maxRecDepth 16384

noncomputable section

namespace Cert.Kernel4Ideal.Even

open Cert.Kernel4Ideal Cert.Kernel4Ideal.Gen
open Idealize.ShloMosaic Idealize.ShloMosaic.TcCoe Idealize.SL.Sem

variable {F : FTy → Type} [FloatOps F]

/-- Columns `512 k` to `512 k + 511` of the wide weights. -/
def cols (w : Vec F S1024x2560 .bf16) (k : Fin 5) : Vec F S1024x512 .bf16 :=
  View.ld (Val := Elt F) w (Rect.unit (s := S1024x2560) ![0, 512 * k.val] S1024x512.size
    (by intro a; fin_cases a <;> simp; omega))

/-- What gates the rows, and the rows that are mixed. -/
def gates (x : Vec F S1x512x1024 .f32) (w : Vec F S1024x2560 .bf16) : FVec F S512x512 .f32 := k0_pay4 x (cols w 0)
def mixed (x : Vec F S1x512x1024 .f32) (w : Vec F S1024x2560 .bf16) (g s : Vec F S1x512 .f32) : FVec F S512x512 .bf16 :=
  k0_pay6 (k0_pay5 x (cols w 1)) g s

/-- Group `g`'s weights under the diagonal, and its biases. -/
def lower (ws : Vec F S4x128x128 .f32) (g : Fin 4) : FVec F S128x128 .bf16 :=
  k0_pay7 (View.ld (Val := Elt F) ws (Rect.unit (s := S4x128x128) ![g.val, 0, 0] S1x128x128.size
    (by intro a; fin_cases a <;> simp; omega)) : Vec F S1x128x128 .f32)

def biases (b : Vec F S128x512 .f32) (g : Fin 4) : Vec F S128x128 .f32 :=
  View.ld (Val := Elt F) b (Rect.unit (s := S128x512) ![0, 128 * g.val] S128x128.size
    (by intro a; fin_cases a <;> simp; omega))

theorem slices_chunk (k g : Fin 4) : S512x512.Slices ![128 * k.val, 128 * g.val] S128x128 := by
  revert k g; decide

/-- Chunk `k` and group `g` of the gated rows. -/
def gate (u : FVec F S512x512 .f32) (v : FVec F S512x512 .bf16) (ws : Vec F S4x128x128 .f32) (b : Vec F S128x512 .f32)
    (g k : Fin 4) : FVec F S1x128x128 .bf16 :=
  shapeCast S1x128x128 (truncf .bf16 (mulf (extractStridedSlice S128x128 ![128 * k.val, 128 * g.val] u (slices_chunk k g))
    (addf (matmul dot_S128x128_S128x128_S128x128_1_0_0_1_n_n none (lower ws g)
      (extractStridedSlice S128x128 ![128 * k.val, 128 * g.val] v (slices_chunk k g)) (constant S128x128 .f32 0x00000000#32))
      (shapeCast S128x128 (biases b g) shapeCasts_S128x128_S128x128))) bitsLt_bf16_f32) shapeCasts_S128x128_S1x128x128

/-- Its store. -/
def gatePiece (u : FVec F S512x512 .f32) (v : FVec F S512x512 .bf16) (ws : Vec F S4x128x128 .f32) (b : Vec F S128x512 .f32)
    (q : Fin 4 × Fin 4) : View.Piece (Elt F) S1x512x512 .bf16 :=
  ⟨Rect.unit (s := S1x512x512) ![0, 128 * q.2.val, 128 * q.1.val] S1x128x128.size
    (by intro a; fin_cases a <;> simp <;> omega), gate u v ws b q.1 q.2⟩

/-- The order of the stores, last first: groups, and chunks within them. -/
def order : List (Fin 4 × Fin 4) := [(3, 3), (3, 2), (3, 1), (3, 0), (2, 3), (2, 2), (2, 1), (2, 0), (1, 3), (1, 2), (1, 1), (1, 0),
  (0, 3), (0, 2), (0, 1), (0, 0)]

/-- The rows before the convolution, and their last eight, twice. -/
def pre (x : Vec F S1x512x1024 .f32) (w : Vec F S1024x2560 .bf16) : FVec F S512x512 .f32 :=
  k0_pay33 (k0_pay3 x) (cols w 3) (cols w 4)
def last (x : Vec F S1x512x1024 .f32) (w : Vec F S1024x2560 .bf16) : FVec F S8x512 .f32 :=
  k0_pay36 (k0_pay3 x) (cols w 3) (cols w 4)
def lastRow (x : Vec F S1x512x1024 .f32) (w : Vec F S1024x2560 .bf16) : FVec F S1x8x512 .f32 :=
  k0_pay37 (k0_pay3 x) (cols w 3) (cols w 4)

/-- Row `n` of the convolution's kernel. -/
def tap (cw : Vec F S3x512 .f32) (n : Fin 3) : Vec F S1x512 .f32 :=
  View.ld (Val := Elt F) cw (Rect.unit (s := S3x512) ![n.val, 0] S1x512.size
    (by intro a; fin_cases a <;> simp; omega))

/-- The gated convolution, over the eight rows `H` before the tile. -/
def conv (x : Vec F S1x512x1024 .f32) (w : Vec F S1024x2560 .bf16) (cw : Vec F S3x512 .f32) (H : Vec F S8x512 .f32) :
    FVec F S1x512x512 .bf16 :=
  k0_pay1 (k0_pay3 x) (k0_pay35 (k0_pay3 x) (cols w 3) (cols w 4) H)
    (k0_pay38 (k0_pay3 x) (cols w 3) (cols w 4) H (tap cw 2) (tap cw 1)) (k0_pay39 (tap cw 0)) (cols w 2)

end Cert.Kernel4Ideal.Even

end
-- ==== Proof.Even.Spec.lean ====
/-
  The even mixer on one row, over the extended reals: what both programs compute, stated once. A row is a function of the
  column; the gate mixes the rows of its own chunk of 128, the convolution sees its own row and the two before.
-/
module

public import Idealize.ShloMosaic.Lib.Pointwise

@[expose] public section

noncomputable section

namespace Cert.Gate

open Idealize.ShloMosaic

/-- The row's length and the variance's offset, as the programs print them. -/
def count : EReal := Ideal.ofBits .f32 0x44000000#32
def eps : EReal := Ideal.ofBits .f32 0x3727C5AC#32

/-- The activation, in the form with the hyperbolic tangent. -/
def gelu (h : EReal) : EReal :=
  h * (Ideal.ofBits .f32 0x3F000000#32 * (1 + Ideal.tanh (Ideal.ofBits .f32 0x3F4C422A#32
    * (h + Ideal.ofBits .f32 0x3D372713#32 * (h * h * h)))))

/-- Column `j` of section `k` of a row's product with the weights. -/
def sect (x : Fin 1024 → EReal) (w : Fin 1024 → Fin 2560 → EReal) (k : Fin 5) (j : Fin 512) : EReal :=
  ∑ d, x d * w d ⟨512 * k.val + j.val, by omega⟩

/-- A row's mean. -/
def mean (v : Fin 512 → EReal) : EReal := Ideal.div (∑ k, v k) count

/-- A row normalised, scaled and shifted. -/
def norm (v g s : Fin 512 → EReal) (j : Fin 512) : EReal :=
  (v j - mean v) * Ideal.rsqrt (mean (fun k => (v k - mean v) * (v k - mean v)) + eps) * g j + s j

/-- What gates a row, and the row that is mixed. -/
def left (x : Fin 1024 → EReal) (w : Fin 1024 → Fin 2560 → EReal) (j : Fin 512) : EReal := gelu (sect x w 0 j)
def right (x : Fin 1024 → EReal) (w : Fin 1024 → Fin 2560 → EReal) (g s : Fin 512 → EReal) : Fin 512 → EReal :=
  norm (fun j => gelu (sect x w 1 j)) g s

/-- Row `t` of a chunk mixed in group `g`: the rows up to it, weighted. -/
def mix (ws : Fin 4 → Fin 128 → Fin 128 → EReal) (bs : Fin 4 → Fin 128 → EReal) (v : Fin 128 → EReal) (g : Fin 4) (t : Fin 128) :
    EReal := (∑ s : Fin 128, (if s.val ≤ t.val then ws g t s else 0) * v s) + bs g t

/-- The convolved row before the convolution. -/
def pre (x : Fin 1024 → EReal) (w : Fin 1024 → Fin 2560 → EReal) (j : Fin 512) : EReal := sect x w 3 j * sect x w 4 j

/-- The row `n` before row `p` of a sequence, zero before its first. -/
def prev (u : ℕ → Fin 512 → EReal) (n p : ℕ) (j : Fin 512) : EReal := if n ≤ p then u (p - n) j else 0

/-- Row `p` after the convolution. -/
def convRow (u : ℕ → Fin 512 → EReal) (w : Fin 3 → Fin 512 → EReal) (p : ℕ) (j : Fin 512) : EReal :=
  prev u 0 p j * w 2 j + prev u 1 p j * w 1 j + prev u 2 p j * w 0 j

/-- Row `p` of a sequence gated by the mixed rows of its chunk. -/
def gated (x : Fin 4096 → Fin 1024 → EReal) (w : Fin 1024 → Fin 2560 → EReal) (g s : Fin 512 → EReal)
    (ws : Fin 4 → Fin 128 → Fin 128 → EReal) (bs : Fin 4 → Fin 128 → EReal) (p : Fin 4096) (j : Fin 512) : EReal :=
  left (x p) w j * mix ws bs (fun t => right (x ⟨128 * (p.val / 128) + t.val, by omega⟩) w g s j) ⟨j.val / 128, by omega⟩
    ⟨p.val % 128, by omega⟩

/-- The rows of a sequence before the convolution. -/
def rows (x : Fin 4096 → Fin 1024 → EReal) (w : Fin 1024 → Fin 2560 → EReal) (p : ℕ) : Fin 512 → EReal :=
  if h : p < 4096 then pre (x ⟨p, h⟩) w else fun _ => 0

theorem rows_of_lt (x : Fin 4096 → Fin 1024 → EReal) (w : Fin 1024 → Fin 2560 → EReal) (p : ℕ) (h : p < 4096) :
    rows x w p = pre (x ⟨p, h⟩) w := dif_pos h

/-- Row `p` of a sequence after the gated convolution. -/
def convolved (x : Fin 4096 → Fin 1024 → EReal) (w : Fin 1024 → Fin 2560 → EReal) (cw : Fin 3 → Fin 512 → EReal) (p : Fin 4096)
    (j : Fin 512) : EReal := sect (x p) w 2 j * convRow (rows x w) cw p.val j

end Cert.Gate

end
-- ==== Proof.Even.Read.lean ====
/-
  The stages read at one element, over the extended reals: each is the row function of the same name.
-/
module

public import proofs.«01_k».proof.Proof.Even.Stage
public import proofs.«01_k».proof.Proof.Even.Spec
public import Idealize.ShloMosaic.Lib.Pointwise
public import Idealize.ShloMosaic.Lib.Pipeline.ValueKit.Tiles

@[expose] public section

set_option maxRecDepth 16384

noncomputable section

namespace Cert.Kernel4Ideal.Even

open Cert.Kernel4Ideal Cert.Kernel4Ideal.Gen
open Idealize.ShloMosaic Idealize.ShloMosaic.TcCoe Idealize.SL.Sem

theorem cols_apply (w : Vec Ideal S1024x2560 .bf16) (k : Fin 5) (d : Fin 1024) (j : Fin 512) :
    cols w k (ix2 d j) = w (ix2 d ⟨512 * k.val + j.val, by omega⟩) := by
  unfold cols
  refine congrArg w ?_
  funext a
  apply Fin.ext
  rw [Rect.idx_unit_val]
  fin_cases a <;> simp [ix2]

theorem gates_apply (x : Vec Ideal S1x512x1024 .f32) (w : Vec Ideal S1024x2560 .bf16) (r j : Fin 512) :
    gates x w (ix2 r j) = Gate.left (fun d => x (ix3 0 r d)) (fun d j => w (ix2 d j)) j := by
  pointwise [gates, k0_pay4, k0_pay3, cols_apply, Gate.left, Gate.gelu, Gate.sect]

theorem acts_apply (x : Vec Ideal S1x512x1024 .f32) (w : Vec Ideal S1024x2560 .bf16) (r j : Fin 512) :
    k0_pay5 x (cols w 1) (ix2 r j) = Gate.gelu (Gate.sect (fun d => x (ix3 0 r d)) (fun d j => w (ix2 d j)) 1 j) := by
  pointwise [k0_pay5, k0_pay3, cols_apply, Gate.gelu, Gate.sect]

theorem normed_apply (v : FVec Ideal S512x512 .f32) (g s : Vec Ideal S1x512 .f32) (r j : Fin 512) :
    k0_pay6 v g s (ix2 r j) = Gate.norm (fun j => v (ix2 r j)) (fun j => g (ix2 0 j)) (fun j => s (ix2 0 j)) j := by
  pointwise [k0_pay6, Gate.norm, Gate.mean, Gate.eps, Gate.count]

theorem mixed_apply (x : Vec Ideal S1x512x1024 .f32) (w : Vec Ideal S1024x2560 .bf16) (g s : Vec Ideal S1x512 .f32)
    (r j : Fin 512) : mixed x w g s (ix2 r j) = Gate.right (fun d => x (ix3 0 r d)) (fun d j => w (ix2 d j))
      (fun j => g (ix2 0 j)) (fun j => s (ix2 0 j)) j := by
  unfold mixed Gate.right
  rw [normed_apply]
  exact congrArg (fun v => Gate.norm v _ _ j) (funext fun k => acts_apply x w r k)

/-- The mask under the diagonal. -/
theorem mask (t s : Fin 128) (a b : EReal) :
    Scalar.select (α := EReal) (IntOp.cmpi .sge (BitVec.ofNat 32 t.val) (BitVec.ofNat 32 s.val)) a b = if s.val ≤ t.val then a else b := by
  have h : ∀ t s : Fin 128, IntOp.cmpi .sge (BitVec.ofNat 32 t.val) (BitVec.ofNat 32 s.val) = if s.val ≤ t.val then 1#1 else 0#1 := by
    decide +kernel
  rw [h]
  split_ifs <;> rfl

theorem lower_apply (ws : Vec Ideal S4x128x128 .f32) (g : Fin 4) (t s : Fin 128) :
    lower ws g (ix2 t s) = if s.val ≤ t.val then ws (ix3 g t s) else 0 := by
  pointwise [lower, k0_pay7]
  exact mask t s _ _

theorem biases_apply (b : Vec Ideal S128x512 .f32) (g : Fin 4) (t l : Fin 128) :
    biases b g (ix2 t l) = b (ix2 t ⟨128 * g.val + l.val, by omega⟩) := by
  unfold biases
  refine congrArg b ?_
  funext a
  apply Fin.ext
  rw [Rect.idx_unit_val]
  fin_cases a <;> simp [ix2]

theorem gate_apply (u : FVec Ideal S512x512 .f32) (v : FVec Ideal S512x512 .bf16) (ws : Vec Ideal S4x128x128 .f32)
    (b : Vec Ideal S128x512 .f32) (g k : Fin 4) (t l : Fin 128) :
    gate u v ws b g k (ix3 0 t l) = u (ix2 ⟨128 * k.val + t.val, by omega⟩ ⟨128 * g.val + l.val, by omega⟩) *
      ((∑ s : Fin 128, (if s.val ≤ t.val then ws (ix3 g t s) else 0)
        * v (ix2 ⟨128 * k.val + s.val, by omega⟩ ⟨128 * g.val + l.val, by omega⟩)) + b (ix2 t ⟨128 * g.val + l.val, by omega⟩)) := by
  pointwise [gate, lower_apply, biases_apply]

theorem pre_apply (x : Vec Ideal S1x512x1024 .f32) (w : Vec Ideal S1024x2560 .bf16) (r j : Fin 512) :
    pre x w (ix2 r j) = Gate.pre (fun d => x (ix3 0 r d)) (fun d j => w (ix2 d j)) j := by
  pointwise [pre, k0_pay33, k0_pay3, cols_apply, Gate.pre, Gate.sect]

theorem last_apply (x : Vec Ideal S1x512x1024 .f32) (w : Vec Ideal S1024x2560 .bf16) (i : Fin 8) (j : Fin 512) :
    last x w (ix2 i j) = pre x w (ix2 ⟨504 + i.val, by omega⟩ j) := by
  unfold last pre
  unfold k0_pay36
  generalize k0_pay33 (k0_pay3 x) (cols w 3) (cols w 4) = e
  pointwise

theorem lastRow_apply (x : Vec Ideal S1x512x1024 .f32) (w : Vec Ideal S1024x2560 .bf16) (i : Fin 8) (j : Fin 512) :
    lastRow x w (ix3 0 i j) = pre x w (ix2 ⟨504 + i.val, by omega⟩ j) := by
  unfold lastRow pre
  unfold k0_pay37
  generalize k0_pay33 (k0_pay3 x) (cols w 3) (cols w 4) = e
  pointwise

theorem tap_apply (cw : Vec Ideal S3x512 .f32) (n : Fin 3) (j : Fin 512) : tap cw n (ix2 0 j) = cw (ix2 n j) := by
  unfold tap
  refine congrArg cw ?_
  funext a
  apply Fin.ext
  rw [Rect.idx_unit_val]
  fin_cases a <;> simp [ix2]

/-- The convolution over any rows `e` under the eight before them. -/
def conv3 (e : FVec Ideal S512x512 .f32) (cw : Vec Ideal S3x512 .f32) (H : Vec Ideal S8x512 .f32) : FVec Ideal S512x512 .f32 :=
  let x : FVec Ideal S520x512 .f32 := concatenate S520x512 0 [⟨S8x512, H⟩, ⟨S512x512, e⟩] concatenates_S8x512_S512x512_S520x512_d0
  addf (addf (mulf e (broadcastTo S512x512 (shapeCast S1x512 (tap cw 2) shapeCasts_S1x512_S1x512) broadcasts_S1x512_S512x512))
    (mulf (extractStridedSlice S512x512 ![8, 0] (dynamicRotate 0 1#32 none x rotates_S520x512_d0) slices_S520x512_o8_0_S512x512)
      (broadcastTo S512x512 (shapeCast S1x512 (tap cw 1) shapeCasts_S1x512_S1x512) broadcasts_S1x512_S512x512)))
    (mulf (extractStridedSlice S512x512 ![8, 0] (dynamicRotate 0 2#32 none x rotates_S520x512_d0) slices_S520x512_o8_0_S512x512)
      (broadcastTo S512x512 (shapeCast S1x512 (tap cw 0) shapeCasts_S1x512_S1x512) broadcasts_S1x512_S512x512))

/-- It reads the two rows before each row: in the tile, or in the eight rows kept before it. -/
theorem conv3_apply (e : FVec Ideal S512x512 .f32) (cw : Vec Ideal S3x512 .f32) (H : Vec Ideal S8x512 .f32)
    (u : ℕ → Fin 512 → EReal) (p : ℕ) (he : ∀ r j : Fin 512, e (ix2 r j) = u (p + r.val) j)
    (hH : ∀ (i : Fin 8) (j : Fin 512), H (ix2 i j) = Gate.prev u (8 - i.val) p j) (r j : Fin 512) :
    conv3 e cw H (ix2 r j) = Gate.convRow u (fun n j => cw (ix2 n j)) (p + r.val) j := by
  pointwise [conv3, tap_apply]
  simp only [Gate.convRow, he, hH]
  have e1 : (8 + r.val + 520 - 1) % 520 = r.val + 7 := by omega
  have e2 : (8 + r.val + 520 - 2) % 520 = r.val + 6 := by omega
  simp only [e1, e2, Gate.prev]
  refine congrArg₂ (· + ·) (congrArg₂ (· + ·) ?_ ?_) ?_
  · simp
  · refine congrArg₂ (· * ·) ?_ rfl
    split_ifs with h1 h2 h3 h3 <;> first | omega | rfl | exact congrFun (congrArg u (by omega)) _
  · refine congrArg₂ (· * ·) ?_ rfl
    split_ifs with h1 h2 h3 h3 <;> first | omega | rfl | exact congrFun (congrArg u (by omega)) _

/-- The gated convolution, its product apart. -/
theorem conv_eq (x : Vec Ideal S1x512x1024 .f32) (w : Vec Ideal S1024x2560 .bf16) (cw : Vec Ideal S3x512 .f32)
    (H : Vec Ideal S8x512 .f32) : conv x w cw H = shapeCast S1x512x512 (truncf .bf16 (mulf
      (matmul (φ₂ := .bf16) dot_S512x1024_S1024x512_S512x512_1_0_0_1_n_n none (k0_pay3 x) (shapeCast S1024x512 (cols w 2)
        shapeCasts_S1024x512_S1024x512) (constant S512x512 .f32 0x00000000#32)) (conv3 (pre x w) cw H)) bitsLt_bf16_f32)
      shapeCasts_S512x512_S1x512x512 := rfl

theorem conv_apply (x : Vec Ideal S1x512x1024 .f32) (w : Vec Ideal S1024x2560 .bf16) (cw : Vec Ideal S3x512 .f32)
    (H : Vec Ideal S8x512 .f32) (r j : Fin 512) : conv x w cw H (ix3 0 r j) =
      Gate.sect (fun d => x (ix3 0 r d)) (fun d j => w (ix2 d j)) 2 j * conv3 (pre x w) cw H (ix2 r j) := by
  rw [conv_eq]
  generalize conv3 (pre x w) cw H = z
  pointwise [k0_pay3, cols_apply, Gate.sect]

end Cert.Kernel4Ideal.Even

end
-- ==== Proof.Even.Tile.lean ====
/-
  The gated rows in one tile, over the rows of its sequence: each chunk and group's store, then the whole block.
-/
module

public import proofs.«01_k».proof.Proof.Even.Read
public import Idealize.ShloMosaic.Lib.Pipeline.ValueKit
public import Idealize.ShloMosaic.Lib.Ring
public import Idealize.ShloMosaic.Lib.Pipeline.CanonAppend

@[expose] public section

set_option maxRecDepth 16384

noncomputable section

namespace Cert.Kernel4Ideal.Even

open Cert.Kernel4Ideal Cert.Kernel4Ideal.Gen
open Idealize.ShloMosaic Idealize.ShloMosaic.TcCoe Idealize.SL.Sem

/-- One store. -/
theorem gate_row (u : FVec Ideal S512x512 .f32) (v : FVec Ideal S512x512 .bf16) (x4 : Vec Ideal S4x128x128 .f32)
    (x5 : Vec Ideal S128x512 .f32) (x : Fin 4096 → Fin 1024 → EReal) (w : Fin 1024 → Fin 2560 → EReal) (g s : Fin 512 → EReal)
    (ws : Fin 4 → Fin 128 → Fin 128 → EReal) (bs : Fin 4 → Fin 128 → EReal) (T : ℕ) (hT : T < 8)
    (hu : ∀ r j : Fin 512, u (ix2 r j) = Gate.left (x ⟨512 * T + r.val, by omega⟩) w j)
    (hv : ∀ r j : Fin 512, v (ix2 r j) = Gate.right (x ⟨512 * T + r.val, by omega⟩) w g s j)
    (h4 : ∀ g t l, x4 (ix3 g t l) = ws g t l)
    (h5 : ∀ (g : Fin 4) (t l : Fin 128), x5 (ix2 t ⟨128 * g.val + l.val, by omega⟩) = bs g t) (i k : Fin 4) (t l : Fin 128) :
    gate u v x4 x5 i k (ix3 0 t l) = Gate.gated x w g s ws bs ⟨512 * T + (128 * k.val + t.val), by omega⟩
      ⟨128 * i.val + l.val, by omega⟩ := by
  rw [gate_apply, hu]
  unfold Gate.gated Gate.mix
  have eg : (⟨(128 * i.val + l.val) / 128, by omega⟩ : Fin 4) = i := Fin.ext (by dsimp only; omega)
  have et : (⟨(512 * T + (128 * k.val + t.val)) % 128, by omega⟩ : Fin 128) = t := Fin.ext (by dsimp only; omega)
  simp only [eg, et]
  refine congrArg₂ (· * ·) rfl (congrArg₂ (· + ·) (Finset.sum_congr rfl fun n _ => ?_) (h5 i t l))
  rw [hv, h4]
  refine congrArg₂ (· * ·) (if_congr (by rw [show (512 * T + (128 * k.val + t.val)) % 128 = t.val by omega]) rfl rfl) ?_
  have ep : (⟨512 * T + (128 * k.val + n.val), by omega⟩ : Fin 4096) =
      ⟨128 * ((512 * T + (128 * k.val + t.val)) / 128) + n.val, by omega⟩ := Fin.ext (by dsimp only; omega)
  rw [ep]

/-- The whole block. -/
theorem gates_block (u : FVec Ideal S512x512 .f32) (v : FVec Ideal S512x512 .bf16) (x4 : Vec Ideal S4x128x128 .f32)
    (x5 : Vec Ideal S128x512 .f32) (Y : Fin 512 → Fin 512 → EReal)
    (h : ∀ (g k : Fin 4) (t l : Fin 128), gate u v x4 x5 g k (ix3 0 t l) =
      Y ⟨128 * k.val + t.val, by omega⟩ ⟨128 * g.val + l.val, by omega⟩) (r j : Fin 512) :
    View.canon (order.map (gatePiece u v x4 x5)) (ix3 0 r j) = Y r j := by
  refine (View.canon_apply_of_pieces (fun i : S1x512x512.Idx => Y (i 1) (i 2)) _ ?_ _
    (View.cover_of_tiledL (s := S1x512x512) _ S1x128x128.size (by sl_kernel_rfl) _)).trans rfl
  intro pc hp y
  obtain ⟨⟨g, k⟩, -, rfl⟩ := List.mem_map.1 hp
  revert y
  intro (y : S1x128x128.Idx)
  obtain ⟨a, b, rfl⟩ : ∃ (a b : Fin 128), y = ix3 0 a b := by
    refine ⟨y 1, y 2, ?_⟩
    rw [eq_ix3 y]; congr 1; exact Fin.ext (show (y 0).val = 0 from Nat.lt_one_iff.1 (y 0).isLt)
  refine (h g k a b).trans ?_
  have e1 : ((gatePiece u v x4 x5 (g, k)).1.emb (ix3 0 a b) 1).val = 128 * k.val + a.val := by
    unfold gatePiece; rw [ValueKit.rect_emb_unit_val]; simp
  have e2 : ((gatePiece u v x4 x5 (g, k)).1.emb (ix3 0 a b) 2).val = 128 * g.val + b.val := by
    unfold gatePiece; rw [ValueKit.rect_emb_unit_val]; simp
  exact congrArg₂ Y (Fin.ext e1.symm) (Fin.ext e2.symm)

end Cert.Kernel4Ideal.Even

end
-- ==== Proof.Even.RunA.lean ====
/-
  What the body of a grid point leaves, in the stages' terms. At the first tile of a sequence, the rows before are zero.
-/
module

public import proofs.«01_k».proof.Proof.Gen.Kernel4Ideal.Frame
public import proofs.«01_k».proof.Proof.Even.Stage
public import Idealize.ShloMosaic.Lib.Pipeline.Value
public import Idealize.ShloMosaic.Lib.Pipeline.ReadBack

@[expose] public section

set_option maxRecDepth 16384

noncomputable section

namespace Cert.Kernel4Ideal.Even

open Cert.Kernel4Ideal Cert.Kernel4Ideal.Gen
open Idealize.ShloMosaic Idealize.ShloMosaic.TcCoe Idealize.SL.Sem

variable {F : FTy → Type} [FloatOps F]
variable (c : Dev nD) (i : grid0.Coords)
    (arg2 : Memref sig .tc .vmem S1x512x1024 .f32) (harg2 : arg2.IsWhole)
    (arg3 : Memref sig .tc .vmem S1024x2560 .bf16) (harg3 : arg3.IsWhole)
    (arg4 : Memref sig .tc .vmem S1x512 .f32) (harg4 : arg4.IsWhole)
    (arg5 : Memref sig .tc .vmem S1x512 .f32) (harg5 : arg5.IsWhole)
    (arg6 : Memref sig .tc .vmem S4x128x128 .f32) (harg6 : arg6.IsWhole)
    (arg7 : Memref sig .tc .vmem S128x512 .f32) (harg7 : arg7.IsWhole)
    (arg8 : Memref sig .tc .vmem S3x512 .f32) (harg8 : arg8.IsWhole)
    (arg9 : Memref sig .tc .vmem S1x512x512 .bf16) (harg9 : arg9.IsWhole)
    (arg10 : Memref sig .tc .vmem S1x512x512 .bf16) (harg10 : arg10.IsWhole)
    (arg11 : Memref sig .tc .vmem S1x8x512 .f32) (harg11 : arg11.IsWhole)
    (arg12 : Memref sig .tc .vmem S8x512 .f32) (harg12 : arg12.IsWhole)
    (hc0 : cond0_0 i)
    (x0 : Vec F S1x512x1024 .f32)
    (x1 : Vec F S1024x2560 .bf16)
    (x2 : Vec F S1x512 .f32)
    (x3 : Vec F S1x512 .f32)
    (x4 : Vec F S4x128x128 .f32)
    (x5 : Vec F S128x512 .f32)
    (x6 : Vec F S3x512 .f32)

/-- The gated rows, chunk by chunk. -/
theorem a_A :
    out0_A_7 c i arg2 harg2 arg3 harg3 arg4 harg4 arg5 harg5 arg6 harg6 arg7 harg7 arg8 harg8 arg9 harg9 arg10 harg10 arg11 harg11 arg12 harg12 hc0
      x0 x1 x2 x3 x4 x5 x6 =
      View.canon (order.map (gatePiece (gates x0 x1) (mixed x0 x1 x2 x3) x4 x5)) := by
  have hz : (![0, 0, 0] : Fin 3 → ℕ) = fun _ => 0 := by funext a; fin_cases a <;> rfl
  have hz2 : (![0, 0] : Fin 2 → ℕ) = fun _ => 0 := by funext a; fin_cases a <;> rfl
  unfold out0_A_7
  rw [View.read_writes_eq_canon _ _ _ (cover0_A_7 c i arg2 harg2 arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  simp only [View.readAt_eq_ld, harg2.read_unread, harg3.read_unread, harg4.read_unread, harg5.read_unread, harg6.read_unread, harg7.read_unread, harg8.read_unread, View.ld_unit_zero (S := S1x512x1024) hz, View.ld_unit_zero (S := S1x512) hz2]
  rfl

/-- The gated convolution. -/
theorem b_A :
    out0_A_8 c i arg2 harg2 arg3 harg3 arg4 harg4 arg5 harg5 arg6 harg6 arg7 harg7 arg8 harg8 arg9 harg9 arg10 harg10 arg11 harg11 arg12 harg12 hc0
      x0 x1 x2 x3 x4 x5 x6 =
      conv x0 x1 x6 k0_pay2 := by
  have hz : (![0, 0, 0] : Fin 3 → ℕ) = fun _ => 0 := by funext a; fin_cases a <;> rfl
  have hz2 : (![0, 0] : Fin 2 → ℕ) = fun _ => 0 := by funext a; fin_cases a <;> rfl
  unfold out0_A_8
  rw [View.read_writes_eq_canon _ _ _ (cover0_A_8 c i arg2 harg2 arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  rw [View.canon_unit_zero (S := S1x512x512) hz]
  simp (disch := decide) only [↓View.readCov_skip, ↓View.readCov_fill]
  simp only [View.readAt_eq_ld, harg2.read_unread, harg3.read_unread, harg4.read_unread, harg5.read_unread, harg6.read_unread, harg7.read_unread, harg8.read_unread, View.ld_unit_zero (S := S1x512x1024) hz, View.ld_unit_zero (S := S1x512) hz2]
  rfl

/-- The state. -/
theorem st_A :
    out0_A_9 c i arg2 harg2 arg3 harg3 arg4 harg4 arg5 harg5 arg6 harg6 arg7 harg7 arg8 harg8 arg9 harg9 arg10 harg10 arg11 harg11 arg12 harg12 hc0
      x0 x1 x2 x3 x4 x5 x6 =
      lastRow x0 x1 := by
  have hz : (![0, 0, 0] : Fin 3 → ℕ) = fun _ => 0 := by funext a; fin_cases a <;> rfl
  have hz2 : (![0, 0] : Fin 2 → ℕ) = fun _ => 0 := by funext a; fin_cases a <;> rfl
  unfold out0_A_9
  rw [View.read_writes_eq_canon _ _ _ (cover0_A_9 c i arg2 harg2 arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  rw [View.canon_unit_zero (S := S1x8x512) hz]
  simp only [View.readAt_eq_ld, harg2.read_unread, harg3.read_unread, harg4.read_unread, harg5.read_unread, harg6.read_unread, harg7.read_unread, harg8.read_unread, View.ld_unit_zero (S := S1x512x1024) hz, View.ld_unit_zero (S := S1x512) hz2]
  rfl

/-- The rows kept for the next tile. -/
theorem kept_A :
    sout0_A_0 c i arg2 harg2 arg3 harg3 arg4 harg4 arg5 harg5 arg6 harg6 arg7 harg7 arg8 harg8 arg9 harg9 arg10 harg10 arg11 harg11 arg12 harg12 hc0
      x0 x1 x2 x3 x4 x5 x6 =
      View.canon ([⟨Rect.unit ![0, 0] S8x512.size (by decide), last x0 x1⟩, ⟨Rect.unit ![0, 0] S8x512.size (by decide), k0_pay2⟩]) := by
  have hz : (![0, 0, 0] : Fin 3 → ℕ) = fun _ => 0 := by funext a; fin_cases a <;> rfl
  have hz2 : (![0, 0] : Fin 2 → ℕ) = fun _ => 0 := by funext a; fin_cases a <;> rfl
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 arg12 harg12 hc0 x0 x1 x2 x3 x4 x5 x6)]
  unfold kernelRun0_A
  dsimp only
  sl_unfold_words
  simp only [View.readAt_eq_ld, harg2.read_unread, harg3.read_unread, harg4.read_unread, harg5.read_unread, harg6.read_unread, harg7.read_unread, harg8.read_unread, View.ld_unit_zero (S := S1x512x1024) hz, View.ld_unit_zero (S := S1x512) hz2]
  rfl

end Cert.Kernel4Ideal.Even

end
-- ==== Proof.Even.RunB.lean ====
/-
  What the body of a grid point leaves, in the stages' terms. At a later tile of a sequence, the rows before are what the tile before left.
-/
module

public import proofs.«01_k».proof.Proof.Gen.Kernel4Ideal.Frame
public import proofs.«01_k».proof.Proof.Even.Stage
public import Idealize.ShloMosaic.Lib.Pipeline.Value
public import Idealize.ShloMosaic.Lib.Pipeline.ReadBack

@[expose] public section

set_option maxRecDepth 16384

noncomputable section

namespace Cert.Kernel4Ideal.Even

open Cert.Kernel4Ideal Cert.Kernel4Ideal.Gen
open Idealize.ShloMosaic Idealize.ShloMosaic.TcCoe Idealize.SL.Sem

variable {F : FTy → Type} [FloatOps F]
variable (c : Dev nD) (i : grid0.Coords)
    (arg2 : Memref sig .tc .vmem S1x512x1024 .f32) (harg2 : arg2.IsWhole)
    (arg3 : Memref sig .tc .vmem S1024x2560 .bf16) (harg3 : arg3.IsWhole)
    (arg4 : Memref sig .tc .vmem S1x512 .f32) (harg4 : arg4.IsWhole)
    (arg5 : Memref sig .tc .vmem S1x512 .f32) (harg5 : arg5.IsWhole)
    (arg6 : Memref sig .tc .vmem S4x128x128 .f32) (harg6 : arg6.IsWhole)
    (arg7 : Memref sig .tc .vmem S128x512 .f32) (harg7 : arg7.IsWhole)
    (arg8 : Memref sig .tc .vmem S3x512 .f32) (harg8 : arg8.IsWhole)
    (arg9 : Memref sig .tc .vmem S1x512x512 .bf16) (harg9 : arg9.IsWhole)
    (arg10 : Memref sig .tc .vmem S1x512x512 .bf16) (harg10 : arg10.IsWhole)
    (arg11 : Memref sig .tc .vmem S1x8x512 .f32) (harg11 : arg11.IsWhole)
    (arg12 : Memref sig .tc .vmem S8x512 .f32) (harg12 : arg12.IsWhole)
    (hc0 : ¬cond0_0 i)
    (x0 : Vec F S1x512x1024 .f32)
    (x1 : Vec F S1024x2560 .bf16)
    (x2 : Vec F S1x512 .f32)
    (x3 : Vec F S1x512 .f32)
    (x4 : Vec F S4x128x128 .f32)
    (x5 : Vec F S128x512 .f32)
    (x6 : Vec F S3x512 .f32) (H : Vec F S8x512 .f32)

/-- The gated rows, chunk by chunk. -/
theorem a_B :
    out0_B_7 c i arg2 harg2 arg3 harg3 arg4 harg4 arg5 harg5 arg6 harg6 arg7 harg7 arg8 harg8 arg9 harg9 arg10 harg10 arg11 harg11 arg12 harg12 hc0
      x0 x1 x2 x3 x4 x5 x6 H =
      View.canon (order.map (gatePiece (gates x0 x1) (mixed x0 x1 x2 x3) x4 x5)) := by
  have hz : (![0, 0, 0] : Fin 3 → ℕ) = fun _ => 0 := by funext a; fin_cases a <;> rfl
  have hz2 : (![0, 0] : Fin 2 → ℕ) = fun _ => 0 := by funext a; fin_cases a <;> rfl
  unfold out0_B_7
  rw [View.read_writes_eq_canon _ _ _ (cover0_B_7 c i arg2 harg2 arg3 harg3 arg4 harg4 arg5 harg5 arg6 harg6 arg7 harg7 arg8 harg8 arg9 harg9 arg10 harg10 arg11 harg11 arg12 harg12 hc0 x0 x1 x2 x3 x4 x5 x6 H)]
  unfold kernelRun0_B
  dsimp only
  sl_unfold_words
  simp only [View.readAt_eq_ld, harg2.read_unread, harg3.read_unread, harg4.read_unread, harg5.read_unread, harg6.read_unread, harg7.read_unread, harg8.read_unread, harg12.read_unread, View.ld_unit_zero (S := S1x512x1024) hz, View.ld_unit_zero (S := S1x512) hz2, View.ld_unit_zero (S := S8x512) hz2]
  rfl

/-- The gated convolution. -/
theorem b_B :
    out0_B_8 c i arg2 harg2 arg3 harg3 arg4 harg4 arg5 harg5 arg6 harg6 arg7 harg7 arg8 harg8 arg9 harg9 arg10 harg10 arg11 harg11 arg12 harg12 hc0
      x0 x1 x2 x3 x4 x5 x6 H =
      conv x0 x1 x6 H := by
  have hz : (![0, 0, 0] : Fin 3 → ℕ) = fun _ => 0 := by funext a; fin_cases a <;> rfl
  have hz2 : (![0, 0] : Fin 2 → ℕ) = fun _ => 0 := by funext a; fin_cases a <;> rfl
  unfold out0_B_8
  rw [View.read_writes_eq_canon _ _ _ (cover0_B_8 c i arg2 harg2 arg3 harg3 arg4 harg4 arg5 harg5 arg6 harg6 arg7 harg7 arg8 harg8 arg9 harg9 arg10 harg10 arg11 harg11 arg12 harg12 hc0 x0 x1 x2 x3 x4 x5 x6 H)]
  unfold kernelRun0_B
  dsimp only
  sl_unfold_words
  rw [View.canon_unit_zero (S := S1x512x512) hz]
  simp only [View.readAt_eq_ld, harg2.read_unread, harg3.read_unread, harg4.read_unread, harg5.read_unread, harg6.read_unread, harg7.read_unread, harg8.read_unread, harg12.read_unread, View.ld_unit_zero (S := S1x512x1024) hz, View.ld_unit_zero (S := S1x512) hz2, View.ld_unit_zero (S := S8x512) hz2]
  rfl

/-- The state. -/
theorem st_B :
    out0_B_9 c i arg2 harg2 arg3 harg3 arg4 harg4 arg5 harg5 arg6 harg6 arg7 harg7 arg8 harg8 arg9 harg9 arg10 harg10 arg11 harg11 arg12 harg12 hc0
      x0 x1 x2 x3 x4 x5 x6 H =
      lastRow x0 x1 := by
  have hz : (![0, 0, 0] : Fin 3 → ℕ) = fun _ => 0 := by funext a; fin_cases a <;> rfl
  have hz2 : (![0, 0] : Fin 2 → ℕ) = fun _ => 0 := by funext a; fin_cases a <;> rfl
  unfold out0_B_9
  rw [View.read_writes_eq_canon _ _ _ (cover0_B_9 c i arg2 harg2 arg3 harg3 arg4 harg4 arg5 harg5 arg6 harg6 arg7 harg7 arg8 harg8 arg9 harg9 arg10 harg10 arg11 harg11 arg12 harg12 hc0 x0 x1 x2 x3 x4 x5 x6 H)]
  unfold kernelRun0_B
  dsimp only
  sl_unfold_words
  rw [View.canon_unit_zero (S := S1x8x512) hz]
  simp only [View.readAt_eq_ld, harg2.read_unread, harg3.read_unread, harg4.read_unread, harg5.read_unread, harg6.read_unread, harg7.read_unread, harg8.read_unread, harg12.read_unread, View.ld_unit_zero (S := S1x512x1024) hz, View.ld_unit_zero (S := S1x512) hz2, View.ld_unit_zero (S := S8x512) hz2]
  rfl

/-- The rows kept for the next tile. -/
theorem kept_B :
    sout0_B_0 c i arg2 harg2 arg3 harg3 arg4 harg4 arg5 harg5 arg6 harg6 arg7 harg7 arg8 harg8 arg9 harg9 arg10 harg10 arg11 harg11 arg12 harg12 hc0
      x0 x1 x2 x3 x4 x5 x6 H =
      last x0 x1 := by
  have hz : (![0, 0, 0] : Fin 3 → ℕ) = fun _ => 0 := by funext a; fin_cases a <;> rfl
  have hz2 : (![0, 0] : Fin 2 → ℕ) = fun _ => 0 := by funext a; fin_cases a <;> rfl
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 arg12 harg12 hc0 x0 x1 x2 x3 x4 x5 x6 H)]
  unfold kernelRun0_B
  dsimp only
  sl_unfold_words
  rw [View.canon_unit_zero (S := S8x512) hz2]
  simp only [View.readAt_eq_ld, harg2.read_unread, harg3.read_unread, harg4.read_unread, harg5.read_unread, harg6.read_unread, harg7.read_unread, harg8.read_unread, harg12.read_unread, View.ld_unit_zero (S := S1x512x1024) hz, View.ld_unit_zero (S := S1x512) hz2, View.ld_unit_zero (S := S8x512) hz2]
  rfl

end Cert.Kernel4Ideal.Even

end
-- ==== Proof.Even.Blocks.lean ====
/-
  The blocks of a grid point as the arrays they come from: point `t` is tile `t % 8` of sequence `t / 8`.
-/
module

public import proofs.«01_k».proof.Proof.Gen.Kernel4Ideal.Frame
public import Idealize.ShloMosaic.Lib.Pipeline.ValueKit
public import Idealize.ShloMosaic.Lib.Pointwise
public import Idealize.ShloMosaic.Lib.Claim

@[expose] public section

set_option maxRecDepth 16384

noncomputable section

namespace Cert.Kernel4Ideal.Even

open Cert.Kernel4Ideal Cert.Kernel4Ideal.Gen
open Idealize.ShloMosaic Idealize.ShloMosaic.TcCoe Idealize.SL.Sem

variable (m : (ℓ : Loc nD τ sig) → Buf (Elt Ideal) ℓ)

/-- The windows' block indices. -/
theorem idx : ∀ t : Fin cfg0.N, win0_0.index t = ![t.val / 8, t.val % 8, 0] ∧ win0_1.index t = ![0, 0]
    ∧ win0_2.index t = ![0, 0] ∧ win0_3.index t = ![0, 0] ∧ win0_4.index t = ![0, 0, 0] ∧ win0_5.index t = ![0, 0]
    ∧ win0_6.index t = ![0, 0] :=
  (by decide +kernel : ∀ t : Fin grid0.N, _)

theorem seq_lt (t : Fin cfg0.N) : t.val / 8 < 4 := by
  have := t.isLt; have h : cfg0.N = 32 := rfl; omega

theorem row_lt (t : Fin cfg0.N) (r : Fin 512) : 512 * (t.val % 8) + r.val < 4096 := by omega

/-! The arrays as the kernel's arguments hold them. -/

def arr0 (c : Dev nD) : Vec Ideal S4x4096x1024 .f32 := m ((c : Thread nD τ).loc main_arg0)
def arr1 (c : Dev nD) : Vec Ideal S1x1024x2560 .f32 := m ((c : Thread nD τ).loc main_arg1)
def arr2 (c : Dev nD) : Vec Ideal S1x512 .f32 := m ((c : Thread nD τ).loc main_arg2)
def arr3 (c : Dev nD) : Vec Ideal S1x512 .f32 := m ((c : Thread nD τ).loc main_arg3)
def arr4 (c : Dev nD) : Vec Ideal S1x4x128x128 .f32 := m ((c : Thread nD τ).loc main_arg4)
def arr5 (c : Dev nD) : Vec Ideal S1x4x128 .f32 := m ((c : Thread nD τ).loc main_arg5)
def arr6 (c : Dev nD) : Vec Ideal S1x3x512 .f32 := m ((c : Thread nD τ).loc main_arg6)

/-! The blocks of a grid point. -/

def blk0 (c : Dev nD) (t : Fin cfg0.N) : Vec Ideal S1x512x1024 .f32 := iblk m c 0 t
def blk1 (c : Dev nD) (t : Fin cfg0.N) : Vec Ideal S1024x2560 .bf16 := iblk m c 1 t
def blk2 (c : Dev nD) (t : Fin cfg0.N) : Vec Ideal S1x512 .f32 := iblk m c 2 t
def blk3 (c : Dev nD) (t : Fin cfg0.N) : Vec Ideal S1x512 .f32 := iblk m c 3 t
def blk4 (c : Dev nD) (t : Fin cfg0.N) : Vec Ideal S4x128x128 .f32 := iblk m c 4 t
def blk5 (c : Dev nD) (t : Fin cfg0.N) : Vec Ideal S128x512 .f32 := iblk m c 5 t
def blk6 (c : Dev nD) (t : Fin cfg0.N) : Vec Ideal S3x512 .f32 := iblk m c 6 t

theorem block0 (c : Dev nD) (t : Fin cfg0.N) (r : Fin 512) (d : Fin 1024) :
    blk0 m c t (ix3 0 r d) = arr0 m c (ix3 ⟨t.val / 8, seq_lt t⟩ ⟨512 * (t.val % 8) + r.val, row_lt t r⟩ d) := by
  unfold blk0 arr0
  blk_ext [iblk, V, idx t]

theorem block1 (c : Dev nD) (t : Fin cfg0.N) (d : Fin 1024) (j : Fin 2560) :
    blk1 m c t (ix2 d j) = arr1 m c (ix3 0 d j) := by
  unfold blk1 arr1
  blk_simp [iblk]
  entry_read
  pointwise
  blk_ext [idx t]

theorem block2 (c : Dev nD) (t : Fin cfg0.N) (j : Fin 512) : blk2 m c t (ix2 0 j) = arr2 m c (ix2 0 j) := by
  unfold blk2 arr2
  blk_simp [iblk]
  entry_read
  pointwise
  blk_ext [idx t]

theorem block3 (c : Dev nD) (t : Fin cfg0.N) (j : Fin 512) : blk3 m c t (ix2 0 j) = arr3 m c (ix2 0 j) := by
  unfold blk3 arr3
  blk_simp [iblk]
  entry_read
  pointwise
  blk_ext [idx t]

theorem block4 (c : Dev nD) (t : Fin cfg0.N) (g : Fin 4) (d l : Fin 128) :
    blk4 m c t (ix3 g d l) = arr4 m c (ix4 0 g d l) := by
  unfold blk4 arr4
  blk_simp [iblk]
  entry_read
  pointwise
  blk_ext [idx t]

/-- A group's biases are repeated over its columns. -/
theorem block5 (c : Dev nD) (t : Fin cfg0.N) (g : Fin 4) (d l : Fin 128) :
    blk5 m c t (ix2 d ⟨128 * g.val + l.val, by omega⟩) = arr5 m c (ix3 0 g d) := by
  unfold blk5 arr5
  blk_simp [iblk]
  entry_read
  pointwise
  blk_ext [idx t]

theorem block6 (c : Dev nD) (t : Fin cfg0.N) (k : Fin 3) (d : Fin 512) : blk6 m c t (ix2 k d) = arr6 m c (ix3 0 k d) := by
  unfold blk6 arr6
  blk_simp [iblk]
  entry_read
  pointwise
  blk_ext [idx t]

end Cert.Kernel4Ideal.Even

end
-- ==== Proof.Even.Point.lean ====
/-
  One grid point, from its blocks to the rows of its tile; then all the points of a sequence, the eight rows kept between
  them by induction; then the arrays.
-/
module

public import proofs.«01_k».proof.Proof.Even.Tile
public import proofs.«01_k».proof.Proof.Even.RunA
public import proofs.«01_k».proof.Proof.Even.RunB
public import proofs.«01_k».proof.Proof.Even.Blocks
public import proofs.«01_k».proof.Proof.Gen.Kernel4Ideal.Value

@[expose] public section

set_option maxRecDepth 16384

noncomputable section

namespace Cert.Kernel4Ideal.Even

open Cert.Kernel4Ideal Cert.Kernel4Ideal.Gen
open Idealize.ShloMosaic Idealize.ShloMosaic.TcCoe Idealize.SL.Sem

variable (m : (ℓ : Loc nD τ sig) → Buf (Elt Ideal) ℓ)

/-! ### The arguments, as functions -/

def X (c : Dev nD) (b : Fin 4) (p : Fin 4096) (d : Fin 1024) : EReal := arr0 m c (ix3 b p d)
def W (c : Dev nD) (d : Fin 1024) (j : Fin 2560) : EReal := arr1 m c (ix3 0 d j)
def LG (c : Dev nD) (j : Fin 512) : EReal := arr2 m c (ix2 0 j)
def LB (c : Dev nD) (j : Fin 512) : EReal := arr3 m c (ix2 0 j)
def WS (c : Dev nD) (g : Fin 4) (t s : Fin 128) : EReal := arr4 m c (ix4 0 g t s)
def BS (c : Dev nD) (g : Fin 4) (t : Fin 128) : EReal := arr5 m c (ix3 0 g t)
def CW (c : Dev nD) (n : Fin 3) (j : Fin 512) : EReal := arr6 m c (ix3 0 n j)

/-- The rows that sequence `b` convolves. -/
def U (c : Dev nD) (b : Fin 4) : ℕ → Fin 512 → EReal := Gate.rows (X m c b) (W m c)

/-- Point `t`'s sequence, and its tile's rows in it. -/
def seq (t : Fin cfg0.N) : Fin 4 := ⟨t.val / 8, seq_lt t⟩
def row (t : Fin cfg0.N) (r : Fin 512) : Fin 4096 := ⟨512 * (t.val % 8) + r.val, row_lt t r⟩

/-- What a point leaves. -/
abbrev Left := Vec Ideal S1x512x512 .bf16 × Vec Ideal S1x512x512 .bf16 × Vec Ideal S1x8x512 .f32 × Vec Ideal S8x512 .f32

/-- Each output's block is its tile's rows; the rows kept are the tile's last eight. -/
structure Good (c : Dev nD) (t : Fin cfg0.N) (o : Left) : Prop where
  a : ∀ r j, o.1 (ix3 0 r j) = Gate.gated (X m c (seq t)) (W m c) (LG m c) (LB m c) (WS m c) (BS m c) (row t r) j
  b : ∀ r j, o.2.1 (ix3 0 r j) = Gate.convolved (X m c (seq t)) (W m c) (CW m c) (row t r) j
  st : ∀ i j, o.2.2.1 (ix3 0 i j) = U m c (seq t) (512 * (t.val % 8) + 504 + i.val) j
  kept : ∀ i j, o.2.2.2 (ix2 i j) = U m c (seq t) (512 * (t.val % 8) + 504 + i.val) j

/-- The same in the stages' terms, over the rows kept before. -/
def parts (c : Dev nD) (t : Fin cfg0.N) (H kept : Vec Ideal S8x512 .f32) : Left :=
  (View.canon (order.map (gatePiece (gates (blk0 m c t) (blk1 m c t)) (mixed (blk0 m c t) (blk1 m c t) (blk2 m c t) (blk3 m c t))
    (blk4 m c t) (blk5 m c t))), conv (blk0 m c t) (blk1 m c t) (blk6 m c t) H, lastRow (blk0 m c t) (blk1 m c t), kept)

/-- Two points' contents agree when their parts do. -/
theorem left_congr {a a' b b' : Vec Ideal S1x512x512 .bf16} {st st' : Vec Ideal S1x8x512 .f32} {kept kept' : Vec Ideal S8x512 .f32}
    (h1 : a = a') (h2 : b = b') (h3 : st = st') (h4 : kept = kept') : ((a, b, st, kept) : Left) = (a', b', st', kept') := by
  subst h1 h2 h3 h4; rfl

theorem outs_A (c : Dev nD) (t : Fin cfg0.N) (h0 : t.val % 8 = 0) : outsAt0 m c t.val t.isLt =
    parts m c t (k0_pay2 (F := Ideal)) (View.canon [⟨Rect.unit (s := S8x512) ![0, 0] S8x512.size (by decide),
        last (blk0 m c t) (blk1 m c t)⟩,
      ⟨Rect.unit (s := S8x512) ![0, 0] S8x512.size (by decide), k0_pay2 (F := Ideal)⟩]) :=
  (outsAt0_A m c t h0).trans (left_congr (a_A ..) (b_A ..) (st_A ..) (kept_A ..))

theorem outs_B (c : Dev nD) (t : Fin cfg0.N) (h0 : ¬t.val % 8 = 0) (h : t.val - 1 < cfg0.N) :
    outsAt0 m c t.val t.isLt = parts m c t (outsAt0 m c (t.val - 1) h).2.2.2 (last (blk0 m c t) (blk1 m c t)) :=
  (outsAt0_B m c t h0).trans (left_congr (a_B ..) (b_B ..) (st_B ..) (kept_B ..))

/-- Any point's contents are its tile's rows, when the rows kept before it are those before its tile. -/
theorem good_of (c : Dev nD) (t : Fin cfg0.N) (H kept : Vec Ideal S8x512 .f32)
    (hH : ∀ i j, H (ix2 i j) = Gate.prev (U m c (seq t)) (8 - i.val) (512 * (t.val % 8)) j)
    (hk : ∀ i j, kept (ix2 i j) = last (blk0 m c t) (blk1 m c t) (ix2 i j)) : Good m c t (parts m c t H kept) := by
  have h0 : ∀ r, (fun d => blk0 m c t (ix3 0 r d)) = X m c (seq t) (row t r) := fun r => funext (block0 m c t r)
  have h1 : (fun d j => blk1 m c t (ix2 d j)) = W m c := by funext d j; exact block1 m c t d j
  have h2 : (fun j => blk2 m c t (ix2 0 j)) = LG m c := funext (block2 m c t)
  have h3 : (fun j => blk3 m c t (ix2 0 j)) = LB m c := funext (block3 m c t)
  have h4 : ∀ g d l, blk4 m c t (ix3 g d l) = WS m c g d l := block4 m c t
  have h5 : ∀ (g : Fin 4) (d l : Fin 128), blk5 m c t (ix2 d ⟨128 * g.val + l.val, by omega⟩) = BS m c g d := block5 m c t
  have h6 : (fun n j => blk6 m c t (ix2 n j)) = CW m c := by funext n j; exact block6 m c t n j
  unfold parts
  generalize blk0 m c t = x0 at *
  generalize blk1 m c t = x1 at *
  generalize blk2 m c t = x2 at *
  generalize blk3 m c t = x3 at *
  generalize blk4 m c t = x4 at *
  generalize blk5 m c t = x5 at *
  generalize blk6 m c t = x6 at *
  have hu : ∀ r j : Fin 512, pre x0 x1 (ix2 r j) = U m c (seq t) (512 * (t.val % 8) + r.val) j := fun r j => by
    rw [pre_apply, h0, h1]
    exact (congrFun (Gate.rows_of_lt (X m c (seq t)) (W m c) _ (row t r).isLt) j).symm
  have hl : ∀ (i : Fin 8) (j : Fin 512), pre x0 x1 (ix2 ⟨504 + i.val, by omega⟩ j) =
      U m c (seq t) (512 * (t.val % 8) + 504 + i.val) j := fun i j => by rw [hu, Nat.add_assoc]
  constructor <;> dsimp only
  · refine gates_block _ _ x4 x5 (fun r j => Gate.gated (X m c (seq t)) (W m c) (LG m c) (LB m c) (WS m c) (BS m c) (row t r) j) ?_
    refine gate_row _ _ x4 x5 (X m c (seq t)) (W m c) (LG m c) (LB m c) (WS m c) (BS m c) (t.val % 8) (by omega) ?_ ?_ h4 h5
    · intro r j
      rw [gates_apply, h0, h1]; rfl
    · intro r j
      rw [mixed_apply, h0, h1, h2, h3]; rfl
  · intro r j
    rw [conv_apply, h0, h1, conv3_apply _ x6 H _ _ hu hH, h6]; rfl
  · exact fun i j => (lastRow_apply _ _ i j).trans (hl i j)
  · exact fun i j => (hk i j).trans ((last_apply _ _ i j).trans (hl i j))

theorem zeros_apply (i : Fin 8) (j : Fin 512) : k0_pay2 (F := Ideal) (ix2 i j) = 0 := by
  pointwise [k0_pay2]

/-- The second store over the first. -/
theorem over_apply (v z : Vec Ideal S8x512 .f32) (i : Fin 8) (j : Fin 512) :
    View.canon [⟨Rect.unit (s := S8x512) ![0, 0] S8x512.size (by decide), v⟩,
      ⟨Rect.unit (s := S8x512) ![0, 0] S8x512.size (by decide), z⟩] (ix2 i j) = v (ix2 i j) := by
  refine (View.canon_append_of_pieces (fun i => v i) [⟨Rect.unit (s := S8x512) ![0, 0] S8x512.size (by decide), z⟩]
    [⟨Rect.unit (s := S8x512) ![0, 0] S8x512.size (by decide), v⟩] ?_ (ix2 i j)
    (View.cover_of_tiledL (s := S8x512) _ S8x512.size (by sl_kernel_rfl) _)).trans rfl
  intro pc hp x
  obtain rfl := List.mem_singleton.1 hp
  refine congrArg v (funext fun a => Fin.ext ?_)
  rw [ValueKit.rect_emb_unit_val]
  fin_cases a <;> simp

theorem good_A (c : Dev nD) (t : Fin cfg0.N) (h0 : t.val % 8 = 0) : Good m c t (outsAt0 m c t.val t.isLt) := by
  rw [outs_A m c t h0]
  refine good_of m c t _ _ (fun i j => (zeros_apply i j).trans ?_) (over_apply _ _)
  unfold Gate.prev
  rw [if_neg (by omega)]

theorem good_B (c : Dev nD) (t : Fin cfg0.N) (h0 : ¬t.val % 8 = 0)
    (ih : ∀ h, Good m c ⟨t.val - 1, h⟩ (outsAt0 m c (t.val - 1) h)) : Good m c t (outsAt0 m c t.val t.isLt) := by
  have hlt := Nat.lt_of_le_of_lt (Nat.sub_le t.val 1) t.isLt
  rw [outs_B m c t h0 hlt]
  refine good_of m c t _ _ (fun i j => ((ih hlt).kept i j).trans ?_) fun _ _ => rfl
  unfold Gate.prev
  rw [if_pos (by omega)]
  have e1 : seq ⟨t.val - 1, hlt⟩ = seq t := Fin.ext (by unfold seq; dsimp only; omega)
  have e2 : 512 * ((t.val - 1) % 8) + 504 + i.val = 512 * (t.val % 8) - (8 - i.val) := by omega
  simp only [e1, e2]

theorem good (c : Dev nD) : ∀ (n : ℕ) (h : n < cfg0.N), Good m c ⟨n, h⟩ (outsAt0 m c n h)
  | 0, h => good_A m c ⟨0, h⟩ rfl
  | n + 1, h => by
    by_cases h0 : (n + 1) % 8 = 0
    · exact good_A m c ⟨n + 1, h⟩ h0
    · exact good_B m c ⟨n + 1, h⟩ h0 fun h' => good c n h'

/-! ### The arrays at an element -/

/-- The point that writes row `p` of sequence `b`, and the row's place in its tile. -/
theorem place (b : Fin 4) (p : Fin 4096) (q : ℕ) (hq : q = 8 * b.val + p.val / 512) : ∃ h : q < cfg0.N,
    seq ⟨q, h⟩ = b ∧ row ⟨q, h⟩ ⟨p.val % 512, by omega⟩ = p := by
  have hN : cfg0.N = 32 := rfl
  have e : 512 * (q % 8) + p.val % 512 = p.val := by omega
  exact ⟨by omega, Fin.ext (by unfold seq; dsimp only; omega), Fin.ext e⟩

/-- The gated rows. -/
theorem G7_apply (c : Dev nD) (b : Fin 4) (p : Fin 4096) (j : Fin 512) :
    (show Vec Ideal S4x4096x512 .bf16 from Value.G7 m c) (ix3 b p j) =
      Gate.gated (X m c b) (W m c) (LG m c) (LB m c) (WS m c) (BS m c) p j := by
  obtain ⟨h, e1, e2⟩ := place b p (Value.pt7Of (ix3 b p j)) (by
    show 8 * (b.val / 1 - 0) + 1 * (p.val / 512 - 0) + 1 * (j.val / 512 - 0) = _
    omega)
  refine (dif_pos h).trans ?_
  rw [← Value.outsAt0_sweep m c _ h]
  refine Eq.trans ?_ (((good m c _ h).a ⟨p.val % 512, by omega⟩ j).trans ?_)
  · refine congrArg (outsAt0 m c _ h).1 (funext fun a => Fin.ext ?_)
    fin_cases a
    · show b.val % 1 = 0
      omega
    · rfl
    · show j.val % 512 = j.val; omega
  · simp only [e1, e2]

/-- The gated convolution. -/
theorem G8_apply (c : Dev nD) (b : Fin 4) (p : Fin 4096) (j : Fin 512) :
    (show Vec Ideal S4x4096x512 .bf16 from Value.G8 m c) (ix3 b p j) = Gate.convolved (X m c b) (W m c) (CW m c) p j := by
  obtain ⟨h, e1, e2⟩ := place b p (Value.pt8Of (ix3 b p j)) (by
    show 8 * (b.val / 1 - 0) + 1 * (p.val / 512 - 0) + 1 * (j.val / 512 - 0) = _
    omega)
  refine (dif_pos h).trans ?_
  rw [← Value.outsAt0_sweep m c _ h]
  refine Eq.trans ?_ (((good m c _ h).b ⟨p.val % 512, by omega⟩ j).trans ?_)
  · refine congrArg (outsAt0 m c _ h).2.1 (funext fun a => Fin.ext ?_)
    fin_cases a
    · show b.val % 1 = 0
      omega
    · rfl
    · show j.val % 512 = j.val; omega
  · simp only [e1, e2]

/-- The state. -/
theorem G9_apply (c : Dev nD) (b : Fin 4) (i : Fin 8) (j : Fin 512) :
    (show Vec Ideal S4x8x512 .f32 from Value.G9 m c) (ix3 b i j) = U m c b (4088 + i.val) j := by
  have hN : cfg0.N = 32 := rfl
  have hpt : Value.pt9Of (ix3 b i j) = 8 * b.val + 7 := by
    show 8 * (1 * (b.val / 1 - 0) + 1 * (i.val / 8 - 0) + 1 * (j.val / 512 - 0)) + 7 = _
    omega
  have h : Value.pt9Of (ix3 b i j) < cfg0.N := by omega
  refine (dif_pos h).trans ?_
  rw [← Value.outsAt0_sweep m c _ h]
  refine Eq.trans ?_ (((good m c _ h).st i j).trans ?_)
  · refine congrArg (outsAt0 m c _ h).2.2.1 (funext fun a => Fin.ext ?_)
    fin_cases a
    · show b.val % 1 = 0
      omega
    · show i.val % 8 = i.val; omega
    · show j.val % 512 = j.val; omega
  · have e1 : seq ⟨Value.pt9Of (ix3 b i j), h⟩ = b := Fin.ext (by unfold seq; dsimp only; omega)
    have e2 : 512 * (Value.pt9Of (ix3 b i j) % 8) + 504 + i.val = 4088 + i.val := by omega
    simp only [e1, e2]

end Cert.Kernel4Ideal.Even

end
-- ==== Proof.Even.Ref.lean ====
/-
  The reference's terms read at one element: the same row functions.
-/
module

public import proofs.«01_k».proof.Proof.Even.Spec
public import proofs.«01_k».proof.Proof.Gen.Reference4Ideal.Run
public import Idealize.ShloMosaic.Lib.Pointwise

@[expose] public section

set_option maxRecDepth 16384

noncomputable section

namespace Cert.Reference4Ideal.Even

open Cert.Reference4Ideal Cert.Reference4Ideal.Gen Cert.Reference4Ideal.Value
open Idealize.ShloMosaic Idealize.ShloMosaic.TcCoe Idealize.SL.Sem Idealize.ShloMosaic.StableHlo

/-! ### The projection and its sections -/

/-- Every row's projection. -/
def tproj (x : FVec Ideal S4x4096x1024 .f32) (w : FVec Ideal S1x1024x2560 .f32) : FVec Ideal S4x4096x2560 .f32 :=
  Host.dotGeneral dot_S4x4096x1024_S1024x2560_S4x4096x2560_2_0_01_1_n_n none x
    (shapeCast _ w shapeCasts_S1x1024x2560_S1024x2560)

theorem tproj_apply (x : FVec Ideal S4x4096x1024 .f32) (w : FVec Ideal S1x1024x2560 .f32) (b : Fin 4) (p : Fin 4096)
    (j : Fin 2560) : tproj x w (ix3 b p j) = ∑ d, x (ix3 b p d) * w (ix3 0 d j) := by
  pointwise [tproj]

def tsect0 (h : FVec Ideal S4x4096x2560 .f32) : FVec Ideal S4x4096x512 .f32 :=
  extractStridedSlice S4x4096x512 ![0, 0, 0] h slices_S4x4096x2560_S4x4096x512_0_0_0
def tsect1 (h : FVec Ideal S4x4096x2560 .f32) : FVec Ideal S4x4096x512 .f32 :=
  extractStridedSlice S4x4096x512 ![0, 0, 512] h slices_S4x4096x2560_S4x4096x512_0_0_512
def tsect2 (h : FVec Ideal S4x4096x2560 .f32) : FVec Ideal S4x4096x512 .f32 :=
  extractStridedSlice S4x4096x512 ![0, 0, 1024] h slices_S4x4096x2560_S4x4096x512_0_0_1024
def tsect3 (h : FVec Ideal S4x4096x2560 .f32) : FVec Ideal S4x4096x512 .f32 :=
  extractStridedSlice S4x4096x512 ![0, 0, 1536] h slices_S4x4096x2560_S4x4096x512_0_0_1536
def tsect4 (h : FVec Ideal S4x4096x2560 .f32) : FVec Ideal S4x4096x512 .f32 :=
  extractStridedSlice S4x4096x512 ![0, 0, 2048] h slices_S4x4096x2560_S4x4096x512_0_0_2048

theorem tsect0_apply (x : FVec Ideal S4x4096x1024 .f32) (w : FVec Ideal S1x1024x2560 .f32) (b : Fin 4) (p : Fin 4096)
    (j : Fin 512) : tsect0 (tproj x w) (ix3 b p j) = Gate.sect (fun d => x (ix3 b p d)) (fun d j => w (ix3 0 d j)) 0 j := by
  pointwise [tsect0, tproj_apply, Gate.sect]
theorem tsect1_apply (x : FVec Ideal S4x4096x1024 .f32) (w : FVec Ideal S1x1024x2560 .f32) (b : Fin 4) (p : Fin 4096)
    (j : Fin 512) : tsect1 (tproj x w) (ix3 b p j) = Gate.sect (fun d => x (ix3 b p d)) (fun d j => w (ix3 0 d j)) 1 j := by
  pointwise [tsect1, tproj_apply, Gate.sect]
theorem tsect2_apply (x : FVec Ideal S4x4096x1024 .f32) (w : FVec Ideal S1x1024x2560 .f32) (b : Fin 4) (p : Fin 4096)
    (j : Fin 512) : tsect2 (tproj x w) (ix3 b p j) = Gate.sect (fun d => x (ix3 b p d)) (fun d j => w (ix3 0 d j)) 2 j := by
  pointwise [tsect2, tproj_apply, Gate.sect]
theorem tsect3_apply (x : FVec Ideal S4x4096x1024 .f32) (w : FVec Ideal S1x1024x2560 .f32) (b : Fin 4) (p : Fin 4096)
    (j : Fin 512) : tsect3 (tproj x w) (ix3 b p j) = Gate.sect (fun d => x (ix3 b p d)) (fun d j => w (ix3 0 d j)) 3 j := by
  pointwise [tsect3, tproj_apply, Gate.sect]
theorem tsect4_apply (x : FVec Ideal S4x4096x1024 .f32) (w : FVec Ideal S1x1024x2560 .f32) (b : Fin 4) (p : Fin 4096)
    (j : Fin 512) : tsect4 (tproj x w) (ix3 b p j) = Gate.sect (fun d => x (ix3 b p d)) (fun d j => w (ix3 0 d j)) 4 j := by
  pointwise [tsect4, tproj_apply, Gate.sect]

/-! ### The activation and the normalisation -/

def tgelu (h : FVec Ideal S4x4096x512 .f32) : FVec Ideal S4x4096x512 .f32 :=
  mulf h (mulf (broadcastInDim S4x4096x512 ![] bcast_S_S4x4096x512 (constant S_ .f32 0x3F000000#32))
    (addf (broadcastInDim S4x4096x512 ![] bcast_S_S4x4096x512 (constant S_ .f32 0x3F800000#32))
      (Host.tanh (mulf (broadcastInDim S4x4096x512 ![] bcast_S_S4x4096x512 (constant S_ .f32 0x3F4C422A#32))
        (addf h (mulf (broadcastInDim S4x4096x512 ![] bcast_S_S4x4096x512 (constant S_ .f32 0x3D372713#32))
          (mulf (mulf h h) h)))))))

theorem tgelu_apply (h : FVec Ideal S4x4096x512 .f32) (b : Fin 4) (p : Fin 4096) (j : Fin 512) :
    tgelu h (ix3 b p j) = Gate.gelu (h (ix3 b p j)) := by
  pointwise [tgelu, Gate.gelu]

def tmean (v : FVec Ideal S4x4096x512 .f32) : FVec Ideal S4x4096x1 .f32 :=
  Host.divf (broadcastInDim S4x4096x1 ![0, 1] bcast_S4x4096_S4x4096x1_0_1 (Host.reduceAdd v (constant S_ .f32 0x00000000#32)
    reducesTo_S4x4096x512_S4x4096_d2 h_S_)) (broadcastInDim S4x4096x1 ![] bcast_S_S4x4096x1 (constant S_ .f32 0x44000000#32))

def tcentred (v : FVec Ideal S4x4096x512 .f32) : FVec Ideal S4x4096x512 .f32 :=
  subf v (broadcastInDim S4x4096x512 ![0, 1, 2] bcast_S4x4096x1_S4x4096x512_0_1_2 (tmean v))

/-- A vector on every row. -/
def twide (v : FVec Ideal S512 .f32) : FVec Ideal S4x4096x512 .f32 :=
  broadcastInDim S4x4096x512 ![0, 1, 2] bcast_S1x1x512_S4x4096x512_0_1_2 (broadcastInDim S1x1x512 ![2] bcast_S512_S1x1x512_2 v)

def tnorm (v : FVec Ideal S4x4096x512 .f32) (g s : FVec Ideal S1x512 .f32) : FVec Ideal S4x4096x512 .f32 :=
  addf (mulf (mulf (tcentred v) (broadcastInDim S4x4096x512 ![0, 1, 2] bcast_S4x4096x1_S4x4096x512_0_1_2
    (Host.rsqrt (addf (tmean (mulf (tcentred v) (tcentred v)))
      (broadcastInDim S4x4096x1 ![] bcast_S_S4x4096x1 (constant S_ .f32 0x3727C5AC#32))))))
    (twide (shapeCast _ g shapeCasts_S1x512_S512))) (twide (shapeCast _ s shapeCasts_S1x512_S512))

theorem tmean_apply (v : FVec Ideal S4x4096x512 .f32) (b : Fin 4) (p : Fin 4096) :
    tmean v (ix3 b p 0) = Gate.mean fun d => v (ix3 b p d) := by
  pointwise [tmean, Gate.mean, Gate.count]

theorem tcentred_apply (v : FVec Ideal S4x4096x512 .f32) (b : Fin 4) (p : Fin 4096) (j : Fin 512) :
    tcentred v (ix3 b p j) = v (ix3 b p j) - Gate.mean fun d => v (ix3 b p d) := by
  pointwise [tcentred, tmean_apply]

theorem tnorm_apply (v : FVec Ideal S4x4096x512 .f32) (g s : FVec Ideal S1x512 .f32) (b : Fin 4) (p : Fin 4096) (j : Fin 512) :
    tnorm v g s (ix3 b p j) = Gate.norm (fun d => v (ix3 b p d)) (fun d => g (ix2 0 d)) (fun d => s (ix2 0 d)) j := by
  pointwise [tnorm, twide, tcentred_apply, tmean_apply, Gate.norm, Gate.eps]

/-! ### The gate -/

/-- The rows by chunks and groups. -/
def tchunks (v : FVec Ideal S4x4096x512 .f32) : FVec Ideal S4x32x128x4x128 .f32 :=
  shapeCast _ v shapeCasts_S4x4096x512_S4x32x128x4x128

theorem tchunks_apply (v : FVec Ideal S4x4096x512 .f32) (b : Fin 4) (k : Fin 32) (t : Fin 128) (g : Fin 4) (l : Fin 128) :
    tchunks v (ix5 b k t g l) = v (ix3 b ⟨128 * k.val + t.val, by omega⟩ ⟨128 * g.val + l.val, by omega⟩) := by
  pointwise [tchunks]
  simp only [Nat.mul_comm _ 128]

/-- The weights under the diagonal. -/
def tlower (ws : FVec Ideal S1x4x128x128 .f32) : FVec Ideal S4x128x128 .f32 :=
  select (broadcastInDim S4x128x128 ![0, 1, 2] bcast_S1x128x128_S4x128x128_0_1_2 (broadcastInDim S1x128x128 ![1, 2]
    bcast_S128x128_S1x128x128_1_2 (select (cmpi .sge (addi (iotaInDim S128x128 32 0)
      (broadcastInDim S128x128 ![] bcast_S_S128x128 (constantI S_ 32 0#32))) (iotaInDim S128x128 32 1))
      (broadcastInDim S128x128 ![] bcast_S_S128x128 (constantI S_ 1 1#1))
      (broadcastInDim S128x128 ![] bcast_S_S128x128 (constantI S_ 1 0#1)))))
    (shapeCast _ ws shapeCasts_S1x4x128x128_S4x128x128)
    (broadcastInDim S4x128x128 ![] bcast_S_S4x128x128 (constant S_ .f32 0x00000000#32))

theorem mask (t s : Fin 128) (a b : EReal) :
    Scalar.select (α := EReal) (Scalar.select (IntOp.cmpi .sge (IntOp.addi (BitVec.ofNat 32 t.val) 0#32) (BitVec.ofNat 32 s.val)) 1#1 0#1) a b =
      if s.val ≤ t.val then a else b := by
  have h : ∀ t s : Fin 128, IntOp.cmpi .sge (IntOp.addi (BitVec.ofNat 32 t.val) 0#32) (BitVec.ofNat 32 s.val) =
      if s.val ≤ t.val then 1#1 else 0#1 := by
    decide +kernel
  rw [h]
  split_ifs <;> rfl

theorem tlower_apply (ws : FVec Ideal S1x4x128x128 .f32) (g : Fin 4) (t s : Fin 128) :
    tlower ws (ix3 g t s) = if s.val ≤ t.val then ws (ix4 0 g t s) else 0 := by
  pointwise [tlower]
  exact mask t s _ _

def tdot (v : FVec Ideal S4x32x128x4x128 .f32) (w : FVec Ideal S4x128x128 .f32) : FVec Ideal S4x4x32x128x128 .f32 :=
  Host.dotGeneral dot_S4x32x128x4x128_S4x128x128_S4x4x32x128x128_2_2_014_1_3_0 none v w

theorem tdot_apply (v : FVec Ideal S4x32x128x4x128 .f32) (w : FVec Ideal S4x128x128 .f32) (g : Fin 4) (b : Fin 4) (k : Fin 32)
    (l t : Fin 128) : tdot v w (ix5 g b k l t) = ∑ s : Fin 128, v (ix5 b k s g l) * w (ix3 g t s) := by
  pointwise [tdot]

/-- The mixed rows, with the biases, by chunks and groups. -/
def tmixed (d : FVec Ideal S4x4x32x128x128 .f32) (bs : FVec Ideal S1x4x128 .f32) : FVec Ideal S4x32x128x4x128 .f32 :=
  addf (transpose S4x32x128x4x128 [1, 2, 4, 0, 3] d transposes_S4x4x32x128x128_S4x32x128x4x128_1_2_4_0_3)
    (broadcastInDim S4x32x128x4x128 ![0, 1, 2, 3, 4] bcast_S1x1x128x4x1_S4x32x128x4x128_0_1_2_3_4
      (broadcastInDim S1x1x128x4x1 ![2, 3, 4] bcast_S128x4x1_S1x1x128x4x1_2_3_4 (broadcastInDim S128x4x1 ![0, 1]
        bcast_S128x4_S128x4x1_0_1 (transpose S128x4 [1, 0] (shapeCast _ bs shapeCasts_S1x4x128_S4x128)
          transposes_S4x128_S128x4_1_0))))

theorem tmixed_apply (d : FVec Ideal S4x4x32x128x128 .f32) (bs : FVec Ideal S1x4x128 .f32) (b : Fin 4) (k : Fin 32) (t : Fin 128)
    (g : Fin 4) (l : Fin 128) : tmixed d bs (ix5 b k t g l) = d (ix5 g b k l t) + bs (ix3 0 g t) := by
  pointwise [tmixed]

/-- Rows again. -/
def tflat (v : FVec Ideal S4x32x128x4x128 .f32) : FVec Ideal S4x4096x512 .f32 := shapeCast _ v shapeCasts_S4x32x128x4x128_S4x4096x512

theorem tflat_apply (v : FVec Ideal S4x32x128x4x128 .f32) (b : Fin 4) (p : Fin 4096) (j : Fin 512) :
    tflat v (ix3 b p j) = v (ix5 b ⟨p.val / 128, by omega⟩ ⟨p.val % 128, by omega⟩ ⟨j.val / 128, by omega⟩ ⟨j.val % 128, by omega⟩) := by
  pointwise [tflat]

def tout (u v : FVec Ideal S4x4096x512 .f32) : FVec Ideal S4x4096x512 .bf16 := truncf .bf16 (mulf u v) bitsLt_bf16_f32

theorem tout_apply (u v : FVec Ideal S4x4096x512 .f32) (b : Fin 4) (p : Fin 4096) (j : Fin 512) :
    tout u v (ix3 b p j) = u (ix3 b p j) * v (ix3 b p j) := by
  pointwise [tout]

/-- The rows that are mixed. -/
def tright (x : FVec Ideal S4x4096x1024 .f32) (w : FVec Ideal S1x1024x2560 .f32) (g s : FVec Ideal S1x512 .f32) :
    FVec Ideal S4x4096x512 .f32 := tnorm (tgelu (tsect1 (tproj x w))) g s

theorem tright_apply (x : FVec Ideal S4x4096x1024 .f32) (w : FVec Ideal S1x1024x2560 .f32) (g s : FVec Ideal S1x512 .f32)
    (b : Fin 4) (p : Fin 4096) (j : Fin 512) : tright x w g s (ix3 b p j) =
      Gate.right (fun d => x (ix3 b p d)) (fun d j => w (ix3 0 d j)) (fun d => g (ix2 0 d)) (fun d => s (ix2 0 d)) j := by
  refine (tnorm_apply _ g s b p j).trans ?_
  unfold Gate.right
  exact congrArg (fun v => Gate.norm v _ _ j) (funext fun d => (tgelu_apply _ b p d).trans (congrArg Gate.gelu (tsect1_apply x w b p d)))

/-- The gated rows. -/
def ta (x : FVec Ideal S4x4096x1024 .f32) (w : FVec Ideal S1x1024x2560 .f32) (g s : FVec Ideal S1x512 .f32)
    (ws : FVec Ideal S1x4x128x128 .f32) (bs : FVec Ideal S1x4x128 .f32) : FVec Ideal S4x4096x512 .bf16 :=
  tout (tgelu (tsect0 (tproj x w))) (tflat (tmixed (tdot (tchunks (tright x w g s)) (tlower ws)) bs))

theorem ta_apply (x : FVec Ideal S4x4096x1024 .f32) (w : FVec Ideal S1x1024x2560 .f32) (g s : FVec Ideal S1x512 .f32)
    (ws : FVec Ideal S1x4x128x128 .f32) (bs : FVec Ideal S1x4x128 .f32) (b : Fin 4) (p : Fin 4096) (j : Fin 512) :
    ta x w g s ws bs (ix3 b p j) = Gate.gated (fun p d => x (ix3 b p d)) (fun d j => w (ix3 0 d j)) (fun d => g (ix2 0 d))
      (fun d => s (ix2 0 d)) (fun g t s => ws (ix4 0 g t s)) (fun g t => bs (ix3 0 g t)) p j := by
  refine (tout_apply _ _ b p j).trans ?_
  unfold Gate.gated Gate.mix Gate.left
  refine congrArg₂ (· * ·) ((tgelu_apply _ b p j).trans (congrArg Gate.gelu (tsect0_apply x w b p j))) ?_
  rw [tflat_apply, tmixed_apply, tdot_apply]
  refine congrArg (· + _) (Finset.sum_congr rfl fun t _ => ?_)
  rw [tlower_apply, tchunks_apply, tright_apply, mul_comm]
  refine congrArg₂ (· * ·) rfl (congrArg _ (Fin.ext ?_))
  dsimp only
  omega

/-! ### The convolution -/

/-- The rows before the convolution, under two of zeros. -/
def tpre (x : FVec Ideal S4x4096x1024 .f32) (w : FVec Ideal S1x1024x2560 .f32) : FVec Ideal S4x4096x512 .f32 :=
  mulf (tsect3 (tproj x w)) (tsect4 (tproj x w))

theorem tpre_apply (x : FVec Ideal S4x4096x1024 .f32) (w : FVec Ideal S1x1024x2560 .f32) (b : Fin 4) (p : Fin 4096)
    (j : Fin 512) : tpre x w (ix3 b p j) = Gate.pre (fun d => x (ix3 b p d)) (fun d j => w (ix3 0 d j)) j := by
  pointwise [tpre, tsect3_apply, tsect4_apply, Gate.pre]

def text (e : FVec Ideal S4x4096x512 .f32) : FVec Ideal S4x4098x512 .f32 :=
  concatenate S4x4098x512 1 [⟨S4x2x512, broadcastInDim S4x2x512 ![] bcast_S_S4x2x512 (constant S_ .f32 0x00000000#32)⟩,
    ⟨S4x4096x512, e⟩] concatenates_S4x2x512_S4x4096x512_S4x4098x512_d1

theorem text_apply (e : FVec Ideal S4x4096x512 .f32) (b : Fin 4) (q : Fin 4098) (j : Fin 512) :
    text e (ix3 b q j) = if hq : q.val < 2 then 0 else e (ix3 b ⟨q.val - 2, by omega⟩ j) := by
  pointwise [text]

theorem text_row (x : FVec Ideal S4x4096x1024 .f32) (w : FVec Ideal S1x1024x2560 .f32) (b : Fin 4) (n : Fin 3) (p : Fin 4096)
    (j : Fin 512) : text (tpre x w) (ix3 b ⟨2 - n.val + p.val, by omega⟩ j) =
      Gate.prev (Gate.rows (fun p d => x (ix3 b p d)) fun d j => w (ix3 0 d j)) n.val p.val j := by
  rw [text_apply]
  unfold Gate.prev
  by_cases h : n.val ≤ p.val
  · rw [dif_neg (by dsimp only; omega), if_pos h, Gate.rows_of_lt _ _ _ (by omega), tpre_apply]
    have e : 2 - n.val + p.val - 2 = p.val - n.val := by omega
    simp only [e]
  · rw [dif_pos (by dsimp only; omega), if_neg h]

def ttaps (cw : FVec Ideal S1x3x512 .f32) : FVec Ideal S3x512 .f32 := shapeCast _ cw shapeCasts_S1x3x512_S3x512

def tconv (u : FVec Ideal S4x4098x512 .f32) (cw : FVec Ideal S3x512 .f32) : FVec Ideal S4x4096x512 .f32 :=
  addf (addf
    (mulf (extractStridedSlice S4x4096x512 ![0, 2, 0] u slices_S4x4098x512_S4x4096x512_0_2_0)
      (twide (shapeCast _ (extractStridedSlice S1x512 ![2, 0] cw slices_S3x512_S1x512_2_0) shapeCasts_S1x512_S512)))
    (mulf (extractStridedSlice S4x4096x512 ![0, 0, 0] u slices_S4x4098x512_S4x4096x512_0_0_0)
      (twide (shapeCast _ (extractStridedSlice S1x512 ![0, 0] cw slices_S3x512_S1x512_0_0) shapeCasts_S1x512_S512))))
    (mulf (extractStridedSlice S4x4096x512 ![0, 1, 0] u slices_S4x4098x512_S4x4096x512_0_1_0)
      (twide (shapeCast _ (extractStridedSlice S1x512 ![1, 0] cw slices_S3x512_S1x512_1_0) shapeCasts_S1x512_S512)))

theorem tconv_apply (x : FVec Ideal S4x4096x1024 .f32) (w : FVec Ideal S1x1024x2560 .f32) (cw : FVec Ideal S1x3x512 .f32)
    (b : Fin 4) (p : Fin 4096) (j : Fin 512) : tconv (text (tpre x w)) (ttaps cw) (ix3 b p j) =
      Gate.convRow (Gate.rows (fun p d => x (ix3 b p d)) fun d j => w (ix3 0 d j)) (fun n j => cw (ix3 0 n j)) p.val j := by
  have h0 := text_row x w b 0 p j
  have h1 := text_row x w b 1 p j
  have h2 := text_row x w b 2 p j
  unfold Gate.convRow
  refine Eq.trans ?_ (congrArg₂ (· + ·) (congrArg₂ (· + ·) (congrArg₂ (· * ·) h0 rfl)
    (congrArg₂ (· * ·) h1 rfl)) (congrArg₂ (· * ·) h2 rfl))
  generalize text (tpre x w) = u
  pointwise [tconv, twide, ttaps]
  rw [add_right_comm (_ * _) (_ * _) (_ * _)]

/-- The gated convolution. -/
def tb (x : FVec Ideal S4x4096x1024 .f32) (w : FVec Ideal S1x1024x2560 .f32) (cw : FVec Ideal S1x3x512 .f32) :
    FVec Ideal S4x4096x512 .bf16 := tout (tsect2 (tproj x w)) (tconv (text (tpre x w)) (ttaps cw))

theorem tb_apply (x : FVec Ideal S4x4096x1024 .f32) (w : FVec Ideal S1x1024x2560 .f32) (cw : FVec Ideal S1x3x512 .f32)
    (b : Fin 4) (p : Fin 4096) (j : Fin 512) : tb x w cw (ix3 b p j) =
      Gate.convolved (fun p d => x (ix3 b p d)) (fun d j => w (ix3 0 d j)) (fun n j => cw (ix3 0 n j)) p j :=
  (tout_apply _ _ b p j).trans (congrArg₂ (· * ·) (tsect2_apply x w b p j) (tconv_apply x w cw b p j))

/-- The state. -/
def tst (u : FVec Ideal S4x4098x512 .f32) : FVec Ideal S4x8x512 .f32 :=
  extractStridedSlice S4x8x512 ![0, 4090, 0] u slices_S4x4098x512_S4x8x512_0_4090_0

theorem tst_apply (x : FVec Ideal S4x4096x1024 .f32) (w : FVec Ideal S1x1024x2560 .f32) (b : Fin 4) (i : Fin 8) (j : Fin 512) :
    tst (text (tpre x w)) (ix3 b i j) = Gate.rows (fun p d => x (ix3 b p d)) (fun d j => w (ix3 0 d j)) (4088 + i.val) j := by
  have h := text_row x w b 0 ⟨4088 + i.val, by omega⟩ j
  unfold Gate.prev at h
  rw [if_pos (by exact Nat.zero_le _)] at h
  refine Eq.trans ?_ h
  unfold tst
  generalize text (tpre x w) = u
  pointwise
  have e : 2 - 0 + (4088 + i.val) = 4090 + i.val := by omega
  congr 2
  exact Fin.ext e.symm

end Cert.Reference4Ideal.Even

end
-- ==== Proof.Even.Final.lean ====
/-
  The two programs' results are the same arrays.
-/
module

public import proofs.«01_k».proof.Defs
public import proofs.«01_k».proof.Proof.Even.Point
public import proofs.«01_k».proof.Proof.Even.Ref

@[expose] public section

set_option maxRecDepth 16384

noncomputable section

namespace Cert.Reference4Ideal.Even

open Cert.Reference4Ideal Cert.Reference4Ideal.Gen
open Idealize.ShloMosaic Idealize.ShloMosaic.TcCoe Idealize.SL.Sem

section Agree

variable (m : (ℓ : Loc Kernel4Ideal.nD Kernel4Ideal.τ Kernel4Ideal.sig) → Buf (Elt Ideal) ℓ) (c : Dev Kernel4Ideal.nD)

/-- The gated rows. -/
theorem gated_agree : ta (Kernel4Ideal.Even.arr0 m c) (Kernel4Ideal.Even.arr1 m c) (Kernel4Ideal.Even.arr2 m c) (Kernel4Ideal.Even.arr3 m c) (Kernel4Ideal.Even.arr4 m c) (Kernel4Ideal.Even.arr5 m c) = Kernel4Ideal.Value.G7 m c := by
  funext i
  revert i
  intro (i : S4x4096x512.Idx)
  obtain ⟨b, p, j, rfl⟩ : ∃ (b : Fin 4) (p : Fin 4096) (j : Fin 512), i = ix3 b p j := ⟨i 0, i 1, i 2, eq_ix3 i⟩
  exact (ta_apply (Kernel4Ideal.Even.arr0 m c) (Kernel4Ideal.Even.arr1 m c) (Kernel4Ideal.Even.arr2 m c) (Kernel4Ideal.Even.arr3 m c) (Kernel4Ideal.Even.arr4 m c) (Kernel4Ideal.Even.arr5 m c) b p j).trans (Kernel4Ideal.Even.G7_apply m c b p j).symm

/-- The gated convolution. -/
theorem convolved_agree : tb (Kernel4Ideal.Even.arr0 m c) (Kernel4Ideal.Even.arr1 m c) (Kernel4Ideal.Even.arr6 m c) = Kernel4Ideal.Value.G8 m c := by
  funext i
  revert i
  intro (i : S4x4096x512.Idx)
  obtain ⟨b, p, j, rfl⟩ : ∃ (b : Fin 4) (p : Fin 4096) (j : Fin 512), i = ix3 b p j := ⟨i 0, i 1, i 2, eq_ix3 i⟩
  exact (tb_apply (Kernel4Ideal.Even.arr0 m c) (Kernel4Ideal.Even.arr1 m c) (Kernel4Ideal.Even.arr6 m c) b p j).trans (Kernel4Ideal.Even.G8_apply m c b p j).symm

/-- The state. -/
theorem state_agree : tst (text (tpre (Kernel4Ideal.Even.arr0 m c) (Kernel4Ideal.Even.arr1 m c))) = Kernel4Ideal.Value.G9 m c := by
  funext i
  revert i
  intro (i : S4x8x512.Idx)
  obtain ⟨b, p, j, rfl⟩ : ∃ (b : Fin 4) (p : Fin 8) (j : Fin 512), i = ix3 b p j := ⟨i 0, i 1, i 2, eq_ix3 i⟩
  exact (tst_apply (Kernel4Ideal.Even.arr0 m c) (Kernel4Ideal.Even.arr1 m c) b p j).trans (Kernel4Ideal.Even.G9_apply m c b p j).symm

end Agree

/-! The reference's arguments, at their shapes. -/

def argX (m' : (ℓ : Loc nD τ sig) → Buf (Elt Ideal) ℓ) (c : Dev nD) : FVec Ideal S4x4096x1024 .f32 := m' ((c.tc : Thread nD τ).loc main_arg0)
def argW (m' : (ℓ : Loc nD τ sig) → Buf (Elt Ideal) ℓ) (c : Dev nD) : FVec Ideal S1x1024x2560 .f32 := m' ((c.tc : Thread nD τ).loc main_arg1)
def argG (m' : (ℓ : Loc nD τ sig) → Buf (Elt Ideal) ℓ) (c : Dev nD) : FVec Ideal S1x512 .f32 := m' ((c.tc : Thread nD τ).loc main_arg2)
def argS (m' : (ℓ : Loc nD τ sig) → Buf (Elt Ideal) ℓ) (c : Dev nD) : FVec Ideal S1x512 .f32 := m' ((c.tc : Thread nD τ).loc main_arg3)
def argM (m' : (ℓ : Loc nD τ sig) → Buf (Elt Ideal) ℓ) (c : Dev nD) : FVec Ideal S1x4x128x128 .f32 := m' ((c.tc : Thread nD τ).loc main_arg4)
def argB (m' : (ℓ : Loc nD τ sig) → Buf (Elt Ideal) ℓ) (c : Dev nD) : FVec Ideal S1x4x128 .f32 := m' ((c.tc : Thread nD τ).loc main_arg5)
def argC (m' : (ℓ : Loc nD τ sig) → Buf (Elt Ideal) ℓ) (c : Dev nD) : FVec Ideal S1x3x512 .f32 := m' ((c.tc : Thread nD τ).loc main_arg6)

/-- The reference's run, its results the terms above. -/
theorem run_terms (m' : (ℓ : Loc nD τ sig) → Buf (Elt Ideal) ℓ) (ρ : Dev nD → PrngReg) :
    θ_run (defs (F := Ideal)) (onTc (τ := τ) (main (F := Ideal))) ⟨m', fun _ => 0, ρ⟩ fun r => ∀ c : Dev nD,
      r.2.mem ((c.tc : Thread nD τ).loc main_v101) = ta (argX m' c) (argW m' c) (argG m' c) (argS m' c) (argM m' c) (argB m' c)
      ∧ r.2.mem ((c.tc : Thread nD τ).loc main_v102) = tb (argX m' c) (argW m' c) (argC m' c)
      ∧ r.2.mem ((c.tc : Thread nD τ).loc main_v103) = tst (text (tpre (argX m' c) (argW m' c)))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6) :=
  Value.run m' ρ

/-- The claim. -/
theorem algebraic : Cert.algebraic_Kernel4Ideal_Reference4Ideal := by
  intro m g m' g' _ hagree
  refine ⟨fun c => Kernel4Ideal.Value.G7 m c, fun c => Kernel4Ideal.Value.G8 m c, fun c => Kernel4Ideal.Value.G9 m c,
    Kernel4Ideal.Value.run m g, ?_⟩
  refine (θ_run _ _ _).mono (fun r h c => ?_) (run_terms m' g')
  have a0 : argX m' c = Kernel4Ideal.Even.arr0 m c := (hagree c).1
  have a1 : argW m' c = Kernel4Ideal.Even.arr1 m c := (hagree c).2.1
  have a2 : argG m' c = Kernel4Ideal.Even.arr2 m c := (hagree c).2.2.1
  have a3 : argS m' c = Kernel4Ideal.Even.arr3 m c := (hagree c).2.2.2.1
  have a4 : argM m' c = Kernel4Ideal.Even.arr4 m c := (hagree c).2.2.2.2.1
  have a5 : argB m' c = Kernel4Ideal.Even.arr5 m c := (hagree c).2.2.2.2.2.1
  have a6 : argC m' c = Kernel4Ideal.Even.arr6 m c := (hagree c).2.2.2.2.2.2
  have h' := h c
  rw [a0, a1, a2, a3, a4, a5, a6] at h'
  obtain ⟨h1, h2, h3, rest⟩ := h'
  exact ⟨h1.trans (gated_agree m c), h2.trans (convolved_agree m c), h3.trans (state_agree m c), rest⟩

end Cert.Reference4Ideal.Even

end
-- ==== Proof.Even.Frame.lean ====
/-
  The reference's frame: its operations leave the arguments as they were, and no counter moves.
-/
module

public import proofs.«01_k».proof.Defs
public import proofs.«01_k».proof.Proof.Gen.Reference4Ideal
public import proofs.«01_k».proof.Proof.Gen.Reference4Ideal.Run
public import Idealize.ShloMosaic.Lib.Claim

@[expose] public section

set_option maxRecDepth 16384

noncomputable section

namespace Cert.Reference4Ideal.Even

open Idealize.ShloMosaic Idealize.ShloMosaic.TcCoe Idealize.SL.Sem Idealize.ShloMosaic.StableHlo

theorem frame : Cert.quiescent_Reference4Ideal (hReference4Ideal := Cert.Reference4Ideal.Gen.facts) := by
  intro m g _
  refine (θ_run _ _ _).mono (fun r h => ⟨fun c => (h c).2.2.2, ?_⟩) (Value.run m g)
  funext s
  rcases s with ⟨_, (i | i)⟩ <;> exact i.elim0

end Cert.Reference4Ideal.Even

end
-- ==== Proof.Smp.Arrays.lean ====
/-
  The arrays after the run: each output's one block is its array, so each is what the body leaves.
-/
module

public import proofs.«01_k».proof.Proof.Gen.Kernel5Ideal.Value
public import Idealize.ShloMosaic.Lib.Pointwise

@[expose] public section

set_option maxRecDepth 16384

noncomputable section

namespace Cert.Kernel5Ideal.Smp

open Cert.Kernel5Ideal Cert.Kernel5Ideal.Gen Cert.Kernel5Ideal.Value
open Idealize.ShloMosaic Idealize.ShloMosaic.TcCoe Idealize.SL.Sem

variable (m : (ℓ : Loc nD τ sig) → Buf (Elt Ideal) ℓ)

/-- The one grid point. -/
def pt : Fin cfg0.N := ⟨0, by decide⟩

theorem outs_idx : win0_8.index pt = ![0, 0] ∧ win0_9.index pt = ![0, 0] ∧ win0_10.index pt = ![0, 0]
    ∧ win0_11.index pt = ![0, 0] := by decide +kernel

theorem array8 (c : Dev nD) (y : S512x512.Idx) : (dats m 0 c).arrAt 8 cfg0.N y = out0_8 (iblk m c 0 pt) (iblk m c 1 pt) (iblk m c 2 pt) (iblk m c 3 pt) (iblk m c 4 pt) (iblk m c 5 pt) (iblk m c 6 pt) (iblk m c 7 pt) y := by
  have h := congrFun ((blocks8 m c pt (by decide +kernel)).trans (flushed8 m c pt)) y
  have e : ((cfg0.win 8).blk pt).view.emb y = y := by
    funext a; apply Fin.ext
    match a with
    | ⟨0, _⟩ => show win0_8.index pt (0 : Fin 2) * 512 + 1 * (y 0).val = (y 0).val; rw [outs_idx.1]; simp
    | ⟨1, _⟩ => show win0_8.index pt (1 : Fin 2) * 512 + 1 * (y 1).val = (y 1).val; rw [outs_idx.1]; simp
  refine (congrArg ((dats m 0 c).arrAt 8 cfg0.N) e).symm.trans (h.trans ?_)
  rfl

theorem array9 (c : Dev nD) (y : S512x512.Idx) : (dats m 0 c).arrAt 9 cfg0.N y = out0_9 (iblk m c 0 pt) (iblk m c 1 pt) (iblk m c 2 pt) (iblk m c 3 pt) (iblk m c 4 pt) (iblk m c 5 pt) (iblk m c 6 pt) (iblk m c 7 pt) y := by
  have h := congrFun ((blocks9 m c pt (by decide +kernel)).trans (flushed9 m c pt)) y
  have e : ((cfg0.win 9).blk pt).view.emb y = y := by
    funext a; apply Fin.ext
    match a with
    | ⟨0, _⟩ => show win0_9.index pt (0 : Fin 2) * 512 + 1 * (y 0).val = (y 0).val; rw [outs_idx.2.1]; simp
    | ⟨1, _⟩ => show win0_9.index pt (1 : Fin 2) * 512 + 1 * (y 1).val = (y 1).val; rw [outs_idx.2.1]; simp
  refine (congrArg ((dats m 0 c).arrAt 9 cfg0.N) e).symm.trans (h.trans ?_)
  rfl

theorem array10 (c : Dev nD) (y : S512x512.Idx) : (dats m 0 c).arrAt 10 cfg0.N y = out0_10 (iblk m c 0 pt) (iblk m c 1 pt) (iblk m c 2 pt) (iblk m c 3 pt) (iblk m c 4 pt) (iblk m c 5 pt) (iblk m c 6 pt) (iblk m c 7 pt) y := by
  have h := congrFun ((blocks10 m c pt (by decide +kernel)).trans (flushed10 m c pt)) y
  have e : ((cfg0.win 10).blk pt).view.emb y = y := by
    funext a; apply Fin.ext
    match a with
    | ⟨0, _⟩ => show win0_10.index pt (0 : Fin 2) * 512 + 1 * (y 0).val = (y 0).val; rw [outs_idx.2.2.1]; simp
    | ⟨1, _⟩ => show win0_10.index pt (1 : Fin 2) * 512 + 1 * (y 1).val = (y 1).val; rw [outs_idx.2.2.1]; simp
  refine (congrArg ((dats m 0 c).arrAt 10 cfg0.N) e).symm.trans (h.trans ?_)
  rfl

theorem array11 (c : Dev nD) (y : S512x512.Idx) : (dats m 0 c).arrAt 11 cfg0.N y = out0_11 (iblk m c 0 pt) (iblk m c 1 pt) (iblk m c 2 pt) (iblk m c 3 pt) (iblk m c 4 pt) (iblk m c 5 pt) (iblk m c 6 pt) (iblk m c 7 pt) y := by
  have h := congrFun ((blocks11 m c pt (by decide +kernel)).trans (flushed11 m c pt)) y
  have e : ((cfg0.win 11).blk pt).view.emb y = y := by
    funext a; apply Fin.ext
    match a with
    | ⟨0, _⟩ => show win0_11.index pt (0 : Fin 2) * 512 + 1 * (y 0).val = (y 0).val; rw [outs_idx.2.2.2]; simp
    | ⟨1, _⟩ => show win0_11.index pt (1 : Fin 2) * 512 + 1 * (y 1).val = (y 1).val; rw [outs_idx.2.2.2]; simp
  refine (congrArg ((dats m 0 c).arrAt 11 cfg0.N) e).symm.trans (h.trans ?_)
  rfl

end Cert.Kernel5Ideal.Smp

end
-- ==== Proof.Smp.Blocks.lean ====
/-
  The blocks of the one grid point as the arrays they come from: row `128 t + n` is row `t` of sequence `n`.
-/
module

public import proofs.«01_k».proof.Proof.Gen.Kernel5Ideal.Frame
public import Idealize.ShloMosaic.Lib.Pipeline.ValueKit
public import Idealize.ShloMosaic.Lib.Pointwise
public import Idealize.ShloMosaic.Lib.Claim

@[expose] public section

set_option maxRecDepth 16384

noncomputable section

namespace Cert.Kernel5Ideal.Smp

open Cert.Kernel5Ideal Cert.Kernel5Ideal.Gen
open Idealize.ShloMosaic Idealize.ShloMosaic.TcCoe Idealize.SL.Sem

variable (m : (ℓ : Loc nD τ sig) → Buf (Elt Ideal) ℓ)

/-- The windows' block indices. -/
theorem idx : ∀ t : Fin cfg0.N, win0_0.index t = ![0, 0] ∧ win0_1.index t = ![0, 0]
    ∧ win0_2.index t = ![0, 0] ∧ win0_3.index t = ![0, 0] ∧ win0_4.index t = ![0, 0] ∧ win0_5.index t = ![0, 0]
    ∧ win0_6.index t = ![0, 0] ∧ win0_7.index t = ![0, 0] :=
  (by decide +kernel : ∀ t : Fin grid0.N, _)

/-! The arrays as the kernel's arguments hold them. -/

def arr0 (c : Dev nD) : Vec Ideal S128x4x1024 .f32 := m ((c : Thread nD τ).loc main_arg0)
def arr1 (c : Dev nD) : Vec Ideal S1x1024x2560 .f32 := m ((c : Thread nD τ).loc main_arg1)
def arr2 (c : Dev nD) : Vec Ideal S1x512 .f32 := m ((c : Thread nD τ).loc main_arg2)
def arr3 (c : Dev nD) : Vec Ideal S1x512 .f32 := m ((c : Thread nD τ).loc main_arg3)
def arr4 (c : Dev nD) : Vec Ideal S1x4x128x128 .f32 := m ((c : Thread nD τ).loc main_arg4)
def arr5 (c : Dev nD) : Vec Ideal S1x4x128 .f32 := m ((c : Thread nD τ).loc main_arg5)
def arr6 (c : Dev nD) : Vec Ideal S1x3x512 .f32 := m ((c : Thread nD τ).loc main_arg6)
def arr7 (c : Dev nD) : Vec Ideal S1x128x2x512 .f32 := m ((c : Thread nD τ).loc main_arg7)

/-! The blocks of a grid point. -/

def blk0 (c : Dev nD) (t : Fin cfg0.N) : Vec Ideal S512x1024 .f32 := iblk m c 0 t
def blk1 (c : Dev nD) (t : Fin cfg0.N) : Vec Ideal S1024x2560 .bf16 := iblk m c 1 t
def blk2 (c : Dev nD) (t : Fin cfg0.N) : Vec Ideal S1x512 .f32 := iblk m c 2 t
def blk3 (c : Dev nD) (t : Fin cfg0.N) : Vec Ideal S1x512 .f32 := iblk m c 3 t
def blk4 (c : Dev nD) (t : Fin cfg0.N) : Vec Ideal S16x512 .f32 := iblk m c 4 t
def blk5 (c : Dev nD) (t : Fin cfg0.N) : Vec Ideal S128x512 .f32 := iblk m c 5 t
def blk6 (c : Dev nD) (t : Fin cfg0.N) : Vec Ideal S3x512 .f32 := iblk m c 6 t
def blk7 (c : Dev nD) (t : Fin cfg0.N) : Vec Ideal S256x512 .f32 := iblk m c 7 t

theorem block0 (c : Dev nD) (t : Fin cfg0.N) (p : Fin 4) (n : Fin 128) (d : Fin 1024) :
    blk0 m c t (ix2 ⟨128 * p.val + n.val, by omega⟩ d) = arr0 m c (ix3 n p d) := by
  unfold blk0 arr0
  blk_simp [iblk]
  entry_read
  pointwise
  blk_ext [idx t]

theorem block1 (c : Dev nD) (t : Fin cfg0.N) (d : Fin 1024) (j : Fin 2560) :
    blk1 m c t (ix2 d j) = arr1 m c (ix3 0 d j) := by
  unfold blk1 arr1
  blk_simp [iblk]
  entry_read
  pointwise
  blk_ext [idx t]

theorem block2 (c : Dev nD) (t : Fin cfg0.N) (j : Fin 512) : blk2 m c t (ix2 0 j) = arr2 m c (ix2 0 j) := by
  unfold blk2 arr2
  blk_simp [iblk]
  entry_read
  pointwise
  blk_ext [idx t]

theorem block3 (c : Dev nD) (t : Fin cfg0.N) (j : Fin 512) : blk3 m c t (ix2 0 j) = arr3 m c (ix2 0 j) := by
  unfold blk3 arr3
  blk_simp [iblk]
  entry_read
  pointwise
  blk_ext [idx t]

/-- A group's weight of row `s` in row `p` is repeated over its columns. -/
theorem block4 (c : Dev nD) (t : Fin cfg0.N) (p s g : Fin 4) (l : Fin 128) :
    blk4 m c t (ix2 ⟨4 * p.val + s.val, by omega⟩ ⟨128 * g.val + l.val, by omega⟩) =
      arr4 m c (ix4 0 g ⟨p.val, by omega⟩ ⟨s.val, by omega⟩) := by
  unfold blk4 arr4
  blk_simp [iblk]
  entry_read
  pointwise
  blk_ext [idx t]

/-- A group's biases are repeated over its columns. -/
theorem block5 (c : Dev nD) (t : Fin cfg0.N) (g : Fin 4) (d l : Fin 128) :
    blk5 m c t (ix2 d ⟨128 * g.val + l.val, by omega⟩) = arr5 m c (ix3 0 g d) := by
  unfold blk5 arr5
  blk_simp [iblk]
  entry_read
  pointwise
  blk_ext [idx t]

theorem block6 (c : Dev nD) (t : Fin cfg0.N) (k : Fin 3) (d : Fin 512) : blk6 m c t (ix2 k d) = arr6 m c (ix3 0 k d) := by
  unfold blk6 arr6
  blk_simp [iblk]
  entry_read
  pointwise
  blk_ext [idx t]

theorem block7 (c : Dev nD) (t : Fin cfg0.N) (k : Fin 2) (n : Fin 128) (j : Fin 512) :
    blk7 m c t (ix2 ⟨128 * k.val + n.val, by omega⟩ j) = arr7 m c (ix4 0 n k j) := by
  unfold blk7 arr7
  blk_simp [iblk]
  entry_read
  pointwise
  blk_ext [idx t]

end Cert.Kernel5Ideal.Smp

end
-- ==== Proof.Smp.Spec.lean ====
/-
  The even mixer on a sequence of four rows that continues another, over the extended reals: what both programs compute,
  stated once. The gate mixes the four rows; the convolution sees the two rows kept from the sequence before.
-/
module

public import proofs.«01_k».proof.Proof.Even.Spec

@[expose] public section

noncomputable section

namespace Cert.Gate

open Idealize.ShloMosaic

/-- Row `t` of four, mixed in group `g`: the rows up to it, weighted. -/
def mixFew (ws : Fin 4 → Fin 128 → Fin 128 → EReal) (bs : Fin 4 → Fin 128 → EReal) (v : Fin 4 → EReal) (g t : Fin 4) : EReal :=
  (∑ s : Fin 4, (if s.val ≤ t.val then ws g ⟨t.val, by omega⟩ ⟨s.val, by omega⟩ else 0) * v s) + bs g ⟨t.val, by omega⟩

/-- Row `t` gated by the mixed rows. -/
def gatedFew (x : Fin 4 → Fin 1024 → EReal) (w : Fin 1024 → Fin 2560 → EReal) (g s : Fin 512 → EReal)
    (ws : Fin 4 → Fin 128 → Fin 128 → EReal) (bs : Fin 4 → Fin 128 → EReal) (t : Fin 4) (j : Fin 512) : EReal :=
  left (x t) w j * mixFew ws bs (fun t => right (x t) w g s j) ⟨j.val / 128, by omega⟩ t

/-- The rows before the convolution, under the two kept. -/
def rowsFew (h : Fin 2 → Fin 512 → EReal) (x : Fin 4 → Fin 1024 → EReal) (w : Fin 1024 → Fin 2560 → EReal) (q : Fin 6)
    (j : Fin 512) : EReal := if hq : q.val < 2 then h ⟨q.val, hq⟩ j else pre (x ⟨q.val - 2, by omega⟩) w j

/-- Row `t` after the gated convolution. -/
def convolvedFew (h : Fin 2 → Fin 512 → EReal) (x : Fin 4 → Fin 1024 → EReal) (w : Fin 1024 → Fin 2560 → EReal)
    (cw : Fin 3 → Fin 512 → EReal) (t : Fin 4) (j : Fin 512) : EReal :=
  sect (x t) w 2 j * (rowsFew h x w ⟨2 + t.val, by omega⟩ j * cw 2 j + rowsFew h x w ⟨1 + t.val, by omega⟩ j * cw 1 j
    + rowsFew h x w ⟨0 + t.val, by omega⟩ j * cw 0 j)

/-- A mixed row's sum over a whole chunk, the rows past the fourth zero. -/
theorem sum_few (a b : Fin 128 → EReal) (hb : ∀ s : Fin 128, 4 ≤ s.val → b s = 0) :
    ∑ s : Fin 128, a s * b s = ∑ s : Fin 4, a ⟨s.val, by omega⟩ * b ⟨s.val, by omega⟩ := by
  have h : ∑ s : Fin (4 + 124), a s * b s = _ := Fin.sum_univ_add (a := 4) (b := 124) fun s : Fin (4 + 124) => a s * b s
  refine h.trans ?_
  have z : ∑ s : Fin 124, a (Fin.natAdd 4 s) * b (Fin.natAdd 4 s) = 0 :=
    Finset.sum_eq_zero fun s _ => by rw [hb _ (by simp), mul_zero]
  rw [z, add_zero]
  rfl

end Cert.Gate

end
-- ==== Proof.Smp.Read.lean ====
/-
  The stages of the call read at one element, over the extended reals: each is the row function of the same name. Row
  `128 p + n` is row `p` of sequence `n`.
-/
module

public import proofs.«01_k».proof.Proof.Smp.Spec
public import proofs.«01_k».proof.Proof.Gen.Kernel5Ideal.Skeleton
public import Idealize.ShloMosaic.Lib.Pointwise
public import Idealize.ShloMosaic.Lib.Pipeline.FrameBody
public import Idealize.ShloMosaic.Lib.Pipeline.ValueKit.Tiles

@[expose] public section

set_option maxRecDepth 16384

noncomputable section

namespace Cert.Kernel5Ideal.Smp

open Cert.Kernel5Ideal Cert.Kernel5Ideal.Gen
open Idealize.ShloMosaic Idealize.ShloMosaic.TcCoe Idealize.SL.Sem

/-- Row `p` of sequence `n`. -/
def at4 (p : Fin 4) (n : Fin 128) : Fin 512 := ⟨128 * p.val + n.val, by omega⟩

/-- Columns `512 k` to `512 k + 511` of the wide weights. -/
def cols (w : Vec Ideal S1024x2560 .bf16) (k : Fin 5) : Vec Ideal S1024x512 .bf16 :=
  View.ld (Val := Elt Ideal) w (Rect.unit (s := S1024x2560) ![0, 512 * k.val] S1024x512.size
    (by intro a; fin_cases a <;> simp; omega))

theorem cols_apply (w : Vec Ideal S1024x2560 .bf16) (k : Fin 5) (d : Fin 1024) (j : Fin 512) :
    cols w k (ix2 d j) = w (ix2 d ⟨512 * k.val + j.val, by omega⟩) := by
  unfold cols
  refine congrArg w ?_
  funext a
  apply Fin.ext
  rw [Rect.idx_unit_val]
  fin_cases a <;> simp [ix2]

theorem gates_apply (x : Vec Ideal S512x1024 .f32) (w : Vec Ideal S1024x2560 .bf16) (r j : Fin 512) :
    k0_pay3 x (cols w 0) (ix2 r j) = Gate.left (fun d => x (ix2 r d)) (fun d j => w (ix2 d j)) j := by
  pointwise [k0_pay3, k0_pay2, cols_apply, Gate.left, Gate.gelu, Gate.sect]

theorem acts_apply (x : Vec Ideal S512x1024 .f32) (w : Vec Ideal S1024x2560 .bf16) (r j : Fin 512) :
    k0_pay4 x (cols w 1) (ix2 r j) = Gate.gelu (Gate.sect (fun d => x (ix2 r d)) (fun d j => w (ix2 d j)) 1 j) := by
  pointwise [k0_pay4, k0_pay2, cols_apply, Gate.gelu, Gate.sect]

theorem normed_apply (v : FVec Ideal S512x512 .f32) (g s : Vec Ideal S1x512 .f32) (r j : Fin 512) :
    k0_pay7 v (k0_pay5 g) (k0_pay6 s) (ix2 r j) =
      Gate.norm (fun j => v (ix2 r j)) (fun j => g (ix2 0 j)) (fun j => s (ix2 0 j)) j := by
  pointwise [k0_pay7, k0_pay5, k0_pay6, Gate.norm, Gate.mean, Gate.eps, Gate.count]

/-- The rows that are mixed. -/
def mixed (x : Vec Ideal S512x1024 .f32) (w : Vec Ideal S1024x2560 .bf16) (g s : Vec Ideal S1x512 .f32) : FVec Ideal S512x512 .f32 :=
  k0_pay7 (k0_pay4 x (cols w 1)) (k0_pay5 g) (k0_pay6 s)

theorem mixed_apply (x : Vec Ideal S512x1024 .f32) (w : Vec Ideal S1024x2560 .bf16) (g s : Vec Ideal S1x512 .f32)
    (r j : Fin 512) : mixed x w g s (ix2 r j) = Gate.right (fun d => x (ix2 r d)) (fun d j => w (ix2 d j))
      (fun j => g (ix2 0 j)) (fun j => s (ix2 0 j)) j := by
  unfold mixed Gate.right
  rw [normed_apply]
  exact congrArg (fun v => Gate.norm v _ _ j) (funext fun k => acts_apply x w r k)

/-! ### The gate, row by row -/

theorem gate0 (u a : FVec Ideal S512x512 .f32) (g s : FVec Ideal S1x512 .f32) (b w : Vec Ideal S1x512 .f32) (n : Fin 128) (j : Fin 512) :
    k0_pay8 u a g s b w (ix2 n j) = u (ix2 (at4 0 n) j) * (b (ix2 0 j) + w (ix2 0 j) * k0_pay7 a g s (ix2 (at4 0 n) j)) := by
  unfold k0_pay8
  generalize k0_pay7 a g s = v
  pointwise [at4]

theorem gate1 (u a : FVec Ideal S512x512 .f32) (g s : FVec Ideal S1x512 .f32) (b w w' : Vec Ideal S1x512 .f32) (n : Fin 128) (j : Fin 512) :
    k0_pay11 u (k0_pay7 a g s) (k0_pay9 b) (k0_pay10 a g s w) w' (ix2 n j) = u (ix2 (at4 1 n) j) *
      (b (ix2 0 j) + w (ix2 0 j) * k0_pay7 a g s (ix2 (at4 0 n) j) + w' (ix2 0 j) * k0_pay7 a g s (ix2 (at4 1 n) j)) := by
  unfold k0_pay10
  generalize k0_pay7 a g s = v
  pointwise [k0_pay11, k0_pay9, at4]

theorem gate2 (u v : FVec Ideal S512x512 .f32) (b w w' w'' : Vec Ideal S1x512 .f32) (n : Fin 128) (j : Fin 512) :
    k0_pay12 u v b w w' w'' (ix2 n j) = u (ix2 (at4 2 n) j) * (b (ix2 0 j) + w (ix2 0 j) * v (ix2 (at4 0 n) j)
      + w' (ix2 0 j) * v (ix2 (at4 1 n) j) + w'' (ix2 0 j) * v (ix2 (at4 2 n) j)) := by
  pointwise [k0_pay12, at4]

theorem gate3 (u v : FVec Ideal S512x512 .f32) (b w w' w'' w''' : Vec Ideal S1x512 .f32) (n : Fin 128) (j : Fin 512) :
    k0_pay14 u v (k0_pay13 b) w w' w'' w''' (ix2 n j) = u (ix2 (at4 3 n) j) * (b (ix2 0 j) + w (ix2 0 j) * v (ix2 (at4 0 n) j)
      + w' (ix2 0 j) * v (ix2 (at4 1 n) j) + w'' (ix2 0 j) * v (ix2 (at4 2 n) j) + w''' (ix2 0 j) * v (ix2 (at4 3 n) j)) := by
  pointwise [k0_pay14, k0_pay13, at4]

/-! ### The convolution -/

/-- The rows before the convolution. -/
def pre (x : Vec Ideal S512x1024 .f32) (w : Vec Ideal S1024x2560 .bf16) : FVec Ideal S512x512 .f32 :=
  k0_pay15 (k0_pay2 x) (cols w 3) (cols w 4)

theorem pre_apply (x : Vec Ideal S512x1024 .f32) (w : Vec Ideal S1024x2560 .bf16) (r j : Fin 512) :
    pre x w (ix2 r j) = Gate.pre (fun d => x (ix2 r d)) (fun d j => w (ix2 d j)) j := by
  pointwise [pre, k0_pay15, k0_pay2, cols_apply, Gate.pre, Gate.sect]

/-- The convolution over any rows `e` under the rows kept. -/
def conv3 (e : FVec Ideal S512x512 .f32) (h : FVec Ideal S256x512 .f32) (w2 w1 w0 : Vec Ideal S1x512 .f32) : FVec Ideal S512x512 .f32 :=
  addf (addf (mulf e (broadcastTo S512x512 (shapeCast S1x512 w2 shapeCasts_S1x512_S1x512) broadcasts_S1x512_S512x512))
    (mulf (concatenate S512x512 0 [⟨S128x512, extractStridedSlice S128x512 ![128, 0] h slices_S256x512_o128_0_S128x512⟩,
        ⟨S384x512, extractStridedSlice S384x512 ![0, 0] e slices_S512x512_o0_0_S384x512⟩] concatenates_S128x512_S384x512_S512x512_d0)
      (broadcastTo S512x512 (shapeCast S1x512 w1 shapeCasts_S1x512_S1x512) broadcasts_S1x512_S512x512)))
    (mulf (concatenate S512x512 0 [⟨S256x512, h⟩,
        ⟨S256x512, extractStridedSlice S256x512 ![0, 0] e slices_S512x512_o0_0_S256x512⟩] concatenates_S256x512_S256x512_S512x512_d0)
      (broadcastTo S512x512 (shapeCast S1x512 w0 shapeCasts_S1x512_S1x512) broadcasts_S1x512_S512x512))

theorem conv3_apply (e : FVec Ideal S512x512 .f32) (H : FVec Ideal S256x512 .f32) (w2 w1 w0 : Vec Ideal S1x512 .f32)
    (h' : Fin 2 → Fin 512 → EReal) (x : Fin 4 → Fin 1024 → EReal) (w : Fin 1024 → Fin 2560 → EReal) (n : Fin 128)
    (he : ∀ p j, e (ix2 (at4 p n) j) = Gate.pre (x p) w j)
    (hH : ∀ (k : Fin 2) (j : Fin 512), H (ix2 ⟨128 * k.val + n.val, by omega⟩ j) = h' k j) (p : Fin 4) (j : Fin 512) :
    conv3 e H w2 w1 w0 (ix2 (at4 p n) j) = Gate.rowsFew h' x w ⟨2 + p.val, by omega⟩ j * w2 (ix2 0 j)
      + Gate.rowsFew h' x w ⟨1 + p.val, by omega⟩ j * w1 (ix2 0 j) + Gate.rowsFew h' x w ⟨0 + p.val, by omega⟩ j * w0 (ix2 0 j) := by
  have hp := p.isLt
  have hn := n.isLt
  have ha : (at4 p n).val = 128 * p.val + n.val := rfl
  pointwise [conv3]
  unfold Gate.rowsFew
  refine congrArg₂ (· + ·) (congrArg₂ (· + ·) (congrArg (· * _) ?_) (congrArg (· * _) ?_)) (congrArg (· * _) ?_)
  · rw [dif_neg (by dsimp only; omega), he]
    exact congrArg (fun p => Gate.pre (x p) w j) (Fin.ext (by dsimp only; omega))
  · by_cases h : p.val < 1
    · rw [dif_pos (by omega), dif_pos (by dsimp only; omega)]
      refine Eq.trans ?_ (hH 1 j |>.trans (congrArg (fun k => h' k j) (Fin.ext (by simp; omega))))
      exact congrArg (fun r => H (ix2 r j)) (Fin.ext (by simp; omega))
    · rw [dif_neg (by omega), dif_neg (by dsimp only; omega)]
      refine Eq.trans ?_ (he ⟨p.val - 1, by omega⟩ j |>.trans (congrArg (fun p => Gate.pre (x p) w j) (Fin.ext (by simp <;> omega))))
      exact congrArg (fun r => e (ix2 r j)) (Fin.ext (by dsimp only [at4]; omega))
  · by_cases h : p.val < 2
    · rw [dif_pos (by omega), dif_pos (by dsimp only; omega)]
      refine Eq.trans ?_ (hH ⟨p.val, by omega⟩ j |>.trans (congrArg (fun k => h' k j) (Fin.ext (by simp))))
      exact congrArg (fun r => H (ix2 r j)) (Fin.ext (by dsimp only <;> omega))
    · rw [dif_neg (by omega), dif_neg (by dsimp only; omega)]
      refine Eq.trans ?_ (he ⟨p.val - 2, by omega⟩ j |>.trans (congrArg (fun p => Gate.pre (x p) w j) (Fin.ext (by simp <;> omega))))
      exact congrArg (fun r => e (ix2 r j)) (Fin.ext (by dsimp only [at4]; omega))

/-- The gated convolution, its product apart. -/
theorem conv_eq (x : Vec Ideal S512x1024 .f32) (w : Vec Ideal S1024x2560 .bf16) (H : Vec Ideal S256x512 .f32)
    (w2 w1 w0 : Vec Ideal S1x512 .f32) : k0_pay1 (k0_pay2 x) (k0_pay15 (k0_pay2 x) (cols w 3) (cols w 4)) (k0_pay16 H) (k0_pay17 H)
      (k0_pay18 (k0_pay2 x) (cols w 3) (cols w 4)) w2 w1 w0 (cols w 2) = truncf .bf16 (mulf
      (matmul (φ₂ := .bf16) dot_S512x1024_S1024x512_S512x512_1_0_0_1_n_n none (k0_pay2 x) (shapeCast S1024x512 (cols w 2)
        shapeCasts_S1024x512_S1024x512) (constant S512x512 .f32 0x00000000#32)) (conv3 (pre x w) (k0_pay16 H) w2 w1 w0)) bitsLt_bf16_f32 := rfl

theorem conv_apply (x : Vec Ideal S512x1024 .f32) (w : Vec Ideal S1024x2560 .bf16) (H : Vec Ideal S256x512 .f32)
    (w2 w1 w0 : Vec Ideal S1x512 .f32) (r j : Fin 512) :
    k0_pay1 (k0_pay2 x) (k0_pay15 (k0_pay2 x) (cols w 3) (cols w 4)) (k0_pay16 H) (k0_pay17 H)
      (k0_pay18 (k0_pay2 x) (cols w 3) (cols w 4)) w2 w1 w0 (cols w 2) (ix2 r j) =
      Gate.sect (fun d => x (ix2 r d)) (fun d j => w (ix2 d j)) 2 j * conv3 (pre x w) (k0_pay16 H) w2 w1 w0 (ix2 r j) := by
  rw [conv_eq]
  generalize conv3 (pre x w) (k0_pay16 H) w2 w1 w0 = z
  pointwise [k0_pay2, cols_apply, Gate.sect]

theorem kept_apply (H : Vec Ideal S256x512 .f32) (r : Fin 256) (j : Fin 512) : k0_pay16 H (ix2 r j) = H (ix2 r j) := by
  pointwise [k0_pay16]

end Cert.Kernel5Ideal.Smp

end
-- ==== Proof.Smp.Point.lean ====
/-
  What the call leaves in each output: row `128 p + n` is row `p` of sequence `n`, gated, convolved, normalised, or as it
  enters the convolution.
-/
module

public import proofs.«01_k».proof.Proof.Smp.Arrays
public import proofs.«01_k».proof.Proof.Smp.Blocks
public import proofs.«01_k».proof.Proof.Smp.Read

@[expose] public section

set_option maxRecDepth 16384

noncomputable section

namespace Cert.Kernel5Ideal.Smp

open Cert.Kernel5Ideal Cert.Kernel5Ideal.Gen
open Idealize.ShloMosaic Idealize.ShloMosaic.TcCoe Idealize.SL.Sem

/-! ### The loads -/

theorem load0 (x : Vec Ideal S512x1024 .f32) : View.ld (Val := Elt Ideal) x r0_0 = x := by
  funext i
  refine congrArg x ?_
  funext a
  apply Fin.ext
  rw [Rect.idx_unit_val]
  fin_cases a <;> simp

theorem load2 (x : Vec Ideal S1x512 .f32) : View.ld (Val := Elt Ideal) x r0_3 = x := by
  funext i
  refine congrArg x ?_
  funext a
  apply Fin.ext
  rw [Rect.idx_unit_val]
  fin_cases a <;> simp

theorem load7 (x : Vec Ideal S256x512 .f32) : View.ld (Val := Elt Ideal) x r0_25 = x := by
  funext i
  refine congrArg x ?_
  funext a
  apply Fin.ext
  rw [Rect.idx_unit_val]
  fin_cases a <;> simp

/-- Row `k` of an array of `N` rows. -/
theorem row_apply {N : ℕ} (x : Vec Ideal (Shape.mk 2 ![N, 512]) .f32) (k : Fin N)
    (h : ∀ a, ![k.val, 0] a + S1x512.size a ≤ (Shape.mk 2 ![N, 512]).size a) (j : Fin 512) :
    View.ld (Val := Elt Ideal) x (Rect.unit (s := Shape.mk 2 ![N, 512]) ![k.val, 0] S1x512.size h) (ix2 0 j) = x (ix2 k j) := by
  refine congrArg x ?_
  funext a
  apply Fin.ext
  rw [Rect.idx_unit_val]
  fin_cases a <;> simp [ix2]

/-! ### One store each -/

theorem whole_piece {φ : EltTy} (p : Vec Ideal S512x512 φ) (y : S512x512.Idx) :
    View.canon (Val := Elt Ideal) [⟨r0_4, p⟩] y = p y := by
  refine View.canon_apply_of_pieces (fun i => p i) _ ?_ y
    (View.cover_of_tiledL (s := S512x512) _ S512x512.size (by sl_kernel_rfl) _)
  intro pc hp y
  obtain rfl := List.mem_singleton.1 hp
  refine congrArg p (funext fun a => Fin.ext ?_)
  refine Eq.symm (Eq.trans (ValueKit.rect_emb_unit_val (s := S512x512) ![0, 0] S512x512.size inb_S512x512_S512x512_0_0 y a) ?_)
  fin_cases a <;> simp

theorem four_pieces (p0 p1 p2 p3 : Vec Ideal S128x512 .bf16) (Y : Fin 512 → Fin 512 → EReal)
    (h0 : ∀ n j, p0 (ix2 n j) = Y (at4 0 n) j) (h1 : ∀ n j, p1 (ix2 n j) = Y (at4 1 n) j)
    (h2 : ∀ n j, p2 (ix2 n j) = Y (at4 2 n) j) (h3 : ∀ n j, p3 (ix2 n j) = Y (at4 3 n) j) (r j : Fin 512) :
    View.canon (Val := Elt Ideal) [⟨r0_22, p3⟩, ⟨r0_16, p2⟩, ⟨r0_11, p1⟩, ⟨r0_7, p0⟩] (ix2 r j) = Y r j := by
  refine (View.canon_apply_of_pieces (fun i : S512x512.Idx => Y (i 0) (i 1)) _ ?_ _ (cover0_8 p3 p2 p1 p0 _)).trans rfl
  intro pc hp y
  simp only [List.mem_cons, List.not_mem_nil, or_false] at hp
  rcases hp with rfl | rfl | rfl | rfl <;> revert y <;> intro (y : S128x512.Idx) <;>
    obtain ⟨n, j, rfl⟩ : ∃ (n : Fin 128) (j : Fin 512), y = ix2 n j := ⟨y 0, y 1, eq_ix2 y⟩
  · exact (h3 n j).trans (congrArg₂ Y
      (Fin.ext (Eq.symm ((ValueKit.rect_emb_unit_val (s := S512x512) ![384, 0] S128x512.size inb_S512x512_S128x512_384_0 (ix2 n j) 0).trans (by simp [at4]))))
      (Fin.ext (Eq.symm ((ValueKit.rect_emb_unit_val (s := S512x512) ![384, 0] S128x512.size inb_S512x512_S128x512_384_0 (ix2 n j) 1).trans (by simp)))))
  · exact (h2 n j).trans (congrArg₂ Y
      (Fin.ext (Eq.symm ((ValueKit.rect_emb_unit_val (s := S512x512) ![256, 0] S128x512.size inb_S512x512_S128x512_256_0 (ix2 n j) 0).trans (by simp [at4]))))
      (Fin.ext (Eq.symm ((ValueKit.rect_emb_unit_val (s := S512x512) ![256, 0] S128x512.size inb_S512x512_S128x512_256_0 (ix2 n j) 1).trans (by simp)))))
  · exact (h1 n j).trans (congrArg₂ Y
      (Fin.ext (Eq.symm ((ValueKit.rect_emb_unit_val (s := S512x512) ![128, 0] S128x512.size inb_S512x512_S128x512_128_0 (ix2 n j) 0).trans (by simp [at4]))))
      (Fin.ext (Eq.symm ((ValueKit.rect_emb_unit_val (s := S512x512) ![128, 0] S128x512.size inb_S512x512_S128x512_128_0 (ix2 n j) 1).trans (by simp)))))
  · exact (h0 n j).trans (congrArg₂ Y
      (Fin.ext (Eq.symm ((ValueKit.rect_emb_unit_val (s := S512x512) ![0, 0] S128x512.size inb_S512x512_S128x512_0_0 (ix2 n j) 0).trans (by simp [at4]))))
      (Fin.ext (Eq.symm ((ValueKit.rect_emb_unit_val (s := S512x512) ![0, 0] S128x512.size inb_S512x512_S128x512_0_0 (ix2 n j) 1).trans (by simp)))))

/-! ### The arguments, as functions -/

variable (m : (ℓ : Loc nD τ sig) → Buf (Elt Ideal) ℓ)

def X (c : Dev nD) (n : Fin 128) (p : Fin 4) (d : Fin 1024) : EReal := arr0 m c (ix3 n p d)
def W (c : Dev nD) (d : Fin 1024) (j : Fin 2560) : EReal := arr1 m c (ix3 0 d j)
def LG (c : Dev nD) (j : Fin 512) : EReal := arr2 m c (ix2 0 j)
def LB (c : Dev nD) (j : Fin 512) : EReal := arr3 m c (ix2 0 j)
def WS (c : Dev nD) (g : Fin 4) (t s : Fin 128) : EReal := arr4 m c (ix4 0 g t s)
def BS (c : Dev nD) (g : Fin 4) (t : Fin 128) : EReal := arr5 m c (ix3 0 g t)
def CW (c : Dev nD) (n : Fin 3) (j : Fin 512) : EReal := arr6 m c (ix3 0 n j)
def HS (c : Dev nD) (n : Fin 128) (k : Fin 2) (j : Fin 512) : EReal := arr7 m c (ix4 0 n k j)

theorem rows0 (c : Dev nD) (p : Fin 4) (n : Fin 128) : (fun d => blk0 m c pt (ix2 (at4 p n) d)) = X m c n p :=
  funext (block0 m c pt p n)
theorem rows1 (c : Dev nD) : (fun d j => blk1 m c pt (ix2 d j)) = W m c := by funext d j; exact block1 m c pt d j
theorem rows2 (c : Dev nD) : (fun j => blk2 m c pt (ix2 0 j)) = LG m c := funext (block2 m c pt)
theorem rows3 (c : Dev nD) : (fun j => blk3 m c pt (ix2 0 j)) = LB m c := funext (block3 m c pt)

theorem weight (c : Dev nD) (p s : Fin 4) (j : Fin 512) : blk4 m c pt (ix2 ⟨4 * p.val + s.val, by omega⟩ j) =
    WS m c ⟨j.val / 128, by omega⟩ ⟨p.val, by omega⟩ ⟨s.val, by omega⟩ := by
  refine Eq.trans ?_ (block4 m c pt p s ⟨j.val / 128, by omega⟩ ⟨j.val % 128, by omega⟩)
  exact congrArg (fun j => blk4 m c pt (ix2 _ j)) (Fin.ext (by dsimp only; omega))

theorem bias (c : Dev nD) (p : Fin 128) (j : Fin 512) : blk5 m c pt (ix2 p j) = BS m c ⟨j.val / 128, by omega⟩ p := by
  refine Eq.trans ?_ (block5 m c pt ⟨j.val / 128, by omega⟩ p ⟨j.val % 128, by omega⟩)
  exact congrArg (fun j => blk5 m c pt (ix2 _ j)) (Fin.ext (by dsimp only; omega))

/-! ### The outputs -/

/-- The rows that are mixed. -/
theorem v_apply (c : Dev nD) (p : Fin 4) (n : Fin 128) (j : Fin 512) : (dats m 0 c).arrAt 10 cfg0.N (ix2 (at4 p n) j) =
    Gate.right (X m c n p) (W m c) (LG m c) (LB m c) j := by
  refine (array10 m c _).trans ?_
  have h : out0_10 (iblk m c 0 pt) (iblk m c 1 pt) (iblk m c 2 pt) (iblk m c 3 pt) (iblk m c 4 pt) (iblk m c 5 pt)
      (iblk m c 6 pt) (iblk m c 7 pt) = View.canon (Val := Elt Ideal) [⟨r0_4, k0_pay7 (k0_pay4 (View.ld (blk0 m c pt) r0_0)
      (cols (blk1 m c pt) 1)) (k0_pay5 (View.ld (blk2 m c pt) r0_3)) (k0_pay6 (View.ld (blk3 m c pt) r0_3))⟩] := rfl
  rw [h, load0, load2, load2, whole_piece]
  refine (mixed_apply _ _ _ _ _ _).trans ?_
  rw [rows0, rows1, rows2, rows3]

/-- The rows before the convolution. -/
theorem e_apply (c : Dev nD) (p : Fin 4) (n : Fin 128) (j : Fin 512) : (dats m 0 c).arrAt 11 cfg0.N (ix2 (at4 p n) j) =
    Gate.pre (X m c n p) (W m c) j := by
  refine (array11 m c _).trans ?_
  have h : out0_11 (iblk m c 0 pt) (iblk m c 1 pt) (iblk m c 2 pt) (iblk m c 3 pt) (iblk m c 4 pt) (iblk m c 5 pt)
      (iblk m c 6 pt) (iblk m c 7 pt) = View.canon (Val := Elt Ideal) [⟨r0_4, k0_pay15 (k0_pay2 (View.ld (blk0 m c pt) r0_0))
      (cols (blk1 m c pt) 3) (cols (blk1 m c pt) 4)⟩] := rfl
  rw [h, load0, whole_piece]
  refine (pre_apply _ _ _ _).trans ?_
  rw [rows0, rows1]

/-- The gated convolution. -/
theorem b_apply (c : Dev nD) (p : Fin 4) (n : Fin 128) (j : Fin 512) : (dats m 0 c).arrAt 9 cfg0.N (ix2 (at4 p n) j) =
    Gate.convolvedFew (HS m c n) (X m c n) (W m c) (CW m c) p j := by
  refine (array9 m c _).trans ?_
  have h : out0_9 (iblk m c 0 pt) (iblk m c 1 pt) (iblk m c 2 pt) (iblk m c 3 pt) (iblk m c 4 pt) (iblk m c 5 pt)
      (iblk m c 6 pt) (iblk m c 7 pt) = View.canon (Val := Elt Ideal) [⟨r0_4, k0_pay1 (k0_pay2 (View.ld (blk0 m c pt) r0_0))
      (k0_pay15 (k0_pay2 (View.ld (blk0 m c pt) r0_0)) (cols (blk1 m c pt) 3) (cols (blk1 m c pt) 4))
      (k0_pay16 (View.ld (blk7 m c pt) r0_25)) (k0_pay17 (View.ld (blk7 m c pt) r0_25))
      (k0_pay18 (k0_pay2 (View.ld (blk0 m c pt) r0_0)) (cols (blk1 m c pt) 3) (cols (blk1 m c pt) 4))
      (View.ld (blk6 m c pt) r0_26) (View.ld (blk6 m c pt) r0_27) (View.ld (blk6 m c pt) r0_28) (cols (blk1 m c pt) 2)⟩] := rfl
  rw [h, load0, load7, whole_piece]
  refine (conv_apply _ _ _ _ _ _ _ _).trans ?_
  rw [conv3_apply _ _ _ _ _ (HS m c n) (X m c n) (W m c) n (fun p j => by rw [pre_apply, rows0, rows1])
    (fun k j => (kept_apply _ _ _).trans (block7 m c pt k n j)), rows0, rows1]
  unfold Gate.convolvedFew
  have w0 := (row_apply (N := 3) (blk6 m c pt) 0 inb_S3x512_S1x512_0_0 j).trans (block6 m c pt 0 j)
  have w1 := (row_apply (N := 3) (blk6 m c pt) 1 inb_S3x512_S1x512_1_0 j).trans (block6 m c pt 1 j)
  have w2 := (row_apply (N := 3) (blk6 m c pt) 2 inb_S3x512_S1x512_2_0 j).trans (block6 m c pt 2 j)
  exact congrArg (_ * ·) (congrArg₂ (· + ·) (congrArg₂ (· + ·) (congrArg (_ * ·) w2) (congrArg (_ * ·) w1)) (congrArg (_ * ·) w0))

/-- The gated rows. -/
theorem a_apply (c : Dev nD) (p : Fin 4) (n : Fin 128) (j : Fin 512) : (dats m 0 c).arrAt 8 cfg0.N (ix2 (at4 p n) j) =
    Gate.gatedFew (X m c n) (W m c) (LG m c) (LB m c) (WS m c) (BS m c) p j := by
  refine (array8 m c _).trans ?_
  have h : out0_8 (iblk m c 0 pt) (iblk m c 1 pt) (iblk m c 2 pt) (iblk m c 3 pt) (iblk m c 4 pt) (iblk m c 5 pt)
      (iblk m c 6 pt) (iblk m c 7 pt) = View.canon (Val := Elt Ideal)
      [⟨r0_22, k0_pay14 (k0_pay3 (View.ld (blk0 m c pt) r0_0) (cols (blk1 m c pt) 0)) (k0_pay7 (k0_pay4 (View.ld (blk0 m c pt) r0_0) (cols (blk1 m c pt) 1)) (k0_pay5 (View.ld (blk2 m c pt) r0_3)) (k0_pay6 (View.ld (blk3 m c pt) r0_3))) (k0_pay13 (View.ld (blk5 m c pt) r0_17)) (View.ld (blk4 m c pt) r0_18) (View.ld (blk4 m c pt) r0_19) (View.ld (blk4 m c pt) r0_20) (View.ld (blk4 m c pt) r0_21)⟩,
      ⟨r0_16, k0_pay12 (k0_pay3 (View.ld (blk0 m c pt) r0_0) (cols (blk1 m c pt) 0)) (k0_pay7 (k0_pay4 (View.ld (blk0 m c pt) r0_0) (cols (blk1 m c pt) 1)) (k0_pay5 (View.ld (blk2 m c pt) r0_3)) (k0_pay6 (View.ld (blk3 m c pt) r0_3))) (View.ld (blk5 m c pt) r0_12) (View.ld (blk4 m c pt) r0_13) (View.ld (blk4 m c pt) r0_14) (View.ld (blk4 m c pt) r0_15)⟩,
      ⟨r0_11, k0_pay11 (k0_pay3 (View.ld (blk0 m c pt) r0_0) (cols (blk1 m c pt) 0)) (k0_pay7 (k0_pay4 (View.ld (blk0 m c pt) r0_0) (cols (blk1 m c pt) 1)) (k0_pay5 (View.ld (blk2 m c pt) r0_3)) (k0_pay6 (View.ld (blk3 m c pt) r0_3))) (k0_pay9 (View.ld (blk5 m c pt) r0_8)) (k0_pay10 (k0_pay4 (View.ld (blk0 m c pt) r0_0) (cols (blk1 m c pt) 1)) (k0_pay5 (View.ld (blk2 m c pt) r0_3)) (k0_pay6 (View.ld (blk3 m c pt) r0_3)) (View.ld (blk4 m c pt) r0_9)) (View.ld (blk4 m c pt) r0_10)⟩,
      ⟨r0_7, k0_pay8 (k0_pay3 (View.ld (blk0 m c pt) r0_0) (cols (blk1 m c pt) 0)) (k0_pay4 (View.ld (blk0 m c pt) r0_0) (cols (blk1 m c pt) 1)) (k0_pay5 (View.ld (blk2 m c pt) r0_3)) (k0_pay6 (View.ld (blk3 m c pt) r0_3)) (View.ld (blk5 m c pt) r0_5) (View.ld (blk4 m c pt) r0_6)⟩] := rfl
  rw [h, load0, load2, load2]
  have hu : ∀ p n j, k0_pay3 (blk0 m c pt) (cols (blk1 m c pt) 0) (ix2 (at4 p n) j) = Gate.left (X m c n p) (W m c) j :=
    fun p n j => by rw [gates_apply, rows0, rows1]
  have hv : ∀ p n j, k0_pay7 (k0_pay4 (blk0 m c pt) (cols (blk1 m c pt) 1)) (k0_pay5 (blk2 m c pt)) (k0_pay6 (blk3 m c pt))
      (ix2 (at4 p n) j) = Gate.right (X m c n p) (W m c) (LG m c) (LB m c) j :=
    fun p n j => by refine (mixed_apply _ _ _ _ _ _).trans ?_; rw [rows0, rows1, rows2, rows3]
  have hb : ∀ (k : Fin 4) (h) (j : Fin 512), View.ld (Val := Elt Ideal) (blk5 m c pt) (Rect.unit (s := S128x512) ![k.val, 0] S1x512.size h)
      (ix2 0 j) = BS m c ⟨j.val / 128, by omega⟩ ⟨k.val, by omega⟩ :=
    fun k h j => (row_apply (N := 128) (blk5 m c pt) ⟨k.val, by omega⟩ h j).trans (bias m c _ j)
  have hw : ∀ (p s : Fin 4) (h) (j : Fin 512), View.ld (Val := Elt Ideal) (blk4 m c pt)
      (Rect.unit (s := S16x512) ![4 * p.val + s.val, 0] S1x512.size h) (ix2 0 j) =
      WS m c ⟨j.val / 128, by omega⟩ ⟨p.val, by omega⟩ ⟨s.val, by omega⟩ :=
    fun p s h j => (row_apply (N := 16) (blk4 m c pt) ⟨4 * p.val + s.val, by omega⟩ h j).trans (weight m c p s j)
  obtain ⟨Y, hY⟩ : ∃ Y : Fin 512 → Fin 512 → EReal, ∀ p n j, Y (at4 p n) j =
      Gate.gatedFew (X m c n) (W m c) (LG m c) (LB m c) (WS m c) (BS m c) p j := by
    refine ⟨fun r j => Gate.gatedFew (X m c ⟨r.val % 128, by omega⟩) (W m c) (LG m c) (LB m c) (WS m c) (BS m c)
      ⟨r.val / 128, by omega⟩ j, fun p n j => ?_⟩
    have e1 : (⟨(at4 p n).val % 128, by omega⟩ : Fin 128) = n := Fin.ext (by dsimp only [at4]; omega)
    have e2 : (⟨(at4 p n).val / 128, by omega⟩ : Fin 4) = p := Fin.ext (by dsimp only [at4]; omega)
    simp only [e1, e2]
  refine (four_pieces _ _ _ _ Y ?_ ?_ ?_ ?_ (at4 p n) j).trans (hY p n j) <;> clear p n j <;> intro n j <;> rw [hY] <;>
    unfold Gate.gatedFew Gate.mixFew
  · refine (gate0 _ _ _ _ _ _ n j).trans (congrArg₂ (· * ·) (hu 0 n j) ?_)
    rw [hv 0 n j, Fin.sum_univ_four]
    refine (congrArg₂ (· + ·) (hb 0 _ j) (congrArg (· * _) (hw 0 0 _ j))).trans ?_
    simp
    ac_rfl
  · refine (gate1 _ _ _ _ _ _ _ n j).trans (congrArg₂ (· * ·) (hu 1 n j) ?_)
    rw [hv 0 n j, hv 1 n j, Fin.sum_univ_four]
    refine (congrArg₂ (· + ·) (congrArg₂ (· + ·) (hb 1 _ j) (congrArg (· * _) (hw 1 0 _ j))) (congrArg (· * _) (hw 1 1 _ j))).trans ?_
    simp
    ac_rfl
  · refine (gate2 _ _ _ _ _ _ n j).trans (congrArg₂ (· * ·) (hu 2 n j) ?_)
    rw [hv 0 n j, hv 1 n j, hv 2 n j, Fin.sum_univ_four]
    refine (congrArg₂ (· + ·) (congrArg₂ (· + ·) (congrArg₂ (· + ·) (hb 2 _ j) (congrArg (· * _) (hw 2 0 _ j)))
      (congrArg (· * _) (hw 2 1 _ j))) (congrArg (· * _) (hw 2 2 _ j))).trans ?_
    simp
    ac_rfl
  · refine (gate3 _ _ _ _ _ _ _ n j).trans (congrArg₂ (· * ·) (hu 3 n j) ?_)
    rw [hv 0 n j, hv 1 n j, hv 2 n j, hv 3 n j, Fin.sum_univ_four]
    refine (congrArg₂ (· + ·) (congrArg₂ (· + ·) (congrArg₂ (· + ·) (congrArg₂ (· + ·) (hb 3 _ j) (congrArg (· * _) (hw 3 0 _ j)))
      (congrArg (· * _) (hw 3 1 _ j))) (congrArg (· * _) (hw 3 2 _ j))) (congrArg (· * _) (hw 3 3 _ j))).trans ?_
    simp
    ac_rfl

end Cert.Kernel5Ideal.Smp

end
-- ==== Proof.Smp.Ref.lean ====
/-
  The reference's terms read at one element: the same row functions.
-/
module

public import proofs.«01_k».proof.Proof.Smp.Spec
public import proofs.«01_k».proof.Proof.Gen.Reference5Ideal.Run
public import Idealize.ShloMosaic.Lib.Pointwise

@[expose] public section

set_option maxRecDepth 16384

noncomputable section

namespace Cert.Reference5Ideal.Smp

open Cert.Reference5Ideal Cert.Reference5Ideal.Gen Cert.Reference5Ideal.Value
open Idealize.ShloMosaic Idealize.ShloMosaic.TcCoe Idealize.SL.Sem Idealize.ShloMosaic.StableHlo

/-! ### The projection and its sections -/

/-- Every row's projection. -/
def tproj (x : FVec Ideal S128x4x1024 .f32) (w : FVec Ideal S1x1024x2560 .f32) : FVec Ideal S128x4x2560 .f32 :=
  Host.dotGeneral dot_S128x4x1024_S1024x2560_S128x4x2560_2_0_01_1_n_n none x
    (shapeCast _ w shapeCasts_S1x1024x2560_S1024x2560)

theorem tproj_apply (x : FVec Ideal S128x4x1024 .f32) (w : FVec Ideal S1x1024x2560 .f32) (b : Fin 128) (p : Fin 4)
    (j : Fin 2560) : tproj x w (ix3 b p j) = ∑ d, x (ix3 b p d) * w (ix3 0 d j) := by
  pointwise [tproj]

def tsect0 (h : FVec Ideal S128x4x2560 .f32) : FVec Ideal S128x4x512 .f32 :=
  extractStridedSlice S128x4x512 ![0, 0, 0] h slices_S128x4x2560_S128x4x512_0_0_0
def tsect1 (h : FVec Ideal S128x4x2560 .f32) : FVec Ideal S128x4x512 .f32 :=
  extractStridedSlice S128x4x512 ![0, 0, 512] h slices_S128x4x2560_S128x4x512_0_0_512
def tsect2 (h : FVec Ideal S128x4x2560 .f32) : FVec Ideal S128x4x512 .f32 :=
  extractStridedSlice S128x4x512 ![0, 0, 1024] h slices_S128x4x2560_S128x4x512_0_0_1024
def tsect3 (h : FVec Ideal S128x4x2560 .f32) : FVec Ideal S128x4x512 .f32 :=
  extractStridedSlice S128x4x512 ![0, 0, 1536] h slices_S128x4x2560_S128x4x512_0_0_1536
def tsect4 (h : FVec Ideal S128x4x2560 .f32) : FVec Ideal S128x4x512 .f32 :=
  extractStridedSlice S128x4x512 ![0, 0, 2048] h slices_S128x4x2560_S128x4x512_0_0_2048

theorem tsect0_apply (x : FVec Ideal S128x4x1024 .f32) (w : FVec Ideal S1x1024x2560 .f32) (b : Fin 128) (p : Fin 4)
    (j : Fin 512) : tsect0 (tproj x w) (ix3 b p j) = Gate.sect (fun d => x (ix3 b p d)) (fun d j => w (ix3 0 d j)) 0 j := by
  pointwise [tsect0, tproj_apply, Gate.sect]
theorem tsect1_apply (x : FVec Ideal S128x4x1024 .f32) (w : FVec Ideal S1x1024x2560 .f32) (b : Fin 128) (p : Fin 4)
    (j : Fin 512) : tsect1 (tproj x w) (ix3 b p j) = Gate.sect (fun d => x (ix3 b p d)) (fun d j => w (ix3 0 d j)) 1 j := by
  pointwise [tsect1, tproj_apply, Gate.sect]
theorem tsect2_apply (x : FVec Ideal S128x4x1024 .f32) (w : FVec Ideal S1x1024x2560 .f32) (b : Fin 128) (p : Fin 4)
    (j : Fin 512) : tsect2 (tproj x w) (ix3 b p j) = Gate.sect (fun d => x (ix3 b p d)) (fun d j => w (ix3 0 d j)) 2 j := by
  pointwise [tsect2, tproj_apply, Gate.sect]
theorem tsect3_apply (x : FVec Ideal S128x4x1024 .f32) (w : FVec Ideal S1x1024x2560 .f32) (b : Fin 128) (p : Fin 4)
    (j : Fin 512) : tsect3 (tproj x w) (ix3 b p j) = Gate.sect (fun d => x (ix3 b p d)) (fun d j => w (ix3 0 d j)) 3 j := by
  pointwise [tsect3, tproj_apply, Gate.sect]
theorem tsect4_apply (x : FVec Ideal S128x4x1024 .f32) (w : FVec Ideal S1x1024x2560 .f32) (b : Fin 128) (p : Fin 4)
    (j : Fin 512) : tsect4 (tproj x w) (ix3 b p j) = Gate.sect (fun d => x (ix3 b p d)) (fun d j => w (ix3 0 d j)) 4 j := by
  pointwise [tsect4, tproj_apply, Gate.sect]

/-! ### The activation and the normalisation -/

def tgelu (h : FVec Ideal S128x4x512 .f32) : FVec Ideal S128x4x512 .f32 :=
  mulf h (mulf (broadcastInDim S128x4x512 ![] bcast_S_S128x4x512 (constant S_ .f32 0x3F000000#32))
    (addf (broadcastInDim S128x4x512 ![] bcast_S_S128x4x512 (constant S_ .f32 0x3F800000#32))
      (Host.tanh (mulf (broadcastInDim S128x4x512 ![] bcast_S_S128x4x512 (constant S_ .f32 0x3F4C422A#32))
        (addf h (mulf (broadcastInDim S128x4x512 ![] bcast_S_S128x4x512 (constant S_ .f32 0x3D372713#32))
          (mulf (mulf h h) h)))))))

theorem tgelu_apply (h : FVec Ideal S128x4x512 .f32) (b : Fin 128) (p : Fin 4) (j : Fin 512) :
    tgelu h (ix3 b p j) = Gate.gelu (h (ix3 b p j)) := by
  pointwise [tgelu, Gate.gelu]

def tmean (v : FVec Ideal S128x4x512 .f32) : FVec Ideal S128x4x1 .f32 :=
  Host.divf (broadcastInDim S128x4x1 ![0, 1] bcast_S128x4_S128x4x1_0_1 (Host.reduceAdd v (constant S_ .f32 0x00000000#32)
    reducesTo_S128x4x512_S128x4_d2 h_S_)) (broadcastInDim S128x4x1 ![] bcast_S_S128x4x1 (constant S_ .f32 0x44000000#32))

def tcentred (v : FVec Ideal S128x4x512 .f32) : FVec Ideal S128x4x512 .f32 :=
  subf v (broadcastInDim S128x4x512 ![0, 1, 2] bcast_S128x4x1_S128x4x512_0_1_2 (tmean v))

/-- A vector on every row. -/
def twide (v : FVec Ideal S512 .f32) : FVec Ideal S128x4x512 .f32 :=
  broadcastInDim S128x4x512 ![0, 1, 2] bcast_S1x1x512_S128x4x512_0_1_2 (broadcastInDim S1x1x512 ![2] bcast_S512_S1x1x512_2 v)

def tnorm (v : FVec Ideal S128x4x512 .f32) (g s : FVec Ideal S1x512 .f32) : FVec Ideal S128x4x512 .f32 :=
  addf (mulf (mulf (tcentred v) (broadcastInDim S128x4x512 ![0, 1, 2] bcast_S128x4x1_S128x4x512_0_1_2
    (Host.rsqrt (addf (tmean (mulf (tcentred v) (tcentred v)))
      (broadcastInDim S128x4x1 ![] bcast_S_S128x4x1 (constant S_ .f32 0x3727C5AC#32))))))
    (twide (shapeCast _ g shapeCasts_S1x512_S512))) (twide (shapeCast _ s shapeCasts_S1x512_S512))

theorem tmean_apply (v : FVec Ideal S128x4x512 .f32) (b : Fin 128) (p : Fin 4) :
    tmean v (ix3 b p 0) = Gate.mean fun d => v (ix3 b p d) := by
  pointwise [tmean, Gate.mean, Gate.count]

theorem tcentred_apply (v : FVec Ideal S128x4x512 .f32) (b : Fin 128) (p : Fin 4) (j : Fin 512) :
    tcentred v (ix3 b p j) = v (ix3 b p j) - Gate.mean fun d => v (ix3 b p d) := by
  pointwise [tcentred, tmean_apply]

theorem tnorm_apply (v : FVec Ideal S128x4x512 .f32) (g s : FVec Ideal S1x512 .f32) (b : Fin 128) (p : Fin 4) (j : Fin 512) :
    tnorm v g s (ix3 b p j) = Gate.norm (fun d => v (ix3 b p d)) (fun d => g (ix2 0 d)) (fun d => s (ix2 0 d)) j := by
  pointwise [tnorm, twide, tcentred_apply, tmean_apply, Gate.norm, Gate.eps]

/-! ### The gate -/

/-- The rows by chunks and groups. -/
def tchunks (v : FVec Ideal S128x128x512 .f32) : FVec Ideal S128x1x128x4x128 .f32 :=
  shapeCast _ v shapeCasts_S128x128x512_S128x1x128x4x128

theorem tchunks_apply (v : FVec Ideal S128x128x512 .f32) (b : Fin 128) (k : Fin 1) (t : Fin 128) (g : Fin 4) (l : Fin 128) :
    tchunks v (ix5 b k t g l) = v (ix3 b ⟨128 * k.val + t.val, by omega⟩ ⟨128 * g.val + l.val, by omega⟩) := by
  pointwise [tchunks]
  simp only [Nat.mul_comm _ 128]

/-- The weights under the diagonal. -/
def tlower (ws : FVec Ideal S1x4x128x128 .f32) : FVec Ideal S4x128x128 .f32 :=
  select (broadcastInDim S4x128x128 ![0, 1, 2] bcast_S1x128x128_S4x128x128_0_1_2 (broadcastInDim S1x128x128 ![1, 2]
    bcast_S128x128_S1x128x128_1_2 (select (cmpi .sge (addi (iotaInDim S128x128 32 0)
      (broadcastInDim S128x128 ![] bcast_S_S128x128 (constantI S_ 32 0#32))) (iotaInDim S128x128 32 1))
      (broadcastInDim S128x128 ![] bcast_S_S128x128 (constantI S_ 1 1#1))
      (broadcastInDim S128x128 ![] bcast_S_S128x128 (constantI S_ 1 0#1)))))
    (shapeCast _ ws shapeCasts_S1x4x128x128_S4x128x128)
    (broadcastInDim S4x128x128 ![] bcast_S_S4x128x128 (constant S_ .f32 0x00000000#32))

theorem mask (t s : Fin 128) (a b : EReal) :
    Scalar.select (α := EReal) (Scalar.select (IntOp.cmpi .sge (IntOp.addi (BitVec.ofNat 32 t.val) 0#32) (BitVec.ofNat 32 s.val)) 1#1 0#1) a b =
      if s.val ≤ t.val then a else b := by
  have h : ∀ t s : Fin 128, IntOp.cmpi .sge (IntOp.addi (BitVec.ofNat 32 t.val) 0#32) (BitVec.ofNat 32 s.val) =
      if s.val ≤ t.val then 1#1 else 0#1 := by
    decide +kernel
  rw [h]
  split_ifs <;> rfl

theorem tlower_apply (ws : FVec Ideal S1x4x128x128 .f32) (g : Fin 4) (t s : Fin 128) :
    tlower ws (ix3 g t s) = if s.val ≤ t.val then ws (ix4 0 g t s) else 0 := by
  pointwise [tlower]
  exact mask t s _ _

def tdot (v : FVec Ideal S128x1x128x4x128 .f32) (w : FVec Ideal S4x128x128 .f32) : FVec Ideal S4x128x1x128x128 .f32 :=
  Host.dotGeneral dot_S128x1x128x4x128_S4x128x128_S4x128x1x128x128_2_2_014_1_3_0 none v w

theorem tdot_apply (v : FVec Ideal S128x1x128x4x128 .f32) (w : FVec Ideal S4x128x128 .f32) (g : Fin 4) (b : Fin 128) (k : Fin 1)
    (l t : Fin 128) : tdot v w (ix5 g b k l t) = ∑ s : Fin 128, v (ix5 b k s g l) * w (ix3 g t s) := by
  pointwise [tdot]

/-- The mixed rows, with the biases, by chunks and groups. -/
def tmixed (d : FVec Ideal S4x128x1x128x128 .f32) (bs : FVec Ideal S1x4x128 .f32) : FVec Ideal S128x1x128x4x128 .f32 :=
  addf (transpose S128x1x128x4x128 [1, 2, 4, 0, 3] d transposes_S4x128x1x128x128_S128x1x128x4x128_1_2_4_0_3)
    (broadcastInDim S128x1x128x4x128 ![0, 1, 2, 3, 4] bcast_S1x1x128x4x1_S128x1x128x4x128_0_1_2_3_4
      (broadcastInDim S1x1x128x4x1 ![2, 3, 4] bcast_S128x4x1_S1x1x128x4x1_2_3_4 (broadcastInDim S128x4x1 ![0, 1]
        bcast_S128x4_S128x4x1_0_1 (transpose S128x4 [1, 0] (shapeCast _ bs shapeCasts_S1x4x128_S4x128)
          transposes_S4x128_S128x4_1_0))))

theorem tmixed_apply (d : FVec Ideal S4x128x1x128x128 .f32) (bs : FVec Ideal S1x4x128 .f32) (b : Fin 128) (k : Fin 1) (t : Fin 128)
    (g : Fin 4) (l : Fin 128) : tmixed d bs (ix5 b k t g l) = d (ix5 g b k l t) + bs (ix3 0 g t) := by
  rw [Subsingleton.elim k 0]
  pointwise [tmixed]

/-- Rows again. -/
def tflat (v : FVec Ideal S128x1x128x4x128 .f32) : FVec Ideal S128x128x512 .f32 := shapeCast _ v shapeCasts_S128x1x128x4x128_S128x128x512

theorem tflat_apply (v : FVec Ideal S128x1x128x4x128 .f32) (b : Fin 128) (p : Fin 128) (j : Fin 512) :
    tflat v (ix3 b p j) = v (ix5 b 0 p ⟨j.val / 128, by omega⟩ ⟨j.val % 128, by omega⟩) := by
  pointwise [tflat]

/-- Four rows under a chunk's worth of zeros. -/
def tpad (v : FVec Ideal S128x4x512 .f32) : FVec Ideal S128x128x512 .f32 :=
  concatenate S128x128x512 1 [⟨S128x4x512, v⟩, ⟨S128x124x512, broadcastInDim S128x124x512 ![] bcast_S_S128x124x512
    (constant S_ .f32 0x00000000#32)⟩] concatenates_S128x4x512_S128x124x512_S128x128x512_d1

theorem tpad_apply (v : FVec Ideal S128x4x512 .f32) (b : Fin 128) (p : Fin 128) (j : Fin 512) :
    tpad v (ix3 b p j) = if hp : p.val < 4 then v (ix3 b ⟨p.val, hp⟩ j) else 0 := by
  pointwise [tpad]

/-- The first four rows of a product. -/
def tfirst (u v : FVec Ideal S128x128x512 .f32) : FVec Ideal S128x4x512 .f32 :=
  extractStridedSlice S128x4x512 ![0, 0, 0] (mulf u v) slices_S128x128x512_S128x4x512_0_0_0

theorem tfirst_apply (u v : FVec Ideal S128x128x512 .f32) (b : Fin 128) (p : Fin 4) (j : Fin 512) :
    tfirst u v (ix3 b p j) = u (ix3 b ⟨p.val, by omega⟩ j) * v (ix3 b ⟨p.val, by omega⟩ j) := by
  pointwise [tfirst]

/-- Rows in time-major order: row `128 p + b` is row `p` of sequence `b`. -/
def ttm (v : FVec Ideal S128x4x512 .f32) : FVec Ideal S512x512 .f32 :=
  shapeCast _ (transpose S4x128x512 [1, 0, 2] v transposes_S128x4x512_S4x128x512_1_0_2) shapeCasts_S4x128x512_S512x512

theorem ttm_apply (v : FVec Ideal S128x4x512 .f32) (b : Fin 128) (p : Fin 4) (j : Fin 512) :
    ttm v (ix2 ⟨128 * p.val + b.val, by omega⟩ j) = v (ix3 b p j) := by
  pointwise [ttm]

def tout (v : FVec Ideal S128x4x512 .f32) : FVec Ideal S512x512 .bf16 := truncf .bf16 (ttm v) bitsLt_bf16_f32

theorem tout_apply (v : FVec Ideal S128x4x512 .f32) (b : Fin 128) (p : Fin 4) (j : Fin 512) :
    tout v (ix2 ⟨128 * p.val + b.val, by omega⟩ j) = v (ix3 b p j) := by
  refine Eq.trans ?_ (ttm_apply v b p j)
  unfold tout
  generalize ttm v = z
  pointwise

/-- The rows that are mixed. -/
def tright (x : FVec Ideal S128x4x1024 .f32) (w : FVec Ideal S1x1024x2560 .f32) (g s : FVec Ideal S1x512 .f32) :
    FVec Ideal S128x4x512 .f32 := tnorm (tgelu (tsect1 (tproj x w))) g s

theorem tright_apply (x : FVec Ideal S128x4x1024 .f32) (w : FVec Ideal S1x1024x2560 .f32) (g s : FVec Ideal S1x512 .f32)
    (b : Fin 128) (p : Fin 4) (j : Fin 512) : tright x w g s (ix3 b p j) =
      Gate.right (fun d => x (ix3 b p d)) (fun d j => w (ix3 0 d j)) (fun d => g (ix2 0 d)) (fun d => s (ix2 0 d)) j := by
  refine (tnorm_apply _ g s b p j).trans ?_
  unfold Gate.right
  exact congrArg (fun v => Gate.norm v _ _ j) (funext fun d => (tgelu_apply _ b p d).trans (congrArg Gate.gelu (tsect1_apply x w b p d)))

/-- The gated rows. -/
def ta (x : FVec Ideal S128x4x1024 .f32) (w : FVec Ideal S1x1024x2560 .f32) (g s : FVec Ideal S1x512 .f32)
    (ws : FVec Ideal S1x4x128x128 .f32) (bs : FVec Ideal S1x4x128 .f32) : FVec Ideal S512x512 .bf16 :=
  tout (tfirst (tpad (tgelu (tsect0 (tproj x w)))) (tflat (tmixed (tdot (tchunks (tpad (tright x w g s))) (tlower ws)) bs)))

theorem ta_apply (x : FVec Ideal S128x4x1024 .f32) (w : FVec Ideal S1x1024x2560 .f32) (g s : FVec Ideal S1x512 .f32)
    (ws : FVec Ideal S1x4x128x128 .f32) (bs : FVec Ideal S1x4x128 .f32) (b : Fin 128) (p : Fin 4) (j : Fin 512) :
    ta x w g s ws bs (ix2 ⟨128 * p.val + b.val, by omega⟩ j) = Gate.gatedFew (fun p d => x (ix3 b p d)) (fun d j => w (ix3 0 d j))
      (fun d => g (ix2 0 d)) (fun d => s (ix2 0 d)) (fun g t s => ws (ix4 0 g t s)) (fun g t => bs (ix3 0 g t)) p j := by
  refine (tout_apply _ b p j).trans ((tfirst_apply _ _ b p j).trans ?_)
  unfold Gate.gatedFew Gate.mixFew Gate.left
  refine congrArg₂ (· * ·) ((tpad_apply _ b _ j).trans ((dif_pos p.isLt).trans
    ((tgelu_apply _ b p j).trans (congrArg Gate.gelu (tsect0_apply x w b p j))))) ?_
  rw [tflat_apply, tmixed_apply, tdot_apply]
  refine congrArg (· + _) ?_
  simp only [tlower_apply, tchunks_apply, mul_comm (tpad _ _)]
  refine (Gate.sum_few _ _ fun t ht => (tpad_apply _ b _ _).trans (dif_neg (by simp <;> omega))).trans
    (Finset.sum_congr rfl fun t _ => congrArg₂ (· * ·) rfl ?_)
  refine (tpad_apply _ b _ _).trans ((dif_pos (by simp <;> omega)).trans ?_)
  refine Eq.trans ?_ (tright_apply x w g s b t j)
  refine congrArg (tright x w g s) ?_
  congr 1 <;> exact Fin.ext (by simp <;> omega)

/-! ### The convolution -/

/-- The rows before the convolution, and with the two kept. -/
def tpre (x : FVec Ideal S128x4x1024 .f32) (w : FVec Ideal S1x1024x2560 .f32) : FVec Ideal S128x4x512 .f32 :=
  mulf (tsect3 (tproj x w)) (tsect4 (tproj x w))

theorem tpre_apply (x : FVec Ideal S128x4x1024 .f32) (w : FVec Ideal S1x1024x2560 .f32) (b : Fin 128) (p : Fin 4)
    (j : Fin 512) : tpre x w (ix3 b p j) = Gate.pre (fun d => x (ix3 b p d)) (fun d j => w (ix3 0 d j)) j := by
  pointwise [tpre, tsect3_apply, tsect4_apply, Gate.pre]

def text (h : FVec Ideal S1x128x2x512 .f32) (e : FVec Ideal S128x4x512 .f32) : FVec Ideal S128x6x512 .f32 :=
  concatenate S128x6x512 1 [⟨S128x2x512, shapeCast _ h shapeCasts_S1x128x2x512_S128x2x512⟩, ⟨S128x4x512, e⟩]
    concatenates_S128x2x512_S128x4x512_S128x6x512_d1

theorem text_apply (h : FVec Ideal S1x128x2x512 .f32) (e : FVec Ideal S128x4x512 .f32) (b : Fin 128) (q : Fin 6) (j : Fin 512) :
    text h e (ix3 b q j) = if hq : q.val < 2 then h (ix4 0 b ⟨q.val, hq⟩ j) else e (ix3 b ⟨q.val - 2, by omega⟩ j) := by
  pointwise [text]

theorem text_row (h : FVec Ideal S1x128x2x512 .f32) (x : FVec Ideal S128x4x1024 .f32) (w : FVec Ideal S1x1024x2560 .f32)
    (b : Fin 128) (q : Fin 6) (j : Fin 512) : text h (tpre x w) (ix3 b q j) =
      Gate.rowsFew (fun k j => h (ix4 0 b k j)) (fun p d => x (ix3 b p d)) (fun d j => w (ix3 0 d j)) q j := by
  rw [text_apply]
  unfold Gate.rowsFew
  split_ifs
  · rfl
  · exact tpre_apply x w b _ j

def ttaps (cw : FVec Ideal S1x3x512 .f32) : FVec Ideal S3x512 .f32 := shapeCast _ cw shapeCasts_S1x3x512_S3x512

def tconv (u : FVec Ideal S128x6x512 .f32) (cw : FVec Ideal S3x512 .f32) : FVec Ideal S128x4x512 .f32 :=
  addf (addf
    (mulf (extractStridedSlice S128x4x512 ![0, 2, 0] u slices_S128x6x512_S128x4x512_0_2_0)
      (twide (shapeCast _ (extractStridedSlice S1x512 ![2, 0] cw slices_S3x512_S1x512_2_0) shapeCasts_S1x512_S512)))
    (mulf (extractStridedSlice S128x4x512 ![0, 0, 0] u slices_S128x6x512_S128x4x512_0_0_0)
      (twide (shapeCast _ (extractStridedSlice S1x512 ![0, 0] cw slices_S3x512_S1x512_0_0) shapeCasts_S1x512_S512))))
    (mulf (extractStridedSlice S128x4x512 ![0, 1, 0] u slices_S128x6x512_S128x4x512_0_1_0)
      (twide (shapeCast _ (extractStridedSlice S1x512 ![1, 0] cw slices_S3x512_S1x512_1_0) shapeCasts_S1x512_S512)))

theorem tconv_apply (u : FVec Ideal S128x6x512 .f32) (cw : FVec Ideal S1x3x512 .f32) (b : Fin 128) (p : Fin 4) (j : Fin 512) :
    tconv u (ttaps cw) (ix3 b p j) = u (ix3 b ⟨2 + p.val, by omega⟩ j) * cw (ix3 0 2 j)
      + u (ix3 b ⟨1 + p.val, by omega⟩ j) * cw (ix3 0 1 j) + u (ix3 b ⟨0 + p.val, by omega⟩ j) * cw (ix3 0 0 j) := by
  pointwise [tconv, twide, ttaps]
  rw [add_right_comm (_ * _) (_ * _) (_ * _)]

/-- A product of rows. -/
def tmul (u v : FVec Ideal S128x4x512 .f32) : FVec Ideal S128x4x512 .f32 := mulf u v

theorem tmul_apply (u v : FVec Ideal S128x4x512 .f32) (b : Fin 128) (p : Fin 4) (j : Fin 512) :
    tmul u v (ix3 b p j) = u (ix3 b p j) * v (ix3 b p j) := by
  pointwise [tmul]

/-- The gated convolution. -/
def tb (x : FVec Ideal S128x4x1024 .f32) (w : FVec Ideal S1x1024x2560 .f32) (cw : FVec Ideal S1x3x512 .f32)
    (h : FVec Ideal S1x128x2x512 .f32) : FVec Ideal S512x512 .bf16 :=
  tout (tmul (tsect2 (tproj x w)) (tconv (text h (tpre x w)) (ttaps cw)))

theorem tb_apply (x : FVec Ideal S128x4x1024 .f32) (w : FVec Ideal S1x1024x2560 .f32) (cw : FVec Ideal S1x3x512 .f32)
    (h : FVec Ideal S1x128x2x512 .f32) (b : Fin 128) (p : Fin 4) (j : Fin 512) :
    tb x w cw h (ix2 ⟨128 * p.val + b.val, by omega⟩ j) = Gate.convolvedFew (fun k j => h (ix4 0 b k j)) (fun p d => x (ix3 b p d))
      (fun d j => w (ix3 0 d j)) (fun n j => cw (ix3 0 n j)) p j := by
  refine (tout_apply _ b p j).trans ((tmul_apply _ _ b p j).trans (congrArg₂ (· * ·) (tsect2_apply x w b p j) ?_))
  rw [tconv_apply, text_row, text_row, text_row]

/-- The rows that are mixed, in time-major order. -/
def tv (x : FVec Ideal S128x4x1024 .f32) (w : FVec Ideal S1x1024x2560 .f32) (g s : FVec Ideal S1x512 .f32) :
    FVec Ideal S512x512 .f32 := ttm (tright x w g s)

theorem tv_apply (x : FVec Ideal S128x4x1024 .f32) (w : FVec Ideal S1x1024x2560 .f32) (g s : FVec Ideal S1x512 .f32)
    (b : Fin 128) (p : Fin 4) (j : Fin 512) : tv x w g s (ix2 ⟨128 * p.val + b.val, by omega⟩ j) =
      Gate.right (fun d => x (ix3 b p d)) (fun d j => w (ix3 0 d j)) (fun d => g (ix2 0 d)) (fun d => s (ix2 0 d)) j :=
  (ttm_apply _ b p j).trans (tright_apply x w g s b p j)

/-- The rows after the two kept. -/
def tlast (u : FVec Ideal S128x6x512 .f32) : FVec Ideal S128x4x512 .f32 :=
  extractStridedSlice S128x4x512 ![0, 2, 0] u slices_S128x6x512_S128x4x512_0_2_0

theorem tlast_apply (u : FVec Ideal S128x6x512 .f32) (b : Fin 128) (p : Fin 4) (j : Fin 512) :
    tlast u (ix3 b p j) = u (ix3 b ⟨2 + p.val, by omega⟩ j) := by
  pointwise [tlast]

/-- The rows convolved, in time-major order. -/
def te (x : FVec Ideal S128x4x1024 .f32) (w : FVec Ideal S1x1024x2560 .f32) (h : FVec Ideal S1x128x2x512 .f32) :
    FVec Ideal S512x512 .f32 := ttm (tlast (text h (tpre x w)))

theorem te_apply (x : FVec Ideal S128x4x1024 .f32) (w : FVec Ideal S1x1024x2560 .f32) (h : FVec Ideal S1x128x2x512 .f32)
    (b : Fin 128) (p : Fin 4) (j : Fin 512) : te x w h (ix2 ⟨128 * p.val + b.val, by omega⟩ j) =
      Gate.pre (fun d => x (ix3 b p d)) (fun d j => w (ix3 0 d j)) j := by
  refine (ttm_apply _ b p j).trans ((tlast_apply _ b p j).trans ((text_apply _ _ b _ j).trans
    ((dif_neg (by dsimp only; omega)).trans ?_)))
  refine Eq.trans ?_ (tpre_apply x w b p j)
  refine congrArg (tpre x w) ?_
  congr 1
  exact Fin.ext (by dsimp only; omega)

end Cert.Reference5Ideal.Smp

end
-- ==== Proof.Smp.Final.lean ====
/-
  The two programs' results are the same arrays.
-/
module

public import proofs.«01_k».proof.Defs
public import proofs.«01_k».proof.Proof.Smp.Point
public import proofs.«01_k».proof.Proof.Smp.Ref

@[expose] public section

set_option maxRecDepth 16384

noncomputable section

namespace Cert.Reference5Ideal.Smp

open Cert.Reference5Ideal Cert.Reference5Ideal.Gen
open Idealize.ShloMosaic Idealize.ShloMosaic.TcCoe Idealize.SL.Sem

/-- Every row of an output is row `p` of a sequence `b`. -/
theorem place (i : S512x512.Idx) : ∃ (p : Fin 4) (b : Fin 128) (j : Fin 512), i = ix2 ⟨128 * p.val + b.val, by omega⟩ j := by
  obtain ⟨r, j, rfl⟩ : ∃ (r j : Fin 512), i = ix2 r j := ⟨i 0, i 1, eq_ix2 i⟩
  refine ⟨⟨r.val / 128, by omega⟩, ⟨r.val % 128, by omega⟩, j, congrArg (fun r => ix2 r j) (Fin.ext ?_)⟩
  dsimp only
  omega

section Agree

variable (m : (ℓ : Loc Kernel5Ideal.nD Kernel5Ideal.τ Kernel5Ideal.sig) → Buf (Elt Ideal) ℓ) (c : Dev Kernel5Ideal.nD)

/-- The gated rows. -/
theorem gated_agree : ta (Kernel5Ideal.Smp.arr0 m c) (Kernel5Ideal.Smp.arr1 m c) (Kernel5Ideal.Smp.arr2 m c) (Kernel5Ideal.Smp.arr3 m c) (Kernel5Ideal.Smp.arr4 m c) (Kernel5Ideal.Smp.arr5 m c) = (Kernel5Ideal.Gen.dats m 0 c).arrAt 8 Kernel5Ideal.cfg0.N := by
  funext i
  revert i
  intro (i : S512x512.Idx)
  obtain ⟨p, b, j, rfl⟩ := place i
  exact (ta_apply (Kernel5Ideal.Smp.arr0 m c) (Kernel5Ideal.Smp.arr1 m c) (Kernel5Ideal.Smp.arr2 m c) (Kernel5Ideal.Smp.arr3 m c) (Kernel5Ideal.Smp.arr4 m c) (Kernel5Ideal.Smp.arr5 m c) b p j).trans (Kernel5Ideal.Smp.a_apply m c p b j).symm

/-- The gated convolution. -/
theorem convolved_agree : tb (Kernel5Ideal.Smp.arr0 m c) (Kernel5Ideal.Smp.arr1 m c) (Kernel5Ideal.Smp.arr6 m c) (Kernel5Ideal.Smp.arr7 m c) = (Kernel5Ideal.Gen.dats m 0 c).arrAt 9 Kernel5Ideal.cfg0.N := by
  funext i
  revert i
  intro (i : S512x512.Idx)
  obtain ⟨p, b, j, rfl⟩ := place i
  exact (tb_apply (Kernel5Ideal.Smp.arr0 m c) (Kernel5Ideal.Smp.arr1 m c) (Kernel5Ideal.Smp.arr6 m c) (Kernel5Ideal.Smp.arr7 m c) b p j).trans (Kernel5Ideal.Smp.b_apply m c p b j).symm

/-- The rows that are mixed. -/
theorem mixed_agree : tv (Kernel5Ideal.Smp.arr0 m c) (Kernel5Ideal.Smp.arr1 m c) (Kernel5Ideal.Smp.arr2 m c) (Kernel5Ideal.Smp.arr3 m c) = (Kernel5Ideal.Gen.dats m 0 c).arrAt 10 Kernel5Ideal.cfg0.N := by
  funext i
  revert i
  intro (i : S512x512.Idx)
  obtain ⟨p, b, j, rfl⟩ := place i
  exact (tv_apply (Kernel5Ideal.Smp.arr0 m c) (Kernel5Ideal.Smp.arr1 m c) (Kernel5Ideal.Smp.arr2 m c) (Kernel5Ideal.Smp.arr3 m c) b p j).trans (Kernel5Ideal.Smp.v_apply m c p b j).symm

/-- The rows convolved. -/
theorem pre_agree : te (Kernel5Ideal.Smp.arr0 m c) (Kernel5Ideal.Smp.arr1 m c) (Kernel5Ideal.Smp.arr7 m c) = (Kernel5Ideal.Gen.dats m 0 c).arrAt 11 Kernel5Ideal.cfg0.N := by
  funext i
  revert i
  intro (i : S512x512.Idx)
  obtain ⟨p, b, j, rfl⟩ := place i
  exact (te_apply (Kernel5Ideal.Smp.arr0 m c) (Kernel5Ideal.Smp.arr1 m c) (Kernel5Ideal.Smp.arr7 m c) b p j).trans (Kernel5Ideal.Smp.e_apply m c p b j).symm

end Agree

/-! The reference's arguments, at their shapes. -/

def argX (m' : (ℓ : Loc nD τ sig) → Buf (Elt Ideal) ℓ) (c : Dev nD) : FVec Ideal S128x4x1024 .f32 := m' ((c.tc : Thread nD τ).loc main_arg0)
def argW (m' : (ℓ : Loc nD τ sig) → Buf (Elt Ideal) ℓ) (c : Dev nD) : FVec Ideal S1x1024x2560 .f32 := m' ((c.tc : Thread nD τ).loc main_arg1)
def argG (m' : (ℓ : Loc nD τ sig) → Buf (Elt Ideal) ℓ) (c : Dev nD) : FVec Ideal S1x512 .f32 := m' ((c.tc : Thread nD τ).loc main_arg2)
def argS (m' : (ℓ : Loc nD τ sig) → Buf (Elt Ideal) ℓ) (c : Dev nD) : FVec Ideal S1x512 .f32 := m' ((c.tc : Thread nD τ).loc main_arg3)
def argM (m' : (ℓ : Loc nD τ sig) → Buf (Elt Ideal) ℓ) (c : Dev nD) : FVec Ideal S1x4x128x128 .f32 := m' ((c.tc : Thread nD τ).loc main_arg4)
def argB (m' : (ℓ : Loc nD τ sig) → Buf (Elt Ideal) ℓ) (c : Dev nD) : FVec Ideal S1x4x128 .f32 := m' ((c.tc : Thread nD τ).loc main_arg5)
def argC (m' : (ℓ : Loc nD τ sig) → Buf (Elt Ideal) ℓ) (c : Dev nD) : FVec Ideal S1x3x512 .f32 := m' ((c.tc : Thread nD τ).loc main_arg6)
def argH (m' : (ℓ : Loc nD τ sig) → Buf (Elt Ideal) ℓ) (c : Dev nD) : FVec Ideal S1x128x2x512 .f32 := m' ((c.tc : Thread nD τ).loc main_arg7)

/-- The reference's run, its results the terms above. -/
theorem run_terms (m' : (ℓ : Loc nD τ sig) → Buf (Elt Ideal) ℓ) (ρ : Dev nD → PrngReg) :
    θ_run (defs (F := Ideal)) (onTc (τ := τ) (main (F := Ideal))) ⟨m', fun _ => 0, ρ⟩ fun r => ∀ c : Dev nD,
      r.2.mem ((c.tc : Thread nD τ).loc main_v108) = ta (argX m' c) (argW m' c) (argG m' c) (argS m' c) (argM m' c) (argB m' c)
      ∧ r.2.mem ((c.tc : Thread nD τ).loc main_v111) = tb (argX m' c) (argW m' c) (argC m' c) (argH m' c)
      ∧ r.2.mem ((c.tc : Thread nD τ).loc main_v113) = tv (argX m' c) (argW m' c) (argG m' c) (argS m' c)
      ∧ r.2.mem ((c.tc : Thread nD τ).loc main_v116) = te (argX m' c) (argW m' c) (argH m' c)
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7) :=
  Value.run m' ρ

/-- The claim. -/
theorem algebraic : Cert.algebraic_Kernel5Ideal_Reference5Ideal := by
  intro m g m' g' _ hagree
  refine ⟨fun c => (Kernel5Ideal.Gen.dats m 0 c).arrAt 8 Kernel5Ideal.cfg0.N, fun c => (Kernel5Ideal.Gen.dats m 0 c).arrAt 9 Kernel5Ideal.cfg0.N,
    fun c => (Kernel5Ideal.Gen.dats m 0 c).arrAt 10 Kernel5Ideal.cfg0.N, fun c => (Kernel5Ideal.Gen.dats m 0 c).arrAt 11 Kernel5Ideal.cfg0.N,
    Kernel5Ideal.Value.run_blocks m g, ?_⟩
  refine (θ_run _ _ _).mono (fun r h c => ?_) (run_terms m' g')
  have a0 : argX m' c = Kernel5Ideal.Smp.arr0 m c := (hagree c).1
  have a1 : argW m' c = Kernel5Ideal.Smp.arr1 m c := (hagree c).2.1
  have a2 : argG m' c = Kernel5Ideal.Smp.arr2 m c := (hagree c).2.2.1
  have a3 : argS m' c = Kernel5Ideal.Smp.arr3 m c := (hagree c).2.2.2.1
  have a4 : argM m' c = Kernel5Ideal.Smp.arr4 m c := (hagree c).2.2.2.2.1
  have a5 : argB m' c = Kernel5Ideal.Smp.arr5 m c := (hagree c).2.2.2.2.2.1
  have a6 : argC m' c = Kernel5Ideal.Smp.arr6 m c := (hagree c).2.2.2.2.2.2.1
  have a7 : argH m' c = Kernel5Ideal.Smp.arr7 m c := (hagree c).2.2.2.2.2.2.2
  have h' := h c
  rw [a0, a1, a2, a3, a4, a5, a6, a7] at h'
  obtain ⟨h1, h2, h3, h4, rest⟩ := h'
  exact ⟨h1.trans (gated_agree m c), h2.trans (convolved_agree m c), h3.trans (mixed_agree m c), h4.trans (pre_agree m c), rest⟩

end Cert.Reference5Ideal.Smp

end
-- ==== Proof.Smp.Frame.lean ====
/-
  The reference's frame: its operations leave the arguments as they were, and no counter moves.
-/
module

public import proofs.«01_k».proof.Defs
public import proofs.«01_k».proof.Proof.Gen.Reference5Ideal
public import proofs.«01_k».proof.Proof.Gen.Reference5Ideal.Run
public import Idealize.ShloMosaic.Lib.Claim

@[expose] public section

set_option maxRecDepth 16384

noncomputable section

namespace Cert.Reference5Ideal.Smp

open Idealize.ShloMosaic Idealize.ShloMosaic.TcCoe Idealize.SL.Sem Idealize.ShloMosaic.StableHlo

theorem frame : Cert.quiescent_Reference5Ideal (hReference5Ideal := Cert.Reference5Ideal.Gen.facts) := by
  intro m g _
  refine (θ_run _ _ _).mono (fun r h => ⟨fun c => (h c).2.2.2.2, ?_⟩) (Value.run m g)
  funext s
  rcases s with ⟨_, (i | i)⟩ <;> exact i.elim0

end Cert.Reference5Ideal.Smp

end
-- ==== Proof.lean ====
/-
  The claims of this directory, each from its module.
-/
module

public import proofs.«01_k».proof.Defs
public import proofs.«01_k».proof.Proof.Gen.Kernel
public import proofs.«01_k».proof.Proof.Gen.Kernel.Launch
public import proofs.«01_k».proof.Proof.Gen.Kernel.Points
public import proofs.«01_k».proof.Proof.Gen.Kernel.Frame
public import proofs.«01_k».proof.Proof.Frame.Dsa
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Post.Final
public import proofs.«01_k».proof.Proof.Post.Frame
public import proofs.«01_k».proof.Proof.Odd.Final
public import proofs.«01_k».proof.Proof.Odd.Frame
public import proofs.«01_k».proof.Proof.Even.Final
public import proofs.«01_k».proof.Proof.Even.Frame
public import proofs.«01_k».proof.Proof.Smp.Final
public import proofs.«01_k».proof.Proof.Smp.Frame
public import Idealize.ShloMosaic.Adequacy
public import Idealize.ShloMosaic.Init

@[expose] public section

noncomputable section

namespace Cert.Proof

open Idealize.ShloMosaic Idealize.SL.Sem Cert.Kernel

theorem claim : Cert.Claim :=
  ⟨Cert.Kernel.Gen.facts, Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    fun m ρ _ => Cert.Kernel.Hand.run_frame m ρ,
    fun m ρ _ => Cert.Kernel2.Gen.frame m ρ,
    fun m ρ _ => Cert.Kernel2Ideal.Gen.frame m ρ,
    Cert.Reference2Ideal.Post.frame,
    fun m ρ _ => Cert.Kernel3.Gen.frame m ρ,
    fun m ρ _ => Cert.Kernel3Ideal.Gen.frame m ρ,
    Cert.Reference3Ideal.Odd.frame,
    fun m ρ _ => Cert.Kernel4.Gen.frame m ρ,
    fun m ρ _ => Cert.Kernel4Ideal.Gen.frame m ρ,
    Cert.Reference4Ideal.Even.frame,
    fun m ρ _ => Cert.Kernel5.Gen.frame m ρ,
    fun m ρ _ => Cert.Kernel5Ideal.Gen.frame m ρ,
    Cert.Reference5Ideal.Smp.frame,
    trivial,
    Cert.Reference2Ideal.Post.algebraic,
    trivial,
    Cert.Reference3Ideal.Odd.algebraic,
    trivial,
    Cert.Reference4Ideal.Even.algebraic,
    trivial,
    Cert.Reference5Ideal.Smp.algebraic⟩

end Cert.Proof

end
